-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_finite [hPre_steps_finite : Cert.Pre_steps_finite.Facts] (m : (ℓ : Loc Cert.KernelIdeal.nD Cert.KernelIdeal.τ Cert.KernelIdeal.sig) → Buf (Elt Ideal) ℓ) : Prop :=
  ∀ c : Dev Cert.KernelIdeal.nD,
    (Cert.Pre_steps_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_finite [hPre_steps_finite : Cert.Pre_steps_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_step_finite [hPre_step_finite : Cert.Pre_step_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_step_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_step_finite [hPre_step_finite : Cert.Pre_step_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_step_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_steps_finite [hKernelIdeal : Cert.KernelIdeal.Facts] [hPre_steps_finite : Cert.Pre_steps_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_steps_finite [hReferenceIdeal : Cert.ReferenceIdeal.Facts] [hPre_steps_finite : Cert.Pre_steps_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Kernel11Ideal_pre_step_finite [hKernel11Ideal : Cert.Kernel11Ideal.Facts] [hPre_step_finite : Cert.Pre_step_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_step_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def quiescent_Reference11Ideal_pre_step_finite [hReference11Ideal : Cert.Reference11Ideal.Facts] [hPre_step_finite : Cert.Pre_step_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_step_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal_pre_steps_finite [hKernelIdeal : Cert.KernelIdeal.Facts] [hReferenceIdeal : Cert.ReferenceIdeal.Facts] [hPre_steps_finite : Cert.Pre_steps_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8)) (v1 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_v7) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v5) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v11)) (v1 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11) = v0 c
          ∧ r.2.mem ((c.tc : Thread Cert.Kernel7Ideal.nD Cert.Kernel7Ideal.τ).loc Cert.Kernel7Ideal.main_v10) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v9)) (v1 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_v6) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_v14) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v18)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v43) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_step_finite [hKernel11Ideal : Cert.Kernel11Ideal.Facts] [hReference11Ideal : Cert.Reference11Ideal.Facts] [hPre_step_finite : Cert.Pre_step_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_step_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)) →
    ∃ (v0 : (c : Dev Cert.Kernel11Ideal.nD) → Buf (Elt Ideal) ((c.tc : Thread Cert.Kernel11Ideal.nD Cert.Kernel11Ideal.τ).loc Cert.Kernel11Ideal.main_v18)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v18) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v65) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v9)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v9) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v11) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v8)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v17)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v17) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v24)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v24) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v22) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v24)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v24) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v22) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_steps_finite : Cert.Pre_steps_finite.Facts) (hPre_step_finite : Cert.Pre_step_finite.Facts),
    quiescent_Kernel (hKernel := hKernel)
    ∧ quiescent_KernelIdeal (hKernelIdeal := hKernelIdeal)
    ∧ quiescent_KernelIdeal_pre_steps_finite (hKernelIdeal := hKernelIdeal) (hPre_steps_finite := hPre_steps_finite)
    ∧ quiescent_ReferenceIdeal (hReferenceIdeal := hReferenceIdeal)
    ∧ quiescent_ReferenceIdeal_pre_steps_finite (hReferenceIdeal := hReferenceIdeal) (hPre_steps_finite := hPre_steps_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_step_finite (hKernel11Ideal := hKernel11Ideal) (hPre_step_finite := hPre_step_finite)
    ∧ quiescent_Reference11Ideal (hReference11Ideal := hReference11Ideal)
    ∧ quiescent_Reference11Ideal_pre_step_finite (hReference11Ideal := hReference11Ideal) (hPre_step_finite := hPre_step_finite)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_steps_finite (hKernelIdeal := hKernelIdeal) (hReferenceIdeal := hReferenceIdeal) (hPre_steps_finite := hPre_steps_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_step_finite (hKernel11Ideal := hKernel11Ideal) (hReference11Ideal := hReference11Ideal) (hPre_step_finite := hPre_step_finite)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_step_finite.lean ====
abbrev S128x3072 : Shape := ⟨2, ![128, 3072]⟩
abbrev S128x3x3072 : Shape := ⟨3, ![128, 3, 3072]⟩
abbrev S128x2048 : Shape := ⟨2, ![128, 2048]⟩
abbrev S128x32 : Shape := ⟨2, ![128, 32]⟩
abbrev S128x32x64x128 : Shape := ⟨4, ![128, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S1x32 : Shape := ⟨2, ![1, 32]⟩
abbrev S_ : Shape := ⟨0, ![]⟩

class Facts : Prop where
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)

variable [Facts]

def fn {F : FTy → Type} [FloatOps F] (main_arg0 : FVec F S128x3072 .f32) (main_arg1 : FVec F S128x3x3072 .f32) (main_arg2 : FVec F S128x2048 .f32) (main_arg3 : FVec F S128x32 .f32) (main_arg4 : FVec F S128x32x64x128 .f32) (main_arg5 : FVec F S4x3072 .f32) (main_arg6 : FVec F S3072 .f32) (main_arg7 : FVec F S32 .f32) (main_arg8 : FVec F S32 .f32) (main_arg9 : FVec F S32 .f32) (main_arg10 : FVec F S2048 .f32) : IVec S128x32 1 :=
  let main_v0 : FVec F S1x32 .f32 := broadcastInDim S1x32 ![1] bcast_S32_S1x32_1 main_arg7
  let main_v1 : FVec F S128x32 .f32 := broadcastInDim S128x32 ![0, 1] bcast_S1x32_S128x32_0_1 main_v0
  let main_v2 : FVec F S128x32 .f32 := addf main_arg3 main_v1
  let main_cst : FVec F S_ .f32 := constant S_ .f32 0x7F800000#32
  let main_v3 : FVec F S128x32 .f32 := broadcastInDim S128x32 ![] bcast_S_S128x32 main_cst
  let main_v4 : IVec S128x32 1 := cmpf .olt main_v2 main_v3
  main_v4
-- ==== Pre_steps_finite.lean ====
abbrev S2x8192x3072 : Shape := ⟨3, ![2, 8192, 3072]⟩
abbrev S2x8192x2048 : Shape := ⟨3, ![2, 8192, 2048]⟩
abbrev S2x8192x32 : Shape := ⟨3, ![2, 8192, 32]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S1x1x32 : Shape := ⟨3, ![1, 1, 32]⟩
abbrev S_ : Shape := ⟨0, ![]⟩

class Facts : Prop where
  bcast_S32_S1x1x32_2 : S32.BroadcastsInDim S1x1x32 (![2] : Fin 1 → Fin S1x1x32.rank)
  bcast_S1x1x32_S2x8192x32_0_1_2 : S1x1x32.BroadcastsInDim S2x8192x32 (![0, 1, 2] : Fin 3 → Fin S2x8192x32.rank)
  bcast_S_S2x8192x32 : S_.BroadcastsInDim S2x8192x32 (![] : Fin 0 → Fin S2x8192x32.rank)

variable [Facts]

def fn {F : FTy → Type} [FloatOps F] (main_arg0 : FVec F S2x8192x3072 .f32) (main_arg1 : FVec F S2x8192x2048 .f32) (main_arg2 : FVec F S2x8192x32 .f32) (main_arg3 : FVec F S4x3072 .f32) (main_arg4 : FVec F S3072 .f32) (main_arg5 : FVec F S32 .f32) (main_arg6 : FVec F S32 .f32) (main_arg7 : FVec F S32 .f32) (main_arg8 : FVec F S2048 .f32) : IVec S2x8192x32 1 :=
  let main_v0 : FVec F S1x1x32 .f32 := broadcastInDim S1x1x32 ![2] bcast_S32_S1x1x32_2 main_arg5
  let main_v1 : FVec F S2x8192x32 .f32 := broadcastInDim S2x8192x32 ![0, 1, 2] bcast_S1x1x32_S2x8192x32_0_1_2 main_v0
  let main_v2 : FVec F S2x8192x32 .f32 := addf main_arg2 main_v1
  let main_cst : FVec F S_ .f32 := constant S_ .f32 0x7F800000#32
  let main_v3 : FVec F S2x8192x32 .f32 := broadcastInDim S2x8192x32 ![] bcast_S_S2x8192x32 main_cst
  let main_v4 : IVec S2x8192x32 1 := cmpf .olt main_v2 main_v3
  main_v4
-- ==== Kernel.lean ====
abbrev S2x8192x3072 : Shape := ⟨3, ![2, 8192, 3072]⟩
abbrev S2x8192x2048 : Shape := ⟨3, ![2, 8192, 2048]⟩
abbrev S2x8192x32 : Shape := ⟨3, ![2, 8192, 32]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S2x8192x128 : Shape := ⟨3, ![2, 8192, 128]⟩
abbrev S1x3072 : Shape := ⟨2, ![1, 3072]⟩
abbrev S128 : Shape := ⟨1, ![128]⟩
abbrev S1x128 : Shape := ⟨2, ![1, 128]⟩
abbrev S1x2048 : Shape := ⟨2, ![1, 2048]⟩
abbrev S128x2048 : Shape := ⟨2, ![128, 2048]⟩
abbrev S2x2048x128 : Shape := ⟨3, ![2, 2048, 128]⟩
abbrev S1x128x3072 : Shape := ⟨3, ![1, 128, 3072]⟩
abbrev S1x128x2048 : Shape := ⟨3, ![1, 128, 2048]⟩
abbrev S1x128x128 : Shape := ⟨3, ![1, 128, 128]⟩
abbrev S1x2048x128 : Shape := ⟨3, ![1, 2048, 128]⟩
abbrev S136x3072 : Shape := ⟨2, ![136, 3072]⟩
abbrev S4x128x512 : Shape := ⟨3, ![4, 128, 512]⟩
abbrev S8x3072 : Shape := ⟨2, ![8, 3072]⟩
abbrev S128x3072 : Shape := ⟨2, ![128, 3072]⟩
abbrev S128x128 : Shape := ⟨2, ![128, 128]⟩
abbrev S8x128 : Shape := ⟨2, ![8, 128]⟩
abbrev S400x128 : Shape := ⟨2, ![400, 128]⟩
abbrev S128x512 : Shape := ⟨2, ![128, 512]⟩
abbrev S400x512 : Shape := ⟨2, ![400, 512]⟩
abbrev S1x512 : Shape := ⟨2, ![1, 512]⟩
abbrev S1x128x512 : Shape := ⟨3, ![1, 128, 512]⟩
abbrev S128x1 : Shape := ⟨2, ![128, 1]⟩
abbrev S128x64 : Shape := ⟨2, ![128, 64]⟩
abbrev S512x128 : Shape := ⟨2, ![512, 128]⟩
abbrev S1x512x128 : Shape := ⟨3, ![1, 512, 128]⟩

abbrev nBuf : Space → Nat
  | .hbm => 40
  | .vmem => 19
  | .smem => 0
  | _ => 0

abbrev bufTy : (tb : Table) → Fin (tcTables nBuf tb) → BufTy
  | .hbm, ⟨0, _⟩ => ⟨S2x8192x3072, .f32⟩
  | .hbm, ⟨1, _⟩ => ⟨S2x8192x2048, .f32⟩
  | .hbm, ⟨2, _⟩ => ⟨S2x8192x32, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S2048, .f32⟩
  | .hbm, ⟨9, _⟩ => ⟨S_, .i32⟩
  | .hbm, ⟨10, _⟩ => ⟨S_, .f32⟩
  | .hbm, ⟨11, _⟩ => ⟨S2x8192x128, .f32⟩
  | .hbm, ⟨12, _⟩ => ⟨S1x3072, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S1x2048, .f32⟩
  | .hbm, ⟨26, _⟩ => ⟨S128x2048, .i32⟩
  | .hbm, ⟨27, _⟩ => ⟨S128x2048, .i32⟩
  | .hbm, ⟨28, _⟩ => ⟨S_, .i32⟩
  | .hbm, ⟨29, _⟩ => ⟨S128x2048, .i32⟩
  | .hbm, ⟨30, _⟩ => ⟨S128x2048, .i32⟩
  | .hbm, ⟨31, _⟩ => ⟨S128x2048, .i1⟩
  | .hbm, ⟨32, _⟩ => ⟨S_, .f32⟩
  | .hbm, ⟨33, _⟩ => ⟨S_, .f32⟩
  | .hbm, ⟨34, _⟩ => ⟨S128x2048, .f32⟩
  | .hbm, ⟨35, _⟩ => ⟨S128x2048, .f32⟩
  | .hbm, ⟨36, _⟩ => ⟨S128x2048, .f32⟩
  | .hbm, ⟨37, _⟩ => ⟨S128x2048, .bf16⟩
  | .hbm, ⟨38, _⟩ => ⟨S2x8192x2048, .bf16⟩
  | .hbm, ⟨39, _⟩ => ⟨S2x2048x128, .f32⟩
  | .local _ .vmem, ⟨0, _⟩ => ⟨S1x128x3072, .f32⟩
  | .local _ .vmem, ⟨1, _⟩ => ⟨S1x128x3072, .f32⟩
  | .local _ .vmem, ⟨2, _⟩ => ⟨S1x128x2048, .f32⟩
  | .local _ .vmem, ⟨3, _⟩ => ⟨S1x128x2048, .f32⟩
  | .local _ .vmem, ⟨4, _⟩ => ⟨S1x128x128, .f32⟩
  | .local _ .vmem, ⟨5, _⟩ => ⟨S1x128x128, .f32⟩
  | .local _ .vmem, ⟨6, _⟩ => ⟨S4x3072, .f32⟩
  | .local _ .vmem, ⟨7, _⟩ => ⟨S1x3072, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x2048, .f32⟩
  | .local _ .vmem, ⟨12, _⟩ => ⟨S128x2048, .bf16⟩
  | .local _ .vmem, ⟨13, _⟩ => ⟨S1x128x2048, .bf16⟩
  | .local _ .vmem, ⟨14, _⟩ => ⟨S1x128x2048, .bf16⟩
  | .local _ .vmem, ⟨15, _⟩ => ⟨S1x2048x128, .f32⟩
  | .local _ .vmem, ⟨16, _⟩ => ⟨S1x2048x128, .f32⟩
  | .local _ .vmem, ⟨17, _⟩ => ⟨S136x3072, .f32⟩
  | .local _ .vmem, ⟨18, _⟩ => ⟨S4x128x512, .f32⟩
  | _, _ => ⟨S2x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_call2_v0 : Ref sig .tc := ⟨.hbm, 18, rfl⟩
abbrev main_v4 : Ref sig .tc := ⟨.hbm, 19, rfl⟩
abbrev main_v5 : Ref sig .tc := ⟨.hbm, 20, rfl⟩
abbrev main_c_2 : Ref sig .tc := ⟨.hbm, 21, rfl⟩
abbrev main_call3_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_cst_4 : Ref sig .tc := ⟨.hbm, 33, rfl⟩
abbrev main_call4_v0 : Ref sig .tc := ⟨.hbm, 34, rfl⟩
abbrev main_call4_v1 : Ref sig .tc := ⟨.hbm, 35, rfl⟩
abbrev main_v14 : Ref sig .tc := ⟨.hbm, 36, rfl⟩
abbrev main_v15 : Ref sig .tc := ⟨.hbm, 37, rfl⟩
abbrev main_v16_0 : Ref sig .tc := ⟨.hbm, 38, rfl⟩
abbrev main_v16_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v1026 : BitVec 1 := Scalar.cmpi .eq arg1 c63_i32
  let v1027 : BitVec 32 := Scalar.extui v1026
  let c0_i32_398 : BitVec 32 := 0#32
  let v1028 : BitVec 1 := Scalar.cmpi .ne v1027 c0_i32_398
  v1028

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S2x8192x3072 : Shape := ⟨3, ![2, 8192, 3072]⟩
abbrev S2x8192x2048 : Shape := ⟨3, ![2, 8192, 2048]⟩
abbrev S2x8192x32 : Shape := ⟨3, ![2, 8192, 32]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S2x8195x3072 : Shape := ⟨3, ![2, 8195, 3072]⟩
abbrev S1x3072 : Shape := ⟨2, ![1, 3072]⟩
abbrev S1x1x3072 : Shape := ⟨3, ![1, 1, 3072]⟩
abbrev S2x8192x512 : Shape := ⟨3, ![2, 8192, 512]⟩
abbrev S1x1x32 : Shape := ⟨3, ![1, 1, 32]⟩
abbrev S2x64x128x4x8x64 : Shape := ⟨6, ![2, 64, 128, 4, 8, 64]⟩
abbrev S2x64x128x4x8 : Shape := ⟨5, ![2, 64, 128, 4, 8]⟩
abbrev S2x64x128x4x128 : Shape := ⟨5, ![2, 64, 128, 4, 128]⟩
abbrev S4x8 : Shape := ⟨2, ![4, 8]⟩
abbrev S1x1x1x4x8 : Shape := ⟨5, ![1, 1, 1, 4, 8]⟩
abbrev S2x64x128x4x8x1 : Shape := ⟨6, ![2, 64, 128, 4, 8, 1]⟩
abbrev S2x64x1x4x8 : Shape := ⟨5, ![2, 64, 1, 4, 8]⟩
abbrev S2x64x4x8x64x128 : Shape := ⟨6, ![2, 64, 4, 8, 64, 128]⟩
abbrev S2x64x4x8 : Shape := ⟨4, ![2, 64, 4, 8]⟩
abbrev S2x4x8x64x128 : Shape := ⟨5, ![2, 4, 8, 64, 128]⟩
abbrev S64x2x4x8x64x128 : Shape := ⟨6, ![64, 2, 4, 8, 64, 128]⟩
abbrev S64x2x4x8 : Shape := ⟨4, ![64, 2, 4, 8]⟩
abbrev S1x2x4x8x64x128 : Shape := ⟨6, ![1, 2, 4, 8, 64, 128]⟩
abbrev S1x2x4x8 : Shape := ⟨4, ![1, 2, 4, 8]⟩
abbrev S2x4x8 : Shape := ⟨3, ![2, 4, 8]⟩
abbrev S2x4x8x1x1 : Shape := ⟨5, ![2, 4, 8, 1, 1]⟩
abbrev S128x128 : Shape := ⟨2, ![128, 128]⟩
abbrev S1x1x128x128x1x1 : Shape := ⟨6, ![1, 1, 128, 128, 1, 1]⟩
abbrev S2x64x128x1x4x8 : Shape := ⟨6, ![2, 64, 128, 1, 4, 8]⟩
abbrev S2x64x1x128x4x8 : Shape := ⟨6, ![2, 64, 1, 128, 4, 8]⟩
abbrev S2x64x128x128x4x8 : Shape := ⟨6, ![2, 64, 128, 128, 4, 8]⟩
abbrev S2x64x4x128x128 : Shape := ⟨5, ![2, 64, 4, 128, 128]⟩
abbrev S2x64x128x128x4 : Shape := ⟨5, ![2, 64, 128, 128, 4]⟩
abbrev S2x64x128x128x4x1 : Shape := ⟨6, ![2, 64, 128, 128, 4, 1]⟩
abbrev S2x8192x32x64 : Shape := ⟨4, ![2, 8192, 32, 64]⟩
abbrev S32x1 : Shape := ⟨2, ![32, 1]⟩
abbrev S1x1x32x1 : Shape := ⟨4, ![1, 1, 32, 1]⟩
abbrev S2x8192x4x512 : Shape := ⟨4, ![2, 8192, 4, 512]⟩
abbrev S2x8192x4 : Shape := ⟨3, ![2, 8192, 4]⟩
abbrev S2x8192x4x1 : Shape := ⟨4, ![2, 8192, 4, 1]⟩
abbrev S1x1x2048 : Shape := ⟨3, ![1, 1, 2048]⟩
abbrev S2x2048x128 : Shape := ⟨3, ![2, 2048, 128]⟩

abbrev nBuf : Space → Nat
  | .hbm => 283
  | .vmem => 0
  | .smem => 0
  | _ => 0

abbrev hbmTy0_0 (i : Nat) : BufTy := match i % 128 with
  | 0 => ⟨S2x8192x3072, .f32⟩
  | 1 => ⟨S2x8192x2048, .f32⟩
  | 2 => ⟨S2x8192x32, .f32⟩
  | 3 => ⟨S4x3072, .f32⟩
  | 4 => ⟨S3072, .f32⟩
  | 5 => ⟨S32, .f32⟩
  | 6 => ⟨S32, .f32⟩
  | 7 => ⟨S32, .f32⟩
  | 8 => ⟨S2048, .f32⟩
  | 9 => ⟨S_, .i32⟩
  | 10 => ⟨S_, .f32⟩
  | 11 => ⟨S2x8195x3072, .f32⟩
  | 12 => ⟨S2x8192x3072, .f32⟩
  | 13 => ⟨S1x3072, .f32⟩
  | 14 => ⟨S3072, .f32⟩
  | 15 => ⟨S1x1x3072, .f32⟩
  | 16 => ⟨S2x8192x3072, .f32⟩
  | 17 => ⟨S2x8192x3072, .f32⟩
  | 18 => ⟨S2x8192x3072, .f32⟩
  | 19 => ⟨S1x3072, .f32⟩
  | 20 => ⟨S3072, .f32⟩
  | 21 => ⟨S1x1x3072, .f32⟩
  | 22 => ⟨S2x8192x3072, .f32⟩
  | 23 => ⟨S2x8192x3072, .f32⟩
  | 24 => ⟨S2x8192x3072, .f32⟩
  | 25 => ⟨S2x8192x3072, .f32⟩
  | 26 => ⟨S1x3072, .f32⟩
  | 27 => ⟨S3072, .f32⟩
  | 28 => ⟨S1x1x3072, .f32⟩
  | 29 => ⟨S2x8192x3072, .f32⟩
  | 30 => ⟨S2x8192x3072, .f32⟩
  | 31 => ⟨S2x8192x3072, .f32⟩
  | 32 => ⟨S2x8192x3072, .f32⟩
  | 33 => ⟨S1x3072, .f32⟩
  | 34 => ⟨S3072, .f32⟩
  | 35 => ⟨S1x1x3072, .f32⟩
  | 36 => ⟨S2x8192x3072, .f32⟩
  | 37 => ⟨S2x8192x3072, .f32⟩
  | 38 => ⟨S2x8192x3072, .f32⟩
  | 39 => ⟨S1x1x3072, .f32⟩
  | 40 => ⟨S2x8192x3072, .f32⟩
  | 41 => ⟨S2x8192x3072, .f32⟩
  | 42 => ⟨S2x8192x3072, .f32⟩
  | 43 => ⟨S2x8192x3072, .f32⟩
  | 44 => ⟨S_, .f32⟩
  | 45 => ⟨S2x8192x3072, .f32⟩
  | 46 => ⟨S2x8192x3072, .f32⟩
  | 47 => ⟨S_, .f32⟩
  | 48 => ⟨S2x8192x3072, .f32⟩
  | 49 => ⟨S2x8192x3072, .f32⟩
  | 50 => ⟨S2x8192x3072, .f32⟩
  | 51 => ⟨S2x8192x2048, .f32⟩
  | 52 => ⟨S2x8192x512, .f32⟩
  | 53 => ⟨S2x8192x512, .f32⟩
  | 54 => ⟨S1x1x32, .f32⟩
  | 55 => ⟨S2x8192x32, .f32⟩
  | 56 => ⟨S2x8192x32, .f32⟩
  | 57 => ⟨S_, .f32⟩
  | 58 => ⟨S2x8192x32, .f32⟩
  | 59 => ⟨S2x8192x32, .f32⟩
  | 60 => ⟨S2x8192x32, .f32⟩
  | 61 => ⟨S2x8192x32, .f32⟩
  | 62 => ⟨S2x8192x32, .i1⟩
  | 63 => ⟨S2x8192x32, .f32⟩
  | 64 => ⟨S2x8192x32, .f32⟩
  | 65 => ⟨S2x8192x32, .f32⟩
  | 66 => ⟨S2x8192x32, .f32⟩
  | 67 => ⟨S2x8192x32, .f32⟩
  | 68 => ⟨S2x8192x32, .f32⟩
  | 69 => ⟨S2x8192x32, .f32⟩
  | 70 => ⟨S2x8192x32, .f32⟩
  | 71 => ⟨S32, .f32⟩
  | 72 => ⟨S32, .f32⟩
  | 73 => ⟨S2x64x128x4x8x64, .f32⟩
  | 74 => ⟨S2x64x128x4x8, .f32⟩
  | 75 => ⟨S2x64x128x4x128, .f32⟩
  | 76 => ⟨S2x64x128x4x128, .f32⟩
  | 77 => ⟨S4x8, .f32⟩
  | 78 => ⟨S1x1x1x4x8, .f32⟩
  | 79 => ⟨S2x64x128x4x8, .f32⟩
  | 80 => ⟨S2x64x128x4x8, .f32⟩
  | 81 => ⟨S_, .f32⟩
  | 82 => ⟨S_, .f32⟩
  | 83 => ⟨S2x64x128x4x8, .f32⟩
  | 84 => ⟨S2x64x128x4x8x1, .f32⟩
  | 85 => ⟨S2x64x128x4x8x64, .f32⟩
  | 86 => ⟨S2x64x128x4x8x64, .f32⟩
  | 87 => ⟨S2x64x1x4x8, .f32⟩
  | 88 => ⟨S2x64x128x4x8, .f32⟩
  | 89 => ⟨S2x64x128x4x8, .f32⟩
  | 90 => ⟨S2x64x128x4x8, .f32⟩
  | 91 => ⟨S2x64x128x4x8x1, .f32⟩
  | 92 => ⟨S2x64x128x4x8x64, .f32⟩
  | 93 => ⟨S2x64x128x4x8x64, .f32⟩
  | 94 => ⟨S2x64x4x8x64x128, .f32⟩
  | 95 => ⟨S2x64x1x4x8, .f32⟩
  | 96 => ⟨S2x64x4x8, .f32⟩
  | 97 => ⟨S2x64x4x8, .f32⟩
  | 98 => ⟨S_, .f32⟩
  | 99 => ⟨S2x4x8x64x128, .f32⟩
  | 100 => ⟨S64x2x4x8x64x128, .f32⟩
  | 101 => ⟨S64x2x4x8, .f32⟩
  | 102 => ⟨S_, .f32⟩
  | 103 => ⟨S64x2x4x8x64x128, .f32⟩
  | 104 => ⟨S_, .i32⟩
  | 105 => ⟨S64x2x4x8x64x128, .f32⟩
  | 106 => ⟨S64x2x4x8, .f32⟩
  | 107 => ⟨S_, .i32⟩
  | 108 => ⟨S2x4x8x64x128, .f32⟩
  | 109 => ⟨S64x2x4x8x64x128, .f32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S1x2x4x8x64x128, .f32⟩
  | 118 => ⟨S2x4x8x64x128, .f32⟩
  | 119 => ⟨S_, .i32⟩
  | 120 => ⟨S_, .i32⟩
  | 121 => ⟨S_, .i32⟩
  | 122 => ⟨S1x2x4x8, .f32⟩
  | 123 => ⟨S2x4x8, .f32⟩
  | 124 => ⟨S2x4x8x1x1, .f32⟩
  | 125 => ⟨S2x4x8x64x128, .f32⟩
  | 126 => ⟨S2x4x8x64x128, .f32⟩
  | 127 => ⟨S2x4x8x64x128, .f32⟩
  | _ => ⟨S2x8192x3072, .f32⟩

abbrev hbmTy0_1 (i : Nat) : BufTy := match i % 128 with
  | 0 => ⟨S1x2x4x8x64x128, .f32⟩
  | 1 => ⟨S_, .i32⟩
  | 2 => ⟨S_, .i32⟩
  | 3 => ⟨S_, .i32⟩
  | 4 => ⟨S_, .i32⟩
  | 5 => ⟨S_, .i32⟩
  | 6 => ⟨S64x2x4x8x64x128, .f32⟩
  | 7 => ⟨S_, .i32⟩
  | 8 => ⟨S_, .i32⟩
  | 9 => ⟨S2x64x4x8x64x128, .f32⟩
  | 10 => ⟨S_, .i32⟩
  | 11 => ⟨S_, .f32⟩
  | 12 => ⟨S2x8195x3072, .f32⟩
  | 13 => ⟨S2x8192x3072, .f32⟩
  | 14 => ⟨S1x3072, .f32⟩
  | 15 => ⟨S3072, .f32⟩
  | 16 => ⟨S1x1x3072, .f32⟩
  | 17 => ⟨S2x8192x3072, .f32⟩
  | 18 => ⟨S2x8192x3072, .f32⟩
  | 19 => ⟨S2x8192x3072, .f32⟩
  | 20 => ⟨S1x3072, .f32⟩
  | 21 => ⟨S3072, .f32⟩
  | 22 => ⟨S1x1x3072, .f32⟩
  | 23 => ⟨S2x8192x3072, .f32⟩
  | 24 => ⟨S2x8192x3072, .f32⟩
  | 25 => ⟨S2x8192x3072, .f32⟩
  | 26 => ⟨S2x8192x3072, .f32⟩
  | 27 => ⟨S1x3072, .f32⟩
  | 28 => ⟨S3072, .f32⟩
  | 29 => ⟨S1x1x3072, .f32⟩
  | 30 => ⟨S2x8192x3072, .f32⟩
  | 31 => ⟨S2x8192x3072, .f32⟩
  | 32 => ⟨S2x8192x3072, .f32⟩
  | 33 => ⟨S2x8192x3072, .f32⟩
  | 34 => ⟨S1x3072, .f32⟩
  | 35 => ⟨S3072, .f32⟩
  | 36 => ⟨S1x1x3072, .f32⟩
  | 37 => ⟨S2x8192x3072, .f32⟩
  | 38 => ⟨S2x8192x3072, .f32⟩
  | 39 => ⟨S2x8192x3072, .f32⟩
  | 40 => ⟨S1x1x3072, .f32⟩
  | 41 => ⟨S2x8192x3072, .f32⟩
  | 42 => ⟨S2x8192x3072, .f32⟩
  | 43 => ⟨S2x8192x3072, .f32⟩
  | 44 => ⟨S2x8192x3072, .f32⟩
  | 45 => ⟨S_, .f32⟩
  | 46 => ⟨S2x8192x3072, .f32⟩
  | 47 => ⟨S2x8192x3072, .f32⟩
  | 48 => ⟨S_, .f32⟩
  | 49 => ⟨S2x8192x3072, .f32⟩
  | 50 => ⟨S2x8192x3072, .f32⟩
  | 51 => ⟨S2x8192x3072, .f32⟩
  | 52 => ⟨S2x8192x2048, .f32⟩
  | 53 => ⟨S2x8192x512, .f32⟩
  | 54 => ⟨S2x8192x512, .f32⟩
  | 55 => ⟨S1x1x32, .f32⟩
  | 56 => ⟨S2x8192x32, .f32⟩
  | 57 => ⟨S2x8192x32, .f32⟩
  | 58 => ⟨S_, .f32⟩
  | 59 => ⟨S2x8192x32, .f32⟩
  | 60 => ⟨S2x8192x32, .f32⟩
  | 61 => ⟨S2x8192x32, .f32⟩
  | 62 => ⟨S2x8192x32, .f32⟩
  | 63 => ⟨S2x8192x32, .i1⟩
  | 64 => ⟨S2x8192x32, .f32⟩
  | 65 => ⟨S2x8192x32, .f32⟩
  | 66 => ⟨S2x8192x32, .f32⟩
  | 67 => ⟨S2x8192x32, .f32⟩
  | 68 => ⟨S2x8192x32, .f32⟩
  | 69 => ⟨S2x8192x32, .f32⟩
  | 70 => ⟨S2x8192x32, .f32⟩
  | 71 => ⟨S2x8192x32, .f32⟩
  | 72 => ⟨S32, .f32⟩
  | 73 => ⟨S32, .f32⟩
  | 74 => ⟨S2x64x128x4x8x64, .f32⟩
  | 75 => ⟨S2x64x128x4x8, .f32⟩
  | 76 => ⟨S2x64x128x4x128, .f32⟩
  | 77 => ⟨S2x64x128x4x128, .f32⟩
  | 78 => ⟨S4x8, .f32⟩
  | 79 => ⟨S1x1x1x4x8, .f32⟩
  | 80 => ⟨S2x64x128x4x8, .f32⟩
  | 81 => ⟨S2x64x128x4x8, .f32⟩
  | 82 => ⟨S_, .f32⟩
  | 83 => ⟨S_, .f32⟩
  | 84 => ⟨S2x64x128x4x8, .f32⟩
  | 85 => ⟨S2x64x128x4x8x1, .f32⟩
  | 86 => ⟨S2x64x128x4x8x64, .f32⟩
  | 87 => ⟨S2x64x128x4x8x64, .f32⟩
  | 88 => ⟨S128x128, .i32⟩
  | 89 => ⟨S128x128, .i32⟩
  | 90 => ⟨S128x128, .i1⟩
  | 91 => ⟨S1x1x128x128x1x1, .i1⟩
  | 92 => ⟨S2x64x128x1x4x8, .f32⟩
  | 93 => ⟨S2x64x1x128x4x8, .f32⟩
  | 94 => ⟨S2x64x128x128x4x8, .f32⟩
  | 95 => ⟨S2x64x128x128x4x8, .f32⟩
  | 96 => ⟨S2x64x128x128x4x8, .f32⟩
  | 97 => ⟨S_, .f32⟩
  | 98 => ⟨S_, .f32⟩
  | 99 => ⟨S2x64x128x128x4x8, .i1⟩
  | 100 => ⟨S2x64x128x128x4x8, .f32⟩
  | 101 => ⟨S2x64x128x128x4x8, .f32⟩
  | 102 => ⟨S2x64x128x128x4x8, .f32⟩
  | 103 => ⟨S2x64x4x128x128, .f32⟩
  | 104 => ⟨S2x64x128x128x4, .f32⟩
  | 105 => ⟨S2x64x128x128x4x1, .f32⟩
  | 106 => ⟨S2x64x128x128x4x8, .f32⟩
  | 107 => ⟨S2x64x128x128x4x8, .f32⟩
  | 108 => ⟨S2x64x4x8x64x128, .f32⟩
  | 109 => ⟨S2x64x128x4x8x64, .f32⟩
  | 110 => ⟨S2x64x4x8x64x128, .f32⟩
  | 111 => ⟨S2x64x128x4x8x64, .f32⟩
  | 112 => ⟨S2x64x128x4x8, .f32⟩
  | 113 => ⟨S2x64x128x4x8x1, .f32⟩
  | 114 => ⟨S2x64x128x4x8x64, .f32⟩
  | 115 => ⟨S2x64x128x4x8x64, .f32⟩
  | 116 => ⟨S2x64x128x4x8x64, .f32⟩
  | 117 => ⟨S2x8192x32x64, .f32⟩
  | 118 => ⟨S32x1, .f32⟩
  | 119 => ⟨S2x8192x32x64, .f32⟩
  | 120 => ⟨S1x1x32x1, .f32⟩
  | 121 => ⟨S2x8192x32x64, .f32⟩
  | 122 => ⟨S2x8192x32x64, .f32⟩
  | 123 => ⟨S2x8192x32x64, .f32⟩
  | 124 => ⟨S2x8192x2048, .f32⟩
  | 125 => ⟨S2x8192x2048, .f32⟩
  | 126 => ⟨S2x8192x2048, .f32⟩
  | 127 => ⟨S_, .f32⟩
  | _ => ⟨S2x8192x3072, .f32⟩

abbrev hbmTy0_2 (i : Nat) : BufTy := match i % 128 with
  | 0 => ⟨S2x8192x2048, .f32⟩
  | 1 => ⟨S2x8192x2048, .f32⟩
  | 2 => ⟨S_, .f32⟩
  | 3 => ⟨S2x8192x2048, .f32⟩
  | 4 => ⟨S2x8192x2048, .f32⟩
  | 5 => ⟨S2x8192x2048, .f32⟩
  | 6 => ⟨S2x8192x2048, .f32⟩
  | 7 => ⟨S2x8192x4x512, .f32⟩
  | 8 => ⟨S2x8192x4x512, .f32⟩
  | 9 => ⟨S_, .f32⟩
  | 10 => ⟨S2x8192x4, .f32⟩
  | 11 => ⟨S2x8192x4x1, .f32⟩
  | 12 => ⟨S_, .f32⟩
  | 13 => ⟨S2x8192x4x1, .f32⟩
  | 14 => ⟨S2x8192x4x1, .f32⟩
  | 15 => ⟨S_, .f32⟩
  | 16 => ⟨S2x8192x4x1, .f32⟩
  | 17 => ⟨S2x8192x4x1, .f32⟩
  | 18 => ⟨S2x8192x4x1, .f32⟩
  | 19 => ⟨S2x8192x4x512, .f32⟩
  | 20 => ⟨S2x8192x4x512, .f32⟩
  | 21 => ⟨S2x8192x2048, .f32⟩
  | 22 => ⟨S1x1x2048, .f32⟩
  | 23 => ⟨S2x8192x2048, .f32⟩
  | 24 => ⟨S2x8192x2048, .f32⟩
  | 25 => ⟨S2x8192x2048, .bf16⟩
  | 26 => ⟨S2x2048x128, .f32⟩
  | _ => ⟨S2x8192x3072, .f32⟩

abbrev hbmTy (i : Nat) : BufTy := match i / 128 with
  | 0 => hbmTy0_0 i
  | 1 => hbmTy0_1 i
  | 2 => hbmTy0_2 i
  | _ => ⟨S2x8192x3072, .f32⟩

abbrev bufTy : (tb : Table) → Fin (tcTables nBuf tb) → BufTy
  | .hbm, ⟨i, _⟩ => hbmTy i
  | _, _ => ⟨S2x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call3_call0_cst : Ref sig .tc := ⟨.hbm, 81, rfl⟩
abbrev main_call3_call0_v0 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_0 : Ref sig .tc := ⟨.hbm, 102, rfl⟩
abbrev main_v67 : Ref sig .tc := ⟨.hbm, 103, rfl⟩
abbrev main_c_1 : Ref sig .tc := ⟨.hbm, 104, rfl⟩
abbrev main_v68_0 : Ref sig .tc := ⟨.hbm, 105, rfl⟩
abbrev main_v68_1 : Ref sig .tc := ⟨.hbm, 106, rfl⟩
abbrev main_v68_2 : Ref sig .tc := ⟨.hbm, 107, rfl⟩
abbrev main_v68_3 : Ref sig .tc := ⟨.hbm, 108, rfl⟩
abbrev main_v68_4 : Ref sig .tc := ⟨.hbm, 109, rfl⟩
abbrev main_while0c_c_11 : Ref sig .tc := ⟨.hbm, 110, rfl⟩
abbrev main_while0c_v175 : Ref sig .tc := ⟨.hbm, 111, rfl⟩
abbrev main_while0b_call4_c : Ref sig .tc := ⟨.hbm, 112, rfl⟩
abbrev main_while0b_call4_c_0 : Ref sig .tc := ⟨.hbm, 113, rfl⟩
abbrev main_while0b_call4_c_1 : Ref sig .tc := ⟨.hbm, 114, rfl⟩
abbrev main_while0b_call4_c_2 : Ref sig .tc := ⟨.hbm, 115, rfl⟩
abbrev main_while0b_call4_c_3 : Ref sig .tc := ⟨.hbm, 116, rfl⟩
abbrev main_while0b_call4_v0 : Ref sig .tc := ⟨.hbm, 117, rfl⟩
abbrev main_while0b_v175 : Ref sig .tc := ⟨.hbm, 118, rfl⟩
abbrev main_while0b_call5_c : Ref sig .tc := ⟨.hbm, 119, rfl⟩
abbrev main_while0b_call5_c_0 : Ref sig .tc := ⟨.hbm, 120, rfl⟩
abbrev main_while0b_call5_c_1 : Ref sig .tc := ⟨.hbm, 121, rfl⟩
abbrev main_while0b_call5_v0 : Ref sig .tc := ⟨.hbm, 122, rfl⟩
abbrev main_while0b_v176 : Ref sig .tc := ⟨.hbm, 123, rfl⟩
abbrev main_while0b_v177 : Ref sig .tc := ⟨.hbm, 124, rfl⟩
abbrev main_while0b_v178 : Ref sig .tc := ⟨.hbm, 125, rfl⟩
abbrev main_while0b_v179 : Ref sig .tc := ⟨.hbm, 126, rfl⟩
abbrev main_while0b_v180 : Ref sig .tc := ⟨.hbm, 127, rfl⟩
abbrev main_while0b_call6_v0 : Ref sig .tc := ⟨.hbm, 128, rfl⟩
abbrev main_while0b_call6_c : Ref sig .tc := ⟨.hbm, 129, rfl⟩
abbrev main_while0b_call6_c_0 : Ref sig .tc := ⟨.hbm, 130, rfl⟩
abbrev main_while0b_call6_c_1 : Ref sig .tc := ⟨.hbm, 131, rfl⟩
abbrev main_while0b_call6_c_2 : Ref sig .tc := ⟨.hbm, 132, rfl⟩
abbrev main_while0b_call6_c_3 : Ref sig .tc := ⟨.hbm, 133, rfl⟩
abbrev main_while0b_v181 : Ref sig .tc := ⟨.hbm, 134, rfl⟩
abbrev main_while0b_c_11 : Ref sig .tc := ⟨.hbm, 135, rfl⟩
abbrev main_while0b_v182 : Ref sig .tc := ⟨.hbm, 136, rfl⟩
abbrev main_v69 : Ref sig .tc := ⟨.hbm, 137, rfl⟩
abbrev main_c_2 : Ref sig .tc := ⟨.hbm, 138, rfl⟩
abbrev main_call7_v0 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_call8_v0 : Ref sig .tc := ⟨.hbm, 171, rfl⟩
abbrev main_call8_v1 : Ref sig .tc := ⟨.hbm, 172, rfl⟩
abbrev main_call8_cst : Ref sig .tc := ⟨.hbm, 173, rfl⟩
abbrev main_call8_v2 : Ref sig .tc := ⟨.hbm, 174, rfl⟩
abbrev main_call8_v3 : Ref sig .tc := ⟨.hbm, 175, rfl⟩
abbrev main_call8_cst_0 : Ref sig .tc := ⟨.hbm, 176, rfl⟩
abbrev main_call8_v4 : Ref sig .tc := ⟨.hbm, 177, rfl⟩
abbrev main_call8_v5 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_call9_cst : Ref sig .tc := ⟨.hbm, 186, rfl⟩
abbrev main_call9_v0 : Ref sig .tc := ⟨.hbm, 187, rfl⟩
abbrev main_call9_v1 : Ref sig .tc := ⟨.hbm, 188, rfl⟩
abbrev main_call9_v2 : Ref sig .tc := ⟨.hbm, 189, rfl⟩
abbrev main_call9_v3 : Ref sig .tc := ⟨.hbm, 190, rfl⟩
abbrev main_call9_v4 : Ref sig .tc := ⟨.hbm, 191, rfl⟩
abbrev main_call9_v5 : Ref sig .tc := ⟨.hbm, 192, rfl⟩
abbrev main_call9_v6 : Ref sig .tc := ⟨.hbm, 193, rfl⟩
abbrev main_call9_v7 : Ref sig .tc := ⟨.hbm, 194, rfl⟩
abbrev main_call9_v8 : Ref sig .tc := ⟨.hbm, 195, rfl⟩
abbrev main_call9_v9 : Ref sig .tc := ⟨.hbm, 196, rfl⟩
abbrev main_call9_v10 : Ref sig .tc := ⟨.hbm, 197, rfl⟩
abbrev main_call9_v11 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_call10_call0_cst : Ref sig .tc := ⟨.hbm, 210, rfl⟩
abbrev main_call10_call0_v0 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_cst_3 : Ref sig .tc := ⟨.hbm, 225, rfl⟩
abbrev main_call11_v0 : Ref sig .tc := ⟨.hbm, 226, rfl⟩
abbrev main_call11_v1 : Ref sig .tc := ⟨.hbm, 227, rfl⟩
abbrev main_call11_v2 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_call12_v0 : Ref sig .tc := ⟨.hbm, 253, rfl⟩
abbrev main_call12_v1 : Ref sig .tc := ⟨.hbm, 254, rfl⟩
abbrev main_call12_cst : Ref sig .tc := ⟨.hbm, 255, rfl⟩
abbrev main_call12_v2 : Ref sig .tc := ⟨.hbm, 256, rfl⟩
abbrev main_call12_v3 : Ref sig .tc := ⟨.hbm, 257, rfl⟩
abbrev main_call12_cst_0 : Ref sig .tc := ⟨.hbm, 258, rfl⟩
abbrev main_call12_v4 : Ref sig .tc := ⟨.hbm, 259, rfl⟩
abbrev main_call12_v5 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_cst_4 : Ref sig .tc := ⟨.hbm, 265, rfl⟩
abbrev main_v160 : Ref sig .tc := ⟨.hbm, 266, rfl⟩
abbrev main_v161 : Ref sig .tc := ⟨.hbm, 267, rfl⟩
abbrev main_cst_5 : Ref sig .tc := ⟨.hbm, 268, rfl⟩
abbrev main_v162 : Ref sig .tc := ⟨.hbm, 269, rfl⟩
abbrev main_v163 : Ref sig .tc := ⟨.hbm, 270, rfl⟩
abbrev main_cst_6 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_v171 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S2x8192x1024 : Shape := ⟨3, ![2, 8192, 1024]⟩
abbrev S1024x9808 : Shape := ⟨2, ![1024, 9808]⟩
abbrev S9808 : Shape := ⟨1, ![9808]⟩
abbrev S1024x1536 : Shape := ⟨2, ![1024, 1536]⟩
abbrev S1536 : Shape := ⟨1, ![1536]⟩
abbrev S1x1536 : Shape := ⟨2, ![1, 1536]⟩
abbrev S1024x1024 : Shape := ⟨2, ![1024, 1024]⟩
abbrev S1x1024 : Shape := ⟨2, ![1, 1024]⟩
abbrev S1024x1 : Shape := ⟨2, ![1024, 1]⟩
abbrev S2x1024x8192 : Shape := ⟨3, ![2, 1024, 8192]⟩
abbrev S1x512x1024 : Shape := ⟨3, ![1, 512, 1024]⟩
abbrev S1x1024x512 : Shape := ⟨3, ![1, 1024, 512]⟩
abbrev S512x1024 : Shape := ⟨2, ![512, 1024]⟩
abbrev S1024x512 : Shape := ⟨2, ![1024, 512]⟩
abbrev S2x4x4x64x8192 : Shape := ⟨5, ![2, 4, 4, 64, 8192]⟩
abbrev S2x8192x4x4x64 : Shape := ⟨5, ![2, 8192, 4, 4, 64]⟩

abbrev nBuf : Space → Nat
  | .hbm => 15
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S1024x1536, .f32⟩
  | .hbm, ⟨4, _⟩ => ⟨S1024x1536, .bf16⟩
  | .hbm, ⟨5, _⟩ => ⟨S1536, .f32⟩
  | .hbm, ⟨6, _⟩ => ⟨S1x1536, .f32⟩
  | .hbm, ⟨7, _⟩ => ⟨S2x8192x1024, .bf16⟩
  | .hbm, ⟨8, _⟩ => ⟨S1024x1024, .bf16⟩
  | .hbm, ⟨9, _⟩ => ⟨S1x1024, .f32⟩
  | .hbm, ⟨10, _⟩ => ⟨S1024x1024, .bf16⟩
  | .hbm, ⟨11, _⟩ => ⟨S1024x1, .f32⟩
  | .hbm, ⟨12, _⟩ => ⟨S2x1024x8192, .f32⟩
  | .hbm, ⟨13, _⟩ => ⟨S2x4x4x64x8192, .f32⟩
  | .hbm, ⟨14, _⟩ => ⟨S2x8192x4x4x64, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1, .f32⟩
  | .local _ .vmem, ⟨4, _⟩ => ⟨S1x1024x512, .f32⟩
  | .local _ .vmem, ⟨5, _⟩ => ⟨S1x1024x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2x8192x1024 : Shape := ⟨3, ![2, 8192, 1024]⟩
abbrev S1024x9808 : Shape := ⟨2, ![1024, 9808]⟩
abbrev S9808 : Shape := ⟨1, ![9808]⟩
abbrev S2x8192x9808 : Shape := ⟨3, ![2, 8192, 9808]⟩
abbrev S1x1x9808 : Shape := ⟨3, ![1, 1, 9808]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S2x8192x1536 : Shape := ⟨3, ![2, 8192, 1536]⟩
abbrev S2x8192x48 : Shape := ⟨3, ![2, 8192, 48]⟩
abbrev S2x8192x6x4x64 : Shape := ⟨5, ![2, 8192, 6, 4, 64]⟩
abbrev S2x8192x4x4x64 : Shape := ⟨5, ![2, 8192, 4, 4, 64]⟩

abbrev nBuf : Space → Nat
  | .hbm => 16
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S2x8192x9808, .f32⟩
  | .hbm, ⟨4, _⟩ => ⟨S1x1x9808, .f32⟩
  | .hbm, ⟨5, _⟩ => ⟨S2x8192x9808, .f32⟩
  | .hbm, ⟨6, _⟩ => ⟨S2x8192x9808, .f32⟩
  | .hbm, ⟨7, _⟩ => ⟨S2x8192x2048, .f32⟩
  | .hbm, ⟨8, _⟩ => ⟨S2x8192x3072, .f32⟩
  | .hbm, ⟨9, _⟩ => ⟨S2x8192x32, .f32⟩
  | .hbm, ⟨10, _⟩ => ⟨S2x8192x1024, .f32⟩
  | .hbm, ⟨11, _⟩ => ⟨S2x8192x1536, .f32⟩
  | .hbm, ⟨12, _⟩ => ⟨S2x8192x48, .f32⟩
  | .hbm, ⟨13, _⟩ => ⟨S2x8192x2048, .f32⟩
  | .hbm, ⟨14, _⟩ => ⟨S2x8192x6x4x64, .f32⟩
  | .hbm, ⟨15, _⟩ => ⟨S2x8192x4x4x64, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024x9808 : Shape := ⟨2, ![1024, 9808]⟩
abbrev S9808 : Shape := ⟨1, ![9808]⟩
abbrev S1024x1536 : Shape := ⟨2, ![1024, 1536]⟩
abbrev S1536 : Shape := ⟨1, ![1536]⟩
abbrev S1x1536 : Shape := ⟨2, ![1, 1536]⟩
abbrev S2x512x1024 : Shape := ⟨3, ![2, 512, 1024]⟩
abbrev S1024x512 : Shape := ⟨2, ![1024, 512]⟩
abbrev S1x512 : Shape := ⟨2, ![1, 512]⟩
abbrev S512x1024 : Shape := ⟨2, ![512, 1024]⟩
abbrev S512x1 : Shape := ⟨2, ![512, 1]⟩
abbrev S2x512x512 : Shape := ⟨3, ![2, 512, 512]⟩
abbrev S1x512x1024 : Shape := ⟨3, ![1, 512, 1024]⟩
abbrev S1x512x512 : Shape := ⟨3, ![1, 512, 512]⟩
abbrev S512x512 : Shape := ⟨2, ![512, 512]⟩
abbrev S2x2x4x64x512 : Shape := ⟨5, ![2, 2, 4, 64, 512]⟩
abbrev S2x512x2x4x64 : Shape := ⟨5, ![2, 512, 2, 4, 64]⟩

abbrev nBuf : Space → Nat
  | .hbm => 16
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S1024x1536, .f32⟩
  | .hbm, ⟨4, _⟩ => ⟨S1024x1536, .bf16⟩
  | .hbm, ⟨5, _⟩ => ⟨S1536, .f32⟩
  | .hbm, ⟨6, _⟩ => ⟨S1x1536, .f32⟩
  | .hbm, ⟨7, _⟩ => ⟨S2x8192x1024, .bf16⟩
  | .hbm, ⟨8, _⟩ => ⟨S2x512x1024, .bf16⟩
  | .hbm, ⟨9, _⟩ => ⟨S1024x512, .bf16⟩
  | .hbm, ⟨10, _⟩ => ⟨S1x512, .f32⟩
  | .hbm, ⟨11, _⟩ => ⟨S512x1024, .bf16⟩
  | .hbm, ⟨12, _⟩ => ⟨S512x1, .f32⟩
  | .hbm, ⟨13, _⟩ => ⟨S2x512x512, .f32⟩
  | .hbm, ⟨14, _⟩ => ⟨S2x2x4x64x512, .f32⟩
  | .hbm, ⟨15, _⟩ => ⟨S2x512x2x4x64, .f32⟩
  | .local _ .vmem, ⟨0, _⟩ => ⟨S1x512x1024, .bf16⟩
  | .local _ .vmem, ⟨1, _⟩ => ⟨S1x512x1024, .bf16⟩
  | .local _ .vmem, ⟨2, _⟩ => ⟨S512x1024, .bf16⟩
  | .local _ .vmem, ⟨3, _⟩ => ⟨S512x1, .f32⟩
  | .local _ .vmem, ⟨4, _⟩ => ⟨S1x512x512, .f32⟩
  | .local _ .vmem, ⟨5, _⟩ => ⟨S1x512x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x8192x1024 : Shape := ⟨3, ![2, 8192, 1024]⟩
abbrev S1024x9808 : Shape := ⟨2, ![1024, 9808]⟩
abbrev S9808 : Shape := ⟨1, ![9808]⟩
abbrev S2x8192x9808 : Shape := ⟨3, ![2, 8192, 9808]⟩
abbrev S1x1x9808 : Shape := ⟨3, ![1, 1, 9808]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S2x8192x1536 : Shape := ⟨3, ![2, 8192, 1536]⟩
abbrev S2x8192x48 : Shape := ⟨3, ![2, 8192, 48]⟩
abbrev S2x8192x6x4x64 : Shape := ⟨5, ![2, 8192, 6, 4, 64]⟩
abbrev S2x512x2x4x64 : Shape := ⟨5, ![2, 512, 2, 4, 64]⟩

abbrev nBuf : Space → Nat
  | .hbm => 16
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S2x8192x9808, .f32⟩
  | .hbm, ⟨4, _⟩ => ⟨S1x1x9808, .f32⟩
  | .hbm, ⟨5, _⟩ => ⟨S2x8192x9808, .f32⟩
  | .hbm, ⟨6, _⟩ => ⟨S2x8192x9808, .f32⟩
  | .hbm, ⟨7, _⟩ => ⟨S2x8192x2048, .f32⟩
  | .hbm, ⟨8, _⟩ => ⟨S2x8192x3072, .f32⟩
  | .hbm, ⟨9, _⟩ => ⟨S2x8192x32, .f32⟩
  | .hbm, ⟨10, _⟩ => ⟨S2x8192x1024, .f32⟩
  | .hbm, ⟨11, _⟩ => ⟨S2x8192x1536, .f32⟩
  | .hbm, ⟨12, _⟩ => ⟨S2x8192x48, .f32⟩
  | .hbm, ⟨13, _⟩ => ⟨S2x8192x2048, .f32⟩
  | .hbm, ⟨14, _⟩ => ⟨S2x8192x6x4x64, .f32⟩
  | .hbm, ⟨15, _⟩ => ⟨S2x512x2x4x64, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024x9808 : Shape := ⟨2, ![1024, 9808]⟩
abbrev S9808 : Shape := ⟨1, ![9808]⟩
abbrev S16384x1024 : Shape := ⟨2, ![16384, 1024]⟩
abbrev S1024x3072 : Shape := ⟨2, ![1024, 3072]⟩
abbrev S3072 : Shape := ⟨1, ![3072]⟩
abbrev S1x3072 : Shape := ⟨2, ![1, 3072]⟩
abbrev S16384x3072 : Shape := ⟨2, ![16384, 3072]⟩
abbrev S512x1024 : Shape := ⟨2, ![512, 1024]⟩
abbrev S512x3072 : Shape := ⟨2, ![512, 3072]⟩
abbrev S2x8192x3072 : Shape := ⟨3, ![2, 8192, 3072]⟩
abbrev S2x3x3072 : Shape := ⟨3, ![2, 3, 3072]⟩

abbrev nBuf : Space → Nat
  | .hbm => 12
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S2x8192x1024, .bf16⟩
  | .hbm, ⟨4, _⟩ => ⟨S16384x1024, .bf16⟩
  | .hbm, ⟨5, _⟩ => ⟨S1024x3072, .f32⟩
  | .hbm, ⟨6, _⟩ => ⟨S1024x3072, .bf16⟩
  | .hbm, ⟨7, _⟩ => ⟨S3072, .f32⟩
  | .hbm, ⟨8, _⟩ => ⟨S1x3072, .f32⟩
  | .hbm, ⟨9, _⟩ => ⟨S16384x3072, .f32⟩
  | .hbm, ⟨10, _⟩ => ⟨S2x8192x3072, .f32⟩
  | .hbm, ⟨11, _⟩ => ⟨S2x3x3072, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1x3072, .f32⟩
  | .local _ .vmem, ⟨4, _⟩ => ⟨S512x3072, .f32⟩
  | .local _ .vmem, ⟨5, _⟩ => ⟨S512x3072, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2x8192x1024 : Shape := ⟨3, ![2, 8192, 1024]⟩
abbrev S1024x9808 : Shape := ⟨2, ![1024, 9808]⟩
abbrev S9808 : Shape := ⟨1, ![9808]⟩
abbrev S2x8192x9808 : Shape := ⟨3, ![2, 8192, 9808]⟩
abbrev S1x1x9808 : Shape := ⟨3, ![1, 1, 9808]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S2x8192x1536 : Shape := ⟨3, ![2, 8192, 1536]⟩
abbrev S2x8192x48 : Shape := ⟨3, ![2, 8192, 48]⟩
abbrev S2x8192x6x4x64 : Shape := ⟨5, ![2, 8192, 6, 4, 64]⟩
abbrev S2x3x3072 : Shape := ⟨3, ![2, 3, 3072]⟩

abbrev nBuf : Space → Nat
  | .hbm => 16
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S2x8192x9808, .f32⟩
  | .hbm, ⟨4, _⟩ => ⟨S1x1x9808, .f32⟩
  | .hbm, ⟨5, _⟩ => ⟨S2x8192x9808, .f32⟩
  | .hbm, ⟨6, _⟩ => ⟨S2x8192x9808, .f32⟩
  | .hbm, ⟨7, _⟩ => ⟨S2x8192x2048, .f32⟩
  | .hbm, ⟨8, _⟩ => ⟨S2x8192x3072, .f32⟩
  | .hbm, ⟨9, _⟩ => ⟨S2x8192x32, .f32⟩
  | .hbm, ⟨10, _⟩ => ⟨S2x8192x1024, .f32⟩
  | .hbm, ⟨11, _⟩ => ⟨S2x8192x1536, .f32⟩
  | .hbm, ⟨12, _⟩ => ⟨S2x8192x48, .f32⟩
  | .hbm, ⟨13, _⟩ => ⟨S2x8192x2048, .f32⟩
  | .hbm, ⟨14, _⟩ => ⟨S2x8192x6x4x64, .f32⟩
  | .hbm, ⟨15, _⟩ => ⟨S2x3x3072, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel5.lean ====
abbrev S2x8192x1024 : Shape := ⟨3, ![2, 8192, 1024]⟩
abbrev S1024x9808 : Shape := ⟨2, ![1024, 9808]⟩
abbrev S9808 : Shape := ⟨1, ![9808]⟩
abbrev S16384x1024 : Shape := ⟨2, ![16384, 1024]⟩
abbrev S1024x2048 : Shape := ⟨2, ![1024, 2048]⟩
abbrev S2048 : Shape := ⟨1, ![2048]⟩
abbrev S1x2048 : Shape := ⟨2, ![1, 2048]⟩
abbrev S16384x2048 : Shape := ⟨2, ![16384, 2048]⟩
abbrev S512x1024 : Shape := ⟨2, ![512, 1024]⟩
abbrev S512x2048 : Shape := ⟨2, ![512, 2048]⟩
abbrev S2x8192x2048 : Shape := ⟨3, ![2, 8192, 2048]⟩

abbrev nBuf : Space → Nat
  | .hbm => 11
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S2x8192x1024, .bf16⟩
  | .hbm, ⟨4, _⟩ => ⟨S16384x1024, .bf16⟩
  | .hbm, ⟨5, _⟩ => ⟨S1024x2048, .f32⟩
  | .hbm, ⟨6, _⟩ => ⟨S1024x2048, .bf16⟩
  | .hbm, ⟨7, _⟩ => ⟨S2048, .f32⟩
  | .hbm, ⟨8, _⟩ => ⟨S1x2048, .f32⟩
  | .hbm, ⟨9, _⟩ => ⟨S16384x2048, .f32⟩
  | .hbm, ⟨10, _⟩ => ⟨S2x8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2x8192x1024 : Shape := ⟨3, ![2, 8192, 1024]⟩
abbrev S1024x9808 : Shape := ⟨2, ![1024, 9808]⟩
abbrev S9808 : Shape := ⟨1, ![9808]⟩
abbrev S2x8192x9808 : Shape := ⟨3, ![2, 8192, 9808]⟩
abbrev S1x1x9808 : Shape := ⟨3, ![1, 1, 9808]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S2x8192x1536 : Shape := ⟨3, ![2, 8192, 1536]⟩
abbrev S2x8192x48 : Shape := ⟨3, ![2, 8192, 48]⟩
abbrev S2x8192x6x4x64 : Shape := ⟨5, ![2, 8192, 6, 4, 64]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S2x8192x9808, .f32⟩
  | .hbm, ⟨4, _⟩ => ⟨S1x1x9808, .f32⟩
  | .hbm, ⟨5, _⟩ => ⟨S2x8192x9808, .f32⟩
  | .hbm, ⟨6, _⟩ => ⟨S2x8192x9808, .f32⟩
  | .hbm, ⟨7, _⟩ => ⟨S2x8192x2048, .f32⟩
  | .hbm, ⟨8, _⟩ => ⟨S2x8192x3072, .f32⟩
  | .hbm, ⟨9, _⟩ => ⟨S2x8192x32, .f32⟩
  | .hbm, ⟨10, _⟩ => ⟨S2x8192x1024, .f32⟩
  | .hbm, ⟨11, _⟩ => ⟨S2x8192x1536, .f32⟩
  | .hbm, ⟨12, _⟩ => ⟨S2x8192x48, .f32⟩
  | .hbm, ⟨13, _⟩ => ⟨S2x8192x2048, .f32⟩
  | .hbm, ⟨14, _⟩ => ⟨S2x8192x6x4x64, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel6.lean ====
abbrev S2x8192x1024 : Shape := ⟨3, ![2, 8192, 1024]⟩
abbrev S1024x9808 : Shape := ⟨2, ![1024, 9808]⟩
abbrev S9808 : Shape := ⟨1, ![9808]⟩
abbrev S16384x1024 : Shape := ⟨2, ![16384, 1024]⟩
abbrev S1024x2048 : Shape := ⟨2, ![1024, 2048]⟩
abbrev S2048 : Shape := ⟨1, ![2048]⟩
abbrev S1x2048 : Shape := ⟨2, ![1, 2048]⟩
abbrev S16384x2048 : Shape := ⟨2, ![16384, 2048]⟩
abbrev S512x1024 : Shape := ⟨2, ![512, 1024]⟩
abbrev S512x2048 : Shape := ⟨2, ![512, 2048]⟩
abbrev S2x8192x2048 : Shape := ⟨3, ![2, 8192, 2048]⟩

abbrev nBuf : Space → Nat
  | .hbm => 11
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S2x8192x1024, .bf16⟩
  | .hbm, ⟨4, _⟩ => ⟨S16384x1024, .bf16⟩
  | .hbm, ⟨5, _⟩ => ⟨S1024x2048, .f32⟩
  | .hbm, ⟨6, _⟩ => ⟨S1024x2048, .bf16⟩
  | .hbm, ⟨7, _⟩ => ⟨S2048, .f32⟩
  | .hbm, ⟨8, _⟩ => ⟨S1x2048, .f32⟩
  | .hbm, ⟨9, _⟩ => ⟨S16384x2048, .f32⟩
  | .hbm, ⟨10, _⟩ => ⟨S2x8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2x8192x1024 : Shape := ⟨3, ![2, 8192, 1024]⟩
abbrev S1024x9808 : Shape := ⟨2, ![1024, 9808]⟩
abbrev S9808 : Shape := ⟨1, ![9808]⟩
abbrev S2x8192x9808 : Shape := ⟨3, ![2, 8192, 9808]⟩
abbrev S1x1x9808 : Shape := ⟨3, ![1, 1, 9808]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S2x8192x1536 : Shape := ⟨3, ![2, 8192, 1536]⟩
abbrev S2x8192x48 : Shape := ⟨3, ![2, 8192, 48]⟩
abbrev S2x8192x6x4x64 : Shape := ⟨5, ![2, 8192, 6, 4, 64]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S2x8192x9808, .f32⟩
  | .hbm, ⟨4, _⟩ => ⟨S1x1x9808, .f32⟩
  | .hbm, ⟨5, _⟩ => ⟨S2x8192x9808, .f32⟩
  | .hbm, ⟨6, _⟩ => ⟨S2x8192x9808, .f32⟩
  | .hbm, ⟨7, _⟩ => ⟨S2x8192x2048, .f32⟩
  | .hbm, ⟨8, _⟩ => ⟨S2x8192x3072, .f32⟩
  | .hbm, ⟨9, _⟩ => ⟨S2x8192x32, .f32⟩
  | .hbm, ⟨10, _⟩ => ⟨S2x8192x1024, .f32⟩
  | .hbm, ⟨11, _⟩ => ⟨S2x8192x1536, .f32⟩
  | .hbm, ⟨12, _⟩ => ⟨S2x8192x48, .f32⟩
  | .hbm, ⟨13, _⟩ => ⟨S2x8192x2048, .f32⟩
  | .hbm, ⟨14, _⟩ => ⟨S2x8192x6x4x64, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel7.lean ====
abbrev S128x1x1024 : Shape := ⟨3, ![128, 1, 1024]⟩
abbrev S128x512x2x4x64 : Shape := ⟨5, ![128, 512, 2, 4, 64]⟩
abbrev S1024x9808 : Shape := ⟨2, ![1024, 9808]⟩
abbrev S9808 : Shape := ⟨1, ![9808]⟩
abbrev S128x1024 : Shape := ⟨2, ![128, 1024]⟩
abbrev S1024x1536 : Shape := ⟨2, ![1024, 1536]⟩
abbrev S1536 : Shape := ⟨1, ![1536]⟩
abbrev S1x1536 : Shape := ⟨2, ![1, 1536]⟩
abbrev S128x1536 : Shape := ⟨2, ![128, 1536]⟩
abbrev S128x1x6x4x64 : Shape := ⟨5, ![128, 1, 6, 4, 64]⟩
abbrev S128x1x2x4x64 : Shape := ⟨5, ![128, 1, 2, 4, 64]⟩
abbrev S128x513x2x4x64 : Shape := ⟨5, ![128, 513, 2, 4, 64]⟩
abbrev S128x1x4x4x64 : Shape := ⟨5, ![128, 1, 4, 4, 64]⟩

abbrev nBuf : Space → Nat
  | .hbm => 16
  | .vmem => 4
  | .smem => 0
  | _ => 0

abbrev bufTy : (tb : Table) → Fin (tcTables nBuf tb) → BufTy
  | .hbm, ⟨0, _⟩ => ⟨S128x1x1024, .f32⟩
  | .hbm, ⟨1, _⟩ => ⟨S128x512x2x4x64, .f32⟩
  | .hbm, ⟨2, _⟩ => ⟨S1024x9808, .f32⟩
  | .hbm, ⟨3, _⟩ => ⟨S9808, .f32⟩
  | .hbm, ⟨4, _⟩ => ⟨S128x1024, .f32⟩
  | .hbm, ⟨5, _⟩ => ⟨S1024x1536, .f32⟩
  | .hbm, ⟨6, _⟩ => ⟨S1024x1536, .bf16⟩
  | .hbm, ⟨7, _⟩ => ⟨S1536, .f32⟩
  | .hbm, ⟨8, _⟩ => ⟨S1x1536, .f32⟩
  | .hbm, ⟨9, _⟩ => ⟨S128x1024, .bf16⟩
  | .hbm, ⟨10, _⟩ => ⟨S128x1536, .f32⟩
  | .hbm, ⟨11, _⟩ => ⟨S128x1x6x4x64, .f32⟩
  | .hbm, ⟨12, _⟩ => ⟨S128x1x2x4x64, .f32⟩
  | .hbm, ⟨13, _⟩ => ⟨S128x513x2x4x64, .f32⟩
  | .hbm, ⟨14, _⟩ => ⟨S128x512x2x4x64, .f32⟩
  | .hbm, ⟨15, _⟩ => ⟨S128x1x4x4x64, .f32⟩
  | .local _ .vmem, ⟨0, _⟩ => ⟨S128x1024, .bf16⟩
  | .local _ .vmem, ⟨1, _⟩ => ⟨S1024x1536, .bf16⟩
  | .local _ .vmem, ⟨2, _⟩ => ⟨S1x1536, .f32⟩
  | .local _ .vmem, ⟨3, _⟩ => ⟨S128x1536, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference7Ideal.lean ====
abbrev S128x1x1024 : Shape := ⟨3, ![128, 1, 1024]⟩
abbrev S128x512x2x4x64 : Shape := ⟨5, ![128, 512, 2, 4, 64]⟩
abbrev S1024x9808 : Shape := ⟨2, ![1024, 9808]⟩
abbrev S9808 : Shape := ⟨1, ![9808]⟩
abbrev S128x1x9808 : Shape := ⟨3, ![128, 1, 9808]⟩
abbrev S1x1x9808 : Shape := ⟨3, ![1, 1, 9808]⟩
abbrev S128x1x2048 : Shape := ⟨3, ![128, 1, 2048]⟩
abbrev S128x1x3072 : Shape := ⟨3, ![128, 1, 3072]⟩
abbrev S128x1x32 : Shape := ⟨3, ![128, 1, 32]⟩
abbrev S128x1x1536 : Shape := ⟨3, ![128, 1, 1536]⟩
abbrev S128x1x48 : Shape := ⟨3, ![128, 1, 48]⟩
abbrev S128x1x6x4x64 : Shape := ⟨5, ![128, 1, 6, 4, 64]⟩
abbrev S128x1x2x4x64 : Shape := ⟨5, ![128, 1, 2, 4, 64]⟩
abbrev S128x513x2x4x64 : Shape := ⟨5, ![128, 513, 2, 4, 64]⟩
abbrev S128x1x4x4x64 : Shape := ⟨5, ![128, 1, 4, 4, 64]⟩

abbrev nBuf : Space → Nat
  | .hbm => 20
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x512x2x4x64, .f32⟩
  | .hbm, ⟨2, _⟩ => ⟨S1024x9808, .f32⟩
  | .hbm, ⟨3, _⟩ => ⟨S9808, .f32⟩
  | .hbm, ⟨4, _⟩ => ⟨S128x1x9808, .f32⟩
  | .hbm, ⟨5, _⟩ => ⟨S1x1x9808, .f32⟩
  | .hbm, ⟨6, _⟩ => ⟨S128x1x9808, .f32⟩
  | .hbm, ⟨7, _⟩ => ⟨S128x1x9808, .f32⟩
  | .hbm, ⟨8, _⟩ => ⟨S128x1x2048, .f32⟩
  | .hbm, ⟨9, _⟩ => ⟨S128x1x3072, .f32⟩
  | .hbm, ⟨10, _⟩ => ⟨S128x1x32, .f32⟩
  | .hbm, ⟨11, _⟩ => ⟨S128x1x1024, .f32⟩
  | .hbm, ⟨12, _⟩ => ⟨S128x1x1536, .f32⟩
  | .hbm, ⟨13, _⟩ => ⟨S128x1x48, .f32⟩
  | .hbm, ⟨14, _⟩ => ⟨S128x1x2048, .f32⟩
  | .hbm, ⟨15, _⟩ => ⟨S128x1x6x4x64, .f32⟩
  | .hbm, ⟨16, _⟩ => ⟨S128x1x2x4x64, .f32⟩
  | .hbm, ⟨17, _⟩ => ⟨S128x513x2x4x64, .f32⟩
  | .hbm, ⟨18, _⟩ => ⟨S128x1x4x4x64, .f32⟩
  | .hbm, ⟨19, _⟩ => ⟨S128x512x2x4x64, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel8.lean ====
abbrev S128x1x1024 : Shape := ⟨3, ![128, 1, 1024]⟩
abbrev S128x3x3072 : Shape := ⟨3, ![128, 3, 3072]⟩
abbrev S1024x9808 : Shape := ⟨2, ![1024, 9808]⟩
abbrev S9808 : Shape := ⟨1, ![9808]⟩
abbrev S128x1024 : Shape := ⟨2, ![128, 1024]⟩
abbrev S1024x3072 : Shape := ⟨2, ![1024, 3072]⟩
abbrev S3072 : Shape := ⟨1, ![3072]⟩
abbrev S1x3072 : Shape := ⟨2, ![1, 3072]⟩
abbrev S128x3072 : Shape := ⟨2, ![128, 3072]⟩
abbrev S128x1x3072 : Shape := ⟨3, ![128, 1, 3072]⟩
abbrev S128x4x3072 : Shape := ⟨3, ![128, 4, 3072]⟩

abbrev nBuf : Space → Nat
  | .hbm => 14
  | .vmem => 4
  | .smem => 0
  | _ => 0

abbrev bufTy : (tb : Table) → Fin (tcTables nBuf tb) → BufTy
  | .hbm, ⟨0, _⟩ => ⟨S128x1x1024, .f32⟩
  | .hbm, ⟨1, _⟩ => ⟨S128x3x3072, .f32⟩
  | .hbm, ⟨2, _⟩ => ⟨S1024x9808, .f32⟩
  | .hbm, ⟨3, _⟩ => ⟨S9808, .f32⟩
  | .hbm, ⟨4, _⟩ => ⟨S128x1024, .f32⟩
  | .hbm, ⟨5, _⟩ => ⟨S1024x3072, .f32⟩
  | .hbm, ⟨6, _⟩ => ⟨S1024x3072, .bf16⟩
  | .hbm, ⟨7, _⟩ => ⟨S3072, .f32⟩
  | .hbm, ⟨8, _⟩ => ⟨S1x3072, .f32⟩
  | .hbm, ⟨9, _⟩ => ⟨S128x1024, .bf16⟩
  | .hbm, ⟨10, _⟩ => ⟨S128x3072, .f32⟩
  | .hbm, ⟨11, _⟩ => ⟨S128x1x3072, .f32⟩
  | .hbm, ⟨12, _⟩ => ⟨S128x4x3072, .f32⟩
  | .hbm, ⟨13, _⟩ => ⟨S128x3x3072, .f32⟩
  | .local _ .vmem, ⟨0, _⟩ => ⟨S128x1024, .bf16⟩
  | .local _ .vmem, ⟨1, _⟩ => ⟨S1024x3072, .bf16⟩
  | .local _ .vmem, ⟨2, _⟩ => ⟨S1x3072, .f32⟩
  | .local _ .vmem, ⟨3, _⟩ => ⟨S128x3072, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference8Ideal.lean ====
abbrev S128x1x1024 : Shape := ⟨3, ![128, 1, 1024]⟩
abbrev S128x3x3072 : Shape := ⟨3, ![128, 3, 3072]⟩
abbrev S1024x9808 : Shape := ⟨2, ![1024, 9808]⟩
abbrev S9808 : Shape := ⟨1, ![9808]⟩
abbrev S128x1x9808 : Shape := ⟨3, ![128, 1, 9808]⟩
abbrev S1x1x9808 : Shape := ⟨3, ![1, 1, 9808]⟩
abbrev S128x1x2048 : Shape := ⟨3, ![128, 1, 2048]⟩
abbrev S128x1x3072 : Shape := ⟨3, ![128, 1, 3072]⟩
abbrev S128x1x32 : Shape := ⟨3, ![128, 1, 32]⟩
abbrev S128x1x1536 : Shape := ⟨3, ![128, 1, 1536]⟩
abbrev S128x1x48 : Shape := ⟨3, ![128, 1, 48]⟩
abbrev S128x1x6x4x64 : Shape := ⟨5, ![128, 1, 6, 4, 64]⟩
abbrev S128x4x3072 : Shape := ⟨3, ![128, 4, 3072]⟩
abbrev S128x3072 : Shape := ⟨2, ![128, 3072]⟩

abbrev nBuf : Space → Nat
  | .hbm => 19
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x3x3072, .f32⟩
  | .hbm, ⟨2, _⟩ => ⟨S1024x9808, .f32⟩
  | .hbm, ⟨3, _⟩ => ⟨S9808, .f32⟩
  | .hbm, ⟨4, _⟩ => ⟨S128x1x9808, .f32⟩
  | .hbm, ⟨5, _⟩ => ⟨S1x1x9808, .f32⟩
  | .hbm, ⟨6, _⟩ => ⟨S128x1x9808, .f32⟩
  | .hbm, ⟨7, _⟩ => ⟨S128x1x9808, .f32⟩
  | .hbm, ⟨8, _⟩ => ⟨S128x1x2048, .f32⟩
  | .hbm, ⟨9, _⟩ => ⟨S128x1x3072, .f32⟩
  | .hbm, ⟨10, _⟩ => ⟨S128x1x32, .f32⟩
  | .hbm, ⟨11, _⟩ => ⟨S128x1x1024, .f32⟩
  | .hbm, ⟨12, _⟩ => ⟨S128x1x1536, .f32⟩
  | .hbm, ⟨13, _⟩ => ⟨S128x1x48, .f32⟩
  | .hbm, ⟨14, _⟩ => ⟨S128x1x2048, .f32⟩
  | .hbm, ⟨15, _⟩ => ⟨S128x1x6x4x64, .f32⟩
  | .hbm, ⟨16, _⟩ => ⟨S128x4x3072, .f32⟩
  | .hbm, ⟨17, _⟩ => ⟨S128x3x3072, .f32⟩
  | .hbm, ⟨18, _⟩ => ⟨S128x3072, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel9.lean ====
abbrev S2x8192x1024 : Shape := ⟨3, ![2, 8192, 1024]⟩
abbrev S2x8192x2048 : Shape := ⟨3, ![2, 8192, 2048]⟩
abbrev S2048x1024 : Shape := ⟨2, ![2048, 1024]⟩
abbrev S1024x1024 : Shape := ⟨2, ![1024, 1024]⟩
abbrev S1024 : Shape := ⟨1, ![1024]⟩
abbrev S1024x64 : Shape := ⟨2, ![1024, 64]⟩
abbrev S_ : Shape := ⟨0, ![]⟩
abbrev S1024x128 : Shape := ⟨2, ![1024, 128]⟩
abbrev S1x1024 : Shape := ⟨2, ![1, 1024]⟩
abbrev S16384x1024 : Shape := ⟨2, ![16384, 1024]⟩
abbrev S16384x2048 : Shape := ⟨2, ![16384, 2048]⟩
abbrev S16384x128 : Shape := ⟨2, ![16384, 128]⟩
abbrev S256x1024 : Shape := ⟨2, ![256, 1024]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 33
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x8192x2048, .f32⟩
  | .hbm, ⟨2, _⟩ => ⟨S2x8192x1024, .f32⟩
  | .hbm, ⟨3, _⟩ => ⟨S2x8192x2048, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x64, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1024x128, .f32⟩
  | .hbm, ⟨16, _⟩ => ⟨S1024x128, .f32⟩
  | .hbm, ⟨17, _⟩ => ⟨S1024x128, .bf16⟩
  | .hbm, ⟨18, _⟩ => ⟨S2048x1024, .bf16⟩
  | .hbm, ⟨19, _⟩ => ⟨S1024x1024, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S16384x1024, .f32⟩
  | .hbm, ⟨25, _⟩ => ⟨S2x8192x2048, .bf16⟩
  | .hbm, ⟨26, _⟩ => ⟨S16384x2048, .bf16⟩
  | .hbm, ⟨27, _⟩ => ⟨S2x8192x1024, .bf16⟩
  | .hbm, ⟨28, _⟩ => ⟨S16384x1024, .bf16⟩
  | .hbm, ⟨29, _⟩ => ⟨S16384x2048, .f32⟩
  | .hbm, ⟨30, _⟩ => ⟨S16384x1024, .f32⟩
  | .hbm, ⟨31, _⟩ => ⟨S16384x128, .f32⟩
  | .hbm, ⟨32, _⟩ => ⟨S2x8192x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x128, .bf16⟩
  | .local _ .vmem, ⟨15, _⟩ => ⟨S1024x128, .bf16⟩
  | .local _ .vmem, ⟨16, _⟩ => ⟨S256x1024, .f32⟩
  | .local _ .vmem, ⟨17, _⟩ => ⟨S256x1024, .f32⟩
  | .local _ .vmem, ⟨18, _⟩ => ⟨S256x128, .f32⟩
  | .local _ .vmem, ⟨19, _⟩ => ⟨S256x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference9Ideal.lean ====
abbrev S2x8192x1024 : Shape := ⟨3, ![2, 8192, 1024]⟩
abbrev S2x8192x2048 : Shape := ⟨3, ![2, 8192, 2048]⟩
abbrev S2048x1024 : Shape := ⟨2, ![2048, 1024]⟩
abbrev S1024x1024 : Shape := ⟨2, ![1024, 1024]⟩
abbrev S1024 : Shape := ⟨1, ![1024]⟩
abbrev S1024x64 : Shape := ⟨2, ![1024, 64]⟩
abbrev S_ : Shape := ⟨0, ![]⟩
abbrev S1x1x1024 : Shape := ⟨3, ![1, 1, 1024]⟩
abbrev S2x8192 : Shape := ⟨2, ![2, 8192]⟩
abbrev S2x8192x1 : Shape := ⟨3, ![2, 8192, 1]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x2048, .f32⟩
  | .hbm, ⟨2, _⟩ => ⟨S2x8192x1024, .f32⟩
  | .hbm, ⟨3, _⟩ => ⟨S2x8192x2048, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x64, .f32⟩
  | .hbm, ⟨11, _⟩ => ⟨S2x8192x2048, .f32⟩
  | .hbm, ⟨12, _⟩ => ⟨S2x8192x2048, .f32⟩
  | .hbm, ⟨13, _⟩ => ⟨S_, .f32⟩
  | .hbm, ⟨14, _⟩ => ⟨S2x8192x2048, .f32⟩
  | .hbm, ⟨15, _⟩ => ⟨S2x8192x2048, .f32⟩
  | .hbm, ⟨16, _⟩ => ⟨S_, .f32⟩
  | .hbm, ⟨17, _⟩ => ⟨S2x8192x2048, .f32⟩
  | .hbm, ⟨18, _⟩ => ⟨S2x8192x2048, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S1x1x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x8192, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S_, .f32⟩
  | .hbm, ⟨44, _⟩ => ⟨S2x8192, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1024, .f32⟩
  | .hbm, ⟨50, _⟩ => ⟨S2x8192x1024, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S2x8192x1, .f32⟩
  | .hbm, ⟨55, _⟩ => ⟨S2x8192x1024, .f32⟩
  | .hbm, ⟨56, _⟩ => ⟨S2x8192x1024, .f32⟩
  | .hbm, ⟨57, _⟩ => ⟨S1x1x1024, .f32⟩
  | .hbm, ⟨58, _⟩ => ⟨S2x8192x1024, .f32⟩
  | .hbm, ⟨59, _⟩ => ⟨S2x8192x1024, .f32⟩
  | .hbm, ⟨60, _⟩ => ⟨S1x1x1024, .f32⟩
  | .hbm, ⟨61, _⟩ => ⟨S2x8192x1024, .f32⟩
  | .hbm, ⟨62, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Kernel10.lean ====
abbrev S2x8192x1024 : Shape := ⟨3, ![2, 8192, 1024]⟩
abbrev S1024x9808 : Shape := ⟨2, ![1024, 9808]⟩
abbrev S9808 : Shape := ⟨1, ![9808]⟩
abbrev S16384x1024 : Shape := ⟨2, ![16384, 1024]⟩
abbrev S1024x1536 : Shape := ⟨2, ![1024, 1536]⟩
abbrev S1536 : Shape := ⟨1, ![1536]⟩
abbrev S1x1536 : Shape := ⟨2, ![1, 1536]⟩
abbrev S16384x1536 : Shape := ⟨2, ![16384, 1536]⟩
abbrev S512x1024 : Shape := ⟨2, ![512, 1024]⟩
abbrev S512x1536 : Shape := ⟨2, ![512, 1536]⟩
abbrev S2x8192x6x4x64 : Shape := ⟨5, ![2, 8192, 6, 4, 64]⟩

abbrev nBuf : Space → Nat
  | .hbm => 11
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S2x8192x1024, .bf16⟩
  | .hbm, ⟨4, _⟩ => ⟨S16384x1024, .bf16⟩
  | .hbm, ⟨5, _⟩ => ⟨S1024x1536, .f32⟩
  | .hbm, ⟨6, _⟩ => ⟨S1024x1536, .bf16⟩
  | .hbm, ⟨7, _⟩ => ⟨S1536, .f32⟩
  | .hbm, ⟨8, _⟩ => ⟨S1x1536, .f32⟩
  | .hbm, ⟨9, _⟩ => ⟨S16384x1536, .f32⟩
  | .hbm, ⟨10, _⟩ => ⟨S2x8192x6x4x64, .f32⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S1x1536, .f32⟩
  | .local _ .vmem, ⟨4, _⟩ => ⟨S512x1536, .f32⟩
  | .local _ .vmem, ⟨5, _⟩ => ⟨S512x1536, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S2x8192x1024 : Shape := ⟨3, ![2, 8192, 1024]⟩
abbrev S1024x9808 : Shape := ⟨2, ![1024, 9808]⟩
abbrev S9808 : Shape := ⟨1, ![9808]⟩
abbrev S2x8192x9808 : Shape := ⟨3, ![2, 8192, 9808]⟩
abbrev S1x1x9808 : Shape := ⟨3, ![1, 1, 9808]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S2x8192x1536 : Shape := ⟨3, ![2, 8192, 1536]⟩
abbrev S2x8192x48 : Shape := ⟨3, ![2, 8192, 48]⟩
abbrev S2x8192x6x4x64 : Shape := ⟨5, ![2, 8192, 6, 4, 64]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S2x8192x9808, .f32⟩
  | .hbm, ⟨4, _⟩ => ⟨S1x1x9808, .f32⟩
  | .hbm, ⟨5, _⟩ => ⟨S2x8192x9808, .f32⟩
  | .hbm, ⟨6, _⟩ => ⟨S2x8192x9808, .f32⟩
  | .hbm, ⟨7, _⟩ => ⟨S2x8192x2048, .f32⟩
  | .hbm, ⟨8, _⟩ => ⟨S2x8192x3072, .f32⟩
  | .hbm, ⟨9, _⟩ => ⟨S2x8192x32, .f32⟩
  | .hbm, ⟨10, _⟩ => ⟨S2x8192x1024, .f32⟩
  | .hbm, ⟨11, _⟩ => ⟨S2x8192x1536, .f32⟩
  | .hbm, ⟨12, _⟩ => ⟨S2x8192x48, .f32⟩
  | .hbm, ⟨13, _⟩ => ⟨S2x8192x2048, .f32⟩
  | .hbm, ⟨14, _⟩ => ⟨S2x8192x6x4x64, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel11.lean ====
abbrev S128x3072 : Shape := ⟨2, ![128, 3072]⟩
abbrev S128x3x3072 : Shape := ⟨3, ![128, 3, 3072]⟩
abbrev S128x2048 : Shape := ⟨2, ![128, 2048]⟩
abbrev S128x32 : Shape := ⟨2, ![128, 32]⟩
abbrev S128x32x64x128 : Shape := ⟨4, ![128, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S128x128 : Shape := ⟨2, ![128, 128]⟩
abbrev S128x2048x128 : Shape := ⟨3, ![128, 2048, 128]⟩
abbrev S1x3072 : Shape := ⟨2, ![1, 3072]⟩
abbrev S128 : Shape := ⟨1, ![128]⟩
abbrev S1x128 : Shape := ⟨2, ![1, 128]⟩
abbrev S1x2048 : Shape := ⟨2, ![1, 2048]⟩
abbrev S8x3072 : Shape := ⟨2, ![8, 3072]⟩
abbrev S8x3x3072 : Shape := ⟨3, ![8, 3, 3072]⟩
abbrev S8x2048 : Shape := ⟨2, ![8, 2048]⟩
abbrev S8x128 : Shape := ⟨2, ![8, 128]⟩
abbrev S8x2048x128 : Shape := ⟨3, ![8, 2048, 128]⟩
abbrev S8x1x3072 : Shape := ⟨3, ![8, 1, 3072]⟩
abbrev S8x512 : Shape := ⟨2, ![8, 512]⟩
abbrev S24x128 : Shape := ⟨2, ![24, 128]⟩
abbrev S24x2048 : Shape := ⟨2, ![24, 2048]⟩
abbrev S112x2048 : Shape := ⟨2, ![112, 2048]⟩
abbrev S2048x128 : Shape := ⟨2, ![2048, 128]⟩
abbrev S1x512x128 : Shape := ⟨3, ![1, 512, 128]⟩
abbrev S512x128 : Shape := ⟨2, ![512, 128]⟩
abbrev S1x512 : Shape := ⟨2, ![1, 512]⟩
abbrev S1 : Shape := ⟨1, ![1]⟩
abbrev S1x1 : Shape := ⟨2, ![1, 1]⟩
abbrev S512x1 : Shape := ⟨2, ![512, 1]⟩
abbrev S8 : Shape := ⟨1, ![8]⟩
abbrev S8x1 : Shape := ⟨2, ![8, 1]⟩

abbrev nBuf : Space → Nat
  | .hbm => 44
  | .vmem => 21
  | .smem => 0
  | _ => 0

abbrev bufTy : (tb : Table) → Fin (tcTables nBuf tb) → BufTy
  | .hbm, ⟨0, _⟩ => ⟨S128x3072, .f32⟩
  | .hbm, ⟨1, _⟩ => ⟨S128x3x3072, .f32⟩
  | .hbm, ⟨2, _⟩ => ⟨S128x2048, .f32⟩
  | .hbm, ⟨3, _⟩ => ⟨S128x32, .f32⟩
  | .hbm, ⟨4, _⟩ => ⟨S128x32x64x128, .f32⟩
  | .hbm, ⟨5, _⟩ => ⟨S4x3072, .f32⟩
  | .hbm, ⟨6, _⟩ => ⟨S3072, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S_, .i32⟩
  | .hbm, ⟨12, _⟩ => ⟨S_, .f32⟩
  | .hbm, ⟨13, _⟩ => ⟨S128x128, .f32⟩
  | .hbm, ⟨14, _⟩ => ⟨S128x2048x128, .f32⟩
  | .hbm, ⟨15, _⟩ => ⟨S1x3072, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S1x2048, .f32⟩
  | .hbm, ⟨29, _⟩ => ⟨S128x2048, .i32⟩
  | .hbm, ⟨30, _⟩ => ⟨S128x2048, .i32⟩
  | .hbm, ⟨31, _⟩ => ⟨S_, .i32⟩
  | .hbm, ⟨32, _⟩ => ⟨S128x2048, .i32⟩
  | .hbm, ⟨33, _⟩ => ⟨S128x2048, .i32⟩
  | .hbm, ⟨34, _⟩ => ⟨S128x2048, .i1⟩
  | .hbm, ⟨35, _⟩ => ⟨S_, .f32⟩
  | .hbm, ⟨36, _⟩ => ⟨S_, .f32⟩
  | .hbm, ⟨37, _⟩ => ⟨S128x2048, .f32⟩
  | .hbm, ⟨38, _⟩ => ⟨S128x2048, .f32⟩
  | .hbm, ⟨39, _⟩ => ⟨S128x2048, .f32⟩
  | .hbm, ⟨40, _⟩ => ⟨S128x2048, .bf16⟩
  | .hbm, ⟨41, _⟩ => ⟨S128x2048, .f32⟩
  | .hbm, ⟨42, _⟩ => ⟨S128x2048x128, .f32⟩
  | .hbm, ⟨43, _⟩ => ⟨S128x32x64x128, .f32⟩
  | .local _ .vmem, ⟨0, _⟩ => ⟨S8x3072, .f32⟩
  | .local _ .vmem, ⟨1, _⟩ => ⟨S8x3072, .f32⟩
  | .local _ .vmem, ⟨2, _⟩ => ⟨S8x3x3072, .f32⟩
  | .local _ .vmem, ⟨3, _⟩ => ⟨S8x3x3072, .f32⟩
  | .local _ .vmem, ⟨4, _⟩ => ⟨S8x2048, .f32⟩
  | .local _ .vmem, ⟨5, _⟩ => ⟨S8x2048, .f32⟩
  | .local _ .vmem, ⟨6, _⟩ => ⟨S8x128, .f32⟩
  | .local _ .vmem, ⟨7, _⟩ => ⟨S8x128, .f32⟩
  | .local _ .vmem, ⟨8, _⟩ => ⟨S8x2048x128, .f32⟩
  | .local _ .vmem, ⟨9, _⟩ => ⟨S8x2048x128, .f32⟩
  | .local _ .vmem, ⟨10, _⟩ => ⟨S4x3072, .f32⟩
  | .local _ .vmem, ⟨11, _⟩ => ⟨S1x3072, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x2048, .f32⟩
  | .local _ .vmem, ⟨16, _⟩ => ⟨S128x2048, .bf16⟩
  | .local _ .vmem, ⟨17, _⟩ => ⟨S8x2048, .f32⟩
  | .local _ .vmem, ⟨18, _⟩ => ⟨S8x2048, .f32⟩
  | .local _ .vmem, ⟨19, _⟩ => ⟨S8x2048x128, .f32⟩
  | .local _ .vmem, ⟨20, _⟩ => ⟨S8x2048x128, .f32⟩
  | _, _ => ⟨S128x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_call2_v0 : Ref sig .tc := ⟨.hbm, 21, rfl⟩
abbrev main_v5 : Ref sig .tc := ⟨.hbm, 22, rfl⟩
abbrev main_v6 : Ref sig .tc := ⟨.hbm, 23, rfl⟩
abbrev main_c_2 : Ref sig .tc := ⟨.hbm, 24, rfl⟩
abbrev main_call3_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_3 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_cst_4 : Ref sig .tc := ⟨.hbm, 36, rfl⟩
abbrev main_call4_v0 : Ref sig .tc := ⟨.hbm, 37, rfl⟩
abbrev main_call4_v1 : Ref sig .tc := ⟨.hbm, 38, rfl⟩
abbrev main_v15 : Ref sig .tc := ⟨.hbm, 39, rfl⟩
abbrev main_v16 : Ref sig .tc := ⟨.hbm, 40, rfl⟩
abbrev main_v17_0 : Ref sig .tc := ⟨.hbm, 41, rfl⟩
abbrev main_v17_1 : Ref sig .tc := ⟨.hbm, 42, rfl⟩
abbrev main_v18 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference11Ideal.lean ====
abbrev S128x3072 : Shape := ⟨2, ![128, 3072]⟩
abbrev S128x3x3072 : Shape := ⟨3, ![128, 3, 3072]⟩
abbrev S128x2048 : Shape := ⟨2, ![128, 2048]⟩
abbrev S128x32 : Shape := ⟨2, ![128, 32]⟩
abbrev S128x32x64x128 : Shape := ⟨4, ![128, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S128x1x3072 : Shape := ⟨3, ![128, 1, 3072]⟩
abbrev S128x4x3072 : Shape := ⟨3, ![128, 4, 3072]⟩
abbrev S1x3072 : Shape := ⟨2, ![1, 3072]⟩
abbrev S_ : Shape := ⟨0, ![]⟩
abbrev S128x512 : Shape := ⟨2, ![128, 512]⟩
abbrev S1x32 : Shape := ⟨2, ![1, 32]⟩
abbrev S128x32x64 : Shape := ⟨3, ![128, 32, 64]⟩
abbrev S128x32x1 : Shape := ⟨3, ![128, 32, 1]⟩
abbrev S128x4x128 : Shape := ⟨3, ![128, 4, 128]⟩
abbrev S128x4x8x128 : Shape := ⟨4, ![128, 4, 8, 128]⟩
abbrev S128x32x128 : Shape := ⟨3, ![128, 32, 128]⟩
abbrev S128x32x1x1 : Shape := ⟨4, ![128, 32, 1, 1]⟩
abbrev S128x32x64x1 : Shape := ⟨4, ![128, 32, 64, 1]⟩
abbrev S128x32x1x128 : Shape := ⟨4, ![128, 32, 1, 128]⟩

abbrev nBuf : Space → Nat
  | .hbm => 98
  | .vmem => 0
  | .smem => 0
  | _ => 0

abbrev bufTy : (tb : Table) → Fin (tcTables nBuf tb) → BufTy
  | .hbm, ⟨0, _⟩ => ⟨S128x3072, .f32⟩
  | .hbm, ⟨1, _⟩ => ⟨S128x3x3072, .f32⟩
  | .hbm, ⟨2, _⟩ => ⟨S128x2048, .f32⟩
  | .hbm, ⟨3, _⟩ => ⟨S128x32, .f32⟩
  | .hbm, ⟨4, _⟩ => ⟨S128x32x64x128, .f32⟩
  | .hbm, ⟨5, _⟩ => ⟨S4x3072, .f32⟩
  | .hbm, ⟨6, _⟩ => ⟨S3072, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S128x1x3072, .f32⟩
  | .hbm, ⟨12, _⟩ => ⟨S128x4x3072, .f32⟩
  | .hbm, ⟨13, _⟩ => ⟨S128x1x3072, .f32⟩
  | .hbm, ⟨14, _⟩ => ⟨S128x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S128x3072, .f32⟩
  | .hbm, ⟨19, _⟩ => ⟨S128x3072, .f32⟩
  | .hbm, ⟨20, _⟩ => ⟨S128x1x3072, .f32⟩
  | .hbm, ⟨21, _⟩ => ⟨S128x3072, .f32⟩
  | .hbm, ⟨22, _⟩ => ⟨S1x3072, .f32⟩
  | .hbm, ⟨23, _⟩ => ⟨S3072, .f32⟩
  | .hbm, ⟨24, _⟩ => ⟨S1x3072, .f32⟩
  | .hbm, ⟨25, _⟩ => ⟨S128x3072, .f32⟩
  | .hbm, ⟨26, _⟩ => ⟨S128x3072, .f32⟩
  | .hbm, ⟨27, _⟩ => ⟨S128x3072, .f32⟩
  | .hbm, ⟨28, _⟩ => ⟨S128x1x3072, .f32⟩
  | .hbm, ⟨29, _⟩ => ⟨S128x3072, .f32⟩
  | .hbm, ⟨30, _⟩ => ⟨S1x3072, .f32⟩
  | .hbm, ⟨31, _⟩ => ⟨S3072, .f32⟩
  | .hbm, ⟨32, _⟩ => ⟨S1x3072, .f32⟩
  | .hbm, ⟨33, _⟩ => ⟨S128x3072, .f32⟩
  | .hbm, ⟨34, _⟩ => ⟨S128x3072, .f32⟩
  | .hbm, ⟨35, _⟩ => ⟨S128x3072, .f32⟩
  | .hbm, ⟨36, _⟩ => ⟨S128x1x3072, .f32⟩
  | .hbm, ⟨37, _⟩ => ⟨S128x3072, .f32⟩
  | .hbm, ⟨38, _⟩ => ⟨S1x3072, .f32⟩
  | .hbm, ⟨39, _⟩ => ⟨S3072, .f32⟩
  | .hbm, ⟨40, _⟩ => ⟨S1x3072, .f32⟩
  | .hbm, ⟨41, _⟩ => ⟨S128x3072, .f32⟩
  | .hbm, ⟨42, _⟩ => ⟨S128x3072, .f32⟩
  | .hbm, ⟨43, _⟩ => ⟨S128x3072, .f32⟩
  | .hbm, ⟨44, _⟩ => ⟨S1x3072, .f32⟩
  | .hbm, ⟨45, _⟩ => ⟨S128x3072, .f32⟩
  | .hbm, ⟨46, _⟩ => ⟨S128x3072, .f32⟩
  | .hbm, ⟨47, _⟩ => ⟨S128x3072, .f32⟩
  | .hbm, ⟨48, _⟩ => ⟨S128x3072, .f32⟩
  | .hbm, ⟨49, _⟩ => ⟨S_, .f32⟩
  | .hbm, ⟨50, _⟩ => ⟨S128x3072, .f32⟩
  | .hbm, ⟨51, _⟩ => ⟨S128x3072, .f32⟩
  | .hbm, ⟨52, _⟩ => ⟨S_, .f32⟩
  | .hbm, ⟨53, _⟩ => ⟨S128x3072, .f32⟩
  | .hbm, ⟨54, _⟩ => ⟨S128x3072, .f32⟩
  | .hbm, ⟨55, _⟩ => ⟨S128x3072, .f32⟩
  | .hbm, ⟨56, _⟩ => ⟨S128x2048, .f32⟩
  | .hbm, ⟨57, _⟩ => ⟨S128x512, .f32⟩
  | .hbm, ⟨58, _⟩ => ⟨S128x512, .f32⟩
  | .hbm, ⟨59, _⟩ => ⟨S1x32, .f32⟩
  | .hbm, ⟨60, _⟩ => ⟨S128x32, .f32⟩
  | .hbm, ⟨61, _⟩ => ⟨S128x32, .f32⟩
  | .hbm, ⟨62, _⟩ => ⟨S_, .f32⟩
  | .hbm, ⟨63, _⟩ => ⟨S128x32, .f32⟩
  | .hbm, ⟨64, _⟩ => ⟨S128x32, .f32⟩
  | .hbm, ⟨65, _⟩ => ⟨S128x32, .f32⟩
  | .hbm, ⟨66, _⟩ => ⟨S128x32, .f32⟩
  | .hbm, ⟨67, _⟩ => ⟨S128x32, .i1⟩
  | .hbm, ⟨68, _⟩ => ⟨S128x32, .f32⟩
  | .hbm, ⟨69, _⟩ => ⟨S128x32, .f32⟩
  | .hbm, ⟨70, _⟩ => ⟨S128x32, .f32⟩
  | .hbm, ⟨71, _⟩ => ⟨S128x32, .f32⟩
  | .hbm, ⟨72, _⟩ => ⟨S128x32, .f32⟩
  | .hbm, ⟨73, _⟩ => ⟨S128x32, .f32⟩
  | .hbm, ⟨74, _⟩ => ⟨S128x32, .f32⟩
  | .hbm, ⟨75, _⟩ => ⟨S128x32, .f32⟩
  | .hbm, ⟨76, _⟩ => ⟨S128x32x64, .f32⟩
  | .hbm, ⟨77, _⟩ => ⟨S128x32x1, .f32⟩
  | .hbm, ⟨78, _⟩ => ⟨S128x32x64, .f32⟩
  | .hbm, ⟨79, _⟩ => ⟨S128x32x64, .f32⟩
  | .hbm, ⟨80, _⟩ => ⟨S128x4x128, .f32⟩
  | .hbm, ⟨81, _⟩ => ⟨S128x4x8x128, .f32⟩
  | .hbm, ⟨82, _⟩ => ⟨S128x32x128, .f32⟩
  | .hbm, ⟨83, _⟩ => ⟨S32, .f32⟩
  | .hbm, ⟨84, _⟩ => ⟨S32, .f32⟩
  | .hbm, ⟨85, _⟩ => ⟨S1x32, .f32⟩
  | .hbm, ⟨86, _⟩ => ⟨S128x32, .f32⟩
  | .hbm, ⟨87, _⟩ => ⟨S128x32, .f32⟩
  | .hbm, ⟨88, _⟩ => ⟨S128x32, .f32⟩
  | .hbm, ⟨89, _⟩ => ⟨S128x32x1x1, .f32⟩
  | .hbm, ⟨90, _⟩ => ⟨S128x32x64x128, .f32⟩
  | .hbm, ⟨91, _⟩ => ⟨S128x32x64x128, .f32⟩
  | .hbm, ⟨92, _⟩ => ⟨S128x32x64x1, .f32⟩
  | .hbm, ⟨93, _⟩ => ⟨S128x32x1x128, .f32⟩
  | .hbm, ⟨94, _⟩ => ⟨S128x32x64x128, .f32⟩
  | .hbm, ⟨95, _⟩ => ⟨S128x32x64x128, .f32⟩
  | .hbm, ⟨96, _⟩ => ⟨S128x32x64x128, .f32⟩
  | .hbm, ⟨97, _⟩ => ⟨S128x32x64x128, .f32⟩
  | _, _ => ⟨S128x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]
-- ==== Kernel12.lean ====
abbrev S2x8192x1024 : Shape := ⟨3, ![2, 8192, 1024]⟩
abbrev S1024x9808 : Shape := ⟨2, ![1024, 9808]⟩
abbrev S9808 : Shape := ⟨1, ![9808]⟩
abbrev S1024x32 : Shape := ⟨2, ![1024, 32]⟩
abbrev S_ : Shape := ⟨0, ![]⟩
abbrev S1024x128 : Shape := ⟨2, ![1024, 128]⟩
abbrev S32 : Shape := ⟨1, ![32]⟩
abbrev S128 : Shape := ⟨1, ![128]⟩
abbrev S1x128 : Shape := ⟨2, ![1, 128]⟩
abbrev S16384x1024 : Shape := ⟨2, ![16384, 1024]⟩
abbrev S16384x128 : Shape := ⟨2, ![16384, 128]⟩
abbrev S512x1024 : Shape := ⟨2, ![512, 1024]⟩
abbrev S512x128 : Shape := ⟨2, ![512, 128]⟩
abbrev S2x8192x128 : Shape := ⟨3, ![2, 8192, 128]⟩

abbrev nBuf : Space → Nat
  | .hbm => 17
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S1024x32, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S32, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S1024x128, .bf16⟩
  | .hbm, ⟨13, _⟩ => ⟨S2x8192x1024, .bf16⟩
  | .hbm, ⟨14, _⟩ => ⟨S16384x1024, .bf16⟩
  | .hbm, ⟨15, _⟩ => ⟨S16384x128, .f32⟩
  | .hbm, ⟨16, _⟩ => ⟨S2x8192x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S2x8192x1024 : Shape := ⟨3, ![2, 8192, 1024]⟩
abbrev S1024x9808 : Shape := ⟨2, ![1024, 9808]⟩
abbrev S9808 : Shape := ⟨1, ![9808]⟩
abbrev S2x8192x9808 : Shape := ⟨3, ![2, 8192, 9808]⟩
abbrev S1x1x9808 : Shape := ⟨3, ![1, 1, 9808]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S2x8192x1536 : Shape := ⟨3, ![2, 8192, 1536]⟩
abbrev S2x8192x48 : Shape := ⟨3, ![2, 8192, 48]⟩
abbrev S_ : Shape := ⟨0, ![]⟩
abbrev S2x8192x128 : Shape := ⟨3, ![2, 8192, 128]⟩

abbrev nBuf : Space → Nat
  | .hbm => 17
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S2x8192x9808, .f32⟩
  | .hbm, ⟨4, _⟩ => ⟨S1x1x9808, .f32⟩
  | .hbm, ⟨5, _⟩ => ⟨S2x8192x9808, .f32⟩
  | .hbm, ⟨6, _⟩ => ⟨S2x8192x9808, .f32⟩
  | .hbm, ⟨7, _⟩ => ⟨S2x8192x2048, .f32⟩
  | .hbm, ⟨8, _⟩ => ⟨S2x8192x3072, .f32⟩
  | .hbm, ⟨9, _⟩ => ⟨S2x8192x32, .f32⟩
  | .hbm, ⟨10, _⟩ => ⟨S2x8192x1024, .f32⟩
  | .hbm, ⟨11, _⟩ => ⟨S2x8192x1536, .f32⟩
  | .hbm, ⟨12, _⟩ => ⟨S2x8192x48, .f32⟩
  | .hbm, ⟨13, _⟩ => ⟨S2x8192x2048, .f32⟩
  | .hbm, ⟨14, _⟩ => ⟨S_, .i32⟩
  | .hbm, ⟨15, _⟩ => ⟨S_, .f32⟩
  | .hbm, ⟨16, _⟩ => ⟨S2x8192x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel13.lean ====
abbrev S128x1x1024 : Shape := ⟨3, ![128, 1, 1024]⟩
abbrev S1024x9808 : Shape := ⟨2, ![1024, 9808]⟩
abbrev S9808 : Shape := ⟨1, ![9808]⟩
abbrev S1024x32 : Shape := ⟨2, ![1024, 32]⟩
abbrev S_ : Shape := ⟨0, ![]⟩
abbrev S1024x128 : Shape := ⟨2, ![1024, 128]⟩
abbrev S32 : Shape := ⟨1, ![32]⟩
abbrev S128 : Shape := ⟨1, ![128]⟩
abbrev S1x128 : Shape := ⟨2, ![1, 128]⟩
abbrev S128x1024 : Shape := ⟨2, ![128, 1024]⟩
abbrev S128x128 : Shape := ⟨2, ![128, 128]⟩

abbrev nBuf : Space → Nat
  | .hbm => 16
  | .vmem => 4
  | .smem => 0
  | _ => 0

abbrev bufTy : (tb : Table) → Fin (tcTables nBuf tb) → BufTy
  | .hbm, ⟨0, _⟩ => ⟨S128x1x1024, .f32⟩
  | .hbm, ⟨1, _⟩ => ⟨S1024x9808, .f32⟩
  | .hbm, ⟨2, _⟩ => ⟨S9808, .f32⟩
  | .hbm, ⟨3, _⟩ => ⟨S1024x32, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S32, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S1024x128, .bf16⟩
  | .hbm, ⟨13, _⟩ => ⟨S128x1024, .f32⟩
  | .hbm, ⟨14, _⟩ => ⟨S128x1024, .bf16⟩
  | .hbm, ⟨15, _⟩ => ⟨S128x128, .f32⟩
  | .local _ .vmem, ⟨0, _⟩ => ⟨S128x1024, .bf16⟩
  | .local _ .vmem, ⟨1, _⟩ => ⟨S1024x128, .bf16⟩
  | .local _ .vmem, ⟨2, _⟩ => ⟨S1x128, .f32⟩
  | .local _ .vmem, ⟨3, _⟩ => ⟨S128x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference13Ideal.lean ====
abbrev S128x1x1024 : Shape := ⟨3, ![128, 1, 1024]⟩
abbrev S1024x9808 : Shape := ⟨2, ![1024, 9808]⟩
abbrev S9808 : Shape := ⟨1, ![9808]⟩
abbrev S128x1x9808 : Shape := ⟨3, ![128, 1, 9808]⟩
abbrev S1x1x9808 : Shape := ⟨3, ![1, 1, 9808]⟩
abbrev S128x1x2048 : Shape := ⟨3, ![128, 1, 2048]⟩
abbrev S128x1x3072 : Shape := ⟨3, ![128, 1, 3072]⟩
abbrev S128x1x32 : Shape := ⟨3, ![128, 1, 32]⟩
abbrev S128x1x1536 : Shape := ⟨3, ![128, 1, 1536]⟩
abbrev S128x1x48 : Shape := ⟨3, ![128, 1, 48]⟩
abbrev S128x32 : Shape := ⟨2, ![128, 32]⟩
abbrev S_ : Shape := ⟨0, ![]⟩
abbrev S128x128 : Shape := ⟨2, ![128, 128]⟩

abbrev nBuf : Space → Nat
  | .hbm => 18
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024x9808, .f32⟩
  | .hbm, ⟨2, _⟩ => ⟨S9808, .f32⟩
  | .hbm, ⟨3, _⟩ => ⟨S128x1x9808, .f32⟩
  | .hbm, ⟨4, _⟩ => ⟨S1x1x9808, .f32⟩
  | .hbm, ⟨5, _⟩ => ⟨S128x1x9808, .f32⟩
  | .hbm, ⟨6, _⟩ => ⟨S128x1x9808, .f32⟩
  | .hbm, ⟨7, _⟩ => ⟨S128x1x2048, .f32⟩
  | .hbm, ⟨8, _⟩ => ⟨S128x1x3072, .f32⟩
  | .hbm, ⟨9, _⟩ => ⟨S128x1x32, .f32⟩
  | .hbm, ⟨10, _⟩ => ⟨S128x1x1024, .f32⟩
  | .hbm, ⟨11, _⟩ => ⟨S128x1x1536, .f32⟩
  | .hbm, ⟨12, _⟩ => ⟨S128x1x48, .f32⟩
  | .hbm, ⟨13, _⟩ => ⟨S128x1x2048, .f32⟩
  | .hbm, ⟨14, _⟩ => ⟨S128x32, .f32⟩
  | .hbm, ⟨15, _⟩ => ⟨S_, .i32⟩
  | .hbm, ⟨16, _⟩ => ⟨S_, .f32⟩
  | .hbm, ⟨17, _⟩ => ⟨S128x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel14.lean ====
abbrev S2x8192x1024 : Shape := ⟨3, ![2, 8192, 1024]⟩
abbrev S1024x9808 : Shape := ⟨2, ![1024, 9808]⟩
abbrev S9808 : Shape := ⟨1, ![9808]⟩
abbrev S16x64 : Shape := ⟨2, ![16, 64]⟩
abbrev S1024x1024 : Shape := ⟨2, ![1024, 1024]⟩
abbrev S1024x16x64 : Shape := ⟨3, ![1024, 16, 64]⟩
abbrev S_ : Shape := ⟨0, ![]⟩
abbrev S1024x16x128 : Shape := ⟨3, ![1024, 16, 128]⟩
abbrev S1024x2048 : Shape := ⟨2, ![1024, 2048]⟩
abbrev S1024 : Shape := ⟨1, ![1024]⟩
abbrev S16x128 : Shape := ⟨2, ![16, 128]⟩
abbrev S1x2048 : Shape := ⟨2, ![1, 2048]⟩
abbrev S16384x1024 : Shape := ⟨2, ![16384, 1024]⟩
abbrev S16384x2048 : Shape := ⟨2, ![16384, 2048]⟩
abbrev S512x1024 : Shape := ⟨2, ![512, 1024]⟩
abbrev S512x2048 : Shape := ⟨2, ![512, 2048]⟩
abbrev S2x8192x16x128 : Shape := ⟨4, ![2, 8192, 16, 128]⟩
abbrev S2x8192x16x64 : Shape := ⟨4, ![2, 8192, 16, 64]⟩

abbrev nBuf : Space → Nat
  | .hbm => 26
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S16x64, .f32⟩
  | .hbm, ⟨4, _⟩ => ⟨S1024x1024, .f32⟩
  | .hbm, ⟨5, _⟩ => ⟨S1024x16x64, .f32⟩
  | .hbm, ⟨6, _⟩ => ⟨S_, .f32⟩
  | .hbm, ⟨7, _⟩ => ⟨S1024x16x64, .f32⟩
  | .hbm, ⟨8, _⟩ => ⟨S1024x16x64, .f32⟩
  | .hbm, ⟨9, _⟩ => ⟨S_, .i32⟩
  | .hbm, ⟨10, _⟩ => ⟨S_, .f32⟩
  | .hbm, ⟨11, _⟩ => ⟨S1024x16x128, .f32⟩
  | .hbm, ⟨12, _⟩ => ⟨S1024x2048, .f32⟩
  | .hbm, ⟨13, _⟩ => ⟨S1024, .f32⟩
  | .hbm, ⟨14, _⟩ => ⟨S16x64, .f32⟩
  | .hbm, ⟨15, _⟩ => ⟨S_, .f32⟩
  | .hbm, ⟨16, _⟩ => ⟨S16x64, .f32⟩
  | .hbm, ⟨17, _⟩ => ⟨S16x64, .f32⟩
  | .hbm, ⟨18, _⟩ => ⟨S16x128, .f32⟩
  | .hbm, ⟨19, _⟩ => ⟨S1x2048, .f32⟩
  | .hbm, ⟨20, _⟩ => ⟨S1024x2048, .bf16⟩
  | .hbm, ⟨21, _⟩ => ⟨S2x8192x1024, .bf16⟩
  | .hbm, ⟨22, _⟩ => ⟨S16384x1024, .bf16⟩
  | .hbm, ⟨23, _⟩ => ⟨S16384x2048, .f32⟩
  | .hbm, ⟨24, _⟩ => ⟨S2x8192x16x128, .f32⟩
  | .hbm, ⟨25, _⟩ => ⟨S2x8192x16x64, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S2x8192x1024 : Shape := ⟨3, ![2, 8192, 1024]⟩
abbrev S1024x9808 : Shape := ⟨2, ![1024, 9808]⟩
abbrev S9808 : Shape := ⟨1, ![9808]⟩
abbrev S2x8192x9808 : Shape := ⟨3, ![2, 8192, 9808]⟩
abbrev S1x1x9808 : Shape := ⟨3, ![1, 1, 9808]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S2x8192x1536 : Shape := ⟨3, ![2, 8192, 1536]⟩
abbrev S2x8192x48 : Shape := ⟨3, ![2, 8192, 48]⟩
abbrev S2x8192x16x64 : Shape := ⟨4, ![2, 8192, 16, 64]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x9808, .f32⟩
  | .hbm, ⟨2, _⟩ => ⟨S9808, .f32⟩
  | .hbm, ⟨3, _⟩ => ⟨S2x8192x9808, .f32⟩
  | .hbm, ⟨4, _⟩ => ⟨S1x1x9808, .f32⟩
  | .hbm, ⟨5, _⟩ => ⟨S2x8192x9808, .f32⟩
  | .hbm, ⟨6, _⟩ => ⟨S2x8192x9808, .f32⟩
  | .hbm, ⟨7, _⟩ => ⟨S2x8192x2048, .f32⟩
  | .hbm, ⟨8, _⟩ => ⟨S2x8192x3072, .f32⟩
  | .hbm, ⟨9, _⟩ => ⟨S2x8192x32, .f32⟩
  | .hbm, ⟨10, _⟩ => ⟨S2x8192x1024, .f32⟩
  | .hbm, ⟨11, _⟩ => ⟨S2x8192x1536, .f32⟩
  | .hbm, ⟨12, _⟩ => ⟨S2x8192x48, .f32⟩
  | .hbm, ⟨13, _⟩ => ⟨S2x8192x2048, .f32⟩
  | .hbm, ⟨14, _⟩ => ⟨S2x8192x16x64, .f32⟩
  | .hbm, ⟨15, _⟩ => ⟨S_, .f32⟩
  | .hbm, ⟨16, _⟩ => ⟨S2x8192x16x64, .f32⟩
  | .hbm, ⟨17, _⟩ => ⟨S2x8192x16x64, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel15.lean ====
abbrev S2560x128x4x4x64 : Shape := ⟨5, ![2560, 128, 4, 4, 64]⟩
abbrev S2x32x64x128 : Shape := ⟨4, ![2, 32, 64, 128]⟩
abbrev S2x32x64 : Shape := ⟨3, ![2, 32, 64]⟩
abbrev S1x32x64x128 : Shape := ⟨4, ![1, 32, 64, 128]⟩
abbrev S32x64x128 : Shape := ⟨3, ![32, 64, 128]⟩
abbrev S1x32x64 : Shape := ⟨3, ![1, 32, 64]⟩
abbrev S32x64 : Shape := ⟨2, ![32, 64]⟩
abbrev S4x4 : Shape := ⟨2, ![4, 4]⟩
abbrev S_ : Shape := ⟨0, ![]⟩
abbrev S1x4x1x4x1 : Shape := ⟨5, ![1, 4, 1, 4, 1]⟩
abbrev S32x1x64x1x128 : Shape := ⟨5, ![32, 1, 64, 1, 128]⟩
abbrev S32x4x64x4x128 : Shape := ⟨5, ![32, 4, 64, 4, 128]⟩
abbrev S32x256x512 : Shape := ⟨3, ![32, 256, 512]⟩
abbrev S16x256x512 : Shape := ⟨3, ![16, 256, 512]⟩
abbrev S1x32x1x64 : Shape := ⟨4, ![1, 32, 1, 64]⟩
abbrev S1x32x4x64 : Shape := ⟨4, ![1, 32, 4, 64]⟩
abbrev S32x256 : Shape := ⟨2, ![32, 256]⟩
abbrev S2560x4x4x64x128 : Shape := ⟨5, ![2560, 4, 4, 64, 128]⟩
abbrev S2560x1024x128 : Shape := ⟨3, ![2560, 1024, 128]⟩
abbrev S20480x1024 : Shape := ⟨2, ![20480, 1024]⟩
abbrev S32x256x128 : Shape := ⟨3, ![32, 256, 128]⟩
abbrev S256x1024 : Shape := ⟨2, ![256, 1024]⟩
abbrev S32x128x256 : Shape := ⟨3, ![32, 128, 256]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S256x512 : Shape := ⟨2, ![256, 512]⟩
abbrev S32x8x256 : Shape := ⟨3, ![32, 8, 256]⟩
abbrev S256x256 : Shape := ⟨2, ![256, 256]⟩
abbrev S1x256 : Shape := ⟨2, ![1, 256]⟩
abbrev S1x256x512 : Shape := ⟨3, ![1, 256, 512]⟩

abbrev nBuf : Space → Nat
  | .hbm => 29
  | .vmem => 8
  | .smem => 0
  | _ => 0

abbrev bufTy : (tb : Table) → Fin (tcTables nBuf tb) → BufTy
  | .hbm, ⟨0, _⟩ => ⟨S2560x128x4x4x64, .f32⟩
  | .hbm, ⟨1, _⟩ => ⟨S2x32x64x128, .f32⟩
  | .hbm, ⟨2, _⟩ => ⟨S2x32x64, .f32⟩
  | .hbm, ⟨3, _⟩ => ⟨S1x32x64x128, .f32⟩
  | .hbm, ⟨4, _⟩ => ⟨S32x64x128, .f32⟩
  | .hbm, ⟨5, _⟩ => ⟨S1x32x64, .f32⟩
  | .hbm, ⟨6, _⟩ => ⟨S32x64, .f32⟩
  | .hbm, ⟨7, _⟩ => ⟨S4x4, .i32⟩
  | .hbm, ⟨8, _⟩ => ⟨S4x4, .i32⟩
  | .hbm, ⟨9, _⟩ => ⟨S_, .i32⟩
  | .hbm, ⟨10, _⟩ => ⟨S4x4, .i32⟩
  | .hbm, ⟨11, _⟩ => ⟨S4x4, .i32⟩
  | .hbm, ⟨12, _⟩ => ⟨S4x4, .i1⟩
  | .hbm, ⟨13, _⟩ => ⟨S4x4, .f32⟩
  | .hbm, ⟨14, _⟩ => ⟨S1x4x1x4x1, .f32⟩
  | .hbm, ⟨15, _⟩ => ⟨S32x1x64x1x128, .f32⟩
  | .hbm, ⟨16, _⟩ => ⟨S32x4x64x4x128, .f32⟩
  | .hbm, ⟨17, _⟩ => ⟨S32x4x64x4x128, .f32⟩
  | .hbm, ⟨18, _⟩ => ⟨S32x4x64x4x128, .f32⟩
  | .hbm, ⟨19, _⟩ => ⟨S32x256x512, .f32⟩
  | .hbm, ⟨20, _⟩ => ⟨S32x256x512, .bf16⟩
  | .hbm, ⟨21, _⟩ => ⟨S16x256x512, .bf16⟩
  | .hbm, ⟨22, _⟩ => ⟨S16x256x512, .bf16⟩
  | .hbm, ⟨23, _⟩ => ⟨S1x32x1x64, .f32⟩
  | .hbm, ⟨24, _⟩ => ⟨S1x32x4x64, .f32⟩
  | .hbm, ⟨25, _⟩ => ⟨S32x256, .f32⟩
  | .hbm, ⟨26, _⟩ => ⟨S2560x4x4x64x128, .f32⟩
  | .hbm, ⟨27, _⟩ => ⟨S2560x1024x128, .f32⟩
  | .hbm, ⟨28, _⟩ => ⟨S20480x1024, .f32⟩
  | .local _ .vmem, ⟨0, _⟩ => ⟨S32x256x128, .f32⟩
  | .local _ .vmem, ⟨1, _⟩ => ⟨S32x256x128, .f32⟩
  | .local _ .vmem, ⟨2, _⟩ => ⟨S32x256, .f32⟩
  | .local _ .vmem, ⟨3, _⟩ => ⟨S16x256x512, .bf16⟩
  | .local _ .vmem, ⟨4, _⟩ => ⟨S16x256x512, .bf16⟩
  | .local _ .vmem, ⟨5, _⟩ => ⟨S256x1024, .f32⟩
  | .local _ .vmem, ⟨6, _⟩ => ⟨S256x1024, .f32⟩
  | .local _ .vmem, ⟨7, _⟩ => ⟨S32x128x256, .f32⟩
  | _, _ => ⟨S2560x128x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![80], ![false]⟩

@[reducible] def k0_t1_loop : Scf.Loop 32 :=
  let c0_i32_11 : BitVec 32 := 0#32
  let c32_i32 : BitVec 32 := 32#32
  let v50 : BitVec 32 := Scalar.addi c0_i32_11 c32_i32
  let c1_i32_12 : BitVec 32 := 1#32
  ⟨c0_i32_11, v50, c1_i32_12⟩
def k0_off1 (k0_t1 : Fin k0_t1_loop.trips) : Fin 3 → Nat :=
  let c0_i32_11 : BitVec 32 := 0#32
  let c1_i32_12 : BitVec 32 := 1#32
  let arg7 : BitVec 32 := Scf.iv c0_i32_11 c1_i32_12 k0_t1
  let v375 : Index := Scalar.indexCast arg7
  let c0_215 : Index := 0#32
  let c0_216 : Index := 0#32
  ![v375.toNat, 0, 0]
def k0_off2 (k0_t1 : Fin k0_t1_loop.trips) : Fin 3 → Nat :=
  let c0_i32_11 : BitVec 32 := 0#32
  let c1_i32_12 : BitVec 32 := 1#32
  let arg7 : BitVec 32 := Scf.iv c0_i32_11 c1_i32_12 k0_t1
  let v380 : Index := Scalar.indexCast arg7
  let c0_218 : Index := 0#32
  let c0_219 : Index := 0#32
  ![v380.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S2560x128x4x4x64 : Shape := ⟨5, ![2560, 128, 4, 4, 64]⟩
abbrev S2x32x64x128 : Shape := ⟨4, ![2, 32, 64, 128]⟩
abbrev S2x32x64 : Shape := ⟨3, ![2, 32, 64]⟩
abbrev S1x32x64x128 : Shape := ⟨4, ![1, 32, 64, 128]⟩
abbrev S32x64x128 : Shape := ⟨3, ![32, 64, 128]⟩
abbrev S1x32x64 : Shape := ⟨3, ![1, 32, 64]⟩
abbrev S32x64 : Shape := ⟨2, ![32, 64]⟩
abbrev S2560x128x1x4x64 : Shape := ⟨5, ![2560, 128, 1, 4, 64]⟩
abbrev S2560x128x4x64 : Shape := ⟨4, ![2560, 128, 4, 64]⟩
abbrev S20480x16x4x64 : Shape := ⟨4, ![20480, 16, 4, 64]⟩
abbrev S16x64 : Shape := ⟨2, ![16, 64]⟩
abbrev S1x16x1x64 : Shape := ⟨4, ![1, 16, 1, 64]⟩
abbrev S16x64x128 : Shape := ⟨3, ![16, 64, 128]⟩
abbrev S20480x4x128 : Shape := ⟨3, ![20480, 4, 128]⟩
abbrev S20480x1x4x128 : Shape := ⟨4, ![20480, 1, 4, 128]⟩
abbrev S20480x2x4x128 : Shape := ⟨4, ![20480, 2, 4, 128]⟩
abbrev S20480x1024 : Shape := ⟨2, ![20480, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2560x128x4x4x64, .f32⟩
  | .hbm, ⟨1, _⟩ => ⟨S2x32x64x128, .f32⟩
  | .hbm, ⟨2, _⟩ => ⟨S2x32x64, .f32⟩
  | .hbm, ⟨3, _⟩ => ⟨S1x32x64x128, .f32⟩
  | .hbm, ⟨4, _⟩ => ⟨S32x64x128, .f32⟩
  | .hbm, ⟨5, _⟩ => ⟨S1x32x64, .f32⟩
  | .hbm, ⟨6, _⟩ => ⟨S32x64, .f32⟩
  | .hbm, ⟨7, _⟩ => ⟨S2560x128x1x4x64, .f32⟩
  | .hbm, ⟨8, _⟩ => ⟨S2560x128x4x64, .f32⟩
  | .hbm, ⟨9, _⟩ => ⟨S20480x16x4x64, .f32⟩
  | .hbm, ⟨10, _⟩ => ⟨S16x64, .f32⟩
  | .hbm, ⟨11, _⟩ => ⟨S1x16x1x64, .f32⟩
  | .hbm, ⟨12, _⟩ => ⟨S20480x16x4x64, .f32⟩
  | .hbm, ⟨13, _⟩ => ⟨S20480x16x4x64, .f32⟩
  | .hbm, ⟨14, _⟩ => ⟨S16x64x128, .f32⟩
  | .hbm, ⟨15, _⟩ => ⟨S20480x4x128, .f32⟩
  | .hbm, ⟨16, _⟩ => ⟨S16x64, .f32⟩
  | .hbm, ⟨17, _⟩ => ⟨S1x16x1x64, .f32⟩
  | .hbm, ⟨18, _⟩ => ⟨S20480x16x4x64, .f32⟩
  | .hbm, ⟨19, _⟩ => ⟨S20480x16x4x64, .f32⟩
  | .hbm, ⟨20, _⟩ => ⟨S16x64x128, .f32⟩
  | .hbm, ⟨21, _⟩ => ⟨S20480x4x128, .f32⟩
  | .hbm, ⟨22, _⟩ => ⟨S20480x1x4x128, .f32⟩
  | .hbm, ⟨23, _⟩ => ⟨S20480x1x4x128, .f32⟩
  | .hbm, ⟨24, _⟩ => ⟨S20480x2x4x128, .f32⟩
  | .hbm, ⟨25, _⟩ => ⟨S20480x1024, .f32⟩
  | _, _ => ⟨S2560x128x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Kernel16.lean ====
abbrev S2560x128x4x4x64 : Shape := ⟨5, ![2560, 128, 4, 4, 64]⟩
abbrev S2x32x64x128 : Shape := ⟨4, ![2, 32, 64, 128]⟩
abbrev S2x32x64 : Shape := ⟨3, ![2, 32, 64]⟩
abbrev S1x32x64x128 : Shape := ⟨4, ![1, 32, 64, 128]⟩
abbrev S32x64x128 : Shape := ⟨3, ![32, 64, 128]⟩
abbrev S1x32x64 : Shape := ⟨3, ![1, 32, 64]⟩
abbrev S32x64 : Shape := ⟨2, ![32, 64]⟩
abbrev S4x4 : Shape := ⟨2, ![4, 4]⟩
abbrev S_ : Shape := ⟨0, ![]⟩
abbrev S1x4x1x4x1 : Shape := ⟨5, ![1, 4, 1, 4, 1]⟩
abbrev S32x1x64x1x128 : Shape := ⟨5, ![32, 1, 64, 1, 128]⟩
abbrev S32x4x64x4x128 : Shape := ⟨5, ![32, 4, 64, 4, 128]⟩
abbrev S32x256x512 : Shape := ⟨3, ![32, 256, 512]⟩
abbrev S16x256x512 : Shape := ⟨3, ![16, 256, 512]⟩
abbrev S1x32x1x64 : Shape := ⟨4, ![1, 32, 1, 64]⟩
abbrev S1x32x4x64 : Shape := ⟨4, ![1, 32, 4, 64]⟩
abbrev S32x256 : Shape := ⟨2, ![32, 256]⟩
abbrev S2560x4x4x64x128 : Shape := ⟨5, ![2560, 4, 4, 64, 128]⟩
abbrev S2560x1024x128 : Shape := ⟨3, ![2560, 1024, 128]⟩
abbrev S20480x1024 : Shape := ⟨2, ![20480, 1024]⟩
abbrev S32x256x128 : Shape := ⟨3, ![32, 256, 128]⟩
abbrev S256x1024 : Shape := ⟨2, ![256, 1024]⟩
abbrev S32x128x256 : Shape := ⟨3, ![32, 128, 256]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S256x512 : Shape := ⟨2, ![256, 512]⟩
abbrev S32x8x256 : Shape := ⟨3, ![32, 8, 256]⟩
abbrev S256x256 : Shape := ⟨2, ![256, 256]⟩
abbrev S1x256 : Shape := ⟨2, ![1, 256]⟩
abbrev S1x256x512 : Shape := ⟨3, ![1, 256, 512]⟩

abbrev nBuf : Space → Nat
  | .hbm => 29
  | .vmem => 8
  | .smem => 0
  | _ => 0

abbrev bufTy : (tb : Table) → Fin (tcTables nBuf tb) → BufTy
  | .hbm, ⟨0, _⟩ => ⟨S2560x128x4x4x64, .f32⟩
  | .hbm, ⟨1, _⟩ => ⟨S2x32x64x128, .f32⟩
  | .hbm, ⟨2, _⟩ => ⟨S2x32x64, .f32⟩
  | .hbm, ⟨3, _⟩ => ⟨S1x32x64x128, .f32⟩
  | .hbm, ⟨4, _⟩ => ⟨S32x64x128, .f32⟩
  | .hbm, ⟨5, _⟩ => ⟨S1x32x64, .f32⟩
  | .hbm, ⟨6, _⟩ => ⟨S32x64, .f32⟩
  | .hbm, ⟨7, _⟩ => ⟨S4x4, .i32⟩
  | .hbm, ⟨8, _⟩ => ⟨S4x4, .i32⟩
  | .hbm, ⟨9, _⟩ => ⟨S_, .i32⟩
  | .hbm, ⟨10, _⟩ => ⟨S4x4, .i32⟩
  | .hbm, ⟨11, _⟩ => ⟨S4x4, .i32⟩
  | .hbm, ⟨12, _⟩ => ⟨S4x4, .i1⟩
  | .hbm, ⟨13, _⟩ => ⟨S4x4, .f32⟩
  | .hbm, ⟨14, _⟩ => ⟨S1x4x1x4x1, .f32⟩
  | .hbm, ⟨15, _⟩ => ⟨S32x1x64x1x128, .f32⟩
  | .hbm, ⟨16, _⟩ => ⟨S32x4x64x4x128, .f32⟩
  | .hbm, ⟨17, _⟩ => ⟨S32x4x64x4x128, .f32⟩
  | .hbm, ⟨18, _⟩ => ⟨S32x4x64x4x128, .f32⟩
  | .hbm, ⟨19, _⟩ => ⟨S32x256x512, .f32⟩
  | .hbm, ⟨20, _⟩ => ⟨S32x256x512, .bf16⟩
  | .hbm, ⟨21, _⟩ => ⟨S16x256x512, .bf16⟩
  | .hbm, ⟨22, _⟩ => ⟨S16x256x512, .bf16⟩
  | .hbm, ⟨23, _⟩ => ⟨S1x32x1x64, .f32⟩
  | .hbm, ⟨24, _⟩ => ⟨S1x32x4x64, .f32⟩
  | .hbm, ⟨25, _⟩ => ⟨S32x256, .f32⟩
  | .hbm, ⟨26, _⟩ => ⟨S2560x4x4x64x128, .f32⟩
  | .hbm, ⟨27, _⟩ => ⟨S2560x1024x128, .f32⟩
  | .hbm, ⟨28, _⟩ => ⟨S20480x1024, .f32⟩
  | .local _ .vmem, ⟨0, _⟩ => ⟨S32x256x128, .f32⟩
  | .local _ .vmem, ⟨1, _⟩ => ⟨S32x256x128, .f32⟩
  | .local _ .vmem, ⟨2, _⟩ => ⟨S32x256, .f32⟩
  | .local _ .vmem, ⟨3, _⟩ => ⟨S16x256x512, .bf16⟩
  | .local _ .vmem, ⟨4, _⟩ => ⟨S16x256x512, .bf16⟩
  | .local _ .vmem, ⟨5, _⟩ => ⟨S256x1024, .f32⟩
  | .local _ .vmem, ⟨6, _⟩ => ⟨S256x1024, .f32⟩
  | .local _ .vmem, ⟨7, _⟩ => ⟨S32x128x256, .f32⟩
  | _, _ => ⟨S2560x128x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![80], ![false]⟩

@[reducible] def k0_t1_loop : Scf.Loop 32 :=
  let c0_i32_11 : BitVec 32 := 0#32
  let c32_i32 : BitVec 32 := 32#32
  let v50 : BitVec 32 := Scalar.addi c0_i32_11 c32_i32
  let c1_i32_12 : BitVec 32 := 1#32
  ⟨c0_i32_11, v50, c1_i32_12⟩
def k0_off1 (k0_t1 : Fin k0_t1_loop.trips) : Fin 3 → Nat :=
  let c0_i32_11 : BitVec 32 := 0#32
  let c1_i32_12 : BitVec 32 := 1#32
  let arg7 : BitVec 32 := Scf.iv c0_i32_11 c1_i32_12 k0_t1
  let v375 : Index := Scalar.indexCast arg7
  let c0_215 : Index := 0#32
  let c0_216 : Index := 0#32
  ![v375.toNat, 0, 0]
def k0_off2 (k0_t1 : Fin k0_t1_loop.trips) : Fin 3 → Nat :=
  let c0_i32_11 : BitVec 32 := 0#32
  let c1_i32_12 : BitVec 32 := 1#32
  let arg7 : BitVec 32 := Scf.iv c0_i32_11 c1_i32_12 k0_t1
  let v380 : Index := Scalar.indexCast arg7
  let c0_218 : Index := 0#32
  let c0_219 : Index := 0#32
  ![v380.toNat, 0, 0]
def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S2560x128x4x4x64 : Shape := ⟨5, ![2560, 128, 4, 4, 64]⟩
abbrev S2x32x64x128 : Shape := ⟨4, ![2, 32, 64, 128]⟩
abbrev S2x32x64 : Shape := ⟨3, ![2, 32, 64]⟩
abbrev S1x32x64x128 : Shape := ⟨4, ![1, 32, 64, 128]⟩
abbrev S32x64x128 : Shape := ⟨3, ![32, 64, 128]⟩
abbrev S1x32x64 : Shape := ⟨3, ![1, 32, 64]⟩
abbrev S32x64 : Shape := ⟨2, ![32, 64]⟩
abbrev S2560x128x1x4x64 : Shape := ⟨5, ![2560, 128, 1, 4, 64]⟩
abbrev S2560x128x4x64 : Shape := ⟨4, ![2560, 128, 4, 64]⟩
abbrev S20480x16x4x64 : Shape := ⟨4, ![20480, 16, 4, 64]⟩
abbrev S16x64 : Shape := ⟨2, ![16, 64]⟩
abbrev S1x16x1x64 : Shape := ⟨4, ![1, 16, 1, 64]⟩
abbrev S16x64x128 : Shape := ⟨3, ![16, 64, 128]⟩
abbrev S20480x4x128 : Shape := ⟨3, ![20480, 4, 128]⟩
abbrev S20480x1x4x128 : Shape := ⟨4, ![20480, 1, 4, 128]⟩
abbrev S20480x2x4x128 : Shape := ⟨4, ![20480, 2, 4, 128]⟩
abbrev S20480x1024 : Shape := ⟨2, ![20480, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2560x128x4x4x64, .f32⟩
  | .hbm, ⟨1, _⟩ => ⟨S2x32x64x128, .f32⟩
  | .hbm, ⟨2, _⟩ => ⟨S2x32x64, .f32⟩
  | .hbm, ⟨3, _⟩ => ⟨S1x32x64x128, .f32⟩
  | .hbm, ⟨4, _⟩ => ⟨S32x64x128, .f32⟩
  | .hbm, ⟨5, _⟩ => ⟨S1x32x64, .f32⟩
  | .hbm, ⟨6, _⟩ => ⟨S32x64, .f32⟩
  | .hbm, ⟨7, _⟩ => ⟨S2560x128x1x4x64, .f32⟩
  | .hbm, ⟨8, _⟩ => ⟨S2560x128x4x64, .f32⟩
  | .hbm, ⟨9, _⟩ => ⟨S20480x16x4x64, .f32⟩
  | .hbm, ⟨10, _⟩ => ⟨S16x64, .f32⟩
  | .hbm, ⟨11, _⟩ => ⟨S1x16x1x64, .f32⟩
  | .hbm, ⟨12, _⟩ => ⟨S20480x16x4x64, .f32⟩
  | .hbm, ⟨13, _⟩ => ⟨S20480x16x4x64, .f32⟩
  | .hbm, ⟨14, _⟩ => ⟨S16x64x128, .f32⟩
  | .hbm, ⟨15, _⟩ => ⟨S20480x4x128, .f32⟩
  | .hbm, ⟨16, _⟩ => ⟨S16x64, .f32⟩
  | .hbm, ⟨17, _⟩ => ⟨S1x16x1x64, .f32⟩
  | .hbm, ⟨18, _⟩ => ⟨S20480x16x4x64, .f32⟩
  | .hbm, ⟨19, _⟩ => ⟨S20480x16x4x64, .f32⟩
  | .hbm, ⟨20, _⟩ => ⟨S16x64x128, .f32⟩
  | .hbm, ⟨21, _⟩ => ⟨S20480x4x128, .f32⟩
  | .hbm, ⟨22, _⟩ => ⟨S20480x1x4x128, .f32⟩
  | .hbm, ⟨23, _⟩ => ⟨S20480x1x4x128, .f32⟩
  | .hbm, ⟨24, _⟩ => ⟨S20480x2x4x128, .f32⟩
  | .hbm, ⟨25, _⟩ => ⟨S20480x1024, .f32⟩
  | _, _ => ⟨S2560x128x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Proof.RefRun.lean ====
module

public import proofs.«01_k».proof.Proof.Gen.ReferenceIdeal.Run
public import proofs.«01_k».proof.Proof.Gen.ReferenceIdeal.Step

@[expose] public section

/-! The reference's run, over the step of its loop over chunks.

The loop hands from chunk to chunk the running state, the stack of states that enter the chunks, and two arrays that no
trip changes. This module says which valuations of the loop's buffers stand for such a record, that a trip of the loop
takes one such valuation to the next, and so that the run ends with the reference's two results computed from record
number 64. -/

noncomputable section

namespace Cert.ReferenceIdeal.ChunkRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The valuation `V` is record `s` at chunk `j`. -/
def Stands (V : Valuation τ sig (Elt F)) (s : State F) (j : ℕ) : Prop :=
  V (Proc.devRef .tc main_v68_3) = s.main_v68_3 ∧ V (Proc.devRef .tc main_v68_4) = s.main_v68_4 ∧
  V (Proc.devRef .tc main_v68_0) = s.main_v68_0 ∧ V (Proc.devRef .tc main_v68_1) = s.main_v68_1 ∧
  V (Proc.devRef .tc main_v68_2) = constantI S_ 32 (BitVec.ofNat 32 j)

variable {V : Valuation τ sig (Elt F)} {s : State F} {j : ℕ}

set_option maxRecDepth 8192 in
/-- A trip updates the running state. -/
theorem trip_state (h : Stands V s j) : Value.step_main_v68_3 V = (step j s).main_v68_3 := by
  obtain ⟨h3, h4, h0, h1, hn⟩ := h
  unfold Value.step_main_v68_3
  rw [h3, h0, h1, hn]
  rfl

set_option maxRecDepth 8192 in
/-- A trip files the state that enters the chunk. -/
theorem trip_stack (h : Stands V s j) : Value.step_main_v68_4 V = (step j s).main_v68_4 := by
  obtain ⟨h3, h4, h0, h1, hn⟩ := h
  unfold Value.step_main_v68_4
  rw [h3, h4, hn]
  rfl

/-- A trip counts one up. -/
theorem trip_count (h : Stands V s j) : step_main_v68_2 V = constantI S_ 32 (BitVec.ofNat 32 (j + 1)) := by
  obtain ⟨h3, h4, h0, h1, hn⟩ := h
  unfold step_main_v68_2
  rw [hn, BitVec.ofNat_add]
  rfl

/-- One trip of the loop is one step of the record. -/
theorem stands_step (h : Stands V s j) : Stands (STEP V) (step j s) (j + 1) :=
  ⟨(STEP_main_v68_3 V).trans (trip_state h), (STEP_main_v68_4 V).trans (trip_stack h),
    (STEP_main_v68_0 V).trans h.2.2.1, (STEP_main_v68_1 V).trans h.2.2.2.1, (STEP_main_v68_2 V).trans (trip_count h)⟩

variable (m : (ℓ : Loc nD τ sig) → Buf (Elt F) ℓ) (c : Dev nD)

/-- The record the first trip starts from. -/
abbrev first : State F :=
  init (m ((c.tc : Thread nD τ).loc main_arg0)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))

set_option maxRecDepth 65536 in
set_option maxHeartbeats 500000 in
/-- The operations before the loop leave the first record. -/
theorem stands_first : Stands (entryContents preI m c) (first m c) 0 := by
  refine ⟨?_, ?_, ?_, ?_, ?_⟩ <;> (simp only [entryContents, afterL_cons, afterL_nil]; after_reads_simp) <;> rfl

/-- Record number `k`. -/
def record : ℕ → State F
  | 0 => first m c
  | k + 1 => step k (record k)

/-- After `k` trips the loop's buffers are record number `k`. -/
theorem stands_record (k : ℕ) : Stands (STEP^[k] (entryContents preI m c)) (record m c k) k := by
  induction k with
  | zero => exact stands_first m c
  | succ k ih => rw [Function.iterate_succ_apply']; exact stands_step ih

set_option maxRecDepth 8192 in
/-- The run ends with the two results computed from record number 64, the arguments as they were. -/
theorem run_record (ρ : Dev nD → PrngReg) :
    θ_run (defs (F := F)) (onTc (τ := τ) (main (F := F))) ⟨m, fun _ => 0, ρ⟩ fun r => ∀ c : Dev nD,
      r.2.mem ((c.tc : Thread nD τ).loc main_v173)
        = R_main_v173 (record m c 64) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_v174) = R_main_v174 (record m c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨(h c).1.trans ?_, (h c).2.1.trans ?_, (h c).2.2⟩) (Value.run m ρ)
  · unfold out_main_v173
    rw [(stands_record m c 64).2.1, iter_main_arg0 m c 64, iter_main_arg1 m c 64, iter_main_arg2 m c 64,
      iter_main_arg3 m c 64, iter_main_arg4 m c 64, iter_main_arg5 m c 64, iter_main_arg6 m c 64, iter_main_arg7 m c 64,
      iter_main_arg8 m c 64]
    rfl
  · unfold out_main_v174
    rw [(stands_record m c 64).1]
    rfl

end Cert.ReferenceIdeal.ChunkRun

end
-- ==== Proof.Chunk.lean ====
module

public import proofs.«01_k».proof.Proof.Gen.KernelIdeal.Value
public import Idealize.ShloMosaic.Lib.Pipeline.ValueKit
public import Idealize.ShloMosaic.Lib.Pipeline.ReadBack

@[expose] public section

set_option maxRecDepth 16384

/-! One chunk of the recurrence, as vector functions.

The body treats four groups of eight heads one after another; the text of the four is the same but for the columns it
reads. Here that text is written once, as functions of what a group loads, and once more per group with the columns
filled in. `xp` is the padded chunk (the chunk
itself starts at row 8, the rows before it are the last ones of the chunk before), `ht` the state that enters the chunk. -/

noncomputable section

open Idealize.ShloMosaic Idealize.ShloMosaic.TcCoe Idealize.SL.Sem
open Idealize.ShloMosaic.Pipeline (Dat)

namespace Cert.KernelIdeal.Ssd

open Cert.KernelIdeal Cert.KernelIdeal.Gen

variable {F : FTy → Type} [FloatOps F]

/-- The rows of the padded chunk that hold the chunk itself. -/
abbrev r_chunk : Rect S136x3072 := Rect.unit ![8, 0] S128x3072.size inb_S136x3072_S128x3072_8_0

/-- The chunk below eight rows of history. -/
def padded (hist : Vec F S136x3072 .f32) (x0 : Vec F S1x128x3072 .f32) : Vec F S136x3072 .f32 :=
  r_chunk.overlay hist (k0_pay9 (View.ld x0 (Rect.unit ![0, 0, 0] S1x128x3072.size inb_S1x128x3072_S1x128x3072_0_0_0)))

/-- The whole block of step sizes, and a whole row of per-head constants. -/
abbrev r_dt : Rect S1x128x128 := Rect.unit ![0, 0, 0] S1x128x128.size inb_S1x128x128_S1x128x128_0_0_0
abbrev r_row : Rect S1x128 := Rect.unit ![0, 0] S1x128.size inb_S1x128_S1x128_0_0

/-- The cumulated decays of the chunk, a column per head. -/
def cumv (x2 : Vec F S1x128x128 .f32) (x5 x6 : Vec F S1x128 .f32) : FVec F S128x128 .f32 :=
  k0_pay15 k0_pay12 (k0_pay13 (View.ld x2 r_dt) (View.ld x5 r_row) (View.ld x6 r_row)) (k0_pay14 (View.ld x2 r_dt) (View.ld x5 r_row) (View.ld x6 r_row))

/-- The five families of per-head factors one above the other: step sizes, decays from the chunk's start, decays to its
    end, the decay of the whole chunk, the skip weights. -/
def stackv (x2 : Vec F S1x128x128 .f32) (x5 x6 x7 : Vec F S1x128 .f32) : FVec F S400x128 .f32 :=
  k0_pay17 (k0_pay10 (View.ld x2 r_dt) (View.ld x5 r_row)) k0_pay12 (k0_pay13 (View.ld x2 r_dt) (View.ld x5 r_row) (View.ld x6 r_row)) (k0_pay14 (View.ld x2 r_dt) (View.ld x5 r_row) (View.ld x6 r_row)) (View.ld x7 r_row)

/-- What a chunk adds to a group's state, and the state decayed. -/
def groupState (stk : FVec F S400x128 .f32) (E : Vec F S128x512 .bf16) (xs : FVec F S128x512 .f32) (bg : FVec F S128x128 .f32)
    (H : Vec F S1x128x512 .f32) : FVec F S1x128x512 .f32 :=
  k0_pay44 (extractStridedSlice S128x512 ![256, 0] (k0_pay48 stk E) slices_S400x512_o256_0_S128x512)
    (extractStridedSlice S1x512 ![384, 0] (k0_pay48 stk E) slices_S400x512_o384_0_S1x512)
    (k0_pay30 (extractStridedSlice S128x512 ![0, 0] (k0_pay48 stk E) slices_S400x512_o0_0_S128x512) xs)
    (k0_pay32 bg) H

/-- One head inside the chunk: the products of `C` and `B` under the decays between two positions, times the inputs. -/
def headPart (cb : FVec F S128x128 .f32) (col : FVec F S128x1 .f32) (row : FVec F S1x128 .f32) (xb : FVec F S128x64 .bf16) :
    FVec F S128x64 .f32 :=
  matmul dot_S128x128_S128x64_S128x64_1_0_0_1_n_n none
    (truncf .bf16 (mulf cb (exp (select k0_pay11 (subf (broadcastTo S128x128 col broadcasts_S128x1_S128x128)
      (broadcastTo S128x128 row broadcasts_S1x128_S128x128)) (broadcast S128x128 (Scalar.ofBits .f32 0xFF800000#32))))) bitsLt_bf16_f32)
    xb (constant S128x64 .f32 0x00000000#32)

/-- The eight heads of a group side by side. -/
def heads (cb : FVec F S128x128 .f32) (col : Fin 8 → FVec F S128x1 .f32) (row : Fin 8 → FVec F S1x128 .f32)
    (xb : FVec F S128x512 .bf16) : FVec F S128x512 .f32 :=
  concatenate S128x512 1 [⟨S128x64, headPart cb (col 0) (row 0) (extractStridedSlice S128x64 ![0, 0] xb slices_S128x512_o0_0_S128x64)⟩, ⟨S128x64, headPart cb (col 1) (row 1) (extractStridedSlice S128x64 ![0, 64] xb slices_S128x512_o0_64_S128x64)⟩, ⟨S128x64, headPart cb (col 2) (row 2) (extractStridedSlice S128x64 ![0, 128] xb slices_S128x512_o0_128_S128x64)⟩, ⟨S128x64, headPart cb (col 3) (row 3) (extractStridedSlice S128x64 ![0, 192] xb slices_S128x512_o0_192_S128x64)⟩, ⟨S128x64, headPart cb (col 4) (row 4) (extractStridedSlice S128x64 ![0, 256] xb slices_S128x512_o0_256_S128x64)⟩, ⟨S128x64, headPart cb (col 5) (row 5) (extractStridedSlice S128x64 ![0, 320] xb slices_S128x512_o0_320_S128x64)⟩, ⟨S128x64, headPart cb (col 6) (row 6) (extractStridedSlice S128x64 ![0, 384] xb slices_S128x512_o0_384_S128x64)⟩, ⟨S128x64, headPart cb (col 7) (row 7) (extractStridedSlice S128x64 ![0, 448] xb slices_S128x512_o0_448_S128x64)⟩] concatenates_S128x64_S128x64_S128x64_S128x64_S128x64_S128x64_S128x64_S128x64_S128x512_d1

/-- The group's output before the norm's weight: the part inside the chunk, the part from the entering state, the skip,
    gated and normalised over the group. -/
def groupNorm (y : FVec F S128x512 .f32) (ea : FVec F S128x512 .f32) (dsk : FVec F S1x512 .f32) (xs yo : FVec F S128x512 .f32)
    (z : Vec F S1x128x512 .f32) : FVec F S128x512 .f32 :=
  have v278 : FVec F S128x512 .f32 := addf (addf y (mulf yo ea)) (mulf (broadcastTo S128x512 dsk broadcasts_S1x512_S128x512) xs)
  have v280 : FVec F S128x512 .f32 := shapeCast S128x512 z shapeCasts_S1x128x512_S128x512
  have v283 : FVec F S128x512 .f32 := mulf v278 (mulf v280 (logistic v280))
  have v286 : FVec F S128x1 .f32 := shapeCast S128x1 (multiReduction .add [1] S128 (mulf v283 v283) 0x00000000#32 reduces_S128x512_S128 (.inl rfl) rfl) shapeCasts_S128_S128x1
  have v288 : FVec F S128x1 .f32 := divf v286 (broadcast S128x1 (Scalar.ofBits .f32 0x44000000#32))
  have v291 : FVec F S128x1 .f32 := rsqrt (addf v288 (broadcast S128x1 (Scalar.ofBits .f32 0x3727C5AC#32)))
  mulf v283 (broadcastTo S128x512 v291 broadcasts_S128x1_S128x512)

/-- The group's output block. -/
def groupOut (stk : FVec F S400x128 .f32) (E : Vec F S128x512 .bf16) (xs : FVec F S128x512 .f32) (bg : FVec F S128x128 .f32)
    (c0 c1 : FVec F S128x128 .f32) (H : Vec F S1x128x512 .f32) (col : Fin 8 → FVec F S128x1 .f32) (row : Fin 8 → FVec F S1x128 .f32)
    (z : Vec F S1x128x512 .f32) (nw : Vec F S1x512 .f32) : FVec F S1x128x512 .bf16 :=
  k0_pay47 (groupNorm
      (heads (k0_pay33 bg c0 c1) col row (k0_pay31 (extractStridedSlice S128x512 ![0, 0] (k0_pay48 stk E) slices_S400x512_o0_0_S128x512) xs))
      (extractStridedSlice S128x512 ![128, 0] (k0_pay48 stk E) slices_S400x512_o128_0_S128x512)
      (extractStridedSlice S1x512 ![392, 0] (k0_pay48 stk E) slices_S400x512_o392_0_S1x512)
      xs (k0_pay34 c0 c1 H) z) (k0_pay46 nw)

/-! Group 0. -/

/-- The convolved inputs of group 0. -/
def xs0 (xp : Vec F S136x3072 .f32) (x3 : Vec F S4x3072 .f32) (x4 : Vec F S1x3072 .f32) : FVec F S128x512 .f32 :=
  k0_pay24 (View.ld xp (Rect.unit ![8, 0] S128x512.size inb_S136x3072_S128x512_8_0)) (View.ld x3 (Rect.unit ![3, 0] S1x512.size inb_S4x3072_S1x512_3_0)) (View.ld x4 (Rect.unit ![0, 0] S1x512.size inb_S1x3072_S1x512_0_0)) (View.ld xp (Rect.unit ![5, 0] S128x512.size inb_S136x3072_S128x512_5_0)) (View.ld x3 (Rect.unit ![0, 0] S1x512.size inb_S4x3072_S1x512_0_0)) (View.ld xp (Rect.unit ![6, 0] S128x512.size inb_S136x3072_S128x512_6_0)) (View.ld x3 (Rect.unit ![1, 0] S1x512.size inb_S4x3072_S1x512_1_0)) (View.ld xp (Rect.unit ![7, 0] S128x512.size inb_S136x3072_S128x512_7_0)) (View.ld x3 (Rect.unit ![2, 0] S1x512.size inb_S4x3072_S1x512_2_0))

/-- The convolved `B` of group 0. -/
def bg0 (xp : Vec F S136x3072 .f32) (x3 : Vec F S4x3072 .f32) (x4 : Vec F S1x3072 .f32) : FVec F S128x128 .f32 :=
  k0_pay26 (k0_pay25 (View.ld xp (Rect.unit ![8, 2048] S128x128.size inb_S136x3072_S128x128_8_2048)) (View.ld x3 (Rect.unit ![3, 2048] S1x128.size inb_S4x3072_S1x128_3_2048)) (View.ld x4 (Rect.unit ![0, 2048] S1x128.size inb_S1x3072_S1x128_0_2048)) (View.ld xp (Rect.unit ![5, 2048] S128x128.size inb_S136x3072_S128x128_5_2048)) (View.ld x3 (Rect.unit ![0, 2048] S1x128.size inb_S4x3072_S1x128_0_2048))) (View.ld xp (Rect.unit ![6, 2048] S128x128.size inb_S136x3072_S128x128_6_2048)) (View.ld x3 (Rect.unit ![1, 2048] S1x128.size inb_S4x3072_S1x128_1_2048)) (View.ld xp (Rect.unit ![7, 2048] S128x128.size inb_S136x3072_S128x128_7_2048)) (View.ld x3 (Rect.unit ![2, 2048] S1x128.size inb_S4x3072_S1x128_2_2048))

/-- The first taps of the convolved `C` of group 0, -/
def ca0 (xp : Vec F S136x3072 .f32) (x3 : Vec F S4x3072 .f32) (x4 : Vec F S1x3072 .f32) : FVec F S128x128 .f32 :=
  k0_pay27 (View.ld xp (Rect.unit ![8, 2560] S128x128.size inb_S136x3072_S128x128_8_2560)) (View.ld x3 (Rect.unit ![3, 2560] S1x128.size inb_S4x3072_S1x128_3_2560)) (View.ld x4 (Rect.unit ![0, 2560] S1x128.size inb_S1x3072_S1x128_0_2560)) (View.ld xp (Rect.unit ![5, 2560] S128x128.size inb_S136x3072_S128x128_5_2560)) (View.ld x3 (Rect.unit ![0, 2560] S1x128.size inb_S4x3072_S1x128_0_2560)) (View.ld xp (Rect.unit ![6, 2560] S128x128.size inb_S136x3072_S128x128_6_2560)) (View.ld x3 (Rect.unit ![1, 2560] S1x128.size inb_S4x3072_S1x128_1_2560))

/-- and its last one. -/
def cl0 (xp : Vec F S136x3072 .f32) (x3 : Vec F S4x3072 .f32) : FVec F S128x128 .f32 :=
  k0_pay28 (View.ld xp (Rect.unit ![7, 2560] S128x128.size inb_S136x3072_S128x128_7_2560)) (View.ld x3 (Rect.unit ![2, 2560] S1x128.size inb_S4x3072_S1x128_2_2560))

/-- The state of group 0 after the chunk. -/
def state0 (xp : Vec F S136x3072 .f32) (x2 : Vec F S1x128x128 .f32) (x3 : Vec F S4x3072 .f32) (x4 : Vec F S1x3072 .f32)
    (x5 x6 x7 : Vec F S1x128 .f32) (x9 : Vec F S128x2048 .bf16) (ht : Vec F S4x128x512 .f32) : FVec F S1x128x512 .f32 :=
  groupState (stackv x2 x5 x6 x7) (View.ld x9 (Rect.unit ![0, 0] S128x512.size inb_S128x2048_S128x512_0_0)) (xs0 xp x3 x4) (bg0 xp x3 x4)
    (View.ld ht (Rect.unit ![0, 0, 0] S1x128x512.size inb_S4x128x512_S1x128x512_0_0_0))

/-- The output block of group 0. -/
def out0 (xp : Vec F S136x3072 .f32) (x1 : Vec F S1x128x2048 .f32) (x2 : Vec F S1x128x128 .f32) (x3 : Vec F S4x3072 .f32) (x4 : Vec F S1x3072 .f32)
    (x5 x6 x7 : Vec F S1x128 .f32) (x8 : Vec F S1x2048 .f32) (x9 : Vec F S128x2048 .bf16) (ht : Vec F S4x128x512 .f32) : FVec F S1x128x512 .bf16 :=
  groupOut (stackv x2 x5 x6 x7) (View.ld x9 (Rect.unit ![0, 0] S128x512.size inb_S128x2048_S128x512_0_0)) (xs0 xp x3 x4) (bg0 xp x3 x4)
    (ca0 xp x3 x4) (cl0 xp x3) (View.ld ht (Rect.unit ![0, 0, 0] S1x128x512.size inb_S4x128x512_S1x128x512_0_0_0))
    ![extractStridedSlice S128x1 ![0, 0] (cumv x2 x5 x6) slices_S128x128_o0_0_S128x1, extractStridedSlice S128x1 ![0, 1] (cumv x2 x5 x6) slices_S128x128_o0_1_S128x1, extractStridedSlice S128x1 ![0, 2] (cumv x2 x5 x6) slices_S128x128_o0_2_S128x1, extractStridedSlice S128x1 ![0, 3] (cumv x2 x5 x6) slices_S128x128_o0_3_S128x1, extractStridedSlice S128x1 ![0, 4] (cumv x2 x5 x6) slices_S128x128_o0_4_S128x1, extractStridedSlice S128x1 ![0, 5] (cumv x2 x5 x6) slices_S128x128_o0_5_S128x1, extractStridedSlice S128x1 ![0, 6] (cumv x2 x5 x6) slices_S128x128_o0_6_S128x1, extractStridedSlice S128x1 ![0, 7] (cumv x2 x5 x6) slices_S128x128_o0_7_S128x1]
    ![extractStridedSlice S1x128 ![0, 0] (transpose S128x128 [1, 0] (cumv x2 x5 x6) transposes_S128x128_p1_0_S128x128) slices_S128x128_o0_0_S1x128, extractStridedSlice S1x128 ![1, 0] (transpose S128x128 [1, 0] (cumv x2 x5 x6) transposes_S128x128_p1_0_S128x128) slices_S128x128_o1_0_S1x128, extractStridedSlice S1x128 ![2, 0] (transpose S128x128 [1, 0] (cumv x2 x5 x6) transposes_S128x128_p1_0_S128x128) slices_S128x128_o2_0_S1x128, extractStridedSlice S1x128 ![3, 0] (transpose S128x128 [1, 0] (cumv x2 x5 x6) transposes_S128x128_p1_0_S128x128) slices_S128x128_o3_0_S1x128, extractStridedSlice S1x128 ![4, 0] (transpose S128x128 [1, 0] (cumv x2 x5 x6) transposes_S128x128_p1_0_S128x128) slices_S128x128_o4_0_S1x128, extractStridedSlice S1x128 ![5, 0] (transpose S128x128 [1, 0] (cumv x2 x5 x6) transposes_S128x128_p1_0_S128x128) slices_S128x128_o5_0_S1x128, extractStridedSlice S1x128 ![6, 0] (transpose S128x128 [1, 0] (cumv x2 x5 x6) transposes_S128x128_p1_0_S128x128) slices_S128x128_o6_0_S1x128, extractStridedSlice S1x128 ![7, 0] (transpose S128x128 [1, 0] (cumv x2 x5 x6) transposes_S128x128_p1_0_S128x128) slices_S128x128_o7_0_S1x128]
    (View.ld x1 (Rect.unit ![0, 0, 0] S1x128x512.size inb_S1x128x2048_S1x128x512_0_0_0)) (View.ld x8 (Rect.unit ![0, 0] S1x512.size inb_S1x2048_S1x512_0_0))

/-! Group 1. -/

/-- The convolved inputs of group 1. -/
def xs1 (xp : Vec F S136x3072 .f32) (x3 : Vec F S4x3072 .f32) (x4 : Vec F S1x3072 .f32) : FVec F S128x512 .f32 :=
  k0_pay24 (View.ld xp (Rect.unit ![8, 512] S128x512.size inb_S136x3072_S128x512_8_512)) (View.ld x3 (Rect.unit ![3, 512] S1x512.size inb_S4x3072_S1x512_3_512)) (View.ld x4 (Rect.unit ![0, 512] S1x512.size inb_S1x3072_S1x512_0_512)) (View.ld xp (Rect.unit ![5, 512] S128x512.size inb_S136x3072_S128x512_5_512)) (View.ld x3 (Rect.unit ![0, 512] S1x512.size inb_S4x3072_S1x512_0_512)) (View.ld xp (Rect.unit ![6, 512] S128x512.size inb_S136x3072_S128x512_6_512)) (View.ld x3 (Rect.unit ![1, 512] S1x512.size inb_S4x3072_S1x512_1_512)) (View.ld xp (Rect.unit ![7, 512] S128x512.size inb_S136x3072_S128x512_7_512)) (View.ld x3 (Rect.unit ![2, 512] S1x512.size inb_S4x3072_S1x512_2_512))

/-- The convolved `B` of group 1. -/
def bg1 (xp : Vec F S136x3072 .f32) (x3 : Vec F S4x3072 .f32) (x4 : Vec F S1x3072 .f32) : FVec F S128x128 .f32 :=
  k0_pay26 (k0_pay25 (View.ld xp (Rect.unit ![8, 2176] S128x128.size inb_S136x3072_S128x128_8_2176)) (View.ld x3 (Rect.unit ![3, 2176] S1x128.size inb_S4x3072_S1x128_3_2176)) (View.ld x4 (Rect.unit ![0, 2176] S1x128.size inb_S1x3072_S1x128_0_2176)) (View.ld xp (Rect.unit ![5, 2176] S128x128.size inb_S136x3072_S128x128_5_2176)) (View.ld x3 (Rect.unit ![0, 2176] S1x128.size inb_S4x3072_S1x128_0_2176))) (View.ld xp (Rect.unit ![6, 2176] S128x128.size inb_S136x3072_S128x128_6_2176)) (View.ld x3 (Rect.unit ![1, 2176] S1x128.size inb_S4x3072_S1x128_1_2176)) (View.ld xp (Rect.unit ![7, 2176] S128x128.size inb_S136x3072_S128x128_7_2176)) (View.ld x3 (Rect.unit ![2, 2176] S1x128.size inb_S4x3072_S1x128_2_2176))

/-- The first taps of the convolved `C` of group 1, -/
def ca1 (xp : Vec F S136x3072 .f32) (x3 : Vec F S4x3072 .f32) (x4 : Vec F S1x3072 .f32) : FVec F S128x128 .f32 :=
  k0_pay27 (View.ld xp (Rect.unit ![8, 2688] S128x128.size inb_S136x3072_S128x128_8_2688)) (View.ld x3 (Rect.unit ![3, 2688] S1x128.size inb_S4x3072_S1x128_3_2688)) (View.ld x4 (Rect.unit ![0, 2688] S1x128.size inb_S1x3072_S1x128_0_2688)) (View.ld xp (Rect.unit ![5, 2688] S128x128.size inb_S136x3072_S128x128_5_2688)) (View.ld x3 (Rect.unit ![0, 2688] S1x128.size inb_S4x3072_S1x128_0_2688)) (View.ld xp (Rect.unit ![6, 2688] S128x128.size inb_S136x3072_S128x128_6_2688)) (View.ld x3 (Rect.unit ![1, 2688] S1x128.size inb_S4x3072_S1x128_1_2688))

/-- and its last one. -/
def cl1 (xp : Vec F S136x3072 .f32) (x3 : Vec F S4x3072 .f32) : FVec F S128x128 .f32 :=
  k0_pay28 (View.ld xp (Rect.unit ![7, 2688] S128x128.size inb_S136x3072_S128x128_7_2688)) (View.ld x3 (Rect.unit ![2, 2688] S1x128.size inb_S4x3072_S1x128_2_2688))

/-- The state of group 1 after the chunk. -/
def state1 (xp : Vec F S136x3072 .f32) (x2 : Vec F S1x128x128 .f32) (x3 : Vec F S4x3072 .f32) (x4 : Vec F S1x3072 .f32)
    (x5 x6 x7 : Vec F S1x128 .f32) (x9 : Vec F S128x2048 .bf16) (ht : Vec F S4x128x512 .f32) : FVec F S1x128x512 .f32 :=
  groupState (stackv x2 x5 x6 x7) (View.ld x9 (Rect.unit ![0, 512] S128x512.size inb_S128x2048_S128x512_0_512)) (xs1 xp x3 x4) (bg1 xp x3 x4)
    (View.ld ht (Rect.unit ![1, 0, 0] S1x128x512.size inb_S4x128x512_S1x128x512_1_0_0))

/-- The output block of group 1. -/
def out1 (xp : Vec F S136x3072 .f32) (x1 : Vec F S1x128x2048 .f32) (x2 : Vec F S1x128x128 .f32) (x3 : Vec F S4x3072 .f32) (x4 : Vec F S1x3072 .f32)
    (x5 x6 x7 : Vec F S1x128 .f32) (x8 : Vec F S1x2048 .f32) (x9 : Vec F S128x2048 .bf16) (ht : Vec F S4x128x512 .f32) : FVec F S1x128x512 .bf16 :=
  groupOut (stackv x2 x5 x6 x7) (View.ld x9 (Rect.unit ![0, 512] S128x512.size inb_S128x2048_S128x512_0_512)) (xs1 xp x3 x4) (bg1 xp x3 x4)
    (ca1 xp x3 x4) (cl1 xp x3) (View.ld ht (Rect.unit ![1, 0, 0] S1x128x512.size inb_S4x128x512_S1x128x512_1_0_0))
    ![extractStridedSlice S128x1 ![0, 8] (cumv x2 x5 x6) slices_S128x128_o0_8_S128x1, extractStridedSlice S128x1 ![0, 9] (cumv x2 x5 x6) slices_S128x128_o0_9_S128x1, extractStridedSlice S128x1 ![0, 10] (cumv x2 x5 x6) slices_S128x128_o0_10_S128x1, extractStridedSlice S128x1 ![0, 11] (cumv x2 x5 x6) slices_S128x128_o0_11_S128x1, extractStridedSlice S128x1 ![0, 12] (cumv x2 x5 x6) slices_S128x128_o0_12_S128x1, extractStridedSlice S128x1 ![0, 13] (cumv x2 x5 x6) slices_S128x128_o0_13_S128x1, extractStridedSlice S128x1 ![0, 14] (cumv x2 x5 x6) slices_S128x128_o0_14_S128x1, extractStridedSlice S128x1 ![0, 15] (cumv x2 x5 x6) slices_S128x128_o0_15_S128x1]
    ![extractStridedSlice S1x128 ![8, 0] (transpose S128x128 [1, 0] (cumv x2 x5 x6) transposes_S128x128_p1_0_S128x128) slices_S128x128_o8_0_S1x128, extractStridedSlice S1x128 ![9, 0] (transpose S128x128 [1, 0] (cumv x2 x5 x6) transposes_S128x128_p1_0_S128x128) slices_S128x128_o9_0_S1x128, extractStridedSlice S1x128 ![10, 0] (transpose S128x128 [1, 0] (cumv x2 x5 x6) transposes_S128x128_p1_0_S128x128) slices_S128x128_o10_0_S1x128, extractStridedSlice S1x128 ![11, 0] (transpose S128x128 [1, 0] (cumv x2 x5 x6) transposes_S128x128_p1_0_S128x128) slices_S128x128_o11_0_S1x128, extractStridedSlice S1x128 ![12, 0] (transpose S128x128 [1, 0] (cumv x2 x5 x6) transposes_S128x128_p1_0_S128x128) slices_S128x128_o12_0_S1x128, extractStridedSlice S1x128 ![13, 0] (transpose S128x128 [1, 0] (cumv x2 x5 x6) transposes_S128x128_p1_0_S128x128) slices_S128x128_o13_0_S1x128, extractStridedSlice S1x128 ![14, 0] (transpose S128x128 [1, 0] (cumv x2 x5 x6) transposes_S128x128_p1_0_S128x128) slices_S128x128_o14_0_S1x128, extractStridedSlice S1x128 ![15, 0] (transpose S128x128 [1, 0] (cumv x2 x5 x6) transposes_S128x128_p1_0_S128x128) slices_S128x128_o15_0_S1x128]
    (View.ld x1 (Rect.unit ![0, 0, 512] S1x128x512.size inb_S1x128x2048_S1x128x512_0_0_512)) (View.ld x8 (Rect.unit ![0, 512] S1x512.size inb_S1x2048_S1x512_0_512))

/-! Group 2. -/

/-- The convolved inputs of group 2. -/
def xs2 (xp : Vec F S136x3072 .f32) (x3 : Vec F S4x3072 .f32) (x4 : Vec F S1x3072 .f32) : FVec F S128x512 .f32 :=
  k0_pay24 (View.ld xp (Rect.unit ![8, 1024] S128x512.size inb_S136x3072_S128x512_8_1024)) (View.ld x3 (Rect.unit ![3, 1024] S1x512.size inb_S4x3072_S1x512_3_1024)) (View.ld x4 (Rect.unit ![0, 1024] S1x512.size inb_S1x3072_S1x512_0_1024)) (View.ld xp (Rect.unit ![5, 1024] S128x512.size inb_S136x3072_S128x512_5_1024)) (View.ld x3 (Rect.unit ![0, 1024] S1x512.size inb_S4x3072_S1x512_0_1024)) (View.ld xp (Rect.unit ![6, 1024] S128x512.size inb_S136x3072_S128x512_6_1024)) (View.ld x3 (Rect.unit ![1, 1024] S1x512.size inb_S4x3072_S1x512_1_1024)) (View.ld xp (Rect.unit ![7, 1024] S128x512.size inb_S136x3072_S128x512_7_1024)) (View.ld x3 (Rect.unit ![2, 1024] S1x512.size inb_S4x3072_S1x512_2_1024))

/-- The convolved `B` of group 2. -/
def bg2 (xp : Vec F S136x3072 .f32) (x3 : Vec F S4x3072 .f32) (x4 : Vec F S1x3072 .f32) : FVec F S128x128 .f32 :=
  k0_pay26 (k0_pay25 (View.ld xp (Rect.unit ![8, 2304] S128x128.size inb_S136x3072_S128x128_8_2304)) (View.ld x3 (Rect.unit ![3, 2304] S1x128.size inb_S4x3072_S1x128_3_2304)) (View.ld x4 (Rect.unit ![0, 2304] S1x128.size inb_S1x3072_S1x128_0_2304)) (View.ld xp (Rect.unit ![5, 2304] S128x128.size inb_S136x3072_S128x128_5_2304)) (View.ld x3 (Rect.unit ![0, 2304] S1x128.size inb_S4x3072_S1x128_0_2304))) (View.ld xp (Rect.unit ![6, 2304] S128x128.size inb_S136x3072_S128x128_6_2304)) (View.ld x3 (Rect.unit ![1, 2304] S1x128.size inb_S4x3072_S1x128_1_2304)) (View.ld xp (Rect.unit ![7, 2304] S128x128.size inb_S136x3072_S128x128_7_2304)) (View.ld x3 (Rect.unit ![2, 2304] S1x128.size inb_S4x3072_S1x128_2_2304))

/-- The first taps of the convolved `C` of group 2, -/
def ca2 (xp : Vec F S136x3072 .f32) (x3 : Vec F S4x3072 .f32) (x4 : Vec F S1x3072 .f32) : FVec F S128x128 .f32 :=
  k0_pay27 (View.ld xp (Rect.unit ![8, 2816] S128x128.size inb_S136x3072_S128x128_8_2816)) (View.ld x3 (Rect.unit ![3, 2816] S1x128.size inb_S4x3072_S1x128_3_2816)) (View.ld x4 (Rect.unit ![0, 2816] S1x128.size inb_S1x3072_S1x128_0_2816)) (View.ld xp (Rect.unit ![5, 2816] S128x128.size inb_S136x3072_S128x128_5_2816)) (View.ld x3 (Rect.unit ![0, 2816] S1x128.size inb_S4x3072_S1x128_0_2816)) (View.ld xp (Rect.unit ![6, 2816] S128x128.size inb_S136x3072_S128x128_6_2816)) (View.ld x3 (Rect.unit ![1, 2816] S1x128.size inb_S4x3072_S1x128_1_2816))

/-- and its last one. -/
def cl2 (xp : Vec F S136x3072 .f32) (x3 : Vec F S4x3072 .f32) : FVec F S128x128 .f32 :=
  k0_pay28 (View.ld xp (Rect.unit ![7, 2816] S128x128.size inb_S136x3072_S128x128_7_2816)) (View.ld x3 (Rect.unit ![2, 2816] S1x128.size inb_S4x3072_S1x128_2_2816))

/-- The state of group 2 after the chunk. -/
def state2 (xp : Vec F S136x3072 .f32) (x2 : Vec F S1x128x128 .f32) (x3 : Vec F S4x3072 .f32) (x4 : Vec F S1x3072 .f32)
    (x5 x6 x7 : Vec F S1x128 .f32) (x9 : Vec F S128x2048 .bf16) (ht : Vec F S4x128x512 .f32) : FVec F S1x128x512 .f32 :=
  groupState (stackv x2 x5 x6 x7) (View.ld x9 (Rect.unit ![0, 1024] S128x512.size inb_S128x2048_S128x512_0_1024)) (xs2 xp x3 x4) (bg2 xp x3 x4)
    (View.ld ht (Rect.unit ![2, 0, 0] S1x128x512.size inb_S4x128x512_S1x128x512_2_0_0))

/-- The output block of group 2. -/
def out2 (xp : Vec F S136x3072 .f32) (x1 : Vec F S1x128x2048 .f32) (x2 : Vec F S1x128x128 .f32) (x3 : Vec F S4x3072 .f32) (x4 : Vec F S1x3072 .f32)
    (x5 x6 x7 : Vec F S1x128 .f32) (x8 : Vec F S1x2048 .f32) (x9 : Vec F S128x2048 .bf16) (ht : Vec F S4x128x512 .f32) : FVec F S1x128x512 .bf16 :=
  groupOut (stackv x2 x5 x6 x7) (View.ld x9 (Rect.unit ![0, 1024] S128x512.size inb_S128x2048_S128x512_0_1024)) (xs2 xp x3 x4) (bg2 xp x3 x4)
    (ca2 xp x3 x4) (cl2 xp x3) (View.ld ht (Rect.unit ![2, 0, 0] S1x128x512.size inb_S4x128x512_S1x128x512_2_0_0))
    ![extractStridedSlice S128x1 ![0, 16] (cumv x2 x5 x6) slices_S128x128_o0_16_S128x1, extractStridedSlice S128x1 ![0, 17] (cumv x2 x5 x6) slices_S128x128_o0_17_S128x1, extractStridedSlice S128x1 ![0, 18] (cumv x2 x5 x6) slices_S128x128_o0_18_S128x1, extractStridedSlice S128x1 ![0, 19] (cumv x2 x5 x6) slices_S128x128_o0_19_S128x1, extractStridedSlice S128x1 ![0, 20] (cumv x2 x5 x6) slices_S128x128_o0_20_S128x1, extractStridedSlice S128x1 ![0, 21] (cumv x2 x5 x6) slices_S128x128_o0_21_S128x1, extractStridedSlice S128x1 ![0, 22] (cumv x2 x5 x6) slices_S128x128_o0_22_S128x1, extractStridedSlice S128x1 ![0, 23] (cumv x2 x5 x6) slices_S128x128_o0_23_S128x1]
    ![extractStridedSlice S1x128 ![16, 0] (transpose S128x128 [1, 0] (cumv x2 x5 x6) transposes_S128x128_p1_0_S128x128) slices_S128x128_o16_0_S1x128, extractStridedSlice S1x128 ![17, 0] (transpose S128x128 [1, 0] (cumv x2 x5 x6) transposes_S128x128_p1_0_S128x128) slices_S128x128_o17_0_S1x128, extractStridedSlice S1x128 ![18, 0] (transpose S128x128 [1, 0] (cumv x2 x5 x6) transposes_S128x128_p1_0_S128x128) slices_S128x128_o18_0_S1x128, extractStridedSlice S1x128 ![19, 0] (transpose S128x128 [1, 0] (cumv x2 x5 x6) transposes_S128x128_p1_0_S128x128) slices_S128x128_o19_0_S1x128, extractStridedSlice S1x128 ![20, 0] (transpose S128x128 [1, 0] (cumv x2 x5 x6) transposes_S128x128_p1_0_S128x128) slices_S128x128_o20_0_S1x128, extractStridedSlice S1x128 ![21, 0] (transpose S128x128 [1, 0] (cumv x2 x5 x6) transposes_S128x128_p1_0_S128x128) slices_S128x128_o21_0_S1x128, extractStridedSlice S1x128 ![22, 0] (transpose S128x128 [1, 0] (cumv x2 x5 x6) transposes_S128x128_p1_0_S128x128) slices_S128x128_o22_0_S1x128, extractStridedSlice S1x128 ![23, 0] (transpose S128x128 [1, 0] (cumv x2 x5 x6) transposes_S128x128_p1_0_S128x128) slices_S128x128_o23_0_S1x128]
    (View.ld x1 (Rect.unit ![0, 0, 1024] S1x128x512.size inb_S1x128x2048_S1x128x512_0_0_1024)) (View.ld x8 (Rect.unit ![0, 1024] S1x512.size inb_S1x2048_S1x512_0_1024))

/-! Group 3. -/

/-- The convolved inputs of group 3. -/
def xs3 (xp : Vec F S136x3072 .f32) (x3 : Vec F S4x3072 .f32) (x4 : Vec F S1x3072 .f32) : FVec F S128x512 .f32 :=
  k0_pay24 (View.ld xp (Rect.unit ![8, 1536] S128x512.size inb_S136x3072_S128x512_8_1536)) (View.ld x3 (Rect.unit ![3, 1536] S1x512.size inb_S4x3072_S1x512_3_1536)) (View.ld x4 (Rect.unit ![0, 1536] S1x512.size inb_S1x3072_S1x512_0_1536)) (View.ld xp (Rect.unit ![5, 1536] S128x512.size inb_S136x3072_S128x512_5_1536)) (View.ld x3 (Rect.unit ![0, 1536] S1x512.size inb_S4x3072_S1x512_0_1536)) (View.ld xp (Rect.unit ![6, 1536] S128x512.size inb_S136x3072_S128x512_6_1536)) (View.ld x3 (Rect.unit ![1, 1536] S1x512.size inb_S4x3072_S1x512_1_1536)) (View.ld xp (Rect.unit ![7, 1536] S128x512.size inb_S136x3072_S128x512_7_1536)) (View.ld x3 (Rect.unit ![2, 1536] S1x512.size inb_S4x3072_S1x512_2_1536))

/-- The convolved `B` of group 3. -/
def bg3 (xp : Vec F S136x3072 .f32) (x3 : Vec F S4x3072 .f32) (x4 : Vec F S1x3072 .f32) : FVec F S128x128 .f32 :=
  k0_pay26 (k0_pay25 (View.ld xp (Rect.unit ![8, 2432] S128x128.size inb_S136x3072_S128x128_8_2432)) (View.ld x3 (Rect.unit ![3, 2432] S1x128.size inb_S4x3072_S1x128_3_2432)) (View.ld x4 (Rect.unit ![0, 2432] S1x128.size inb_S1x3072_S1x128_0_2432)) (View.ld xp (Rect.unit ![5, 2432] S128x128.size inb_S136x3072_S128x128_5_2432)) (View.ld x3 (Rect.unit ![0, 2432] S1x128.size inb_S4x3072_S1x128_0_2432))) (View.ld xp (Rect.unit ![6, 2432] S128x128.size inb_S136x3072_S128x128_6_2432)) (View.ld x3 (Rect.unit ![1, 2432] S1x128.size inb_S4x3072_S1x128_1_2432)) (View.ld xp (Rect.unit ![7, 2432] S128x128.size inb_S136x3072_S128x128_7_2432)) (View.ld x3 (Rect.unit ![2, 2432] S1x128.size inb_S4x3072_S1x128_2_2432))

/-- The first taps of the convolved `C` of group 3, -/
def ca3 (xp : Vec F S136x3072 .f32) (x3 : Vec F S4x3072 .f32) (x4 : Vec F S1x3072 .f32) : FVec F S128x128 .f32 :=
  k0_pay27 (View.ld xp (Rect.unit ![8, 2944] S128x128.size inb_S136x3072_S128x128_8_2944)) (View.ld x3 (Rect.unit ![3, 2944] S1x128.size inb_S4x3072_S1x128_3_2944)) (View.ld x4 (Rect.unit ![0, 2944] S1x128.size inb_S1x3072_S1x128_0_2944)) (View.ld xp (Rect.unit ![5, 2944] S128x128.size inb_S136x3072_S128x128_5_2944)) (View.ld x3 (Rect.unit ![0, 2944] S1x128.size inb_S4x3072_S1x128_0_2944)) (View.ld xp (Rect.unit ![6, 2944] S128x128.size inb_S136x3072_S128x128_6_2944)) (View.ld x3 (Rect.unit ![1, 2944] S1x128.size inb_S4x3072_S1x128_1_2944))

/-- and its last one. -/
def cl3 (xp : Vec F S136x3072 .f32) (x3 : Vec F S4x3072 .f32) : FVec F S128x128 .f32 :=
  k0_pay28 (View.ld xp (Rect.unit ![7, 2944] S128x128.size inb_S136x3072_S128x128_7_2944)) (View.ld x3 (Rect.unit ![2, 2944] S1x128.size inb_S4x3072_S1x128_2_2944))

/-- The state of group 3 after the chunk. -/
def state3 (xp : Vec F S136x3072 .f32) (x2 : Vec F S1x128x128 .f32) (x3 : Vec F S4x3072 .f32) (x4 : Vec F S1x3072 .f32)
    (x5 x6 x7 : Vec F S1x128 .f32) (x9 : Vec F S128x2048 .bf16) (ht : Vec F S4x128x512 .f32) : FVec F S1x128x512 .f32 :=
  groupState (stackv x2 x5 x6 x7) (View.ld x9 (Rect.unit ![0, 1536] S128x512.size inb_S128x2048_S128x512_0_1536)) (xs3 xp x3 x4) (bg3 xp x3 x4)
    (View.ld ht (Rect.unit ![3, 0, 0] S1x128x512.size inb_S4x128x512_S1x128x512_3_0_0))

/-- The output block of group 3. -/
def out3 (xp : Vec F S136x3072 .f32) (x1 : Vec F S1x128x2048 .f32) (x2 : Vec F S1x128x128 .f32) (x3 : Vec F S4x3072 .f32) (x4 : Vec F S1x3072 .f32)
    (x5 x6 x7 : Vec F S1x128 .f32) (x8 : Vec F S1x2048 .f32) (x9 : Vec F S128x2048 .bf16) (ht : Vec F S4x128x512 .f32) : FVec F S1x128x512 .bf16 :=
  groupOut (stackv x2 x5 x6 x7) (View.ld x9 (Rect.unit ![0, 1536] S128x512.size inb_S128x2048_S128x512_0_1536)) (xs3 xp x3 x4) (bg3 xp x3 x4)
    (ca3 xp x3 x4) (cl3 xp x3) (View.ld ht (Rect.unit ![3, 0, 0] S1x128x512.size inb_S4x128x512_S1x128x512_3_0_0))
    ![extractStridedSlice S128x1 ![0, 24] (cumv x2 x5 x6) slices_S128x128_o0_24_S128x1, extractStridedSlice S128x1 ![0, 25] (cumv x2 x5 x6) slices_S128x128_o0_25_S128x1, extractStridedSlice S128x1 ![0, 26] (cumv x2 x5 x6) slices_S128x128_o0_26_S128x1, extractStridedSlice S128x1 ![0, 27] (cumv x2 x5 x6) slices_S128x128_o0_27_S128x1, extractStridedSlice S128x1 ![0, 28] (cumv x2 x5 x6) slices_S128x128_o0_28_S128x1, extractStridedSlice S128x1 ![0, 29] (cumv x2 x5 x6) slices_S128x128_o0_29_S128x1, extractStridedSlice S128x1 ![0, 30] (cumv x2 x5 x6) slices_S128x128_o0_30_S128x1, extractStridedSlice S128x1 ![0, 31] (cumv x2 x5 x6) slices_S128x128_o0_31_S128x1]
    ![extractStridedSlice S1x128 ![24, 0] (transpose S128x128 [1, 0] (cumv x2 x5 x6) transposes_S128x128_p1_0_S128x128) slices_S128x128_o24_0_S1x128, extractStridedSlice S1x128 ![25, 0] (transpose S128x128 [1, 0] (cumv x2 x5 x6) transposes_S128x128_p1_0_S128x128) slices_S128x128_o25_0_S1x128, extractStridedSlice S1x128 ![26, 0] (transpose S128x128 [1, 0] (cumv x2 x5 x6) transposes_S128x128_p1_0_S128x128) slices_S128x128_o26_0_S1x128, extractStridedSlice S1x128 ![27, 0] (transpose S128x128 [1, 0] (cumv x2 x5 x6) transposes_S128x128_p1_0_S128x128) slices_S128x128_o27_0_S1x128, extractStridedSlice S1x128 ![28, 0] (transpose S128x128 [1, 0] (cumv x2 x5 x6) transposes_S128x128_p1_0_S128x128) slices_S128x128_o28_0_S1x128, extractStridedSlice S1x128 ![29, 0] (transpose S128x128 [1, 0] (cumv x2 x5 x6) transposes_S128x128_p1_0_S128x128) slices_S128x128_o29_0_S1x128, extractStridedSlice S1x128 ![30, 0] (transpose S128x128 [1, 0] (cumv x2 x5 x6) transposes_S128x128_p1_0_S128x128) slices_S128x128_o30_0_S1x128, extractStridedSlice S1x128 ![31, 0] (transpose S128x128 [1, 0] (cumv x2 x5 x6) transposes_S128x128_p1_0_S128x128) slices_S128x128_o31_0_S1x128]
    (View.ld x1 (Rect.unit ![0, 0, 1536] S1x128x512.size inb_S1x128x2048_S1x128x512_0_0_1536)) (View.ld x8 (Rect.unit ![0, 1536] S1x512.size inb_S1x2048_S1x512_0_1536))

end Cert.KernelIdeal.Ssd

end
-- ==== Proof.Spec.lean ====
module

public import Idealize.ShloMosaic.Lib.Pointwise

@[expose] public section

/-! The recurrence over the extended reals, one channel and one head at a time, and the few facts about the extended
reals the two programs need: a value split into a leading part and two remainders adds up to itself (unless it is `+∞`),
a normalised row does not depend on which infinity an infinite entry is, decays are never `+∞`. -/

noncomputable section

open Idealize.ShloMosaic

namespace Cert.Ssd

/-- The smooth gate `x · σ(x)`. -/
def silu (x : EReal) : EReal := x * Ideal.logistic x

/-- `log (1 + eˣ)`, in the form that does not overflow. -/
def softp (x : EReal) : EReal := max x 0 + Ideal.log1p (Ideal.exp (-(max x (-x))))

/-- The decay's exponent cumulated from the chunk's start up to and including position `r`. -/
def cum (da : Fin 128 → EReal) (r : Fin 128) : EReal := ∑ s, if s ≤ r then da s else 0

/-- One channel's state after a chunk: decayed by the whole chunk, plus the inputs decayed to the chunk's end. -/
def next (H : Fin 128 → EReal) (B : Fin 128 → Fin 128 → EReal) (x dt da : Fin 128 → EReal) (n : Fin 128) : EReal :=
  H n * Ideal.exp (cum da 127) + ∑ s, B s n * (x s * dt s * Ideal.exp (cum da 127 - cum da s))

/-- One channel's output at position `r`: the inputs of the chunk, the entering state, the skip. -/
def mix (H : Fin 128 → EReal) (B C : Fin 128 → Fin 128 → EReal) (x dt da : Fin 128 → EReal) (d : EReal) (r : Fin 128) : EReal :=
  (∑ s, (∑ n, C r n * B s n) * Ideal.exp (if s ≤ r then cum da r - cum da s else ⊥) * (x s * dt s))
    + (∑ n, C r n * H n) * Ideal.exp (cum da r) + d * x r

/-- A group's row divided by its root mean square. -/
def normed (u : Fin 512 → EReal) (q : Fin 512) : EReal :=
  u q * Ideal.rsqrt (Ideal.div (∑ k, u k * u k) (Ideal.ofBits .f32 0x44000000#32) + Ideal.ofBits .f32 0x3727C5AC#32)

/-! ## Splitting a value -/

/-- A leading part, the rest, and the rest of the rest. -/
def sel3 (v : EReal) : EReal := v + (v - v) + ((v - v) - (v - v))

theorem sel3_eq {v : EReal} (h : v ≠ ⊤) : sel3 v = v := by
  unfold sel3
  induction v with
  | bot => simp
  | top => exact absurd rfl h
  | coe x => norm_cast; simp

theorem sel3_top : sel3 ⊤ = ⊥ := by
  unfold sel3
  simp

/-- The three sums of a split under one selection. -/
theorem sum_split {ι : Type} [Fintype ι] (p : ι → Prop) [DecidablePred p] (v : ι → EReal) (h : ∀ i, v i ≠ ⊤) :
    (∑ i, if p i then v i else 0) + (∑ i, if p i then v i - v i else 0) + (∑ i, if p i then (v i - v i) - (v i - v i) else 0)
      = ∑ i, if p i then v i else 0 := by
  rw [← Finset.sum_add_distrib, ← Finset.sum_add_distrib]
  refine Finset.sum_congr rfl fun i _ => ?_
  split_ifs
  · exact sel3_eq (h i)
  · simp

/-! ## Decays -/

theorem exp_ne_top {x : EReal} (h : x ≠ ⊤) : Ideal.exp x ≠ ⊤ := by
  induction x with
  | bot => simp
  | top => exact absurd rfl h
  | coe x => exact EReal.coe_ne_top _

theorem exp_nonneg (x : EReal) : 0 ≤ Ideal.exp x := by
  induction x with
  | bot => simp
  | top => simp
  | coe x => exact EReal.coe_nonneg.mpr (Real.exp_pos x).le

theorem softp_nonneg (x : EReal) : 0 ≤ softp x := by
  unfold softp
  refine add_nonneg (le_max_right _ _) ?_
  have h := exp_nonneg (-(max x (-x)))
  unfold Ideal.log1p
  generalize Ideal.exp (-(max x (-x))) = e at h
  induction e with
  | bot => simp at h
  | top =>
    rw [show (1 : EReal) + ⊤ = ⊤ from EReal.coe_add_top 1, Ideal.log_top]
    exact le_top
  | coe y =>
    have hy : (0 : ℝ) ≤ y := EReal.coe_nonneg.mp h
    have : (1 : EReal) + (y : EReal) = ((1 + y : ℝ) : EReal) := by norm_cast
    rw [this]
    show (0 : EReal) ≤ if (1 + y) ≤ 0 then ⊥ else (Real.log (1 + y) : EReal)
    rw [if_neg (by linarith)]
    exact EReal.coe_nonneg.mpr (Real.log_nonneg (by linarith))

theorem softp_ne_top {x : EReal} (h : x ≠ ⊤) : softp x ≠ ⊤ := by
  unfold softp
  refine EReal.add_ne_top ?_ ?_
  · rcases max_choice x 0 with e | e <;> rw [e]
    · exact h
    · exact EReal.zero_ne_top
  · have h1 : Ideal.exp (-(max x (-x))) ≠ ⊤ := by
      refine exp_ne_top ?_
      intro e
      rw [EReal.neg_eq_top_iff] at e
      rcases max_choice x (-x) with e' | e' <;> rw [e'] at e
      · subst e
        simp at e'
      · rw [EReal.neg_eq_bot_iff] at e
        exact h e
    have h2 := exp_nonneg (-(max x (-x)))
    unfold Ideal.log1p
    generalize Ideal.exp (-(max x (-x))) = e at h1 h2
    induction e with
    | bot => simp at h2
    | top => exact absurd rfl h1
    | coe y =>
      have hy : (0 : ℝ) ≤ y := EReal.coe_nonneg.mp h2
      have : (1 : EReal) + (y : EReal) = ((1 + y : ℝ) : EReal) := by norm_cast
      rw [this]
      show (if (1 + y) ≤ 0 then ⊥ else (Real.log (1 + y) : EReal)) ≠ ⊤
      rw [if_neg (by linarith)]
      exact EReal.coe_ne_top _

/-- A step times a rate is at most zero. -/
theorem step_nonpos {t : EReal} (ht : 0 ≤ t) (a : EReal) : t * -Ideal.exp a ≤ 0 := by
  rw [mul_neg]
  exact EReal.neg_le_zero.mpr (mul_nonneg ht (exp_nonneg a))

theorem cum_nonpos {da : Fin 128 → EReal} (h : ∀ s, da s ≤ 0) (r : Fin 128) : cum da r ≤ 0 :=
  Finset.sum_nonpos fun s _ => by split_ifs <;> first | exact h s | exact le_rfl

theorem cum_ne_top {da : Fin 128 → EReal} (h : ∀ s, da s ≤ 0) (r : Fin 128) : cum da r ≠ ⊤ :=
  ne_top_of_le_ne_top EReal.zero_ne_top (cum_nonpos h r)

theorem cum_anti {da : Fin 128 → EReal} (h : ∀ s, da s ≤ 0) (r : Fin 128) : cum da 127 ≤ cum da r :=
  Finset.sum_le_sum fun s _ => by
    have h127 : s ≤ 127 := by
      have := s.isLt
      rw [Fin.le_def]
      show s.val ≤ 127
      omega
    rw [if_pos h127]
    split_ifs
    · exact le_rfl
    · exact h s

theorem tail_ne_top {da : Fin 128 → EReal} (h : ∀ s, da s ≤ 0) (r : Fin 128) : cum da 127 - cum da r ≠ ⊤ := by
  have h1 := cum_ne_top h 127
  have h2 := cum_anti h r
  have h3 := cum_ne_top h r
  generalize cum da 127 = a at *
  generalize cum da r = b at *
  induction b with
  | bot =>
    have : a = ⊥ := le_bot_iff.mp h2
    subst this
    simp
  | top => exact absurd rfl h3
  | coe y =>
    induction a with
    | bot => simp
    | top => exact absurd rfl h1
    | coe x => norm_cast; exact EReal.coe_ne_top _

/-! ## A normalised row -/

/-- An infinite value, of either sign. -/
def Inf (x : EReal) : Prop := x = ⊤ ∨ x = ⊥

theorem Inf.mul_self {x : EReal} (h : Inf x) : x * x = ⊤ := by
  rcases h with rfl | rfl <;> simp

theorem mul_self_nonneg' (x : EReal) : 0 ≤ x * x := by
  induction x with
  | bot => simp
  | top => simp
  | coe x => exact_mod_cast mul_self_nonneg x

theorem ofBits_512 : Ideal.ofBits .f32 0x44000000#32 = ((512 : ℝ) : EReal) := by
  simp [Ideal.ofBits, Ideal.ieee, -EReal.coe_mul]; norm_num

theorem ofBits_eps : ∃ y : ℝ, Ideal.ofBits .f32 0x3727C5AC#32 = (y : EReal) := by
  simp [Ideal.ofBits, Ideal.ieee, -EReal.coe_mul]

theorem normed_inf {u : Fin 512 → EReal} (k : Fin 512) (h : Inf (u k)) (q : Fin 512) : normed u q = 0 := by
  unfold normed
  have hs : ∑ k, u k * u k = ⊤ := by
    refine top_le_iff.mp ?_
    rw [← h.mul_self]
    exact Finset.single_le_sum (f := fun k => u k * u k) (fun i _ => mul_self_nonneg' _) (Finset.mem_univ k)
  have hd : Ideal.div ⊤ (Ideal.ofBits .f32 0x44000000#32) = ⊤ := by
    rw [ofBits_512, Ideal.div_coe (by norm_num)]
    exact EReal.top_mul_coe_of_pos (by norm_num)
  have he : (⊤ : EReal) + Ideal.ofBits .f32 0x3727C5AC#32 = ⊤ := by
    obtain ⟨y, hy⟩ := ofBits_eps
    rw [hy]
    simp
  rw [hs, hd, he, Ideal.rsqrt_top, mul_zero]

/-- Two rows that agree but for the sign of infinite entries have the same normalised row. -/
theorem normed_congr {u v : Fin 512 → EReal} (h : ∀ k, u k = v k ∨ (Inf (u k) ∧ Inf (v k))) (q : Fin 512) :
    normed u q = normed v q := by
  by_cases hk : ∃ k, Inf (u k) ∧ Inf (v k)
  · obtain ⟨k, h1, h2⟩ := hk
    rw [normed_inf k h1, normed_inf k h2]
  · have : u = v := funext fun k => (h k).resolve_right fun hh => hk ⟨k, hh⟩
    rw [this]

/-- A factor keeps "equal or both infinite". -/
theorem agree_mul {a b : EReal} (h : a = b ∨ (Inf a ∧ Inf b)) (s : EReal) :
    a * s = b * s ∨ (Inf (a * s) ∧ Inf (b * s)) := by
  rcases h with rfl | ⟨ha, hb⟩
  · exact .inl rfl
  · rcases lt_trichotomy s 0 with hs | rfl | hs
    · right
      constructor
      · rcases ha with rfl | rfl
        · exact .inr (EReal.top_mul_of_neg hs)
        · exact .inl (EReal.bot_mul_of_neg hs)
      · rcases hb with rfl | rfl
        · exact .inr (EReal.top_mul_of_neg hs)
        · exact .inl (EReal.bot_mul_of_neg hs)
    · left; simp
    · right
      constructor
      · rcases ha with rfl | rfl
        · exact .inl (EReal.top_mul_of_pos hs)
        · exact .inr (EReal.bot_mul_of_pos hs)
      · rcases hb with rfl | rfl
        · exact .inl (EReal.top_mul_of_pos hs)
        · exact .inr (EReal.bot_mul_of_pos hs)

/-- Adding an infinite value gives an infinite value. -/
theorem Inf.add_left {b : EReal} (h : Inf b) (a : EReal) : Inf (a + b) := by
  rcases h with rfl | rfl
  · induction a with
    | bot => right; simp
    | top => left; simp
    | coe x => left; simp
  · right; simp

/-- Splitting the skip weight does not change a normalised row: where the weight is `+∞` both entries are infinite. -/
theorem agree_mix (H : Fin 128 → EReal) (B C : Fin 128 → Fin 128 → EReal) (x dt da : Fin 128 → EReal) (d : EReal) (r : Fin 128) :
    mix H B C x dt da (sel3 d) r = mix H B C x dt da d r
      ∨ (Inf (mix H B C x dt da (sel3 d) r) ∧ Inf (mix H B C x dt da d r)) := by
  by_cases hd : d = ⊤
  · subst hd
    rw [sel3_top]
    unfold mix
    have h : (⊥ : EReal) * x r = ⊤ * x r ∨ (Inf (⊥ * x r) ∧ Inf (⊤ * x r)) := agree_mul (.inr ⟨.inr rfl, .inl rfl⟩) _
    rcases h with h | ⟨h1, h2⟩
    · left; rw [h]
    · right; exact ⟨h1.add_left _, h2.add_left _⟩
  · left; rw [sel3_eq hd]

end Cert.Ssd

end
-- ==== Proof.Layer.lean ====
module

public import proofs.«01_k».proof.Proof.Spec

@[expose] public section

/-! The whole layer over the extended reals: the causal convolution over the sequence, the state after each chunk, the
output of each position. -/

noncomputable section

open Idealize.ShloMosaic

namespace Cert.Ssd

/-- The layer's inputs, as functions of sequence, position, channel and head. -/
structure Args where
  X : Fin 2 → Fin 8192 → Fin 3072 → EReal
  Z : Fin 2 → Fin 8192 → Fin 2048 → EReal
  T : Fin 2 → Fin 8192 → Fin 32 → EReal
  W : Fin 4 → Fin 3072 → EReal
  bias : Fin 3072 → EReal
  tb : Fin 32 → EReal
  al : Fin 32 → EReal
  dk : Fin 32 → EReal
  nw : Fin 2048 → EReal

variable (a : Args)

/-- Channel `q` of group `g`. -/
def chan (g : Fin 4) (q : Fin 512) : Fin 2048 := ⟨512 * g.val + q.val, by omega⟩

/-- Position `s` of chunk `k`. -/
def pos (k : ℕ) (s : Fin 128) : Fin 8192 := ⟨(128 * k + s.val) % 8192, Nat.mod_lt _ (by decide)⟩

/-- The value `k` positions before, zero before the sequence's start. -/
def Args.past (b : Fin 2) (k : ℕ) (p : Fin 8192) (ch : Fin 3072) : EReal :=
  if k ≤ p.val then a.X b ⟨p.val - k, by omega⟩ ch else 0

/-- The convolved and gated channel. -/
def Args.conv (b : Fin 2) (p : Fin 8192) (ch : Fin 3072) : EReal :=
  silu (a.X b p ch * a.W 3 ch + a.bias ch + a.past b 3 p ch * a.W 0 ch + a.past b 2 p ch * a.W 1 ch + a.past b 1 p ch * a.W 2 ch)

/-- The step size of a head. -/
def Args.step (b : Fin 2) (p : Fin 8192) (h : Fin 32) : EReal := softp (a.T b p h + a.tb h)

/-- The decay's exponent of a head. -/
def Args.decay (b : Fin 2) (p : Fin 8192) (h : Fin 32) : EReal := a.step b p h * -Ideal.exp (a.al h)

/-- The state before chunk `k`, at a channel and a state index. -/
def Args.state (b : Fin 2) : ℕ → Fin 2048 → Fin 128 → EReal
  | 0 => fun _ _ => 0
  | k + 1 => fun ch n => next (Args.state b k ch) (fun s n => a.conv b (pos k s) ⟨2048 + 128 * (ch.val / 512) + n.val, by omega⟩)
      (fun s => a.conv b (pos k s) ⟨ch.val, by omega⟩) (fun s => a.step b (pos k s) ⟨ch.val / 64, by omega⟩)
      (fun s => a.decay b (pos k s) ⟨ch.val / 64, by omega⟩) n

/-- The output of position `r` of chunk `k` before the gate. -/
def Args.mixed (b : Fin 2) (k : ℕ) (r : Fin 128) (ch : Fin 2048) : EReal :=
  mix (a.state b k ch) (fun s n => a.conv b (pos k s) ⟨2048 + 128 * (ch.val / 512) + n.val, by omega⟩)
    (fun s n => a.conv b (pos k s) ⟨2560 + 128 * (ch.val / 512) + n.val, by omega⟩)
    (fun s => a.conv b (pos k s) ⟨ch.val, by omega⟩) (fun s => a.step b (pos k s) ⟨ch.val / 64, by omega⟩)
    (fun s => a.decay b (pos k s) ⟨ch.val / 64, by omega⟩) (a.dk ⟨ch.val / 64, by omega⟩) r

/-- The layer's output. -/
def Args.out (b : Fin 2) (k : ℕ) (r : Fin 128) (g : Fin 4) (q : Fin 512) : EReal :=
  normed (fun i => a.mixed b k r (chan g i) * silu (a.Z b (pos k r) (chan g i))) q * a.nw (chan g q)

end Cert.Ssd

end
-- ==== Proof.ChunkValue.lean ====
module

public import proofs.«01_k».proof.Proof.Chunk
public import proofs.«01_k».proof.Proof.Layer

@[expose] public section

set_option maxRecDepth 16384

/-! One chunk of the recurrence at an index, over the extended reals: a group's state and a group's output in terms of one
channel's recurrence. -/

noncomputable section

open Idealize.ShloMosaic Idealize.ShloMosaic.TcCoe Idealize.SL.Sem
open Idealize.ShloMosaic.Pipeline (Dat)

namespace Cert.KernelIdeal.Ssd

open Cert.KernelIdeal Cert.KernelIdeal.Gen Cert.Ssd

/-- The convolved and gated channel `ch` at position `r` of the chunk. -/
def cx (xp : Vec Ideal S136x3072 .f32) (x3 : Vec Ideal S4x3072 .f32) (x4 : Vec Ideal S1x3072 .f32) (r : Fin 128) (ch : Fin 3072) : EReal :=
  silu (xp (ix2 ⟨8 + r.val, by omega⟩ ch) * x3 (ix2 3 ch) + x4 (ix2 0 ch) + xp (ix2 ⟨5 + r.val, by omega⟩ ch) * x3 (ix2 0 ch)
    + xp (ix2 ⟨6 + r.val, by omega⟩ ch) * x3 (ix2 1 ch) + xp (ix2 ⟨7 + r.val, by omega⟩ ch) * x3 (ix2 2 ch))

/-- The step size of a lane. -/
def dtv (x2 : Vec Ideal S1x128x128 .f32) (x5 : Vec Ideal S1x128 .f32) (l : Fin 128) (s : Fin 128) : EReal :=
  softp (x2 (ix3 0 s l) + x5 (ix2 0 l))

/-- The decay's exponent of a lane. -/
def dav (x2 : Vec Ideal S1x128x128 .f32) (x5 x6 : Vec Ideal S1x128 .f32) (l : Fin 128) (s : Fin 128) : EReal :=
  dtv x2 x5 l s * -Ideal.exp (x6 (ix2 0 l))

theorem dav_nonpos (x2 : Vec Ideal S1x128x128 .f32) (x5 x6 : Vec Ideal S1x128 .f32) (l : Fin 128) (s : Fin 128) :
    dav x2 x5 x6 l s ≤ 0 := step_nonpos (softp_nonneg _) _

/-! ## The factors per head -/

/-- Whether a position is not before another, as the body compares them. -/
theorem le_select (r x : Fin 128) (u v : EReal) :
    Scalar.select (IntOp.cmpi .sge (BitVec.ofNat 32 r.val) (BitVec.ofNat 32 x.val)) u v = if x ≤ r then u else v := by
  rw [WordCmp.cmpi_sge_ofNat (by omega) (by omega), WordCmp.select_ofBool]
  simp only [decide_eq_true_eq, Fin.le_def]

theorem pay10_at (x2 : Vec Ideal S1x128x128 .f32) (x5 : Vec Ideal S1x128 .f32) (s l : Fin 128) :
    k0_pay10 (View.ld x2 r_dt) (View.ld x5 r_row) (ix2 s l) = dtv x2 x5 l s := by
  pointwise [k0_pay10]
  rw [zero_sub]
  rfl

theorem pay13_at (x2 : Vec Ideal S1x128x128 .f32) (x5 x6 : Vec Ideal S1x128 .f32) (s l : Fin 128) :
    k0_pay13 (View.ld x2 r_dt) (View.ld x5 r_row) (View.ld x6 r_row) (ix2 s l) = dav x2 x5 x6 l s := by
  pointwise [k0_pay13]
  rw [pay10_at, zero_sub]
  rfl

theorem cumv_at (x2 : Vec Ideal S1x128x128 .f32) (x5 x6 : Vec Ideal S1x128 .f32) (r l : Fin 128) :
    cumv x2 x5 x6 (ix2 r l) = cum (dav x2 x5 x6 l) r := by
  pointwise [cumv, k0_pay15, k0_pay12, k0_pay11, k0_pay14]
  simp only [pay13_at, le_select]
  exact sum_split (fun x => x ≤ r) (dav x2 x5 x6 l) fun s => ne_top_of_le_ne_top EReal.zero_ne_top (dav_nonpos _ _ _ _ _)

section stack

variable (x2 : Vec Ideal S1x128x128 .f32) (x5 x6 x7 : Vec Ideal S1x128 .f32) (r l : Fin 128)

theorem stack_dt : stackv x2 x5 x6 x7 (ix2 ⟨r.val, by omega⟩ l) = dtv x2 x5 l r := by
  rw [← pay10_at]
  unfold stackv k0_pay17
  generalize k0_pay15 (F := Ideal) _ _ _ = acs
  generalize k0_pay10 (F := Ideal) _ _ = dt
  pointwise

theorem stack_start : stackv x2 x5 x6 x7 (ix2 ⟨128 + r.val, by omega⟩ l) = Ideal.exp (cum (dav x2 x5 x6 l) r) := by
  rw [← cumv_at]
  unfold stackv k0_pay17 cumv
  generalize k0_pay15 (F := Ideal) _ _ _ = acs
  generalize k0_pay10 (F := Ideal) _ _ = dt
  pointwise

theorem stack_end : stackv x2 x5 x6 x7 (ix2 ⟨256 + r.val, by omega⟩ l)
    = Ideal.exp (cum (dav x2 x5 x6 l) 127 - cum (dav x2 x5 x6 l) r) := by
  rw [← cumv_at, ← cumv_at]
  unfold stackv k0_pay17 cumv
  generalize k0_pay15 (F := Ideal) _ _ _ = acs
  generalize k0_pay10 (F := Ideal) _ _ = dt
  pointwise
  rw [dif_neg (by omega), dif_neg (by omega), dif_pos (by omega)]
  congr 4
  apply Fin.ext
  show 256 + r.val - 128 - 128 = r.val
  omega

theorem stack_whole : stackv x2 x5 x6 x7 (ix2 384 l) = Ideal.exp (cum (dav x2 x5 x6 l) 127) := by
  rw [← cumv_at]
  unfold stackv k0_pay17 cumv
  generalize k0_pay15 (F := Ideal) _ _ _ = acs
  generalize k0_pay10 (F := Ideal) _ _ = dt
  pointwise

theorem stack_skip : stackv x2 x5 x6 x7 (ix2 392 l) = x7 (ix2 0 l) := by
  unfold stackv k0_pay17
  generalize k0_pay15 (F := Ideal) _ _ _ = acs
  generalize k0_pay10 (F := Ideal) _ _ = dt
  pointwise

end stack

/-- A factor spread over a head's channels: the product with a matrix that has one 1 per column. -/
theorem pay48_at (st : FVec Ideal S400x128 .f32) (E : Vec Ideal S128x512 .bf16) (r : Fin 400) (q : Fin 512) (l : Fin 128)
    (hE : ∀ k : Fin 128, E (ix2 k q) = if k = l then (1 : EReal) else 0) :
    k0_pay48 st E (ix2 r q) = sel3 (st (ix2 r l)) := by
  pointwise [k0_pay48]
  simp only [hE, mul_ite, mul_one, mul_zero, Finset.sum_ite_eq', Finset.mem_univ, if_true]
  rfl

section group

variable (x2 : Vec Ideal S1x128x128 .f32) (x5 x6 x7 : Vec Ideal S1x128 .f32) (E : Vec Ideal S128x512 .bf16)
  (q : Fin 512) (l : Fin 128) (hE : ∀ k : Fin 128, E (ix2 k q) = if k = l then (1 : EReal) else 0)
  (hx : ∀ s, x2 (ix3 0 s l) + x5 (ix2 0 l) ≠ ⊤)

include hE hx in
theorem ex_dt (r : Fin 128) : k0_pay48 (stackv x2 x5 x6 x7) E (ix2 ⟨r.val, by omega⟩ q) = dtv x2 x5 l r := by
  rw [pay48_at _ _ _ _ _ hE, stack_dt]
  exact sel3_eq (softp_ne_top (hx r))

include hE in
theorem ex_start (r : Fin 128) : k0_pay48 (stackv x2 x5 x6 x7) E (ix2 ⟨128 + r.val, by omega⟩ q) = Ideal.exp (cum (dav x2 x5 x6 l) r) := by
  rw [pay48_at _ _ _ _ _ hE, stack_start]
  exact sel3_eq (exp_ne_top (cum_ne_top (dav_nonpos _ _ _ _) _))

include hE in
theorem ex_end (r : Fin 128) : k0_pay48 (stackv x2 x5 x6 x7) E (ix2 ⟨256 + r.val, by omega⟩ q)
    = Ideal.exp (cum (dav x2 x5 x6 l) 127 - cum (dav x2 x5 x6 l) r) := by
  rw [pay48_at _ _ _ _ _ hE, stack_end]
  exact sel3_eq (exp_ne_top (tail_ne_top (dav_nonpos _ _ _ _) _))

include hE in
theorem ex_whole : k0_pay48 (stackv x2 x5 x6 x7) E (ix2 384 q) = Ideal.exp (cum (dav x2 x5 x6 l) 127) := by
  rw [pay48_at _ _ _ _ _ hE, stack_whole]
  exact sel3_eq (exp_ne_top (cum_ne_top (dav_nonpos _ _ _ _) _))

include hE in
theorem ex_skip : k0_pay48 (stackv x2 x5 x6 x7) E (ix2 392 q) = sel3 (x7 (ix2 0 l)) := by
  rw [pay48_at _ _ _ _ _ hE, stack_skip]

include hE hx in
/-- A group's state after the chunk, at a channel. -/
theorem groupState_at (xs : FVec Ideal S128x512 .f32) (bg : FVec Ideal S128x128 .f32) (H : Vec Ideal S1x128x512 .f32) (n : Fin 128) :
    groupState (stackv x2 x5 x6 x7) E xs bg H (ix3 0 n q)
      = next (fun n => H (ix3 0 n q)) (fun s n => bg (ix2 s n)) (fun s => xs (ix2 s q)) (dtv x2 x5 l) (dav x2 x5 x6 l) n := by
  have h0 := ex_dt x2 x5 x6 x7 E q l hE hx
  have h2 := ex_end x2 x5 x6 x7 E q l hE
  have h3 := ex_whole x2 x5 x6 x7 E q l hE
  unfold groupState
  generalize k0_pay48 (stackv x2 x5 x6 x7) E = ex at h0 h2 h3 ⊢
  pointwise [k0_pay44, k0_pay30, k0_pay32]
  simp only [h0, h2, h3]
  rfl

end group

/-! ## The heads of a group -/

theorem ofBits_neg_inf : Ideal.ofBits .f32 0xFF800000#32 = ⊥ := by
  simp [Ideal.ofBits, Ideal.ieee]

/-- One head's part, its inputs read out of the group's. -/
theorem headPart_at (cb : FVec Ideal S128x128 .f32) (col : FVec Ideal S128x1 .f32) (row : FVec Ideal S1x128 .f32)
    (xb : FVec Ideal S128x64 .bf16) (xq : Fin 128 → EReal) (r : Fin 128) (p : Fin 64) (hx : ∀ x, xb (ix2 x p) = xq x) :
    headPart cb col row xb (ix2 r p)
      = ∑ x, cb (ix2 r x) * Ideal.exp (if x ≤ r then col (ix2 r 0) - row (ix2 0 x) else ⊥) * xq x := by
  pointwise [headPart, k0_pay11]
  simp only [le_select, ofBits_neg_inf, hx]

set_option maxHeartbeats 4000000 in
theorem heads_at (cb : FVec Ideal S128x128 .f32) (col : Fin 8 → FVec Ideal S128x1 .f32) (row : Fin 8 → FVec Ideal S1x128 .f32)
    (xb : FVec Ideal S128x512 .bf16) (r : Fin 128) (q : Fin 512) :
    heads cb col row xb (ix2 r q) = ∑ x, cb (ix2 r x)
      * Ideal.exp (if x ≤ r then col ⟨q.val / 64, by omega⟩ (ix2 r 0) - row ⟨q.val / 64, by omega⟩ (ix2 0 x) else ⊥) * xb (ix2 x q) := by
  obtain ⟨j, p, rfl⟩ : ∃ (j : Fin 8) (p : Fin 64), q = ⟨64 * j.val + p.val, by omega⟩ :=
    ⟨⟨q.val / 64, by omega⟩, ⟨q.val % 64, by omega⟩, Fin.ext (by simp; omega)⟩
  have hj : ∀ h, (⟨(64 * j.val + p.val) / 64, h⟩ : Fin 8) = j := fun h => Fin.ext (by simp; omega)
  simp only [hj]
  clear hj
  fin_cases j
  all_goals
    pointwise [heads]
    try split_ifs
    all_goals first
      | omega
      | (refine headPart_at _ _ _ _ _ _ _ fun x => ?_
         pointwise
         try
           refine congrArg (fun i => xb (ix2 x i)) (Fin.ext ?_)
           simp
           omega)

/-! ## A group's output -/

theorem cb_at (bg c0 c1 : FVec Ideal S128x128 .f32) (r s : Fin 128) :
    k0_pay33 bg c0 c1 (ix2 r s) = ∑ n, k0_pay29 c0 c1 (ix2 r n) * bg (ix2 s n) := by
  generalize hc : k0_pay29 c0 c1 = c
  unfold k0_pay33
  rw [hc]
  pointwise [k0_pay32]

theorem off_at (c0 c1 : FVec Ideal S128x128 .f32) (H : Vec Ideal S1x128x512 .f32) (r : Fin 128) (q : Fin 512) :
    k0_pay34 c0 c1 H (ix2 r q) = ∑ n, k0_pay29 c0 c1 (ix2 r n) * H (ix3 0 n q) := by
  generalize hc : k0_pay29 c0 c1 = c
  unfold k0_pay34
  rw [hc]
  pointwise

theorem groupNorm_at (y ea : FVec Ideal S128x512 .f32) (dsk : FVec Ideal S1x512 .f32) (xs yo : FVec Ideal S128x512 .f32)
    (z : Vec Ideal S1x128x512 .f32) (r : Fin 128) (q : Fin 512) :
    groupNorm y ea dsk xs yo z (ix2 r q) = normed (fun k => (y (ix2 r k) + yo (ix2 r k) * ea (ix2 r k) + dsk (ix2 0 k) * xs (ix2 r k))
      * silu (z (ix3 0 r k))) q := by
  pointwise [groupNorm]
  rfl

/-- A group's output block at a row and a channel: lanes `8 g …` are the group's heads. -/
theorem groupOut_at (x2 : Vec Ideal S1x128x128 .f32) (x5 x6 x7 : Vec Ideal S1x128 .f32) (E : Vec Ideal S128x512 .bf16)
    (xs : FVec Ideal S128x512 .f32) (bg c0 c1 : FVec Ideal S128x128 .f32) (H : Vec Ideal S1x128x512 .f32)
    (col : Fin 8 → FVec Ideal S128x1 .f32) (row : Fin 8 → FVec Ideal S1x128 .f32)
    (z : Vec Ideal S1x128x512 .f32) (nw : Vec Ideal S1x512 .f32) (lane : Fin 512 → Fin 128)
    (hE : ∀ (k : Fin 128) q, E (ix2 k q) = if k = lane q then (1 : EReal) else 0)
    (hx : ∀ q s, x2 (ix3 0 s (lane q)) + x5 (ix2 0 (lane q)) ≠ ⊤)
    (hcol : ∀ (q : Fin 512) r, col ⟨q.val / 64, by omega⟩ (ix2 r 0) = cumv x2 x5 x6 (ix2 r (lane q)))
    (hrow : ∀ (q : Fin 512) r, row ⟨q.val / 64, by omega⟩ (ix2 0 r) = cumv x2 x5 x6 (ix2 r (lane q)))
    (r : Fin 128) (q : Fin 512) :
    groupOut (stackv x2 x5 x6 x7) E xs bg c0 c1 H col row z nw (ix3 0 r q)
      = normed (fun k => mix (fun n => H (ix3 0 n k)) (fun s n => bg (ix2 s n)) (fun s n => k0_pay29 c0 c1 (ix2 s n))
          (fun s => xs (ix2 s k)) (dtv x2 x5 (lane k)) (dav x2 x5 x6 (lane k)) (x7 (ix2 0 (lane k))) r * silu (z (ix3 0 r k))) q
        * nw (ix2 0 q) := by
  have h0 := fun k => ex_dt x2 x5 x6 x7 E k (lane k) (fun i => hE i k) (hx k)
  have h1 := fun k => ex_start x2 x5 x6 x7 E k (lane k) (fun i => hE i k)
  have h2 := fun k => ex_skip x2 x5 x6 x7 E k (lane k) (fun i => hE i k)
  have hn : normed (fun k => mix (fun n => H (ix3 0 n k)) (fun s n => bg (ix2 s n)) (fun s n => k0_pay29 c0 c1 (ix2 s n))
          (fun s => xs (ix2 s k)) (dtv x2 x5 (lane k)) (dav x2 x5 x6 (lane k)) (x7 (ix2 0 (lane k))) r * silu (z (ix3 0 r k))) q
      = normed (fun k => mix (fun n => H (ix3 0 n k)) (fun s n => bg (ix2 s n)) (fun s n => k0_pay29 c0 c1 (ix2 s n))
          (fun s => xs (ix2 s k)) (dtv x2 x5 (lane k)) (dav x2 x5 x6 (lane k)) (sel3 (x7 (ix2 0 (lane k)))) r * silu (z (ix3 0 r k))) q := by
    refine (normed_congr (fun k => agree_mul (agree_mix _ _ _ _ _ _ _ _) _) q).symm
  rw [hn]
  have hc : ∀ k, cum (dav x2 x5 x6 (lane k)) = fun s => cumv x2 x5 x6 (ix2 s (lane k)) := fun k => funext fun s => (cumv_at ..).symm
  unfold groupOut
  generalize k0_pay48 (stackv x2 x5 x6 x7) E = ex at h0 h1 h2 ⊢
  have hp : ∀ G : FVec Ideal S128x512 .f32, k0_pay47 G (k0_pay46 nw) (ix3 0 r q) = G (ix2 r q) * nw (ix2 0 q) := by
    intro G
    pointwise [k0_pay47, k0_pay46]
  rw [hp, groupNorm_at]
  congr 2
  funext k
  rw [heads_at, off_at]
  unfold mix
  simp only [hcol, hrow, cb_at, ← hc, cumv_at]
  congr 1
  have e0 : ∀ x, k0_pay31 (extractStridedSlice S128x512 ![0, 0] ex slices_S400x512_o0_0_S128x512) xs (ix2 x k)
      = xs (ix2 x k) * dtv x2 x5 (lane k) x := by
    intro x
    rw [← h0]
    pointwise [k0_pay31, k0_pay30]
  have e1 : extractStridedSlice S128x512 ![128, 0] ex slices_S400x512_o128_0_S128x512 (ix2 r k) = Ideal.exp (cum (dav x2 x5 x6 (lane k)) r) := by
    rw [← h1]
    pointwise
  have e2 : extractStridedSlice S1x512 ![392, 0] ex slices_S400x512_o392_0_S1x512 (ix2 0 k) = sel3 (x7 (ix2 0 (lane k))) := by
    rw [← h2]
    pointwise
  simp only [e0, e1, e2]

end Cert.KernelIdeal.Ssd

end
-- ==== Proof.Cases.lean ====
module

public import proofs.«01_k».proof.Proof.Chunk
public import Idealize.ShloMosaic.Lib.Pipeline.ValueKit
public import Idealize.ShloMosaic.Lib.Pipeline.ReadBack

@[expose] public section

set_option maxRecDepth 16384

/-! What each of the three kinds of grid point leaves, in the vocabulary of `Chunk`: the first chunk of a sequence (the
scratch is cleared first), a chunk in the middle, and the last one (the state is written out). -/

noncomputable section

open Idealize.ShloMosaic Idealize.ShloMosaic.TcCoe Idealize.SL.Sem
open Idealize.ShloMosaic.Pipeline (Dat)

namespace Cert.KernelIdeal.Ssd

open Cert.KernelIdeal Cert.KernelIdeal.Gen

variable {F : FTy → Type} [FloatOps F]

/-- One store over known contents. -/
theorem read_overlay {κ : Kind} {sp : Space} {s : Shape} {e : EltTy} (a : Memref Cert.KernelIdeal.sig κ sp s e) (h : a.IsWhole)
    (X : s.Idx → Elt F e) (r : Rect s) (w : r.shape.Idx → Elt F e) :
    a.view.read (Elt F) (a.view.writes (Elt F) (h.unread X) [⟨r, w⟩]) = r.overlay X w := by
  funext y
  by_cases hy : y ∈ r.set
  · obtain ⟨x, rfl⟩ := r.exists_idx_of_mem hy
    exact (View.read_writes_cons_emb _ _ r w [] x).trans (r.overlay_emb _ _ x).symm
  · rw [View.read_writes_cons_miss _ _ _ _ _ hy, r.overlay_of_not_mem _ _ hy]
    exact congrFun (h.read_unread X) y

/-- Rows from the eighth on hold the chunk, whatever lies before. -/
theorem ld_chunk (X : Vec F S136x3072 .f32) (w : S128x3072.Idx → Elt F .f32) (L : List (View.Piece (Elt F) S136x3072 .f32))
    (a k o n : ℕ) (inb : ∀ i, (![a, o] : Fin 2 → ℕ) i + (![k, n] : Fin 2 → ℕ) i ≤ S136x3072.size i) (ha : 8 ≤ a) :
    (fun j => View.canon (⟨r_chunk, w⟩ :: L) ((Rect.unit (s := S136x3072) ![a, o] ![k, n] inb).idx j))
      = View.ld (r_chunk.overlay X w) (Rect.unit (s := S136x3072) ![a, o] ![k, n] inb) := by
  funext j
  rw [View.canon_cons]
  have hm : (Rect.unit (s := S136x3072) ![a, o] ![k, n] inb).idx j ∈ r_chunk.set := by
    rw [Rect.mem_set_unit]
    have h0 := inb 0
    have h1 := inb 1
    have j0 := (j 0).isLt
    have j1 := (j 1).isLt
    simp at h0 h1 j0 j1
    intro i
    fin_cases i <;> simp [LoadRect.idx] <;> omega
  obtain ⟨x, hx⟩ := r_chunk.exists_idx_of_mem hm
  show r_chunk.overlay _ _ _ = r_chunk.overlay _ _ _
  rw [← hx]
  exact (r_chunk.overlay_emb _ _ x).trans (r_chunk.overlay_emb _ _ x).symm

/-- A group's part of the state is not touched by the writes of another group. -/
theorem skip_state (g g' : ℕ) (w : (⟨3, ![1, 128, 512]⟩ : Shape).Idx → Elt F .f32) (L : List (View.Piece (Elt F) S4x128x512 .f32))
    (inb : ∀ i, (![g, 0, 0] : Fin 3 → ℕ) i + (![1, 128, 512] : Fin 3 → ℕ) i ≤ S4x128x512.size i)
    (inb' : ∀ i, (![g', 0, 0] : Fin 3 → ℕ) i + (![1, 128, 512] : Fin 3 → ℕ) i ≤ S4x128x512.size i) (hg : g ≠ g')
    (j : (⟨3, ![1, 128, 512]⟩ : Shape).Idx) :
    View.canon (⟨Rect.unit (s := S4x128x512) ![g', 0, 0] ![1, 128, 512] inb', w⟩ :: L) ((Rect.unit (s := S4x128x512) ![g, 0, 0] ![1, 128, 512] inb).idx j)
      = View.canon L ((Rect.unit (s := S4x128x512) ![g, 0, 0] ![1, 128, 512] inb).idx j) := by
  refine View.canon_cons_of_not_mem _ _ fun h => ?_
  rw [Rect.mem_set_unit] at h
  have h0 := h 0
  have j0 := (j 0).isLt
  simp [LoadRect.idx] at h0 j0
  omega

/-- The cleared history and the cleared state. -/
abbrev clearRows : Vec F S136x3072 .f32 := View.canon [⟨Rect.unit ![0, 0] ![8, 3072] inb_S136x3072_S8x3072_0_0, k0_pay7⟩]
abbrev clearState : Vec F S4x128x512 .f32 := View.canon [⟨Rect.unit ![0, 0, 0] ![4, 128, 512] inb_S4x128x512_S4x128x512_0_0_0, k0_pay8⟩]

/-- The state after the chunk, written group after group. -/
def nextState (xp : Vec F S136x3072 .f32) (x2 : Vec F S1x128x128 .f32) (x3 : Vec F S4x3072 .f32) (x4 : Vec F S1x3072 .f32)
    (x5 x6 x7 : Vec F S1x128 .f32) (x9 : Vec F S128x2048 .bf16) (ht : Vec F S4x128x512 .f32) (L : List (View.Piece (Elt F) S4x128x512 .f32)) : Vec F S4x128x512 .f32 :=
  View.canon (⟨Rect.unit ![3, 0, 0] ![1, 128, 512] inb_S4x128x512_S1x128x512_3_0_0, state3 xp x2 x3 x4 x5 x6 x7 x9 ht⟩
    :: ⟨Rect.unit ![2, 0, 0] ![1, 128, 512] inb_S4x128x512_S1x128x512_2_0_0, state2 xp x2 x3 x4 x5 x6 x7 x9 ht⟩
    :: ⟨Rect.unit ![1, 0, 0] ![1, 128, 512] inb_S4x128x512_S1x128x512_1_0_0, state1 xp x2 x3 x4 x5 x6 x7 x9 ht⟩
    :: ⟨Rect.unit ![0, 0, 0] ![1, 128, 512] inb_S4x128x512_S1x128x512_0_0_0, state0 xp x2 x3 x4 x5 x6 x7 x9 ht⟩ :: L)

/-- The output block of the chunk. -/
def outBlock (xp : Vec F S136x3072 .f32) (x1 : Vec F S1x128x2048 .f32) (x2 : Vec F S1x128x128 .f32) (x3 : Vec F S4x3072 .f32) (x4 : Vec F S1x3072 .f32)
    (x5 x6 x7 : Vec F S1x128 .f32) (x8 : Vec F S1x2048 .f32) (x9 : Vec F S128x2048 .bf16) (ht : Vec F S4x128x512 .f32) : Vec F S1x128x2048 .bf16 :=
  View.canon [⟨Rect.unit ![0, 0, 1536] ![1, 128, 512] inb_S1x128x2048_S1x128x512_0_0_1536, out3 xp x1 x2 x3 x4 x5 x6 x7 x8 x9 ht⟩,
    ⟨Rect.unit ![0, 0, 1024] ![1, 128, 512] inb_S1x128x2048_S1x128x512_0_0_1024, out2 xp x1 x2 x3 x4 x5 x6 x7 x8 x9 ht⟩,
    ⟨Rect.unit ![0, 0, 512] ![1, 128, 512] inb_S1x128x2048_S1x128x512_0_0_512, out1 xp x1 x2 x3 x4 x5 x6 x7 x8 x9 ht⟩,
    ⟨Rect.unit ![0, 0, 0] ![1, 128, 512] inb_S1x128x2048_S1x128x512_0_0_0, out0 xp x1 x2 x3 x4 x5 x6 x7 x8 x9 ht⟩]

/-- The rows kept for the next chunk: the chunk's last eight, in front of the chunk. -/
def nextRows (xp : Vec F S136x3072 .f32) (L : List (View.Piece (Elt F) S136x3072 .f32)) : Vec F S136x3072 .f32 :=
  View.canon (⟨Rect.unit ![0, 0] ![8, 3072] inb_S136x3072_S8x3072_0_0, k0_pay2 (View.ld xp (Rect.unit ![128, 0] ![8, 3072] inb_S136x3072_S8x3072_128_0))⟩ :: L)

/-- The state at a first chunk. -/
theorem first_sout0_A_1 (c : Dev nD) (i : grid0.Coords) (arg2 : Memref sig .tc .vmem S1x128x3072 .f32) (harg2 : arg2.IsWhole) (arg3 : Memref sig .tc .vmem S1x128x2048 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x128x2048 .bf16) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (hc0 : cond0_0 i) (hc1 : ¬cond0_1 i)
    (x0 : Vec F S1x128x3072 .f32) (x1 : Vec F S1x128x2048 .f32) (x2 : Vec F S1x128x128 .f32) (x3 : Vec F S4x3072 .f32) (x4 : Vec F S1x3072 .f32) (x5 : Vec F S1x128 .f32) (x6 : Vec F S1x128 .f32) (x7 : Vec F S1x128 .f32) (x8 : Vec F S1x2048 .f32) (x9 : Vec F S128x2048 .bf16) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = nextState (padded clearRows x0) x2 x3 x4 x5 x6 x7 x9 clearState [⟨Rect.unit ![0, 0, 0] ![4, 128, 512] inb_S4x128x512_S4x128x512_0_0_0, k0_pay8⟩] := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A
  dsimp only
  sl_unfold_words
  simp only [View.readAt_eq_ld, View.readCov_eq_canon', Memref.IsWhole.read_unread]
  simp (disch := decide) only [skip_state]
  rfl

/-- The kept rows at a first chunk. -/
theorem first_sout0_A_0 (c : Dev nD) (i : grid0.Coords) (arg2 : Memref sig .tc .vmem S1x128x3072 .f32) (harg2 : arg2.IsWhole) (arg3 : Memref sig .tc .vmem S1x128x2048 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x128x2048 .bf16) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (hc0 : cond0_0 i) (hc1 : ¬cond0_1 i)
    (x0 : Vec F S1x128x3072 .f32) (x1 : Vec F S1x128x2048 .f32) (x2 : Vec F S1x128x128 .f32) (x3 : Vec F S4x3072 .f32) (x4 : Vec F S1x3072 .f32) (x5 : Vec F S1x128 .f32) (x6 : Vec F S1x128 .f32) (x7 : Vec F S1x128 .f32) (x8 : Vec F S1x2048 .f32) (x9 : Vec F S128x2048 .bf16) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = nextRows (padded clearRows x0) [⟨r_chunk, k0_pay9 (View.ld x0 (Rect.unit ![0, 0, 0] ![1, 128, 3072] inb_S1x128x3072_S1x128x3072_0_0_0))⟩, ⟨Rect.unit ![0, 0] ![8, 3072] inb_S136x3072_S8x3072_0_0, k0_pay7⟩] := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A
  dsimp only
  sl_unfold_words
  simp only [View.readAt_eq_ld, View.readCov_eq_canon', Memref.IsWhole.read_unread]
  rfl

/-- The output block at a first chunk. -/
theorem first_out0_A_10 (c : Dev nD) (i : grid0.Coords) (arg2 : Memref sig .tc .vmem S1x128x3072 .f32) (harg2 : arg2.IsWhole) (arg3 : Memref sig .tc .vmem S1x128x2048 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x128x2048 .bf16) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (hc0 : cond0_0 i) (hc1 : ¬cond0_1 i)
    (x0 : Vec F S1x128x3072 .f32) (x1 : Vec F S1x128x2048 .f32) (x2 : Vec F S1x128x128 .f32) (x3 : Vec F S4x3072 .f32) (x4 : Vec F S1x3072 .f32) (x5 : Vec F S1x128 .f32) (x6 : Vec F S1x128 .f32) (x7 : Vec F S1x128 .f32) (x8 : Vec F S1x2048 .f32) (x9 : Vec F S128x2048 .bf16) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = outBlock (padded clearRows x0) x1 x2 x3 x4 x5 x6 x7 x8 x9 clearState := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A
  dsimp only
  sl_unfold_words
  simp only [View.readAt_eq_ld, View.readCov_eq_canon', Memref.IsWhole.read_unread]
  simp (disch := decide) only [skip_state]
  rfl

/-- The state at a middle chunk. -/
theorem mid_sout0_B_1 (c : Dev nD) (i : grid0.Coords) (arg2 : Memref sig .tc .vmem S1x128x3072 .f32) (harg2 : arg2.IsWhole) (arg3 : Memref sig .tc .vmem S1x128x2048 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x128x2048 .bf16) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (hc0 : ¬cond0_0 i) (hc1 : ¬cond0_1 i)
    (x0 : Vec F S1x128x3072 .f32) (x1 : Vec F S1x128x2048 .f32) (x2 : Vec F S1x128x128 .f32) (x3 : Vec F S4x3072 .f32) (x4 : Vec F S1x3072 .f32) (x5 : Vec F S1x128 .f32) (x6 : Vec F S1x128 .f32) (x7 : Vec F S1x128 .f32) (x8 : Vec F S1x2048 .f32) (x9 : Vec F S128x2048 .bf16) (xs0 : Vec F S136x3072 .f32) (xs1 : Vec F S4x128x512 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = nextState (padded xs0 x0) x2 x3 x4 x5 x6 x7 x9 xs1 [] := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_B
  dsimp only
  sl_unfold_words
  simp only [View.readAt_eq_ld, View.readCov_eq_canon', Memref.IsWhole.read_unread]
  simp (disch := decide) only [read_overlay, ld_chunk xs0]
  rfl

/-- The kept rows at a middle chunk. -/
theorem mid_sout0_B_0 (c : Dev nD) (i : grid0.Coords) (arg2 : Memref sig .tc .vmem S1x128x3072 .f32) (harg2 : arg2.IsWhole) (arg3 : Memref sig .tc .vmem S1x128x2048 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x128x2048 .bf16) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (hc0 : ¬cond0_0 i) (hc1 : ¬cond0_1 i)
    (x0 : Vec F S1x128x3072 .f32) (x1 : Vec F S1x128x2048 .f32) (x2 : Vec F S1x128x128 .f32) (x3 : Vec F S4x3072 .f32) (x4 : Vec F S1x3072 .f32) (x5 : Vec F S1x128 .f32) (x6 : Vec F S1x128 .f32) (x7 : Vec F S1x128 .f32) (x8 : Vec F S1x2048 .f32) (x9 : Vec F S128x2048 .bf16) (xs0 : Vec F S136x3072 .f32) (xs1 : Vec F S4x128x512 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = nextRows (padded xs0 x0) [⟨r_chunk, k0_pay9 (View.ld x0 (Rect.unit ![0, 0, 0] ![1, 128, 3072] inb_S1x128x3072_S1x128x3072_0_0_0))⟩] := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_B
  dsimp only
  sl_unfold_words
  simp only [View.readAt_eq_ld, View.readCov_eq_canon', Memref.IsWhole.read_unread]
  simp (disch := decide) only [read_overlay, ld_chunk xs0]
  rfl

/-- The output block at a middle chunk. -/
theorem mid_out0_B_10 (c : Dev nD) (i : grid0.Coords) (arg2 : Memref sig .tc .vmem S1x128x3072 .f32) (harg2 : arg2.IsWhole) (arg3 : Memref sig .tc .vmem S1x128x2048 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x128x2048 .bf16) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (hc0 : ¬cond0_0 i) (hc1 : ¬cond0_1 i)
    (x0 : Vec F S1x128x3072 .f32) (x1 : Vec F S1x128x2048 .f32) (x2 : Vec F S1x128x128 .f32) (x3 : Vec F S4x3072 .f32) (x4 : Vec F S1x3072 .f32) (x5 : Vec F S1x128 .f32) (x6 : Vec F S1x128 .f32) (x7 : Vec F S1x128 .f32) (x8 : Vec F S1x2048 .f32) (x9 : Vec F S128x2048 .bf16) (xs0 : Vec F S136x3072 .f32) (xs1 : Vec F S4x128x512 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = outBlock (padded xs0 x0) x1 x2 x3 x4 x5 x6 x7 x8 x9 xs1 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_B
  dsimp only
  sl_unfold_words
  simp only [View.readAt_eq_ld, View.readCov_eq_canon', Memref.IsWhole.read_unread]
  simp (disch := decide) only [read_overlay, ld_chunk xs0]
  rfl

/-- The state at a last chunk. -/
theorem last_sout0_C_1 (c : Dev nD) (i : grid0.Coords) (arg2 : Memref sig .tc .vmem S1x128x3072 .f32) (harg2 : arg2.IsWhole) (arg3 : Memref sig .tc .vmem S1x128x2048 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x128x2048 .bf16) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (hc0 : ¬cond0_0 i) (hc1 : cond0_1 i)
    (x0 : Vec F S1x128x3072 .f32) (x1 : Vec F S1x128x2048 .f32) (x2 : Vec F S1x128x128 .f32) (x3 : Vec F S4x3072 .f32) (x4 : Vec F S1x3072 .f32) (x5 : Vec F S1x128 .f32) (x6 : Vec F S1x128 .f32) (x7 : Vec F S1x128 .f32) (x8 : Vec F S1x2048 .f32) (x9 : Vec F S128x2048 .bf16) (xs0 : Vec F S136x3072 .f32) (xs1 : Vec F S4x128x512 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = nextState (padded xs0 x0) x2 x3 x4 x5 x6 x7 x9 xs1 [] := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_C
  dsimp only
  sl_unfold_words
  simp only [View.readAt_eq_ld, View.readCov_eq_canon', Memref.IsWhole.read_unread]
  simp (disch := decide) only [read_overlay, ld_chunk xs0]
  rfl

/-- The kept rows at a last chunk. -/
theorem last_sout0_C_0 (c : Dev nD) (i : grid0.Coords) (arg2 : Memref sig .tc .vmem S1x128x3072 .f32) (harg2 : arg2.IsWhole) (arg3 : Memref sig .tc .vmem S1x128x2048 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x128x2048 .bf16) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (hc0 : ¬cond0_0 i) (hc1 : cond0_1 i)
    (x0 : Vec F S1x128x3072 .f32) (x1 : Vec F S1x128x2048 .f32) (x2 : Vec F S1x128x128 .f32) (x3 : Vec F S4x3072 .f32) (x4 : Vec F S1x3072 .f32) (x5 : Vec F S1x128 .f32) (x6 : Vec F S1x128 .f32) (x7 : Vec F S1x128 .f32) (x8 : Vec F S1x2048 .f32) (x9 : Vec F S128x2048 .bf16) (xs0 : Vec F S136x3072 .f32) (xs1 : Vec F S4x128x512 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = nextRows (padded xs0 x0) [⟨r_chunk, k0_pay9 (View.ld x0 (Rect.unit ![0, 0, 0] ![1, 128, 3072] inb_S1x128x3072_S1x128x3072_0_0_0))⟩] := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_C
  dsimp only
  sl_unfold_words
  simp only [View.readAt_eq_ld, View.readCov_eq_canon', Memref.IsWhole.read_unread]
  simp (disch := decide) only [read_overlay, ld_chunk xs0]
  rfl

/-- The output block at a last chunk. -/
theorem last_out0_C_10 (c : Dev nD) (i : grid0.Coords) (arg2 : Memref sig .tc .vmem S1x128x3072 .f32) (harg2 : arg2.IsWhole) (arg3 : Memref sig .tc .vmem S1x128x2048 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x128x2048 .bf16) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (hc0 : ¬cond0_0 i) (hc1 : cond0_1 i)
    (x0 : Vec F S1x128x3072 .f32) (x1 : Vec F S1x128x2048 .f32) (x2 : Vec F S1x128x128 .f32) (x3 : Vec F S4x3072 .f32) (x4 : Vec F S1x3072 .f32) (x5 : Vec F S1x128 .f32) (x6 : Vec F S1x128 .f32) (x7 : Vec F S1x128 .f32) (x8 : Vec F S1x2048 .f32) (x9 : Vec F S128x2048 .bf16) (xs0 : Vec F S136x3072 .f32) (xs1 : Vec F S4x128x512 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = outBlock (padded xs0 x0) x1 x2 x3 x4 x5 x6 x7 x8 x9 xs1 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_C
  dsimp only
  sl_unfold_words
  simp only [View.readAt_eq_ld, View.readCov_eq_canon', Memref.IsWhole.read_unread]
  simp (disch := decide) only [read_overlay, ld_chunk xs0]
  rfl

/-- The state written out: the four groups one below the other, each turned so that the channels are rows. -/
def lastState (H : Vec F S4x128x512 .f32) : Vec F S1x2048x128 .f32 :=
  View.canon [⟨Rect.unit ![0, 1536, 0] ![1, 512, 128] inb_S1x2048x128_S1x512x128_0_1536_0, k0_pay6 (View.ld H (Rect.unit ![3, 0, 0] ![1, 128, 512] inb_S4x128x512_S1x128x512_3_0_0))⟩,
    ⟨Rect.unit ![0, 1024, 0] ![1, 512, 128] inb_S1x2048x128_S1x512x128_0_1024_0, k0_pay5 (View.ld H (Rect.unit ![2, 0, 0] ![1, 128, 512] inb_S4x128x512_S1x128x512_2_0_0))⟩,
    ⟨Rect.unit ![0, 512, 0] ![1, 512, 128] inb_S1x2048x128_S1x512x128_0_512_0, k0_pay4 (View.ld H (Rect.unit ![1, 0, 0] ![1, 128, 512] inb_S4x128x512_S1x128x512_1_0_0))⟩,
    ⟨Rect.unit ![0, 0, 0] ![1, 512, 128] inb_S1x2048x128_S1x512x128_0_0_0, k0_pay3 (View.ld H (Rect.unit ![0, 0, 0] ![1, 128, 512] inb_S4x128x512_S1x128x512_0_0_0))⟩]

/-- The state written out at a last chunk. -/
theorem last_out0_C_11 (c : Dev nD) (i : grid0.Coords) (arg2 : Memref sig .tc .vmem S1x128x3072 .f32) (harg2 : arg2.IsWhole) (arg3 : Memref sig .tc .vmem S1x128x2048 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x128x2048 .bf16) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (hc0 : ¬cond0_0 i) (hc1 : cond0_1 i)
    (x0 : Vec F S1x128x3072 .f32) (x1 : Vec F S1x128x2048 .f32) (x2 : Vec F S1x128x128 .f32) (x3 : Vec F S4x3072 .f32) (x4 : Vec F S1x3072 .f32) (x5 : Vec F S1x128 .f32) (x6 : Vec F S1x128 .f32) (x7 : Vec F S1x128 .f32) (x8 : Vec F S1x2048 .f32) (x9 : Vec F S128x2048 .bf16) (xs0 : Vec F S136x3072 .f32) (xs1 : Vec F S4x128x512 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = lastState (nextState (padded xs0 x0) x2 x3 x4 x5 x6 x7 x9 xs1 []) := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_C
  dsimp only
  sl_unfold_words
  simp only [View.readAt_eq_ld, View.readCov_eq_canon', Memref.IsWhole.read_unread]
  simp (disch := decide) only [read_overlay, ld_chunk xs0]
  rfl

end Cert.KernelIdeal.Ssd

end
-- ==== Proof.GroupValue.lean ====
module

public import proofs.«01_k».proof.Proof.ChunkValue
public import proofs.«01_k».proof.Proof.Cases

@[expose] public section

set_option maxRecDepth 16384

/-! The whole chunk at an index: the four groups' states and outputs, read at a state channel or an output channel. -/

noncomputable section

open Idealize.ShloMosaic Idealize.ShloMosaic.TcCoe Idealize.SL.Sem
open Idealize.ShloMosaic.Pipeline (Dat)

namespace Cert.KernelIdeal.Ssd

open Cert.KernelIdeal Cert.KernelIdeal.Gen Cert.Ssd

/-- One channel's state after a chunk, from the padded chunk. -/
def chunkNext (xp : Vec Ideal S136x3072 .f32) (x2 : Vec Ideal S1x128x128 .f32) (x3 : Vec Ideal S4x3072 .f32) (x4 : Vec Ideal S1x3072 .f32)
    (x5 x6 : Vec Ideal S1x128 .f32) (H : Fin 128 → EReal) (ch : Fin 2048) (n : Fin 128) : EReal :=
  next H (fun s n => cx xp x3 x4 s ⟨2048 + 128 * (ch.val / 512) + n.val, by omega⟩) (fun s => cx xp x3 x4 s ⟨ch.val, by omega⟩)
    (dtv x2 x5 ⟨ch.val / 64, by omega⟩) (dav x2 x5 x6 ⟨ch.val / 64, by omega⟩) n

/-- One channel's output before the norm, from the padded chunk. -/
def chunkMix (xp : Vec Ideal S136x3072 .f32) (x2 : Vec Ideal S1x128x128 .f32) (x3 : Vec Ideal S4x3072 .f32) (x4 : Vec Ideal S1x3072 .f32)
    (x5 x6 x7 : Vec Ideal S1x128 .f32) (H : Fin 128 → EReal) (ch : Fin 2048) (r : Fin 128) : EReal :=
  mix H (fun s n => cx xp x3 x4 s ⟨2048 + 128 * (ch.val / 512) + n.val, by omega⟩)
    (fun s n => cx xp x3 x4 s ⟨2560 + 128 * (ch.val / 512) + n.val, by omega⟩) (fun s => cx xp x3 x4 s ⟨ch.val, by omega⟩)
    (dtv x2 x5 ⟨ch.val / 64, by omega⟩) (dav x2 x5 x6 ⟨ch.val / 64, by omega⟩) (x7 (ix2 0 ⟨ch.val / 64, by omega⟩)) r

theorem chan_zero (q : Fin 512) : chan 0 q = ⟨q.val, by omega⟩ := Fin.ext (by show 512 * 0 + q.val = q.val; omega)

/-- The lane of channel `q` of group `g`. -/
def lane (g : Fin 4) (q : Fin 512) : Fin 128 := ⟨8 * g.val + q.val / 64, by omega⟩

theorem chan_lane (g : Fin 4) (q : Fin 512) (h) : (⟨(chan g q).val / 64, h⟩ : Fin 128) = lane g q :=
  Fin.ext (by show (512 * g.val + q.val) / 64 = 8 * g.val + q.val / 64; omega)

theorem chan_group (g : Fin 4) (q : Fin 512) : (chan g q).val / 512 = g.val := by
  show (512 * g.val + q.val) / 512 = g.val
  omega

/-- A weight of the gate, as the body's two halves of the convolution give it. -/
theorem pay29_at (c0 c1 : FVec Ideal S128x128 .f32) (r n : Fin 128) : k0_pay29 c0 c1 (ix2 r n) = silu (c0 (ix2 r n) + c1 (ix2 r n)) := by
  pointwise [k0_pay29]
  rfl

section

variable (xp : Vec Ideal S136x3072 .f32) (x1 : Vec Ideal S1x128x2048 .f32) (x2 : Vec Ideal S1x128x128 .f32) (x3 : Vec Ideal S4x3072 .f32)
  (x4 : Vec Ideal S1x3072 .f32) (x5 x6 x7 : Vec Ideal S1x128 .f32) (x8 : Vec Ideal S1x2048 .f32) (x9 : Vec Ideal S128x2048 .bf16)
  (ht : Vec Ideal S4x128x512 .f32)
  (hE : ∀ (k : Fin 128) (ch : Fin 2048), x9 (ix2 k ch) = if k.val = ch.val / 64 then (1 : EReal) else 0)
  (hx : ∀ (s l : Fin 128), l.val < 32 → x2 (ix3 0 s l) + x5 (ix2 0 l) ≠ ⊤)

/-! Group 0. -/

theorem xs0_at (r : Fin 128) (q : Fin 512) : xs0 xp x3 x4 (ix2 r q) = cx xp x3 x4 r ⟨(chan 0 q).val, by omega⟩ := by
  pointwise [xs0, k0_pay24]
  first
    | rfl
    | (simp only [chan_zero]
       rfl)

theorem bg0_at (r n : Fin 128) : bg0 xp x3 x4 (ix2 r n) = cx xp x3 x4 r ⟨2048 + 128 * 0 + n.val, by omega⟩ := by
  pointwise [bg0, k0_pay26, k0_pay25]
  rfl

theorem cg0_at (r n : Fin 128) : k0_pay29 (ca0 xp x3 x4) (cl0 xp x3) (ix2 r n) = cx xp x3 x4 r ⟨2560 + 128 * 0 + n.val, by omega⟩ := by
  rw [pay29_at]
  pointwise [ca0, cl0, k0_pay27, k0_pay28]
  rfl

include hE in
theorem e0_at (k : Fin 128) (q : Fin 512) :
    (View.ld x9 (Rect.unit ![0, 0] S128x512.size inb_S128x2048_S128x512_0_0) : Vec Ideal S128x512 .bf16) (ix2 k q)
      = if k = lane 0 q then (1 : EReal) else 0 := by
  have h := hE k (chan 0 q)
  have hl : (k.val = (chan 0 q).val / 64) = (k = lane 0 q) := by
    rw [Fin.ext_iff]
    show (k.val = (512 * 0 + q.val) / 64) = (k.val = 8 * 0 + q.val / 64)
    congr 1
    omega
  simp only [hl] at h
  rw [← h]
  pointwise
  first
    | rfl
    | rw [chan_zero]

include hE hx in
theorem state0_at (n : Fin 128) (q : Fin 512) :
    state0 xp x2 x3 x4 x5 x6 x7 x9 ht (ix3 0 n q) = chunkNext xp x2 x3 x4 x5 x6 (fun n => ht (ix3 0 n q)) (chan 0 q) n := by
  unfold state0
  rw [groupState_at x2 x5 x6 x7 _ q (lane 0 q) (fun k => e0_at x9 hE k q)
    (fun s => hx s _ (by show 8 * 0 + q.val / 64 < 32; omega))]
  unfold chunkNext
  simp only [chan_lane, chan_group, xs0_at, bg0_at]
  congr 1
  funext n
  pointwise

include hE hx in
theorem out0_at (r : Fin 128) (q : Fin 512) :
    out0 xp x1 x2 x3 x4 x5 x6 x7 x8 x9 ht (ix3 0 r q)
      = normed (fun k => chunkMix xp x2 x3 x4 x5 x6 x7 (fun n => ht (ix3 0 n k)) (chan 0 k) r * silu (x1 (ix3 0 r (chan 0 k)))) q
        * x8 (ix2 0 (chan 0 q)) := by
  unfold out0
  rw [groupOut_at x2 x5 x6 x7 _ _ _ _ _ _ _ _ _ _ (lane 0) (fun k q => e0_at x9 hE k q)
    (fun q s => hx s _ (by show 8 * 0 + q.val / 64 < 32; omega)) (fun q r => ?_) (fun q r => ?_)]
  · unfold chunkMix
    simp only [chan_lane, chan_group, xs0_at, bg0_at, cg0_at]
    congr 2
    · funext k
      congr 1
      · congr 1
        funext n
        pointwise
      · congr 1
        pointwise
        first
          | rfl
          | rw [chan_zero]
    · pointwise
      first
        | rfl
        | rw [chan_zero]
  · obtain ⟨j, p, rfl⟩ : ∃ (j : Fin 8) (p : Fin 64), q = ⟨64 * j.val + p.val, by omega⟩ :=
      ⟨⟨q.val / 64, by omega⟩, ⟨q.val % 64, by omega⟩, Fin.ext (by simp; omega)⟩
    have hj : ∀ h, (⟨(64 * j.val + p.val) / 64, h⟩ : Fin 8) = j := fun h => Fin.ext (by simp; omega)
    have hl : lane 0 ⟨64 * j.val + p.val, by omega⟩ = ⟨8 * 0 + j.val, by omega⟩ :=
      Fin.ext (by show 8 * 0 + (64 * j.val + p.val) / 64 = _; simp; omega)
    rw [hj, hl]
    clear hj hl
    generalize cumv x2 x5 x6 = v
    fin_cases j
    all_goals
      simp only [List.Vector, Matrix.cons_val]
      pointwise
      try rfl
  · obtain ⟨j, p, rfl⟩ : ∃ (j : Fin 8) (p : Fin 64), q = ⟨64 * j.val + p.val, by omega⟩ :=
      ⟨⟨q.val / 64, by omega⟩, ⟨q.val % 64, by omega⟩, Fin.ext (by simp; omega)⟩
    have hj : ∀ h, (⟨(64 * j.val + p.val) / 64, h⟩ : Fin 8) = j := fun h => Fin.ext (by simp; omega)
    have hl : lane 0 ⟨64 * j.val + p.val, by omega⟩ = ⟨8 * 0 + j.val, by omega⟩ :=
      Fin.ext (by show 8 * 0 + (64 * j.val + p.val) / 64 = _; simp; omega)
    rw [hj, hl]
    clear hj hl
    generalize cumv x2 x5 x6 = v
    fin_cases j
    all_goals
      simp only [List.Vector, Matrix.cons_val]
      pointwise
      try rfl

/-! Group 1. -/

theorem xs1_at (r : Fin 128) (q : Fin 512) : xs1 xp x3 x4 (ix2 r q) = cx xp x3 x4 r ⟨(chan 1 q).val, by omega⟩ := by
  pointwise [xs1, k0_pay24]
  first
    | rfl
    | (simp only [chan_zero]
       rfl)

theorem bg1_at (r n : Fin 128) : bg1 xp x3 x4 (ix2 r n) = cx xp x3 x4 r ⟨2048 + 128 * 1 + n.val, by omega⟩ := by
  pointwise [bg1, k0_pay26, k0_pay25]
  rfl

theorem cg1_at (r n : Fin 128) : k0_pay29 (ca1 xp x3 x4) (cl1 xp x3) (ix2 r n) = cx xp x3 x4 r ⟨2560 + 128 * 1 + n.val, by omega⟩ := by
  rw [pay29_at]
  pointwise [ca1, cl1, k0_pay27, k0_pay28]
  rfl

include hE in
theorem e1_at (k : Fin 128) (q : Fin 512) :
    (View.ld x9 (Rect.unit ![0, 512] S128x512.size inb_S128x2048_S128x512_0_512) : Vec Ideal S128x512 .bf16) (ix2 k q)
      = if k = lane 1 q then (1 : EReal) else 0 := by
  have h := hE k (chan 1 q)
  have hl : (k.val = (chan 1 q).val / 64) = (k = lane 1 q) := by
    rw [Fin.ext_iff]
    show (k.val = (512 * 1 + q.val) / 64) = (k.val = 8 * 1 + q.val / 64)
    congr 1
    omega
  simp only [hl] at h
  rw [← h]
  pointwise
  first
    | rfl
    | rw [chan_zero]

include hE hx in
theorem state1_at (n : Fin 128) (q : Fin 512) :
    state1 xp x2 x3 x4 x5 x6 x7 x9 ht (ix3 0 n q) = chunkNext xp x2 x3 x4 x5 x6 (fun n => ht (ix3 1 n q)) (chan 1 q) n := by
  unfold state1
  rw [groupState_at x2 x5 x6 x7 _ q (lane 1 q) (fun k => e1_at x9 hE k q)
    (fun s => hx s _ (by show 8 * 1 + q.val / 64 < 32; omega))]
  unfold chunkNext
  simp only [chan_lane, chan_group, xs1_at, bg1_at]
  congr 1
  funext n
  pointwise

include hE hx in
theorem out1_at (r : Fin 128) (q : Fin 512) :
    out1 xp x1 x2 x3 x4 x5 x6 x7 x8 x9 ht (ix3 0 r q)
      = normed (fun k => chunkMix xp x2 x3 x4 x5 x6 x7 (fun n => ht (ix3 1 n k)) (chan 1 k) r * silu (x1 (ix3 0 r (chan 1 k)))) q
        * x8 (ix2 0 (chan 1 q)) := by
  unfold out1
  rw [groupOut_at x2 x5 x6 x7 _ _ _ _ _ _ _ _ _ _ (lane 1) (fun k q => e1_at x9 hE k q)
    (fun q s => hx s _ (by show 8 * 1 + q.val / 64 < 32; omega)) (fun q r => ?_) (fun q r => ?_)]
  · unfold chunkMix
    simp only [chan_lane, chan_group, xs1_at, bg1_at, cg1_at]
    congr 2
    · funext k
      congr 1
      · congr 1
        funext n
        pointwise
      · congr 1
        pointwise
        first
          | rfl
          | rw [chan_zero]
    · pointwise
      first
        | rfl
        | rw [chan_zero]
  · obtain ⟨j, p, rfl⟩ : ∃ (j : Fin 8) (p : Fin 64), q = ⟨64 * j.val + p.val, by omega⟩ :=
      ⟨⟨q.val / 64, by omega⟩, ⟨q.val % 64, by omega⟩, Fin.ext (by simp; omega)⟩
    have hj : ∀ h, (⟨(64 * j.val + p.val) / 64, h⟩ : Fin 8) = j := fun h => Fin.ext (by simp; omega)
    have hl : lane 1 ⟨64 * j.val + p.val, by omega⟩ = ⟨8 * 1 + j.val, by omega⟩ :=
      Fin.ext (by show 8 * 1 + (64 * j.val + p.val) / 64 = _; simp; omega)
    rw [hj, hl]
    clear hj hl
    generalize cumv x2 x5 x6 = v
    fin_cases j
    all_goals
      simp only [List.Vector, Matrix.cons_val]
      pointwise
      try rfl
  · obtain ⟨j, p, rfl⟩ : ∃ (j : Fin 8) (p : Fin 64), q = ⟨64 * j.val + p.val, by omega⟩ :=
      ⟨⟨q.val / 64, by omega⟩, ⟨q.val % 64, by omega⟩, Fin.ext (by simp; omega)⟩
    have hj : ∀ h, (⟨(64 * j.val + p.val) / 64, h⟩ : Fin 8) = j := fun h => Fin.ext (by simp; omega)
    have hl : lane 1 ⟨64 * j.val + p.val, by omega⟩ = ⟨8 * 1 + j.val, by omega⟩ :=
      Fin.ext (by show 8 * 1 + (64 * j.val + p.val) / 64 = _; simp; omega)
    rw [hj, hl]
    clear hj hl
    generalize cumv x2 x5 x6 = v
    fin_cases j
    all_goals
      simp only [List.Vector, Matrix.cons_val]
      pointwise
      try rfl

/-! Group 2. -/

theorem xs2_at (r : Fin 128) (q : Fin 512) : xs2 xp x3 x4 (ix2 r q) = cx xp x3 x4 r ⟨(chan 2 q).val, by omega⟩ := by
  pointwise [xs2, k0_pay24]
  first
    | rfl
    | (simp only [chan_zero]
       rfl)

theorem bg2_at (r n : Fin 128) : bg2 xp x3 x4 (ix2 r n) = cx xp x3 x4 r ⟨2048 + 128 * 2 + n.val, by omega⟩ := by
  pointwise [bg2, k0_pay26, k0_pay25]
  rfl

theorem cg2_at (r n : Fin 128) : k0_pay29 (ca2 xp x3 x4) (cl2 xp x3) (ix2 r n) = cx xp x3 x4 r ⟨2560 + 128 * 2 + n.val, by omega⟩ := by
  rw [pay29_at]
  pointwise [ca2, cl2, k0_pay27, k0_pay28]
  rfl

include hE in
theorem e2_at (k : Fin 128) (q : Fin 512) :
    (View.ld x9 (Rect.unit ![0, 1024] S128x512.size inb_S128x2048_S128x512_0_1024) : Vec Ideal S128x512 .bf16) (ix2 k q)
      = if k = lane 2 q then (1 : EReal) else 0 := by
  have h := hE k (chan 2 q)
  have hl : (k.val = (chan 2 q).val / 64) = (k = lane 2 q) := by
    rw [Fin.ext_iff]
    show (k.val = (512 * 2 + q.val) / 64) = (k.val = 8 * 2 + q.val / 64)
    congr 1
    omega
  simp only [hl] at h
  rw [← h]
  pointwise
  first
    | rfl
    | rw [chan_zero]

include hE hx in
theorem state2_at (n : Fin 128) (q : Fin 512) :
    state2 xp x2 x3 x4 x5 x6 x7 x9 ht (ix3 0 n q) = chunkNext xp x2 x3 x4 x5 x6 (fun n => ht (ix3 2 n q)) (chan 2 q) n := by
  unfold state2
  rw [groupState_at x2 x5 x6 x7 _ q (lane 2 q) (fun k => e2_at x9 hE k q)
    (fun s => hx s _ (by show 8 * 2 + q.val / 64 < 32; omega))]
  unfold chunkNext
  simp only [chan_lane, chan_group, xs2_at, bg2_at]
  congr 1
  funext n
  pointwise

include hE hx in
theorem out2_at (r : Fin 128) (q : Fin 512) :
    out2 xp x1 x2 x3 x4 x5 x6 x7 x8 x9 ht (ix3 0 r q)
      = normed (fun k => chunkMix xp x2 x3 x4 x5 x6 x7 (fun n => ht (ix3 2 n k)) (chan 2 k) r * silu (x1 (ix3 0 r (chan 2 k)))) q
        * x8 (ix2 0 (chan 2 q)) := by
  unfold out2
  rw [groupOut_at x2 x5 x6 x7 _ _ _ _ _ _ _ _ _ _ (lane 2) (fun k q => e2_at x9 hE k q)
    (fun q s => hx s _ (by show 8 * 2 + q.val / 64 < 32; omega)) (fun q r => ?_) (fun q r => ?_)]
  · unfold chunkMix
    simp only [chan_lane, chan_group, xs2_at, bg2_at, cg2_at]
    congr 2
    · funext k
      congr 1
      · congr 1
        funext n
        pointwise
      · congr 1
        pointwise
        first
          | rfl
          | rw [chan_zero]
    · pointwise
      first
        | rfl
        | rw [chan_zero]
  · obtain ⟨j, p, rfl⟩ : ∃ (j : Fin 8) (p : Fin 64), q = ⟨64 * j.val + p.val, by omega⟩ :=
      ⟨⟨q.val / 64, by omega⟩, ⟨q.val % 64, by omega⟩, Fin.ext (by simp; omega)⟩
    have hj : ∀ h, (⟨(64 * j.val + p.val) / 64, h⟩ : Fin 8) = j := fun h => Fin.ext (by simp; omega)
    have hl : lane 2 ⟨64 * j.val + p.val, by omega⟩ = ⟨8 * 2 + j.val, by omega⟩ :=
      Fin.ext (by show 8 * 2 + (64 * j.val + p.val) / 64 = _; simp; omega)
    rw [hj, hl]
    clear hj hl
    generalize cumv x2 x5 x6 = v
    fin_cases j
    all_goals
      simp only [List.Vector, Matrix.cons_val]
      pointwise
      try rfl
  · obtain ⟨j, p, rfl⟩ : ∃ (j : Fin 8) (p : Fin 64), q = ⟨64 * j.val + p.val, by omega⟩ :=
      ⟨⟨q.val / 64, by omega⟩, ⟨q.val % 64, by omega⟩, Fin.ext (by simp; omega)⟩
    have hj : ∀ h, (⟨(64 * j.val + p.val) / 64, h⟩ : Fin 8) = j := fun h => Fin.ext (by simp; omega)
    have hl : lane 2 ⟨64 * j.val + p.val, by omega⟩ = ⟨8 * 2 + j.val, by omega⟩ :=
      Fin.ext (by show 8 * 2 + (64 * j.val + p.val) / 64 = _; simp; omega)
    rw [hj, hl]
    clear hj hl
    generalize cumv x2 x5 x6 = v
    fin_cases j
    all_goals
      simp only [List.Vector, Matrix.cons_val]
      pointwise
      try rfl

/-! Group 3. -/

theorem xs3_at (r : Fin 128) (q : Fin 512) : xs3 xp x3 x4 (ix2 r q) = cx xp x3 x4 r ⟨(chan 3 q).val, by omega⟩ := by
  pointwise [xs3, k0_pay24]
  first
    | rfl
    | (simp only [chan_zero]
       rfl)

theorem bg3_at (r n : Fin 128) : bg3 xp x3 x4 (ix2 r n) = cx xp x3 x4 r ⟨2048 + 128 * 3 + n.val, by omega⟩ := by
  pointwise [bg3, k0_pay26, k0_pay25]
  rfl

theorem cg3_at (r n : Fin 128) : k0_pay29 (ca3 xp x3 x4) (cl3 xp x3) (ix2 r n) = cx xp x3 x4 r ⟨2560 + 128 * 3 + n.val, by omega⟩ := by
  rw [pay29_at]
  pointwise [ca3, cl3, k0_pay27, k0_pay28]
  rfl

include hE in
theorem e3_at (k : Fin 128) (q : Fin 512) :
    (View.ld x9 (Rect.unit ![0, 1536] S128x512.size inb_S128x2048_S128x512_0_1536) : Vec Ideal S128x512 .bf16) (ix2 k q)
      = if k = lane 3 q then (1 : EReal) else 0 := by
  have h := hE k (chan 3 q)
  have hl : (k.val = (chan 3 q).val / 64) = (k = lane 3 q) := by
    rw [Fin.ext_iff]
    show (k.val = (512 * 3 + q.val) / 64) = (k.val = 8 * 3 + q.val / 64)
    congr 1
    omega
  simp only [hl] at h
  rw [← h]
  pointwise
  first
    | rfl
    | rw [chan_zero]

include hE hx in
theorem state3_at (n : Fin 128) (q : Fin 512) :
    state3 xp x2 x3 x4 x5 x6 x7 x9 ht (ix3 0 n q) = chunkNext xp x2 x3 x4 x5 x6 (fun n => ht (ix3 3 n q)) (chan 3 q) n := by
  unfold state3
  rw [groupState_at x2 x5 x6 x7 _ q (lane 3 q) (fun k => e3_at x9 hE k q)
    (fun s => hx s _ (by show 8 * 3 + q.val / 64 < 32; omega))]
  unfold chunkNext
  simp only [chan_lane, chan_group, xs3_at, bg3_at]
  congr 1
  funext n
  pointwise

include hE hx in
theorem out3_at (r : Fin 128) (q : Fin 512) :
    out3 xp x1 x2 x3 x4 x5 x6 x7 x8 x9 ht (ix3 0 r q)
      = normed (fun k => chunkMix xp x2 x3 x4 x5 x6 x7 (fun n => ht (ix3 3 n k)) (chan 3 k) r * silu (x1 (ix3 0 r (chan 3 k)))) q
        * x8 (ix2 0 (chan 3 q)) := by
  unfold out3
  rw [groupOut_at x2 x5 x6 x7 _ _ _ _ _ _ _ _ _ _ (lane 3) (fun k q => e3_at x9 hE k q)
    (fun q s => hx s _ (by show 8 * 3 + q.val / 64 < 32; omega)) (fun q r => ?_) (fun q r => ?_)]
  · unfold chunkMix
    simp only [chan_lane, chan_group, xs3_at, bg3_at, cg3_at]
    congr 2
    · funext k
      congr 1
      · congr 1
        funext n
        pointwise
      · congr 1
        pointwise
        first
          | rfl
          | rw [chan_zero]
    · pointwise
      first
        | rfl
        | rw [chan_zero]
  · obtain ⟨j, p, rfl⟩ : ∃ (j : Fin 8) (p : Fin 64), q = ⟨64 * j.val + p.val, by omega⟩ :=
      ⟨⟨q.val / 64, by omega⟩, ⟨q.val % 64, by omega⟩, Fin.ext (by simp; omega)⟩
    have hj : ∀ h, (⟨(64 * j.val + p.val) / 64, h⟩ : Fin 8) = j := fun h => Fin.ext (by simp; omega)
    have hl : lane 3 ⟨64 * j.val + p.val, by omega⟩ = ⟨8 * 3 + j.val, by omega⟩ :=
      Fin.ext (by show 8 * 3 + (64 * j.val + p.val) / 64 = _; simp; omega)
    rw [hj, hl]
    clear hj hl
    generalize cumv x2 x5 x6 = v
    fin_cases j
    all_goals
      simp only [List.Vector, Matrix.cons_val]
      pointwise
      try rfl
  · obtain ⟨j, p, rfl⟩ : ∃ (j : Fin 8) (p : Fin 64), q = ⟨64 * j.val + p.val, by omega⟩ :=
      ⟨⟨q.val / 64, by omega⟩, ⟨q.val % 64, by omega⟩, Fin.ext (by simp; omega)⟩
    have hj : ∀ h, (⟨(64 * j.val + p.val) / 64, h⟩ : Fin 8) = j := fun h => Fin.ext (by simp; omega)
    have hl : lane 3 ⟨64 * j.val + p.val, by omega⟩ = ⟨8 * 3 + j.val, by omega⟩ :=
      Fin.ext (by show 8 * 3 + (64 * j.val + p.val) / 64 = _; simp; omega)
    rw [hj, hl]
    clear hj hl
    generalize cumv x2 x5 x6 = v
    fin_cases j
    all_goals
      simp only [List.Vector, Matrix.cons_val]
      pointwise
      try rfl

/-! ## The whole chunk -/

/-- A store of a group's state, read at that group. -/
theorem hit_state (g : ℕ) (w : (⟨3, ![1, 128, 512]⟩ : Shape).Idx → Elt Ideal .f32) (L : List (View.Piece (Elt Ideal) S4x128x512 .f32))
    (inb : ∀ i, (![g, 0, 0] : Fin 3 → ℕ) i + (![1, 128, 512] : Fin 3 → ℕ) i ≤ S4x128x512.size i)
    (j : (⟨3, ![1, 128, 512]⟩ : Shape).Idx) :
    View.canon (⟨Rect.unit (s := S4x128x512) ![g, 0, 0] ![1, 128, 512] inb, w⟩ :: L) ((Rect.unit (s := S4x128x512) ![g, 0, 0] ![1, 128, 512] inb).idx j)
      = w j := View.canon_cons_emb _ _ _ _

theorem at_state (g : Fin 4) (n : Fin 128) (q : Fin 512)
    (inb : ∀ i, (![g.val, 0, 0] : Fin 3 → ℕ) i + (![1, 128, 512] : Fin 3 → ℕ) i ≤ S4x128x512.size i) :
    (ix3 g n q : S4x128x512.Idx) = (Rect.unit (s := S4x128x512) ![g.val, 0, 0] ![1, 128, 512] inb).idx (ix3 0 n q) := by
  funext a
  fin_cases a
  · exact Fin.ext (by simp [LoadRect.idx])
  · exact Fin.ext (by simp [LoadRect.idx])
  · exact Fin.ext (by simp [LoadRect.idx])

include hE hx in
/-- The state after the chunk at group `g`, state index `n`, channel `q` of the group. -/
theorem nextState_at (L : List (View.Piece (Elt Ideal) S4x128x512 .f32)) (g : Fin 4) (n : Fin 128) (q : Fin 512) :
    nextState xp x2 x3 x4 x5 x6 x7 x9 ht L (ix3 g n q) = chunkNext xp x2 x3 x4 x5 x6 (fun n => ht (ix3 g n q)) (chan g q) n := by
  have hg : g = 0 ∨ g = 1 ∨ g = 2 ∨ g = 3 := by
    fin_cases g <;> simp
  rcases hg with rfl | rfl | rfl | rfl
  · rw [← state0_at xp x2 x3 x4 x5 x6 x7 x9 ht hE hx n q]
    unfold nextState
    generalize state0 xp x2 x3 x4 x5 x6 x7 x9 ht = w
    rw [show (ix3 0 n q : S4x128x512.Idx) = (Rect.unit (s := S4x128x512) ![0, 0, 0] ![1, 128, 512] inb_S4x128x512_S1x128x512_0_0_0).idx (ix3 0 n q) from at_state 0 n q _]
    simp (disch := decide) only [skip_state (F := Ideal)]
    exact hit_state _ w _ _ (ix3 0 n q)
  · rw [← state1_at xp x2 x3 x4 x5 x6 x7 x9 ht hE hx n q]
    unfold nextState
    generalize state1 xp x2 x3 x4 x5 x6 x7 x9 ht = w
    rw [show (ix3 1 n q : S4x128x512.Idx) = (Rect.unit (s := S4x128x512) ![1, 0, 0] ![1, 128, 512] inb_S4x128x512_S1x128x512_1_0_0).idx (ix3 0 n q) from at_state 1 n q _]
    simp (disch := decide) only [skip_state (F := Ideal)]
    exact hit_state _ w _ _ (ix3 0 n q)
  · rw [← state2_at xp x2 x3 x4 x5 x6 x7 x9 ht hE hx n q]
    unfold nextState
    generalize state2 xp x2 x3 x4 x5 x6 x7 x9 ht = w
    rw [show (ix3 2 n q : S4x128x512.Idx) = (Rect.unit (s := S4x128x512) ![2, 0, 0] ![1, 128, 512] inb_S4x128x512_S1x128x512_2_0_0).idx (ix3 0 n q) from at_state 2 n q _]
    simp (disch := decide) only [skip_state (F := Ideal)]
    exact hit_state _ w _ _ (ix3 0 n q)
  · rw [← state3_at xp x2 x3 x4 x5 x6 x7 x9 ht hE hx n q]
    unfold nextState
    generalize state3 xp x2 x3 x4 x5 x6 x7 x9 ht = w
    rw [show (ix3 3 n q : S4x128x512.Idx) = (Rect.unit (s := S4x128x512) ![3, 0, 0] ![1, 128, 512] inb_S4x128x512_S1x128x512_3_0_0).idx (ix3 0 n q) from at_state 3 n q _]
    exact hit_state _ w _ _ (ix3 0 n q)

/-- A store of a group's columns, read at that group, -/
theorem hit_cols (o : ℕ) (w : (⟨3, ![1, 128, 512]⟩ : Shape).Idx → Elt Ideal .bf16) (L : List (View.Piece (Elt Ideal) S1x128x2048 .bf16))
    (inb : ∀ i, (![0, 0, o] : Fin 3 → ℕ) i + (![1, 128, 512] : Fin 3 → ℕ) i ≤ S1x128x2048.size i)
    (j : (⟨3, ![1, 128, 512]⟩ : Shape).Idx) :
    View.canon (⟨Rect.unit (s := S1x128x2048) ![0, 0, o] ![1, 128, 512] inb, w⟩ :: L) ((Rect.unit (s := S1x128x2048) ![0, 0, o] ![1, 128, 512] inb).idx j)
      = w j := View.canon_cons_emb _ _ _ _

/-- and at a group before it. -/
theorem skip_cols (o o' : ℕ) (w : (⟨3, ![1, 128, 512]⟩ : Shape).Idx → Elt Ideal .bf16) (L : List (View.Piece (Elt Ideal) S1x128x2048 .bf16))
    (inb : ∀ i, (![0, 0, o] : Fin 3 → ℕ) i + (![1, 128, 512] : Fin 3 → ℕ) i ≤ S1x128x2048.size i)
    (inb' : ∀ i, (![0, 0, o'] : Fin 3 → ℕ) i + (![1, 128, 512] : Fin 3 → ℕ) i ≤ S1x128x2048.size i) (ho : o + 512 ≤ o')
    (j : (⟨3, ![1, 128, 512]⟩ : Shape).Idx) :
    View.canon (⟨Rect.unit (s := S1x128x2048) ![0, 0, o'] ![1, 128, 512] inb', w⟩ :: L) ((Rect.unit (s := S1x128x2048) ![0, 0, o] ![1, 128, 512] inb).idx j)
      = View.canon L ((Rect.unit (s := S1x128x2048) ![0, 0, o] ![1, 128, 512] inb).idx j) := by
  refine View.canon_cons_of_not_mem _ _ fun h => ?_
  rw [Rect.mem_set_unit] at h
  have h0 := h 2
  have j0 := (j 2).isLt
  simp [LoadRect.idx] at h0 j0
  omega

theorem at_cols (g : Fin 4) (r : Fin 128) (q : Fin 512)
    (inb : ∀ i, (![0, 0, 512 * g.val] : Fin 3 → ℕ) i + (![1, 128, 512] : Fin 3 → ℕ) i ≤ S1x128x2048.size i) :
    (ix3 0 r (chan g q) : S1x128x2048.Idx) = (Rect.unit (s := S1x128x2048) ![0, 0, 512 * g.val] ![1, 128, 512] inb).idx (ix3 0 r q) := by
  funext a
  fin_cases a
  · exact Fin.ext (by simp [LoadRect.idx])
  · exact Fin.ext (by simp [LoadRect.idx])
  · exact Fin.ext (by simp [LoadRect.idx, chan])

include hE hx in
/-- The output block at row `r`, channel `q` of group `g`. -/
theorem outBlock_at (r : Fin 128) (g : Fin 4) (q : Fin 512) :
    outBlock xp x1 x2 x3 x4 x5 x6 x7 x8 x9 ht (ix3 0 r (chan g q))
      = normed (fun k => chunkMix xp x2 x3 x4 x5 x6 x7 (fun n => ht (ix3 g n k)) (chan g k) r * silu (x1 (ix3 0 r (chan g k)))) q
        * x8 (ix2 0 (chan g q)) := by
  have hg : g = 0 ∨ g = 1 ∨ g = 2 ∨ g = 3 := by
    fin_cases g <;> simp
  rcases hg with rfl | rfl | rfl | rfl
  · rw [← out0_at xp x1 x2 x3 x4 x5 x6 x7 x8 x9 ht hE hx r q]
    unfold outBlock
    generalize out0 xp x1 x2 x3 x4 x5 x6 x7 x8 x9 ht = w
    rw [show (ix3 0 r (chan 0 q) : S1x128x2048.Idx) = (Rect.unit (s := S1x128x2048) ![0, 0, 0] ![1, 128, 512] inb_S1x128x2048_S1x128x512_0_0_0).idx (ix3 0 r q) from at_cols 0 r q _]
    simp (disch := decide) only [skip_cols]
    exact hit_cols _ w _ _ (ix3 0 r q)
  · rw [← out1_at xp x1 x2 x3 x4 x5 x6 x7 x8 x9 ht hE hx r q]
    unfold outBlock
    generalize out1 xp x1 x2 x3 x4 x5 x6 x7 x8 x9 ht = w
    rw [show (ix3 0 r (chan 1 q) : S1x128x2048.Idx) = (Rect.unit (s := S1x128x2048) ![0, 0, 512] ![1, 128, 512] inb_S1x128x2048_S1x128x512_0_0_512).idx (ix3 0 r q) from at_cols 1 r q _]
    simp (disch := decide) only [skip_cols]
    exact hit_cols _ w _ _ (ix3 0 r q)
  · rw [← out2_at xp x1 x2 x3 x4 x5 x6 x7 x8 x9 ht hE hx r q]
    unfold outBlock
    generalize out2 xp x1 x2 x3 x4 x5 x6 x7 x8 x9 ht = w
    rw [show (ix3 0 r (chan 2 q) : S1x128x2048.Idx) = (Rect.unit (s := S1x128x2048) ![0, 0, 1024] ![1, 128, 512] inb_S1x128x2048_S1x128x512_0_0_1024).idx (ix3 0 r q) from at_cols 2 r q _]
    simp (disch := decide) only [skip_cols]
    exact hit_cols _ w _ _ (ix3 0 r q)
  · rw [← out3_at xp x1 x2 x3 x4 x5 x6 x7 x8 x9 ht hE hx r q]
    unfold outBlock
    generalize out3 xp x1 x2 x3 x4 x5 x6 x7 x8 x9 ht = w
    rw [show (ix3 0 r (chan 3 q) : S1x128x2048.Idx) = (Rect.unit (s := S1x128x2048) ![0, 0, 1536] ![1, 128, 512] inb_S1x128x2048_S1x128x512_0_0_1536).idx (ix3 0 r q) from at_cols 3 r q _]
    exact hit_cols _ w _ _ (ix3 0 r q)

end

end Cert.KernelIdeal.Ssd

end
-- ==== Proof.Inputs.lean ====
module

public import proofs.«01_k».proof.Proof.GroupValue

@[expose] public section

set_option maxRecDepth 16384

/-! What the body finds in its input blocks at a grid point: the chunk's rows of the arguments, the rows of constants, and
the matrix that spreads a head's lane over the head's channels. -/

noncomputable section

open Idealize.ShloMosaic Idealize.ShloMosaic.TcCoe Idealize.SL.Sem
open Idealize.ShloMosaic.Pipeline (Dat)

namespace Cert.KernelIdeal.Ssd

open Cert.KernelIdeal Cert.KernelIdeal.Gen Cert.Ssd

/-- The blocks of the windows, decided over the grid: the sequence and the chunk for the first three, the only block for the rest. -/
theorem index_facts : ∀ t : Fin cfg0.N, win0_0.index t = ![t.val / 64, t.val % 64, 0] ∧ win0_1.index t = ![t.val / 64, t.val % 64, 0]
    ∧ win0_2.index t = ![t.val / 64, t.val % 64, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] :=
  (by decide +kernel : ∀ t : Fin grid0.N, _)

variable (m : (ℓ : Loc nD τ sig) → Buf (Elt Ideal) ℓ) (c : Dev nD) (t : Fin cfg0.N)

theorem point_lt : t.val < 128 := lt_of_lt_of_eq t.isLt N_0

/-- The sequence and the first position of a grid point's chunk. -/
def seqOf : Fin 2 := ⟨t.val / 64, by have := point_lt t; omega⟩
def posOf (r : Fin 128) : Fin 8192 := ⟨128 * (t.val % 64) + r.val, by omega⟩

/-! ## What the host line prepares -/

/-- A row of per-head constants, filled up with zeros. -/
abbrev padRow (x : Vec Ideal S32 .f32) : Vec Ideal S1x128 .f32 :=
  shapeCast S1x128 (pad S128 ![0] ![96] ![0] x (sitofp (F := Ideal) .f32 (constantI S_ 32 0#32)) pads_S32_S128_0960 h_S_) shapeCasts_S128_S1x128

/-- The step sizes, zeros behind the 32 heads. -/
abbrev padSteps (x : Vec Ideal S2x8192x32 .f32) : Vec Ideal S2x8192x128 .f32 :=
  pad S2x8192x128 ![0, 0, 0] ![0, 0, 96] ![0, 0, 0] x (sitofp (F := Ideal) .f32 (constantI S_ 32 0#32)) pads_S2x8192x32_S2x8192x128_000_000_0960 h_S_

theorem host_v0 : V m c main_v0 = padSteps (m ((c : Thread nD τ).loc main_arg2)) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

theorem host_v1 : V m c main_v1 = (shapeCast S1x3072 (m ((c : Thread nD τ).loc main_arg4)) shapeCasts_S3072_S1x3072 : Vec Ideal S1x3072 .f32) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

theorem host_v3 : V m c main_v3 = padRow (m ((c : Thread nD τ).loc main_arg5)) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

theorem host_v5 : V m c main_v5 = padRow (m ((c : Thread nD τ).loc main_arg6)) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

theorem host_v7 : V m c main_v7 = padRow (m ((c : Thread nD τ).loc main_arg7)) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

theorem host_v8 : V m c main_v8 = (shapeCast S1x2048 (m ((c : Thread nD τ).loc main_arg8)) shapeCasts_S2048_S1x2048 : Vec Ideal S1x2048 .f32) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

theorem host_v15 : V m c main_v15 = (truncf (F := Ideal) .bf16 (select (cmpi .eq (iotaInDim S128x2048 32 0) (Host.shrsi (iotaInDim S128x2048 32 1) (broadcastInDim S128x2048 ![] bcast_S_S128x2048 (constantI S_ 32 6#32))))
      (broadcastInDim S128x2048 ![] bcast_S_S128x2048 (constant (F := Ideal) S_ .f32 0x3F800000#32)) (broadcastInDim S128x2048 ![] bcast_S_S128x2048 (constant (F := Ideal) S_ .f32 0x00000000#32))) bitsLt_bf16_f32 : Vec Ideal S128x2048 .bf16) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

/-! ## The blocks -/

theorem in4_at (ch : Fin 3072) :
    iblk m c 4 t (ix2 0 ch) = m ((c : Thread nD τ).loc main_arg4) (ix1 ch) := by
  have h := index_facts t
  have e : iblk m c 4 t (ix2 0 ch) = V m c main_v1 (ix2 0 ch) := by
    blk_ext [iblk, V, h]
  rw [e, host_v1]
  pointwise

theorem in8_at (ch : Fin 2048) :
    iblk m c 8 t (ix2 0 ch) = m ((c : Thread nD τ).loc main_arg8) (ix1 ch) := by
  have h := index_facts t
  have e : iblk m c 8 t (ix2 0 ch) = V m c main_v8 (ix2 0 ch) := by
    blk_ext [iblk, V, h]
  rw [e, host_v8]
  pointwise

theorem padSteps_at (x : Vec Ideal S2x8192x32 .f32) (b : Fin 2) (p : Fin 8192) (l : Fin 128) (hl : l.val < 32) :
    padSteps x (ix3 b p l) = x (ix3 b p ⟨l.val, hl⟩) := by
  pointwise [padSteps]
  rw [dif_pos hl]

theorem in2_at (r l : Fin 128) (hl : l.val < 32) :
    iblk m c 2 t (ix3 0 r l) = m ((c : Thread nD τ).loc main_arg2) (ix3 (seqOf t) (posOf t r) ⟨l.val, hl⟩) := by
  have h := index_facts t
  have e : iblk m c 2 t (ix3 0 r l) = V m c main_v0 (ix3 (seqOf t) (posOf t r) l) := by
    blk_ext [iblk, V, h, seqOf, posOf]
  rw [e, host_v0]
  exact padSteps_at _ _ _ l hl

theorem padRow_at (x : Vec Ideal S32 .f32) (l : Fin 128) (hl : l.val < 32) : padRow x (ix2 0 l) = x (ix1 ⟨l.val, hl⟩) := by
  pointwise [padRow]
  rw [dif_pos hl]

theorem in5_at (l : Fin 128) (hl : l.val < 32) :
    iblk m c 5 t (ix2 0 l) = m ((c : Thread nD τ).loc main_arg5) (ix1 ⟨l.val, hl⟩) := by
  have h := index_facts t
  have e : iblk m c 5 t (ix2 0 l) = V m c main_v3 (ix2 0 l) := by
    blk_ext [iblk, V, h]
  rw [e, host_v3]
  exact padRow_at _ l hl

theorem in6_at (l : Fin 128) (hl : l.val < 32) :
    iblk m c 6 t (ix2 0 l) = m ((c : Thread nD τ).loc main_arg6) (ix1 ⟨l.val, hl⟩) := by
  have h := index_facts t
  have e : iblk m c 6 t (ix2 0 l) = V m c main_v5 (ix2 0 l) := by
    blk_ext [iblk, V, h]
  rw [e, host_v5]
  exact padRow_at _ l hl

theorem in7_at (l : Fin 128) (hl : l.val < 32) :
    iblk m c 7 t (ix2 0 l) = m ((c : Thread nD τ).loc main_arg7) (ix1 ⟨l.val, hl⟩) := by
  have h := index_facts t
  have e : iblk m c 7 t (ix2 0 l) = V m c main_v7 (ix2 0 l) := by
    blk_ext [iblk, V, h]
  rw [e, host_v7]
  exact padRow_at _ l hl

/-- A channel's head, as the host line computes it. -/
theorem shift_at : ∀ ch : Fin 2048, IntOp.shrsi .host (BitVec.ofNat 32 ch.val) 6#32 = BitVec.ofNat 32 (ch.val / 64) := by
  decide +kernel

theorem in9_at (k : Fin 128) (ch : Fin 2048) :
    (iblk m c 9 t (ix2 k ch) : EReal) = if k.val = ch.val / 64 then (1 : EReal) else 0 := by
  have h := index_facts t
  have e : iblk m c 9 t (ix2 k ch) = V m c main_v15 (ix2 k ch) := by
    blk_ext [iblk, V, h]
  rw [e, host_v15]
  pointwise
  rw [shift_at, WordCmp.cmpi_eq_ofNat (by omega) (by omega), WordCmp.select_ofBool]
  simp only [decide_eq_true_eq]
theorem in0_at (r : Fin 128) (ch : Fin 3072) :
    iblk m c 0 t (ix3 0 r ch) = m ((c : Thread nD τ).loc main_arg0) (ix3 (seqOf t) (posOf t r) ch) := by
  have h := index_facts t
  blk_ext [iblk, V, h, seqOf, posOf]

theorem in1_at (r : Fin 128) (ch : Fin 2048) :
    iblk m c 1 t (ix3 0 r ch) = m ((c : Thread nD τ).loc main_arg1) (ix3 (seqOf t) (posOf t r) ch) := by
  have h := index_facts t
  blk_ext [iblk, V, h, seqOf, posOf]

theorem in3_at (k : Fin 4) (ch : Fin 3072) :
    iblk m c 3 t (ix2 k ch) = m ((c : Thread nD τ).loc main_arg3) (ix2 k ch) := by
  have h := index_facts t
  blk_ext [iblk, V, h, seqOf, posOf]

end Cert.KernelIdeal.Ssd

end
-- ==== Proof.Carry.lean ====
module

public import proofs.«01_k».proof.Proof.Inputs

@[expose] public section

set_option maxRecDepth 16384

/-! What passes from a chunk to the next, at an index: the padded chunk, the rows kept, the state written out. -/

noncomputable section

open Idealize.ShloMosaic Idealize.ShloMosaic.TcCoe Idealize.SL.Sem
open Idealize.ShloMosaic.Pipeline (Dat)

namespace Cert.KernelIdeal.Ssd

open Cert.KernelIdeal Cert.KernelIdeal.Gen Cert.Ssd

/-- A store of rows of the padded chunk, read at those rows. -/
theorem hit_rows (o n : ℕ) (w : (⟨2, ![n, 3072]⟩ : Shape).Idx → Elt Ideal .f32) (L : List (View.Piece (Elt Ideal) S136x3072 .f32))
    (inb : ∀ i, (![o, 0] : Fin 2 → ℕ) i + (![n, 3072] : Fin 2 → ℕ) i ≤ S136x3072.size i)
    (j : (⟨2, ![n, 3072]⟩ : Shape).Idx) :
    View.canon (⟨Rect.unit (s := S136x3072) ![o, 0] ![n, 3072] inb, w⟩ :: L) ((Rect.unit (s := S136x3072) ![o, 0] ![n, 3072] inb).idx j)
      = w j := View.canon_cons_emb _ _ _ _

theorem at_rows (o n : ℕ) (i : Fin n) (p : Fin 136) (ch : Fin 3072) (hp : p.val = o + i.val)
    (inb : ∀ i, (![o, 0] : Fin 2 → ℕ) i + (![n, 3072] : Fin 2 → ℕ) i ≤ S136x3072.size i) :
    (ix2 p ch : S136x3072.Idx) = (Rect.unit (s := S136x3072) ![o, 0] ![n, 3072] inb).idx (ix2 i ch) := by
  funext a
  fin_cases a
  · exact Fin.ext (by simp [LoadRect.idx, hp])
  · exact Fin.ext (by simp [LoadRect.idx])

theorem zero_word : (Scalar.ofBits (F := Ideal) .f32 0x00000000#32 : EReal) = 0 := by
  show Ideal.ofBits .f32 0x00000000#32 = 0
  simp [Ideal.ofBits, Ideal.ieee, -EReal.coe_mul]

/-- Before the first chunk the rows are zero, -/
theorem clearRows_at (i : Fin 136) (hi : i.val < 8) (ch : Fin 3072) : (clearRows (F := Ideal)) (ix2 i ch) = (0 : EReal) := by
  unfold clearRows
  rw [at_rows 0 8 ⟨i.val, hi⟩ i ch (by simp) inb_S136x3072_S8x3072_0_0, hit_rows 0 8]
  pointwise [k0_pay7]

/-- and so is the state. -/
theorem clearState_at (g : Fin 4) (n : Fin 128) (q : Fin 512) : (clearState (F := Ideal)) (ix3 g n q) = (0 : EReal) := by
  unfold clearState
  have e : (ix3 g n q : S4x128x512.Idx) = (Rect.unit (s := S4x128x512) ![0, 0, 0] ![4, 128, 512] inb_S4x128x512_S4x128x512_0_0_0).idx (ix3 g n q) := by
    funext a
    fin_cases a
    · exact Fin.ext (by simp [LoadRect.idx])
    · exact Fin.ext (by simp [LoadRect.idx])
    · exact Fin.ext (by simp [LoadRect.idx])
  rw [e]
  refine (View.canon_cons_emb _ _ _ _).trans ?_
  pointwise [k0_pay8]

/-- The padded chunk at the chunk's rows, -/
theorem padded_chunk (hist : Vec Ideal S136x3072 .f32) (x0 : Vec Ideal S1x128x3072 .f32) (p : Fin 136) (r : Fin 128) (hp : p.val = 8 + r.val)
    (ch : Fin 3072) : padded hist x0 (ix2 p ch) = x0 (ix3 0 r ch) := by
  unfold padded
  rw [at_rows 8 128 r p ch hp inb_S136x3072_S128x3072_8_0]
  refine (Rect.overlay_emb _ _ _ _).trans ?_
  pointwise [k0_pay9]

/-- and at the rows before it. -/
theorem padded_hist (hist : Vec Ideal S136x3072 .f32) (x0 : Vec Ideal S1x128x3072 .f32) (p : Fin 136) (hp : p.val < 8)
    (ch : Fin 3072) : padded hist x0 (ix2 p ch) = hist (ix2 p ch) := by
  unfold padded
  refine Rect.overlay_of_not_mem _ _ _ fun h => ?_
  rw [Rect.mem_set_unit] at h
  have h0 := (h 0).1
  simp at h0
  omega

/-- The rows kept are the chunk's last eight. -/
theorem nextRows_at (xp : Vec Ideal S136x3072 .f32) (L : List (View.Piece (Elt Ideal) S136x3072 .f32)) (i : Fin 136) (hi : i.val < 8)
    (ch : Fin 3072) : nextRows xp L (ix2 i ch) = xp (ix2 ⟨128 + i.val, by omega⟩ ch) := by
  unfold nextRows
  rw [at_rows 0 8 ⟨i.val, hi⟩ i ch (by simp) inb_S136x3072_S8x3072_0_0, hit_rows 0 8]
  pointwise [k0_pay2]

/-! The state written out. -/

theorem hit_out (o : ℕ) (w : (⟨3, ![1, 512, 128]⟩ : Shape).Idx → Elt Ideal .f32) (L : List (View.Piece (Elt Ideal) S1x2048x128 .f32))
    (inb : ∀ i, (![0, o, 0] : Fin 3 → ℕ) i + (![1, 512, 128] : Fin 3 → ℕ) i ≤ S1x2048x128.size i)
    (j : (⟨3, ![1, 512, 128]⟩ : Shape).Idx) :
    View.canon (⟨Rect.unit (s := S1x2048x128) ![0, o, 0] ![1, 512, 128] inb, w⟩ :: L) ((Rect.unit (s := S1x2048x128) ![0, o, 0] ![1, 512, 128] inb).idx j)
      = w j := View.canon_cons_emb _ _ _ _

theorem skip_out (o o' : ℕ) (w : (⟨3, ![1, 512, 128]⟩ : Shape).Idx → Elt Ideal .f32) (L : List (View.Piece (Elt Ideal) S1x2048x128 .f32))
    (inb : ∀ i, (![0, o, 0] : Fin 3 → ℕ) i + (![1, 512, 128] : Fin 3 → ℕ) i ≤ S1x2048x128.size i)
    (inb' : ∀ i, (![0, o', 0] : Fin 3 → ℕ) i + (![1, 512, 128] : Fin 3 → ℕ) i ≤ S1x2048x128.size i) (ho : o + 512 ≤ o')
    (j : (⟨3, ![1, 512, 128]⟩ : Shape).Idx) :
    View.canon (⟨Rect.unit (s := S1x2048x128) ![0, o', 0] ![1, 512, 128] inb', w⟩ :: L) ((Rect.unit (s := S1x2048x128) ![0, o, 0] ![1, 512, 128] inb).idx j)
      = View.canon L ((Rect.unit (s := S1x2048x128) ![0, o, 0] ![1, 512, 128] inb).idx j) := by
  refine View.canon_cons_of_not_mem _ _ fun h => ?_
  rw [Rect.mem_set_unit] at h
  have h0 := h 1
  have j0 := (j 1).isLt
  simp [LoadRect.idx] at h0 j0
  omega

theorem at_out (g : Fin 4) (q : Fin 512) (n : Fin 128)
    (inb : ∀ i, (![0, 512 * g.val, 0] : Fin 3 → ℕ) i + (![1, 512, 128] : Fin 3 → ℕ) i ≤ S1x2048x128.size i) :
    (ix3 0 (chan g q) n : S1x2048x128.Idx) = (Rect.unit (s := S1x2048x128) ![0, 512 * g.val, 0] ![1, 512, 128] inb).idx (ix3 0 q n) := by
  funext a
  fin_cases a
  · exact Fin.ext (by simp [LoadRect.idx])
  · exact Fin.ext (by simp [LoadRect.idx, chan])
  · exact Fin.ext (by simp [LoadRect.idx])

/-- The state written out, at a channel and a state index. -/
theorem lastState_at (H : Vec Ideal S4x128x512 .f32) (g : Fin 4) (q : Fin 512) (n : Fin 128) :
    lastState H (ix3 0 (chan g q) n) = H (ix3 g n q) := by
  have hg : g = 0 ∨ g = 1 ∨ g = 2 ∨ g = 3 := by
    fin_cases g <;> simp
  unfold lastState
  rcases hg with rfl | rfl | rfl | rfl
  · rw [show (ix3 0 (chan 0 q) n : S1x2048x128.Idx) = (Rect.unit (s := S1x2048x128) ![0, 0, 0] ![1, 512, 128] inb_S1x2048x128_S1x512x128_0_0_0).idx (ix3 0 q n) from at_out 0 q n _]
    simp (disch := decide) only [skip_out]
    refine (hit_out _ _ _ _ (ix3 0 q n)).trans ?_
    pointwise [k0_pay3]
  · rw [show (ix3 0 (chan 1 q) n : S1x2048x128.Idx) = (Rect.unit (s := S1x2048x128) ![0, 512, 0] ![1, 512, 128] inb_S1x2048x128_S1x512x128_0_512_0).idx (ix3 0 q n) from at_out 1 q n _]
    simp (disch := decide) only [skip_out]
    refine (hit_out _ _ _ _ (ix3 0 q n)).trans ?_
    pointwise [k0_pay4]
  · rw [show (ix3 0 (chan 2 q) n : S1x2048x128.Idx) = (Rect.unit (s := S1x2048x128) ![0, 1024, 0] ![1, 512, 128] inb_S1x2048x128_S1x512x128_0_1024_0).idx (ix3 0 q n) from at_out 2 q n _]
    simp (disch := decide) only [skip_out]
    refine (hit_out _ _ _ _ (ix3 0 q n)).trans ?_
    pointwise [k0_pay5]
  · rw [show (ix3 0 (chan 3 q) n : S1x2048x128.Idx) = (Rect.unit (s := S1x2048x128) ![0, 1536, 0] ![1, 512, 128] inb_S1x2048x128_S1x512x128_0_1536_0).idx (ix3 0 q n) from at_out 3 q n _]
    refine (hit_out _ _ _ _ (ix3 0 q n)).trans ?_
    pointwise [k0_pay6]

end Cert.KernelIdeal.Ssd

end
-- ==== Proof.Point.lean ====
module

public import proofs.«01_k».proof.Proof.Carry

@[expose] public section

set_option maxRecDepth 16384

/-! One grid point in terms of the layer: from a scratch that holds the layer's state before a chunk and the rows in front of
it, the body leaves the state after the chunk, the rows kept, and the layer's output. -/

noncomputable section

open Idealize.ShloMosaic Idealize.ShloMosaic.TcCoe Idealize.SL.Sem
open Idealize.ShloMosaic.Pipeline (Dat)

namespace Cert.KernelIdeal.Ssd

open Cert.KernelIdeal Cert.KernelIdeal.Gen Cert.Ssd

variable (m : (ℓ : Loc nD τ sig) → Buf (Elt Ideal) ℓ) (c : Dev nD) (t : Fin cfg0.N)

/-- The layer's inputs, as the kernel's program holds them. -/
def args : Args where
  X b p ch := m ((c : Thread nD τ).loc main_arg0) (ix3 b p ch)
  Z b p ch := m ((c : Thread nD τ).loc main_arg1) (ix3 b p ch)
  T b p h := m ((c : Thread nD τ).loc main_arg2) (ix3 b p h)
  W k ch := m ((c : Thread nD τ).loc main_arg3) (ix2 k ch)
  bias ch := m ((c : Thread nD τ).loc main_arg4) (ix1 ch)
  tb h := m ((c : Thread nD τ).loc main_arg5) (ix1 h)
  al h := m ((c : Thread nD τ).loc main_arg6) (ix1 h)
  dk h := m ((c : Thread nD τ).loc main_arg7) (ix1 h)
  nw ch := m ((c : Thread nD τ).loc main_arg8) (ix1 ch)

/-- The step sizes stay below infinity. -/
def Finite : Prop := ∀ b p h, (args m c).T b p h + (args m c).tb h ≠ ⊤

theorem posOf_eq (r : Fin 128) : posOf t r = pos (t.val % 64) r := Fin.ext (by
  show 128 * (t.val % 64) + r.val = (128 * (t.val % 64) + r.val) % 8192
  omega)

/-- What the history rows hold when a chunk begins. -/
def History (hist : Vec Ideal S136x3072 .f32) : Prop := ∀ (i : Fin 136) (hi : i.val < 8) (ch : Fin 3072),
  hist (ix2 i ch) = if h : t.val % 64 = 0 then (0 : EReal) else (args m c).X (seqOf t) ⟨128 * (t.val % 64) + i.val - 8, by omega⟩ ch

section Point

variable (hist : Vec Ideal S136x3072 .f32) (hh : History m c t hist)

include hh in
/-- The padded chunk, `k` rows before row `r`. -/
theorem padded_past (k : ℕ) (hk : k ≤ 3) (r : Fin 128) (p : Fin 136) (hp : p.val + k = 8 + r.val) (ch : Fin 3072) :
    padded hist (iblk m c 0 t) (ix2 p ch) = (args m c).past (seqOf t) k (pos (t.val % 64) r) ch := by
  unfold Args.past
  have hv : (pos (t.val % 64) r).val = 128 * (t.val % 64) + r.val := by rw [← posOf_eq]; rfl
  by_cases h8 : 8 ≤ p.val
  · rw [if_pos (by omega), padded_chunk hist _ p ⟨p.val - 8, by omega⟩ (by show p.val = 8 + (p.val - 8); omega) ch, in0_at]
    show m ((c : Thread nD τ).loc main_arg0) (ix3 _ _ _) = m ((c : Thread nD τ).loc main_arg0) (ix3 _ _ _)
    congr 2
    exact Fin.ext (by show 128 * (t.val % 64) + (p.val - 8) = (pos (t.val % 64) r).val - k; omega)
  · rw [padded_hist hist _ p (by omega) ch, hh p (by omega) ch]
    by_cases h0 : t.val % 64 = 0
    · rw [dif_pos h0, if_neg (by omega)]
    · rw [dif_neg h0, if_pos (by omega)]
      congr 1
      exact Fin.ext (by show 128 * (t.val % 64) + p.val - 8 = (pos (t.val % 64) r).val - k; omega)

include hh in
/-- The convolution inside the chunk is the layer's. -/
theorem cx_eq (r : Fin 128) (ch : Fin 3072) :
    cx (padded hist (iblk m c 0 t)) (iblk m c 3 t) (iblk m c 4 t) r ch = (args m c).conv (seqOf t) (pos (t.val % 64) r) ch := by
  unfold cx Args.conv
  rw [padded_past m c t hist hh 0 (by omega) r ⟨8 + r.val, by omega⟩ rfl, padded_past m c t hist hh 3 (by omega) r ⟨5 + r.val, by omega⟩ (by show 5 + r.val + 3 = _; omega),
    padded_past m c t hist hh 2 (by omega) r ⟨6 + r.val, by omega⟩ (by show 6 + r.val + 2 = _; omega), padded_past m c t hist hh 1 (by omega) r ⟨7 + r.val, by omega⟩ (by show 7 + r.val + 1 = _; omega),
    in3_at, in3_at, in3_at, in3_at, in4_at]
  rfl

theorem dtv_eq (l : Fin 128) (hl : l.val < 32) (s : Fin 128) :
    dtv (iblk m c 2 t) (iblk m c 5 t) l s = (args m c).step (seqOf t) (pos (t.val % 64) s) ⟨l.val, hl⟩ := by
  unfold dtv Args.step
  rw [in2_at m c t s l hl, in5_at m c t l hl, posOf_eq]
  rfl

theorem dav_eq (l : Fin 128) (hl : l.val < 32) (s : Fin 128) :
    dav (iblk m c 2 t) (iblk m c 5 t) (iblk m c 6 t) l s = (args m c).decay (seqOf t) (pos (t.val % 64) s) ⟨l.val, hl⟩ := by
  unfold dav Args.decay
  rw [dtv_eq m c t l hl, in6_at m c t l hl]
  rfl

include hh in
theorem chunkNext_eq (k : ℕ) (hk : t.val % 64 = k) (H : Fin 128 → EReal) (ch : Fin 2048) (hH : H = (args m c).state (seqOf t) k ch) (n : Fin 128) :
    chunkNext (padded hist (iblk m c 0 t)) (iblk m c 2 t) (iblk m c 3 t) (iblk m c 4 t) (iblk m c 5 t) (iblk m c 6 t) H ch n
      = (args m c).state (seqOf t) (k + 1) ch n := by
  subst hk hH
  unfold chunkNext
  simp only [cx_eq m c t hist hh, funext (dtv_eq m c t ⟨ch.val / 64, by omega⟩ (by show ch.val / 64 < 32; omega)),
    funext (dav_eq m c t ⟨ch.val / 64, by omega⟩ (by show ch.val / 64 < 32; omega))]
  rfl

include hh in
theorem chunkMix_eq (k : ℕ) (hk : t.val % 64 = k) (H : Fin 128 → EReal) (ch : Fin 2048) (hH : H = (args m c).state (seqOf t) k ch) (r : Fin 128) :
    chunkMix (padded hist (iblk m c 0 t)) (iblk m c 2 t) (iblk m c 3 t) (iblk m c 4 t) (iblk m c 5 t) (iblk m c 6 t) (iblk m c 7 t) H ch r
      = (args m c).mixed (seqOf t) k r ch := by
  subst hk hH
  unfold chunkMix
  simp only [cx_eq m c t hist hh, funext (dtv_eq m c t ⟨ch.val / 64, by omega⟩ (by show ch.val / 64 < 32; omega)),
    funext (dav_eq m c t ⟨ch.val / 64, by omega⟩ (by show ch.val / 64 < 32; omega)),
    in7_at m c t ⟨ch.val / 64, by omega⟩ (by show ch.val / 64 < 32; omega)]
  rfl

variable (ht : Vec Ideal S4x128x512 .f32)
  (hs : ∀ (g : Fin 4) (n : Fin 128) (q : Fin 512), ht (ix3 g n q) = (args m c).state (seqOf t) (t.val % 64) (chan g q) n)
  (hfin : Finite m c)

theorem expand_at (k : Fin 128) (ch : Fin 2048) : iblk m c 9 t (ix2 k ch) = if k.val = ch.val / 64 then (1 : EReal) else 0 := in9_at m c t k ch

include hfin in
theorem steps_ne_top (s l : Fin 128) (hl : l.val < 32) : @HAdd.hAdd EReal EReal EReal _ (iblk m c 2 t (ix3 0 s l)) (iblk m c 5 t (ix2 0 l)) ≠ (⊤ : EReal) := by
  rw [in2_at m c t s l hl, in5_at m c t l hl]
  exact hfin _ _ _

include hh hs hfin in
/-- The state after the chunk. -/
theorem point_state (L : List (View.Piece (Elt Ideal) S4x128x512 .f32)) (g : Fin 4) (n : Fin 128) (q : Fin 512) :
    nextState (padded hist (iblk m c 0 t)) (iblk m c 2 t) (iblk m c 3 t) (iblk m c 4 t) (iblk m c 5 t) (iblk m c 6 t) (iblk m c 7 t) (iblk m c 9 t) ht L (ix3 g n q)
      = (args m c).state (seqOf t) (t.val % 64 + 1) (chan g q) n := by
  rw [nextState_at _ _ _ _ _ _ _ _ _ (expand_at m c t) (steps_ne_top m c t hfin)]
  exact chunkNext_eq m c t hist hh _ rfl _ _ (funext fun n => hs g n q) n

include hh hs hfin in
/-- The output of the chunk. -/
theorem point_out (r : Fin 128) (g : Fin 4) (q : Fin 512) :
    outBlock (padded hist (iblk m c 0 t)) (iblk m c 1 t) (iblk m c 2 t) (iblk m c 3 t) (iblk m c 4 t) (iblk m c 5 t) (iblk m c 6 t) (iblk m c 7 t) (iblk m c 8 t) (iblk m c 9 t) ht (ix3 0 r (chan g q))
      = (args m c).out (seqOf t) (t.val % 64) r g q := by
  rw [outBlock_at _ _ _ _ _ _ _ _ _ _ _ (expand_at m c t) (steps_ne_top m c t hfin)]
  unfold Args.out
  refine congrArg₂ (fun a b : EReal => a * b) (congrArg (fun u => normed u q) (funext fun i => ?_)) (in8_at m c t _)
  refine congrArg₂ (fun a b : EReal => a * b) (chunkMix_eq m c t hist hh _ rfl _ _ (funext fun n => hs g n i) r) (congrArg silu ?_)
  rw [in1_at, posOf_eq]
  rfl

include hh in
/-- The rows kept. -/
theorem point_rows (L : List (View.Piece (Elt Ideal) S136x3072 .f32)) (i : Fin 136) (hi : i.val < 8) (ch : Fin 3072) :
    nextRows (padded hist (iblk m c 0 t)) L (ix2 i ch) = (args m c).X (seqOf t) ⟨128 * (t.val % 64) + 120 + i.val, by omega⟩ ch := by
  rw [nextRows_at _ _ i hi ch, padded_chunk hist _ _ ⟨120 + i.val, by omega⟩ (by show 128 + i.val = 8 + (120 + i.val); omega), in0_at]
  show m ((c : Thread nD τ).loc main_arg0) (ix3 _ _ _) = m ((c : Thread nD τ).loc main_arg0) (ix3 _ _ _)
  congr 2
  exact Fin.ext (by show 128 * (t.val % 64) + (120 + i.val) = 128 * (t.val % 64) + 120 + i.val; omega)

end Point

end Cert.KernelIdeal.Ssd

end
-- ==== Proof.Fold.lean ====
module

public import proofs.«01_k».proof.Proof.Point

@[expose] public section

set_option maxRecDepth 16384

/-! What the kernel leaves, by induction over the grid: after chunk `k` of a sequence the scratch holds the layer's state
after `k` and the last eight rows of the chunk, and the output block holds the layer's output. -/

noncomputable section

open Idealize.ShloMosaic Idealize.ShloMosaic.TcCoe Idealize.SL.Sem
open Idealize.ShloMosaic.Pipeline (Dat)

namespace Cert.KernelIdeal.Ssd

open Cert.KernelIdeal Cert.KernelIdeal.Gen Cert.Ssd

variable (m : (ℓ : Loc nD τ sig) → Buf (Elt Ideal) ℓ) (c : Dev nD) (t : Fin cfg0.N)

/-! ## The grid -/

open Cert.KernelIdeal.Value

/-! The four components after a point, by its case. -/

section Cases

variable (acc : Vec Ideal S1x128x2048 .bf16 × Vec Ideal S1x2048x128 .f32 × Vec Ideal S136x3072 .f32 × Vec Ideal S4x128x512 .f32)

theorem first_out (h0 : t.val % 64 = 0) (h1 : ¬ t.val % 64 = 63) :
    (stAt0 m c t.val t.isLt acc).1 = outBlock (padded clearRows (iblk m c 0 t)) (iblk m c 1 t) (iblk m c 2 t) (iblk m c 3 t) (iblk m c 4 t) (iblk m c 5 t) (iblk m c 6 t) (iblk m c 7 t) (iblk m c 8 t) (iblk m c 9 t) clearState := by
  simp only [stAt0_A m c t acc h0 h1, first_out0_A_10]

theorem first_state (h0 : t.val % 64 = 0) (h1 : ¬ t.val % 64 = 63) :
    (stAt0 m c t.val t.isLt acc).2.2.2 = nextState (padded clearRows (iblk m c 0 t)) (iblk m c 2 t) (iblk m c 3 t) (iblk m c 4 t) (iblk m c 5 t) (iblk m c 6 t) (iblk m c 7 t) (iblk m c 9 t) clearState [⟨Rect.unit ![0, 0, 0] ![4, 128, 512] inb_S4x128x512_S4x128x512_0_0_0, (k0_pay8 (F := Ideal))⟩] := by
  simp only [stAt0_A m c t acc h0 h1, first_sout0_A_1]

theorem mid_out (h0 : ¬ t.val % 64 = 0) (h1 : ¬ t.val % 64 = 63) :
    (stAt0 m c t.val t.isLt acc).1 = outBlock (padded acc.2.2.1 (iblk m c 0 t)) (iblk m c 1 t) (iblk m c 2 t) (iblk m c 3 t) (iblk m c 4 t) (iblk m c 5 t) (iblk m c 6 t) (iblk m c 7 t) (iblk m c 8 t) (iblk m c 9 t) acc.2.2.2 := by
  simp only [stAt0_B m c t acc h0 h1, mid_out0_B_10]

theorem mid_state (h0 : ¬ t.val % 64 = 0) (h1 : ¬ t.val % 64 = 63) :
    (stAt0 m c t.val t.isLt acc).2.2.2 = nextState (padded acc.2.2.1 (iblk m c 0 t)) (iblk m c 2 t) (iblk m c 3 t) (iblk m c 4 t) (iblk m c 5 t) (iblk m c 6 t) (iblk m c 7 t) (iblk m c 9 t) acc.2.2.2 [] := by
  simp only [stAt0_B m c t acc h0 h1, mid_sout0_B_1]

theorem last_out (h0 : ¬ t.val % 64 = 0) (h1 : t.val % 64 = 63) :
    (stAt0 m c t.val t.isLt acc).1 = outBlock (padded acc.2.2.1 (iblk m c 0 t)) (iblk m c 1 t) (iblk m c 2 t) (iblk m c 3 t) (iblk m c 4 t) (iblk m c 5 t) (iblk m c 6 t) (iblk m c 7 t) (iblk m c 8 t) (iblk m c 9 t) acc.2.2.2 := by
  simp only [stAt0_C m c t acc h0 h1, last_out0_C_10]

theorem last_state (h0 : ¬ t.val % 64 = 0) (h1 : t.val % 64 = 63) :
    (stAt0 m c t.val t.isLt acc).2.2.2 = nextState (padded acc.2.2.1 (iblk m c 0 t)) (iblk m c 2 t) (iblk m c 3 t) (iblk m c 4 t) (iblk m c 5 t) (iblk m c 6 t) (iblk m c 7 t) (iblk m c 9 t) acc.2.2.2 [] := by
  simp only [stAt0_C m c t acc h0 h1, last_sout0_C_1]

theorem last_last (h0 : ¬ t.val % 64 = 0) (h1 : t.val % 64 = 63) :
    (stAt0 m c t.val t.isLt acc).2.1 = lastState (nextState (padded acc.2.2.1 (iblk m c 0 t)) (iblk m c 2 t) (iblk m c 3 t) (iblk m c 4 t) (iblk m c 5 t) (iblk m c 6 t) (iblk m c 7 t) (iblk m c 9 t) acc.2.2.2 []) := by
  simp only [stAt0_C m c t acc h0 h1, last_out0_C_11]

end Cases

/-- What is known after a point: the rows kept, the state, the output block, and at a sequence's end the state written out. -/
structure Known (acc : Vec Ideal S1x128x2048 .bf16 × Vec Ideal S1x2048x128 .f32 × Vec Ideal S136x3072 .f32 × Vec Ideal S4x128x512 .f32) : Prop where
  rows : ∀ (i : Fin 136) (hi : i.val < 8) (ch : Fin 3072), acc.2.2.1 (ix2 i ch) = (args m c).X (seqOf t) ⟨128 * (t.val % 64) + 120 + i.val, by omega⟩ ch
  state : ∀ (g : Fin 4) (n : Fin 128) (q : Fin 512), acc.2.2.2 (ix3 g n q) = (args m c).state (seqOf t) (t.val % 64 + 1) (chan g q) n
  out : ∀ (r : Fin 128) (g : Fin 4) (q : Fin 512), acc.1 (ix3 0 r (chan g q)) = (args m c).out (seqOf t) (t.val % 64) r g q
  last : t.val % 64 = 63 → ∀ (g : Fin 4) (q : Fin 512) (n : Fin 128), acc.2.1 (ix3 0 (chan g q) n) = (args m c).state (seqOf t) 64 (chan g q) n

variable (hfin : Finite m c)

include hfin in
/-- A first chunk, from whatever the scratch holds. -/
theorem known_first (acc : Vec Ideal S1x128x2048 .bf16 × Vec Ideal S1x2048x128 .f32 × Vec Ideal S136x3072 .f32 × Vec Ideal S4x128x512 .f32)
    (h0 : t.val % 64 = 0) : Known m c t (stAt0 m c t.val t.isLt acc) := by
  have h1 : ¬ t.val % 64 = 63 := by omega
  have hh : History m c t clearRows := fun i hi ch => by rw [dif_pos h0]; exact clearRows_at i hi ch
  have hs : ∀ (g : Fin 4) (n : Fin 128) (q : Fin 512), (clearState (F := Ideal)) (ix3 g n q) = (args m c).state (seqOf t) (t.val % 64) (chan g q) n :=
    fun g n q => by rw [h0]; exact clearState_at g n q
  refine ⟨?_, ?_, ?_, fun h => absurd h h1⟩
  · intro i hi ch
    simp only [stAt0_A m c t acc h0 h1, first_sout0_A_0]
    exact point_rows m c t _ hh _ i hi ch
  · rw [first_state m c t acc h0 h1]
    exact point_state m c t _ hh _ hs hfin _
  · rw [first_out m c t acc h0 h1]
    exact point_out m c t _ hh _ hs hfin

include hfin in
/-- A later chunk, after the one before it. -/
theorem known_next (t' : Fin cfg0.N) (ht' : t.val = t'.val + 1) (acc : Vec Ideal S1x128x2048 .bf16 × Vec Ideal S1x2048x128 .f32 × Vec Ideal S136x3072 .f32 × Vec Ideal S4x128x512 .f32)
    (hk : Known m c t' acc) (h0 : ¬ t.val % 64 = 0) : Known m c t (stAt0 m c t.val t.isLt acc) := by
  have hseq : seqOf t' = seqOf t := Fin.ext (by show t'.val / 64 = t.val / 64; omega)
  have hmod : t.val % 64 = t'.val % 64 + 1 := by omega
  have hh : History m c t acc.2.2.1 := fun i hi ch => by
    rw [dif_neg h0, hk.rows i hi ch, hseq]
    congr 1
    exact Fin.ext (by show 128 * (t'.val % 64) + 120 + i.val = 128 * (t.val % 64) + i.val - 8; omega)
  have hs : ∀ (g : Fin 4) (n : Fin 128) (q : Fin 512), acc.2.2.2 (ix3 g n q) = (args m c).state (seqOf t) (t.val % 64) (chan g q) n :=
    fun g n q => by rw [hk.state, hseq, hmod]
  by_cases h1 : t.val % 64 = 63
  · refine ⟨?_, ?_, ?_, fun h g q n => ?_⟩
    · intro i hi ch
      simp only [stAt0_C m c t acc h0 h1, last_sout0_C_0]
      exact point_rows m c t _ hh _ i hi ch
    · rw [last_state m c t acc h0 h1]
      exact point_state m c t _ hh _ hs hfin _
    · rw [last_out m c t acc h0 h1]
      exact point_out m c t _ hh _ hs hfin
    · rw [last_last m c t acc h0 h1, lastState_at _ g q n, point_state m c t _ hh _ hs hfin _, h]
  · refine ⟨?_, ?_, ?_, fun h => absurd h h1⟩
    · intro i hi ch
      simp only [stAt0_B m c t acc h0 h1, mid_sout0_B_0]
      exact point_rows m c t _ hh _ i hi ch
    · rw [mid_state m c t acc h0 h1]
      exact point_state m c t _ hh _ hs hfin _
    · rw [mid_out m c t acc h0 h1]
      exact point_out m c t _ hh _ hs hfin

include hfin in
/-- After every point. -/
theorem known (n : ℕ) (hn : n < cfg0.N) : Known m c ⟨n, hn⟩ (outsAt0 m c n hn) := by
  induction n with
  | zero =>
    rw [outsAt0_zero]
    exact known_first m c ⟨0, hn⟩ hfin _ rfl
  | succ n ih =>
    rw [outsAt0_succ]
    by_cases h0 : (n + 1) % 64 = 0
    · exact known_first m c ⟨n + 1, hn⟩ hfin _ h0
    · exact known_next m c ⟨n + 1, hn⟩ hfin ⟨n, Nat.lt_of_succ_lt hn⟩ rfl _ (ih _) h0

include hfin in
/-- The kernel's first result. -/
theorem G10_eq (b : Fin 2) (k : Fin 64) (r : Fin 128) (g : Fin 4) (q : Fin 512) :
    G10 m c (ix3 b (pos k.val r) (chan g q)) = (args m c).out b k.val r g q := by
  have hv : (pos k.val r).val = 128 * k.val + r.val := by show (128 * k.val + r.val) % 8192 = _; omega
  have hc : (chan g q).val < 2048 := (chan g q).isLt
  have hp : pt10Of (ix3 b (pos k.val r) (chan g q)) = 64 * b.val + k.val := by
    show 64 * (b.val / 1 - 0) + 1 * ((pos k.val r).val / 128 - 0) + 1 * ((chan g q).val / 2048 - 0) = _
    rw [hv]
    omega
  have hN : 64 * b.val + k.val < cfg0.N := by rw [show cfg0.N = 128 from N_0]; omega
  have hl : loc10Of (ix3 b (pos k.val r) (chan g q)) = ix3 0 r (chan g q) := by
    funext a
    fin_cases a
    · exact Fin.ext (by show b.val % 1 = 0; omega)
    · exact Fin.ext (by show (pos k.val r).val % 128 = r.val; omega)
    · exact Fin.ext (by show (chan g q).val % 2048 = (chan g q).val; omega)
  have hlt : pt10Of (ix3 b (pos k.val r) (chan g q)) < cfg0.N := lt_of_eq_of_lt hp hN
  unfold G10
  refine (dif_pos hlt).trans ?_
  rw [← outsAt0_sweep m c _ hlt]
  have key := (known m c hfin (64 * b.val + k.val) hN).out r g q
  rw [hl]
  simp only [hp]
  rw [key]
  congr 1
  · exact Fin.ext (by show (64 * b.val + k.val) / 64 = b.val; omega)
  · show (64 * b.val + k.val) % 64 = k.val
    omega

include hfin in
/-- The kernel's second result. -/
theorem G11_eq (b : Fin 2) (g : Fin 4) (q : Fin 512) (n : Fin 128) :
    G11 m c (ix3 b (chan g q) n) = (args m c).state b 64 (chan g q) n := by
  have hc : (chan g q).val < 2048 := (chan g q).isLt
  have hp : pt11Of (ix3 b (chan g q) n) = 64 * b.val + 63 := by
    show 64 * (1 * (b.val / 1 - 0) + 1 * ((chan g q).val / 2048 - 0) + 1 * (n.val / 128 - 0)) + 63 = _
    omega
  have hN : 64 * b.val + 63 < cfg0.N := by rw [show cfg0.N = 128 from N_0]; omega
  have hl : loc11Of (ix3 b (chan g q) n) = ix3 0 (chan g q) n := by
    funext a
    fin_cases a
    · exact Fin.ext (by show b.val % 1 = 0; omega)
    · exact Fin.ext (by show (chan g q).val % 2048 = (chan g q).val; omega)
    · exact Fin.ext (by show n.val % 128 = n.val; omega)
  have hlt : pt11Of (ix3 b (chan g q) n) < cfg0.N := lt_of_eq_of_lt hp hN
  unfold G11
  refine (dif_pos hlt).trans ?_
  rw [← outsAt0_sweep m c _ hlt]
  have key := (known m c hfin (64 * b.val + 63) hN).last (by show (64 * b.val + 63) % 64 = 63; omega) g q n
  rw [hl]
  simp only [hp]
  rw [key]
  congr 1
  exact Fin.ext (by show (64 * b.val + 63) / 64 = b.val; omega)

end Cert.KernelIdeal.Ssd

end
-- ==== Proof.RefValue.lean ====
module

public import proofs.«01_k».proof.Proof.RefRun
public import proofs.«01_k».proof.Proof.Layer
public import Idealize.ShloMosaic.Lib.Pipeline.ValueKit

@[expose] public section

set_option maxRecDepth 16384

/-! The reference before its loop over chunks, at an index: the convolution, the step sizes, their prefix sums, what a chunk
adds to the state. -/

noncomputable section

open Idealize.ShloMosaic Idealize.ShloMosaic.TcCoe Idealize.SL.Sem Idealize.ShloMosaic.StableHlo

namespace Cert.ReferenceIdeal.Ssd

open Cert.ReferenceIdeal Cert.ReferenceIdeal.Gen Cert.ReferenceIdeal.Value Cert.ReferenceIdeal.Step Cert.Ssd

variable (a0 : Vec Ideal S2x8192x3072 .f32) (a1 : Vec Ideal S2x8192x2048 .f32) (a2 : Vec Ideal S2x8192x32 .f32) (a3 : Vec Ideal S4x3072 .f32)
  (a4 : Vec Ideal S3072 .f32) (a5 a6 a7 : Vec Ideal S32 .f32) (a8 : Vec Ideal S2048 .f32)

/-- The layer's inputs, as the reference's program holds them. -/
def inputs : Args where
  X b p ch := a0 (ix3 b p ch)
  Z b p ch := a1 (ix3 b p ch)
  T b p h := a2 (ix3 b p h)
  W k ch := a3 (ix2 k ch)
  bias ch := a4 (ix1 ch)
  tb h := a5 (ix1 h)
  al h := a6 (ix1 h)
  dk h := a7 (ix1 h)
  nw ch := a8 (ix1 ch)

theorem padded_at (b : Fin 2) (p : Fin 8195) (ch : Fin 3072) :
    A_main_v0 a0 a2 a3 a4 a5 a6 (ix3 b p ch) = if h : 3 ≤ p.val then a0 (ix3 b ⟨p.val - 3, by omega⟩ ch) else (0 : EReal) := by
  pointwise [A_main_v0, K_main_call0_v0, K_main_c]
  have hz : (FloatOps.sitofp (F := Ideal) FTy.f32 0#32 : EReal) = 0 := by simp [FloatOps.sitofp]
  rw [hz]
  by_cases h : 3 ≤ p.val
  · rw [dif_pos ⟨h, by omega⟩, dif_pos h]
  · rw [dif_neg (fun h' => h h'.1), dif_neg h]

theorem silu_at (b : Fin 2) (p : Fin 8192) (ch : Fin 3072) :
    A_main_v31 a0 a2 a3 a4 a5 a6 (ix3 b p ch) = silu (A_main_v30 a0 a2 a3 a4 a5 a6 (ix3 b p ch)) := by
  pointwise [A_main_v31, A_main_call1_v5, A_main_call1_v3, A_main_call1_v1, A_main_call1_v0, K_main_call1_v4, K_main_call1_v2, K_main_call1_cst, K_main_call1_cst_0, silu, Ideal.logistic]

theorem filter_at (b : Fin 2) (p : Fin 8192) (ch : Fin 3072) :
    A_main_v30 a0 a2 a3 a4 a5 a6 (ix3 b p ch)
      = A_main_v0 a0 a2 a3 a4 a5 a6 (ix3 b ⟨p.val, by omega⟩ ch) * a3 (ix2 0 ch) + A_main_v0 a0 a2 a3 a4 a5 a6 (ix3 b ⟨p.val + 1, by omega⟩ ch) * a3 (ix2 1 ch)
        + A_main_v0 a0 a2 a3 a4 a5 a6 (ix3 b ⟨p.val + 2, by omega⟩ ch) * a3 (ix2 2 ch) + A_main_v0 a0 a2 a3 a4 a5 a6 (ix3 b ⟨p.val + 3, by omega⟩ ch) * a3 (ix2 3 ch)
        + (a4 (ix1 ch) : EReal) := by
  pointwise [A_main_v30, A_main_v29, A_main_v28, A_main_v27, A_main_v26, A_main_v25, A_main_v24, A_main_v23, A_main_v22, A_main_v21, A_main_v20, A_main_v19,
    A_main_v18, A_main_v17, A_main_v16, A_main_v15, A_main_v14, A_main_v13, A_main_v12, A_main_v11, A_main_v10, A_main_v9, A_main_v8, A_main_v7, A_main_v6,
    A_main_v5, A_main_v4, A_main_v3, A_main_v2, A_main_v1]
  simp only [Nat.add_comm]

theorem step_at (b : Fin 2) (p : Fin 8192) (h : Fin 32) :
    A_main_v38 a0 a2 a3 a4 a5 a6 (ix3 b p h) = softp (a2 (ix3 b p h) + (a5 (ix1 h) : EReal)) := by
  pointwise [A_main_v38, A_main_call2_v11, A_main_call2_v10, A_main_call2_v9, A_main_call2_v8, A_main_call2_v7, A_main_call2_v6, A_main_call2_v4, A_main_call2_v3,
    A_main_call2_v1, K_main_call2_v0, K_main_call2_v2, K_main_call2_v5, K_main_call2_cst, A_main_v37, A_main_v36, A_main_v35, softp]
  rw [if_neg (not_not.mpr rfl)]
  rfl

/-- The convolution is the layer's. -/
theorem conv_at (b : Fin 2) (p : Fin 8192) (ch : Fin 3072) :
    A_main_v31 a0 a2 a3 a4 a5 a6 (ix3 b p ch) = (inputs a0 a1 a2 a3 a4 a5 a6 a7 a8).conv b p ch := by
  have h0 (k : ℕ) (hk : k ≤ 3) (q : Fin 8195) (hq : q.val = p.val + 3 - k) :
      A_main_v0 a0 a2 a3 a4 a5 a6 (ix3 b q ch) = (inputs a0 a1 a2 a3 a4 a5 a6 a7 a8).past b k p ch := by
    rw [padded_at]
    unfold Args.past
    by_cases h : k ≤ p.val
    · rw [dif_pos (by omega), if_pos h]
      show a0 (ix3 b _ ch) = a0 (ix3 b _ ch)
      congr 2
      exact Fin.ext (by show q.val - 3 = p.val - k; omega)
    · rw [dif_neg (by omega), if_neg h]
  rw [silu_at, filter_at, h0 3 (by omega) _ (by show p.val = _; omega), h0 2 (by omega) _ (by show p.val + 1 = _; omega),
    h0 1 (by omega) _ (by show p.val + 2 = _; omega), h0 0 (by omega) _ (by show p.val + 3 = _; omega)]
  unfold Args.conv
  congr 1
  show _ * a3 (ix2 0 ch) + _ * a3 (ix2 1 ch) + _ * a3 (ix2 2 ch) + a0 (ix3 b p ch) * a3 (ix2 3 ch) + a4 (ix1 ch)
    = a0 (ix3 b p ch) * a3 (ix2 3 ch) + a4 (ix1 ch) + _ * a3 (ix2 0 ch) + _ * a3 (ix2 1 ch) + _ * a3 (ix2 2 ch)
  abel

/-- Head `h` of group `g`, and its channel `i`. -/
def head (g : Fin 4) (h : Fin 8) : Fin 32 := ⟨g.val * 8 + h.val, by omega⟩
def lane (g : Fin 4) (h : Fin 8) (i : Fin 64) : Fin 2048 := ⟨512 * g.val + 64 * h.val + i.val, by omega⟩

theorem pos_eq (k : Fin 64) (s : Fin 128) (h) : (⟨k.val * 128 + s.val, h⟩ : Fin 8192) = pos k.val s :=
  Fin.ext (by show k.val * 128 + s.val = (128 * k.val + s.val) % 8192; omega)

/-- The step size and the decay's exponent of a head at a position of a chunk. -/
theorem dt_at (b : Fin 2) (k : Fin 64) (s : Fin 128) (g : Fin 4) (h : Fin 8) :
    A_main_v42 a0 a2 a3 a4 a5 a6 (ix5 b k s g h) = (inputs a0 a1 a2 a3 a4 a5 a6 a7 a8).step b (pos k.val s) (head g h) := by
  pointwise [A_main_v42]
  rw [step_at, pos_eq]
  rfl

theorem decay_at (b : Fin 2) (k : Fin 64) (s : Fin 128) (g : Fin 4) (h : Fin 8) :
    A_main_v48 a0 a2 a3 a4 a5 a6 (ix5 b k s g h) = (inputs a0 a1 a2 a3 a4 a5 a6 a7 a8).decay b (pos k.val s) (head g h) := by
  unfold Args.decay
  rw [← dt_at a0 a1 a2 a3 a4 a5 a6 a7 a8]
  pointwise [A_main_v48, A_main_v47, A_main_v46, A_main_v45, A_main_v40, A_main_v39]
  rfl

/-! ## Prefix sums -/

theorem foldl_sum {n : ℕ} (f : Fin n → EReal) (v : EReal) : (List.finRange n).foldl (fun r k => r + f k) v = v + ∑ k, f k := by
  rw [Fin.sum_univ_def]
  generalize List.finRange n = l
  induction l generalizing v with
  | nil => simp
  | cons a l ih => simp [ih, add_assoc]

/-- A sum over a window of 128 that ends at `r`, zeros in front, is the prefix sum up to `r`. -/
theorem window_sum (f : Fin 128 → EReal) (r : Fin 128) :
    (∑ w : Fin 128, if h : 127 ≤ r.val + w.val ∧ r.val + w.val - 127 < 128 then f ⟨r.val + w.val - 127, h.2⟩ else 0)
      = ∑ s : Fin 128, if s.val ≤ r.val then f s else 0 := by
  rw [← Finset.sum_filter_add_sum_filter_not Finset.univ (fun s : Fin 128 => s.val ≤ r.val) (fun s => if s.val ≤ r.val then f s else 0),
    ← Finset.sum_filter_add_sum_filter_not Finset.univ (fun w : Fin 128 => 127 ≤ r.val + w.val)
      (fun w : Fin 128 => if h : 127 ≤ r.val + w.val ∧ r.val + w.val - 127 < 128 then f ⟨r.val + w.val - 127, h.2⟩ else 0)]
  congr 1
  · refine Finset.sum_bij (fun w _ => (⟨r.val + w.val - 127, by omega⟩ : Fin 128)) ?_ ?_ ?_ ?_
    · intro w hw
      simp only [Finset.mem_filter, Finset.mem_univ, true_and] at hw ⊢
      omega
    · intro w hw w' hw' h
      simp only [Finset.mem_filter, Finset.mem_univ, true_and] at hw hw'
      have := congrArg Fin.val h
      simp only at this
      exact Fin.ext (by omega)
    · intro s hs
      simp only [Finset.mem_filter, Finset.mem_univ, true_and] at hs
      exact ⟨⟨s.val + 127 - r.val, by omega⟩, by simp only [Finset.mem_filter, Finset.mem_univ, true_and]; omega, Fin.ext (by simp only; omega)⟩
    · intro w hw
      simp only [Finset.mem_filter, Finset.mem_univ, true_and] at hw
      rw [dif_pos ⟨hw, by omega⟩, if_pos (by simp only; omega)]
  · rw [Finset.sum_eq_zero, Finset.sum_eq_zero]
    · intro s hs
      simp only [Finset.mem_filter, Finset.mem_univ, true_and] at hs
      rw [if_neg hs]
    · intro w hw
      simp only [Finset.mem_filter, Finset.mem_univ, true_and] at hw
      rw [dif_neg (fun h => hw h.1)]

/-- The window of the prefix sum: 128 positions along the third axis. -/
abbrev Win : Shape := ⟨5, ![1, 1, 128, 1, 1]⟩

/-- A window's positions are those of its third axis. -/
def winEquiv : Fin Win.numel ≃ Fin 128 :=
  Win.rowMajor.symm.trans
    { toFun := fun i => i 2
      invFun := fun w => ix5 0 0 w 0 0
      left_inv := fun i => by
        funext a
        fin_cases a <;> first | rfl | exact Subsingleton.elim (α := Fin 1) _ _
      right_inv := fun w => rfl }

/-- The prefix sums along a chunk. -/
theorem cumsum_at (x : FVec Ideal S2x64x128x4x8 .f32) (init : FVec Ideal S_ .f32) (hi : init (Shape.Idx.first h_S_) = (0 : EReal))
    (b : Fin 2) (k : Fin 64) (r : Fin 128) (g : Fin 4) (h : Fin 8) :
    Host.reduceWindowAdd ![1, 1, 128, 1, 1] ![1, 1, 1, 1, 1] ![0, 0, 127, 0, 0] ![0, 0, 0, 0, 0] x init
      reduceWindows_S2x64x128x4x8_S2x64x128x4x8_w1s1p0_0_w1s1p0_0_w128s1p127_0_w1s1p0_0_w1s1p0_0 h_S_ (ix5 b k r g h)
      = cum (fun s => x (ix5 b k s g h)) r := by
  refine Eq.trans ?_ (window_sum (fun s => x (ix5 b k s g h)) r)
  unfold Host.reduceWindowAdd
  rw [Ideal.hostReduceWindowAdd_def, hi]
  unfold Ideal.hostReduceWindowAdd Host.reduceWindow
  dsimp only
  rw [foldl_sum, zero_add, ← Equiv.sum_comp winEquiv]
  refine Finset.sum_congr rfl fun n _ => ?_
  have hw : winEquiv n = (Win.rowMajor.symm n) 2 := rfl
  rw [hw]
  have i0 : ((Win.rowMajor.symm n) 0).val = 0 := Nat.lt_one_iff.mp (show _ < 1 from ((Win.rowMajor.symm n) 0).isLt)
  have i1 : ((Win.rowMajor.symm n) 1).val = 0 := Nat.lt_one_iff.mp (show _ < 1 from ((Win.rowMajor.symm n) 1).isLt)
  have i3 : ((Win.rowMajor.symm n) 3).val = 0 := Nat.lt_one_iff.mp (show _ < 1 from ((Win.rowMajor.symm n) 3).isLt)
  have i4 : ((Win.rowMajor.symm n) 4).val = 0 := Nat.lt_one_iff.mp (show _ < 1 from ((Win.rowMajor.symm n) 4).isLt)
  by_cases hc : 127 ≤ r.val + ((Win.rowMajor.symm n) 2).val ∧ r.val + ((Win.rowMajor.symm n) 2).val - 127 < 128
  · rw [dif_pos hc]
    refine (dif_pos fun a => ?_).trans (congrArg x (funext fun a => Fin.ext ?_))
    · fin_cases a
      · exact ⟨Nat.zero_le _, by show b.val * 1 + ((Win.rowMajor.symm n) 0).val - 0 < 2; omega⟩
      · exact ⟨Nat.zero_le _, by show k.val * 1 + ((Win.rowMajor.symm n) 1).val - 0 < 64; omega⟩
      · exact ⟨by show 127 ≤ r.val * 1 + ((Win.rowMajor.symm n) 2).val; omega, by show r.val * 1 + ((Win.rowMajor.symm n) 2).val - 127 < 128; omega⟩
      · exact ⟨Nat.zero_le _, by show g.val * 1 + ((Win.rowMajor.symm n) 3).val - 0 < 4; omega⟩
      · exact ⟨Nat.zero_le _, by show h.val * 1 + ((Win.rowMajor.symm n) 4).val - 0 < 8; omega⟩
    · fin_cases a
      · show b.val * 1 + ((Win.rowMajor.symm n) 0).val - 0 = b.val; omega
      · show k.val * 1 + ((Win.rowMajor.symm n) 1).val - 0 = k.val; omega
      · show r.val * 1 + ((Win.rowMajor.symm n) 2).val - 127 = r.val + ((Win.rowMajor.symm n) 2).val - 127; omega
      · show g.val * 1 + ((Win.rowMajor.symm n) 3).val - 0 = g.val; omega
      · show h.val * 1 + ((Win.rowMajor.symm n) 4).val - 0 = h.val; omega
  · rw [dif_neg hc]
    refine dif_neg fun ha => hc ?_
    have h2 : 127 ≤ r.val * 1 + ((Win.rowMajor.symm n) 2).val ∧ r.val * 1 + ((Win.rowMajor.symm n) 2).val - 127 < 128 := ha 2
    omega

/-- The prefix sums of the decays' exponents. -/
theorem prefix_at (b : Fin 2) (k : Fin 64) (r : Fin 128) (g : Fin 4) (h : Fin 8) :
    A_main_v49 a0 a2 a3 a4 a5 a6 (ix5 b k r g h) = cum (fun s => (inputs a0 a1 a2 a3 a4 a5 a6 a7 a8).decay b (pos k.val s) (head g h)) r := by
  unfold A_main_v49
  rw [cumsum_at]
  · simp only [decay_at a0 a1 a2 a3 a4 a5 a6 a7 a8]
  · show (K_main_call3_call0_v0 (F := Ideal)) ix0 = (0 : EReal)
    pointwise [K_main_call3_call0_v0, K_main_call3_call0_cst]

end Cert.ReferenceIdeal.Ssd

end
-- ==== Proof.RefChunk.lean ====
module

public import proofs.«01_k».proof.Proof.RefValue

@[expose] public section

set_option maxRecDepth 16384

/-! What a chunk of the reference adds to the state, at an index. -/

noncomputable section

open Idealize.ShloMosaic Idealize.ShloMosaic.TcCoe Idealize.SL.Sem Idealize.ShloMosaic.StableHlo

namespace Cert.ReferenceIdeal.Ssd

open Cert.ReferenceIdeal Cert.ReferenceIdeal.Gen Cert.ReferenceIdeal.Value Cert.ReferenceIdeal.Step Cert.Ssd

variable (a0 : Vec Ideal S2x8192x3072 .f32) (a1 : Vec Ideal S2x8192x2048 .f32) (a2 : Vec Ideal S2x8192x32 .f32) (a3 : Vec Ideal S4x3072 .f32)
  (a4 : Vec Ideal S3072 .f32) (a5 a6 a7 : Vec Ideal S32 .f32) (a8 : Vec Ideal S2048 .f32)

/-- A chunk's own state: a sum over the chunk's positions. -/
theorem dot_state (x : FVec Ideal S2x64x128x4x8x64 .f32) (y : FVec Ideal S2x64x128x4x128 .f32)
    (b : Fin 2) (k : Fin 64) (g : Fin 4) (h : Fin 8) (i : Fin 64) (n : Fin 128) :
    Host.dotGeneral (F := Ideal) dot_S2x64x128x4x8x64_S2x64x128x4x128_S2x64x4x8x64x128_2_2_45_4_013_013 none x y (ix6 b k g h i n)
      = ∑ s : Fin 128, (x (ix6 b k s g h i) : EReal) * y (ix5 b k s g n) := by
  pointwise

/-- A per-head array spread over the head's channels. -/
theorem spread_at (w : FVec Ideal S2x64x128x4x8 .f32) (b : Fin 2) (k : Fin 64) (s : Fin 128) (g : Fin 4) (h : Fin 8) (i : Fin 64) :
    broadcastInDim S2x64x128x4x8x64 ![0, 1, 2, 3, 4, 5] bcast_S2x64x128x4x8x1_S2x64x128x4x8x64_0_1_2_3_4_5
      (broadcastInDim S2x64x128x4x8x1 ![0, 1, 2, 3, 4] bcast_S2x64x128x4x8_S2x64x128x4x8x1_0_1_2_3_4 w) (ix6 b k s g h i) = w (ix5 b k s g h) := by
  pointwise

theorem xdt_at (b : Fin 2) (k : Fin 64) (s : Fin 128) (g : Fin 4) (h : Fin 8) (i : Fin 64) :
    A_main_v52 a0 a2 a3 a4 a5 a6 (ix6 b k s g h i)
      = A_main_v41 a0 a2 a3 a4 a5 a6 (ix6 b k s g h i) * (A_main_v42 a0 a2 a3 a4 a5 a6 (ix5 b k s g h) : EReal) := by
  rw [← spread_at (A_main_v42 a0 a2 a3 a4 a5 a6) b k s g h i]
  unfold A_main_v52
  exact mulf_apply _ _ _

/-- The channel values of a chunk. -/
theorem x_at (b : Fin 2) (k : Fin 64) (s : Fin 128) (g : Fin 4) (h : Fin 8) (i : Fin 64) :
    A_main_v41 a0 a2 a3 a4 a5 a6 (ix6 b k s g h i)
      = (inputs a0 a1 a2 a3 a4 a5 a6 a7 a8).conv b (pos k.val s) ⟨(lane g h i).val, by have := (lane g h i).isLt; omega⟩ := by
  rw [← conv_at]
  unfold A_main_v41 A_main_v32
  generalize A_main_v31 a0 a2 a3 a4 a5 a6 = w
  pointwise
  refine congrArg w ?_
  rw [← pos_eq]
  congr 1
  · apply Fin.ext
    simp only [lane]
    omega
  · omega

/-- The input matrix of a chunk. -/
theorem b_at (b : Fin 2) (k : Fin 64) (s : Fin 128) (g : Fin 4) (n : Fin 128) :
    A_main_v43 a0 a2 a3 a4 a5 a6 (ix5 b k s g n)
      = (inputs a0 a1 a2 a3 a4 a5 a6 a7 a8).conv b (pos k.val s) ⟨2048 + 128 * g.val + n.val, by omega⟩ := by
  rw [← conv_at]
  unfold A_main_v43 A_main_v33
  generalize A_main_v31 a0 a2 a3 a4 a5 a6 = w
  pointwise
  refine congrArg w ?_
  rw [← pos_eq]
  congr 1
  · apply Fin.ext
    simp only []
    omega
  · omega

/-- How much of a position's input is left at its chunk's end. -/
theorem left_at (b : Fin 2) (k : Fin 64) (s : Fin 128) (g : Fin 4) (h : Fin 8) :
    A_main_v56 a0 a2 a3 a4 a5 a6 (ix5 b k s g h)
      = Ideal.exp (A_main_v49 a0 a2 a3 a4 a5 a6 (ix5 b k 127 g h) - A_main_v49 a0 a2 a3 a4 a5 a6 (ix5 b k s g h) : EReal) := by
  unfold A_main_v56 A_main_v55 A_main_v54 A_main_v53
  generalize A_main_v49 a0 a2 a3 a4 a5 a6 = w
  pointwise

theorem weighted_at (b : Fin 2) (k : Fin 64) (s : Fin 128) (g : Fin 4) (h : Fin 8) (i : Fin 64) :
    A_main_v59 a0 a2 a3 a4 a5 a6 (ix6 b k s g h i)
      = A_main_v52 a0 a2 a3 a4 a5 a6 (ix6 b k s g h i) * (A_main_v56 a0 a2 a3 a4 a5 a6 (ix5 b k s g h) : EReal) := by
  rw [← spread_at (A_main_v56 a0 a2 a3 a4 a5 a6) b k s g h i]
  unfold A_main_v59
  exact mulf_apply _ _ _

theorem turned_at (w : FVec Ideal S2x64x4x8x64x128 .f32) (b : Fin 2) (k : Fin 64) (g : Fin 4) (h : Fin 8) (i : Fin 64) (n : Fin 128) :
    transpose S64x2x4x8x64x128 [1, 0, 2, 3, 4, 5] w transposes_S2x64x4x8x64x128_S64x2x4x8x64x128_1_0_2_3_4_5 (ix6 k b g h i n)
      = w (ix6 b k g h i n) := by
  pointwise

/-- What a chunk adds to the state. -/
theorem chunk_at (b : Fin 2) (k : Fin 64) (g : Fin 4) (h : Fin 8) (i : Fin 64) (n : Fin 128) :
    A_main_v65 a0 a2 a3 a4 a5 a6 (ix6 k b g h i n)
      = ∑ s : Fin 128, (A_main_v52 a0 a2 a3 a4 a5 a6 (ix6 b k s g h i)
          * Ideal.exp (A_main_v49 a0 a2 a3 a4 a5 a6 (ix5 b k 127 g h) - A_main_v49 a0 a2 a3 a4 a5 a6 (ix5 b k s g h) : EReal))
          * (A_main_v43 a0 a2 a3 a4 a5 a6 (ix5 b k s g n) : EReal) := by
  unfold A_main_v65
  rw [turned_at]
  unfold A_main_v60
  rw [dot_state]
  refine Finset.sum_congr rfl fun s _ => ?_
  rw [weighted_at, left_at]

/-- How much of the state a chunk's start has is left at its end. -/
theorem whole_at (b : Fin 2) (k : Fin 64) (g : Fin 4) (h : Fin 8) :
    A_main_v66 a0 a2 a3 a4 a5 a6 (ix4 k b g h) = Ideal.exp (A_main_v49 a0 a2 a3 a4 a5 a6 (ix5 b k 127 g h) : EReal) := by
  unfold A_main_v66 A_main_v63 A_main_v62 A_main_v61
  generalize A_main_v49 a0 a2 a3 a4 a5 a6 = w
  pointwise

end Cert.ReferenceIdeal.Ssd

end
-- ==== Proof.RefTrip.lean ====
module

public import proofs.«01_k».proof.Proof.RefChunk
public import Idealize.ShloMosaic.Lib.DynamicIndex

@[expose] public section

set_option maxRecDepth 16384

/-! The reference's loop over chunks: the state it carries and the states it records, at an index. -/

noncomputable section

open Idealize.ShloMosaic Idealize.ShloMosaic.TcCoe Idealize.SL.Sem Idealize.ShloMosaic.StableHlo

namespace Cert.ReferenceIdeal.Ssd

open Cert.ReferenceIdeal Cert.ReferenceIdeal.Gen Cert.ReferenceIdeal.Value Cert.ReferenceIdeal.Step Cert.Ssd

theorem chunk_slice_at (x : FVec Ideal S64x2x4x8x64x128 .f32) (st : Fin 6 → Int) (k b g h i n)
    (hs : ∀ a, st a = ((![k.val, 0, 0, 0, 0, 0] : Fin 6 → ℕ) a : ℕ)) :
    shapeCast S2x4x8x64x128 (Host.dynamicSlice S1x2x4x8x64x128 x st sliceFits_S64x2x4x8x64x128_S1x2x4x8x64x128)
      shapeCasts_S1x2x4x8x64x128_S2x4x8x64x128 (ix5 b g h i n) = x (ix6 k b g h i n) := by
  have hoff : S64x2x4x8x64x128.Slices (![k.val, 0, 0, 0, 0, 0] : Fin 6 → ℕ) S1x2x4x8x64x128 := by
    refine ⟨rfl, fun a => ?_⟩
    have := k.isLt
    match a with
    | ⟨0, _⟩ => change k.val + 1 ≤ 64; omega
    | ⟨1, _⟩ => exact Nat.le_refl _
    | ⟨2, _⟩ => exact Nat.le_refl _
    | ⟨3, _⟩ => exact Nat.le_refl _
    | ⟨4, _⟩ => exact Nat.le_refl _
    | ⟨5, _⟩ => exact Nat.le_refl _
  rw [Host.dynamicSlice_eq_extractStridedSlice _ x st _ sliceFits_S64x2x4x8x64x128_S1x2x4x8x64x128 hoff hs]
  pointwise

theorem whole_slice_at (x : FVec Ideal S64x2x4x8 .f32) (st : Fin 4 → Int) (k b g h) (i : Fin 64) (n : Fin 128)
    (hs : ∀ a, st a = ((![k.val, 0, 0, 0] : Fin 4 → ℕ) a : ℕ)) :
    broadcastInDim S2x4x8x64x128 ![0, 1, 2, 3, 4] bcast_S2x4x8x1x1_S2x4x8x64x128_0_1_2_3_4
      (broadcastInDim S2x4x8x1x1 ![0, 1, 2] bcast_S2x4x8_S2x4x8x1x1_0_1_2
        (shapeCast S2x4x8 (Host.dynamicSlice S1x2x4x8 x st sliceFits_S64x2x4x8_S1x2x4x8) shapeCasts_S1x2x4x8_S2x4x8)) (ix5 b g h i n)
      = x (ix4 k b g h) := by
  have hoff : S64x2x4x8.Slices (![k.val, 0, 0, 0] : Fin 4 → ℕ) S1x2x4x8 := by
    refine ⟨rfl, fun a => ?_⟩
    have := k.isLt
    match a with
    | ⟨0, _⟩ => change k.val + 1 ≤ 64; omega
    | ⟨1, _⟩ => exact Nat.le_refl _
    | ⟨2, _⟩ => exact Nat.le_refl _
    | ⟨3, _⟩ => exact Nat.le_refl _
  rw [Host.dynamicSlice_eq_extractStridedSlice _ x st _ sliceFits_S64x2x4x8_S1x2x4x8 hoff hs]
  pointwise

/-- One trip's new state. -/
theorem carried_at (s : State Ideal) (k : Fin 64) (b g h i n) :
    (step k.val s).main_v68_3 (ix5 b g h i n)
      = s.main_v68_3 (ix5 b g h i n) * s.main_v68_1 (ix4 k b g h) + (s.main_v68_0 (ix6 k b g h i n) : EReal) := by
  have hk : (BitVec.ofNat 32 k.val).toInt = k.val := toInt_ofNat_of_lt (by omega)
  rw [Step.step_main_v68_3]
  unfold b15 b14 b13 b12 b11 b10 b6 b5
  refine (addf_apply _ _ _).trans ?_
  refine congrArg₂ (fun a b : EReal => a + b) ((mulf_apply _ _ _).trans ?_) (chunk_slice_at _ _ k b g h i n ?_)
  · refine congrArg (fun a : EReal => s.main_v68_3 (ix5 b g h i n) * a) (whole_slice_at _ _ k b g h i n ?_)
    intro a
    match a with
    | ⟨0, _⟩ => exact hk
    | ⟨1, _⟩ => rfl
    | ⟨2, _⟩ => rfl
    | ⟨3, _⟩ => rfl
  · intro a
    match a with
    | ⟨0, _⟩ => exact hk
    | ⟨1, _⟩ => rfl
    | ⟨2, _⟩ => rfl
    | ⟨3, _⟩ => rfl
    | ⟨4, _⟩ => rfl
    | ⟨5, _⟩ => rfl

theorem update_at (x : FVec Ideal S64x2x4x8x64x128 .f32) (u : FVec Ideal S1x2x4x8x64x128 .f32) (st : Fin 6 → Int) (k q : Fin 64) (b g h i n)
    (hs : ∀ a, st a = ((![k.val, 0, 0, 0, 0, 0] : Fin 6 → ℕ) a : ℕ)) :
    Host.dynamicUpdateSlice x u st updateFits_S64x2x4x8x64x128_S1x2x4x8x64x128 (ix6 q b g h i n)
      = if q.val = k.val then u (ix6 0 b g h i n) else x (ix6 q b g h i n) := by
  have hc : ∀ a : Fin 6, Host.clampedStart S64x2x4x8x64x128 S1x2x4x8x64x128 updateFits_S64x2x4x8x64x128_S1x2x4x8x64x128.1 st a
      = (![k.val, 0, 0, 0, 0, 0] : Fin 6 → ℕ) a := by
    intro a
    refine Host.clampedStart_of_le _ _ _ _ (hs a) ?_
    have := k.isLt
    match a with
    | ⟨0, _⟩ => change k.val + 1 ≤ 64; omega
    | ⟨1, _⟩ => exact Nat.le_refl _
    | ⟨2, _⟩ => exact Nat.le_refl _
    | ⟨3, _⟩ => exact Nat.le_refl _
    | ⟨4, _⟩ => exact Nat.le_refl _
    | ⟨5, _⟩ => exact Nat.le_refl _
  rw [Host.dynamicUpdateSlice_apply]
  by_cases hq : q.val = k.val
  · rw [if_pos hq, dif_pos]
    · refine congrArg u ?_
      rw [Shape.Idx.norm_def]
      funext a
      apply Fin.ext
      match a with
      | ⟨0, _⟩ =>
        have := hc 0
        change q.val - Host.clampedStart S64x2x4x8x64x128 S1x2x4x8x64x128 updateFits_S64x2x4x8x64x128_S1x2x4x8x64x128.1 st 0 = 0
        rw [this]; change q.val - k.val = 0; omega
      | ⟨1, _⟩ => exact congrArg (fun z => b.val - z) (hc 1)
      | ⟨2, _⟩ => exact congrArg (fun z => g.val - z) (hc 2)
      | ⟨3, _⟩ => exact congrArg (fun z => h.val - z) (hc 3)
      | ⟨4, _⟩ => exact congrArg (fun z => i.val - z) (hc 4)
      | ⟨5, _⟩ => exact congrArg (fun z => n.val - z) (hc 5)
    · intro a
      rw [hc a]
      match a with
      | ⟨0, _⟩ => change k.val ≤ q.val ∧ q.val < k.val + 1; omega
      | ⟨1, _⟩ => change 0 ≤ b.val ∧ b.val < 0 + 2; omega
      | ⟨2, _⟩ => change 0 ≤ g.val ∧ g.val < 0 + 4; omega
      | ⟨3, _⟩ => change 0 ≤ h.val ∧ h.val < 0 + 8; omega
      | ⟨4, _⟩ => change 0 ≤ i.val ∧ i.val < 0 + 64; omega
      | ⟨5, _⟩ => change 0 ≤ n.val ∧ n.val < 0 + 128; omega
  · rw [if_neg hq, dif_neg]
    intro hall
    have h0 := hall 0
    rw [hc 0] at h0
    change k.val ≤ q.val ∧ q.val < k.val + 1 at h0
    omega

/-- One trip records the state it starts from. -/
theorem recorded_at (s : State Ideal) (k q : Fin 64) (b g h i n) :
    (step k.val s).main_v68_4 (ix6 q b g h i n)
      = if q.val = k.val then s.main_v68_3 (ix5 b g h i n) else s.main_v68_4 (ix6 q b g h i n) := by
  have hk : (BitVec.ofNat 32 k.val).toInt = k.val := toInt_ofNat_of_lt (by omega)
  rw [Step.step_main_v68_4]
  unfold b22 b16
  rw [update_at _ _ _ k q b g h i n]
  · have : (broadcastInDim S1x2x4x8x64x128 ![1, 2, 3, 4, 5] bcast_S2x4x8x64x128_S1x2x4x8x64x128_1_2_3_4_5 s.main_v68_3 : FVec Ideal S1x2x4x8x64x128 .f32)
        (ix6 0 b g h i n) = s.main_v68_3 (ix5 b g h i n) := by
      generalize s.main_v68_3 = w
      pointwise
    rw [this]
  · intro a
    match a with
    | ⟨0, _⟩ => exact hk
    | ⟨1, _⟩ => rfl
    | ⟨2, _⟩ => rfl
    | ⟨3, _⟩ => rfl
    | ⟨4, _⟩ => rfl
    | ⟨5, _⟩ => rfl

end Cert.ReferenceIdeal.Ssd

end
-- ==== Proof.RefState.lean ====
module

public import proofs.«01_k».proof.Proof.RefTrip

@[expose] public section

set_option maxRecDepth 16384

/-! The states the reference's loop carries and records are the layer's states. -/

noncomputable section

open Idealize.ShloMosaic Idealize.ShloMosaic.TcCoe Idealize.SL.Sem Idealize.ShloMosaic.StableHlo

namespace Cert.ReferenceIdeal.Ssd

open Cert.ReferenceIdeal Cert.ReferenceIdeal.Gen Cert.ReferenceIdeal.Value Cert.ReferenceIdeal.Step Cert.Ssd

variable (a0 : Vec Ideal S2x8192x3072 .f32) (a1 : Vec Ideal S2x8192x2048 .f32) (a2 : Vec Ideal S2x8192x32 .f32) (a3 : Vec Ideal S4x3072 .f32)
  (a4 : Vec Ideal S3072 .f32) (a5 a6 a7 : Vec Ideal S32 .f32) (a8 : Vec Ideal S2048 .f32)

/-- Record number `k` of the loop. -/
def trips : ℕ → State Ideal
  | 0 => init a0 a2 a3 a4 a5 a6
  | k + 1 => step k (trips k)

theorem trips_chunk (k : ℕ) : (trips a0 a2 a3 a4 a5 a6 k).main_v68_0 = A_main_v65 a0 a2 a3 a4 a5 a6 := by
  induction k with
  | zero => rfl
  | succ k ih => exact ih

theorem trips_whole (k : ℕ) : (trips a0 a2 a3 a4 a5 a6 k).main_v68_1 = A_main_v66 a0 a2 a3 a4 a5 a6 := by
  induction k with
  | zero => rfl
  | succ k ih => exact ih

theorem head_lane (g : Fin 4) (h : Fin 8) (i : Fin 64) (w) : (⟨(lane g h i).val / 64, w⟩ : Fin 32) = head g h := by
  apply Fin.ext
  show (512 * g.val + 64 * h.val + i.val) / 64 = g.val * 8 + h.val
  omega

theorem group_lane (g : Fin 4) (h : Fin 8) (i : Fin 64) : (lane g h i).val / 512 = g.val := by
  show (512 * g.val + 64 * h.val + i.val) / 512 = g.val
  omega

/-- A channel's input times its step size. -/
theorem xdt_value (b : Fin 2) (k : Fin 64) (s : Fin 128) (g : Fin 4) (h : Fin 8) (i : Fin 64) :
    A_main_v52 a0 a2 a3 a4 a5 a6 (ix6 b k s g h i)
      = (inputs a0 a1 a2 a3 a4 a5 a6 a7 a8).conv b (pos k.val s) ⟨(lane g h i).val, by have := (lane g h i).isLt; omega⟩
        * (inputs a0 a1 a2 a3 a4 a5 a6 a7 a8).step b (pos k.val s) (head g h) := by
  rw [xdt_at, x_at a0 a1 a2 a3 a4 a5 a6 a7 a8, dt_at a0 a1 a2 a3 a4 a5 a6 a7 a8]

/-- The carried state before chunk `k`. -/
theorem trips_state (k : ℕ) (hk : k ≤ 64) (b : Fin 2) (g : Fin 4) (h : Fin 8) (i : Fin 64) (n : Fin 128) :
    (trips a0 a2 a3 a4 a5 a6 k).main_v68_3 (ix5 b g h i n) = (inputs a0 a1 a2 a3 a4 a5 a6 a7 a8).state b k (lane g h i) n := by
  induction k generalizing n with
  | zero =>
    show K_main_v64 (F := Ideal) (ix5 b g h i n) = (0 : EReal)
    pointwise [K_main_v64, K_main_cst]
  | succ k ih =>
    have h1 := carried_at (trips a0 a2 a3 a4 a5 a6 k) ⟨k, by omega⟩ b g h i n
    rw [ih (by omega), trips_chunk, trips_whole, whole_at, chunk_at] at h1
    refine h1.trans ?_
    rw [Args.state.eq_2]
    unfold next
    simp only [head_lane, group_lane, prefix_at a0 a1 a2 a3 a4 a5 a6 a7 a8, xdt_value a0 a1 a2 a3 a4 a5 a6 a7 a8,
      b_at a0 a1 a2 a3 a4 a5 a6 a7 a8]
    refine congrArg (fun t : EReal => _ + t) (Finset.sum_congr rfl fun s _ => ?_)
    exact mul_comm _ _

/-- The recorded states. -/
theorem trips_recorded (k : ℕ) (hk : k ≤ 64) (q : Fin 64) (hq : q.val < k) (b : Fin 2) (g : Fin 4) (h : Fin 8) (i : Fin 64) (n : Fin 128) :
    (trips a0 a2 a3 a4 a5 a6 k).main_v68_4 (ix6 q b g h i n) = (inputs a0 a1 a2 a3 a4 a5 a6 a7 a8).state b q.val (lane g h i) n := by
  induction k with
  | zero => omega
  | succ k ih =>
    have h1 := recorded_at (trips a0 a2 a3 a4 a5 a6 k) ⟨k, by omega⟩ q b g h i n
    refine h1.trans ?_
    by_cases hqk : q.val = k
    · rw [if_pos hqk, trips_state a0 a1 a2 a3 a4 a5 a6 a7 a8 k (by omega), hqk]
    · rw [if_neg hqk]
      exact ih (by omega) (by omega)

/-- The final state, at an index. -/
theorem final_at (b : Fin 2) (g : Fin 4) (h : Fin 8) (i : Fin 64) (n : Fin 128) :
    R_main_v174 (trips a0 a2 a3 a4 a5 a6 64) (ix3 b (lane g h i) n)
      = (inputs a0 a1 a2 a3 a4 a5 a6 a7 a8).state b 64 (lane g h i) n := by
  rw [← trips_state a0 a1 a2 a3 a4 a5 a6 a7 a8 64 (by omega)]
  unfold R_main_v174
  generalize (trips a0 a2 a3 a4 a5 a6 64).main_v68_3 = w
  pointwise
  refine congrArg w ?_
  unfold lane
  congr 1
  all_goals (apply Fin.ext; simp only []; omega)

end Cert.ReferenceIdeal.Ssd

end
-- ==== Proof.RefOut.lean ====
module

public import proofs.«01_k».proof.Proof.RefState

@[expose] public section

set_option maxRecDepth 16384

/-! The reference's output, as one array made of a few named ones. -/

noncomputable section

open Idealize.ShloMosaic Idealize.ShloMosaic.TcCoe Idealize.SL.Sem Idealize.ShloMosaic.StableHlo

namespace Cert.ReferenceIdeal.Ssd

open Cert.ReferenceIdeal Cert.ReferenceIdeal.Gen Cert.ReferenceIdeal.Value Cert.ReferenceIdeal.Step Cert.Ssd

section
variable {F : FTy → Type} [FloatOps F]

/-- The output matrix of the chunks. -/
def cArr (v : FVec F S2x8192x3072 .f32) : FVec F S2x64x128x4x128 .f32 :=
  shapeCast _ (extractStridedSlice S2x8192x512 ![0, 0, 2560] v slices_S2x8192x3072_S2x8192x512_0_0_2560) shapeCasts_S2x8192x512_S2x64x128x4x128

/-- The products of the output and the input matrix inside the chunks. -/
def scores (B C : FVec F S2x64x128x4x128 .f32) : FVec F S2x64x128x128x4 .f32 :=
  transpose S2x64x128x128x4 [0, 1, 4, 3, 2]
    (Host.dotGeneral dot_S2x64x128x4x128_S2x64x128x4x128_S2x64x4x128x128_4_4_2_2_013_013 none B C)
    transposes_S2x64x4x128x128_S2x64x128x128x4_0_1_4_3_2

/-- What is left at a position of a chunk of the input at another. -/
def gaps (w : FVec F S2x64x128x4x8 .f32) : FVec F S2x64x128x128x4x8 .f32 :=
  Host.exp (select
    (broadcastInDim S2x64x128x128x4x8 ![0, 1, 2, 3, 4, 5] bcast_S1x1x128x128x1x1_S2x64x128x128x4x8_0_1_2_3_4_5
      (broadcastInDim S1x1x128x128x1x1 ![2, 3] bcast_S128x128_S1x1x128x128x1x1_2_3
        (cmpi .sge (iotaInDim S128x128 32 0) (iotaInDim S128x128 32 1))))
    (subf
      (broadcastInDim S2x64x128x128x4x8 ![0, 1, 2, 3, 4, 5] bcast_S2x64x128x1x4x8_S2x64x128x128x4x8_0_1_2_3_4_5
        (broadcastInDim S2x64x128x1x4x8 ![0, 1, 2, 4, 5] bcast_S2x64x128x4x8_S2x64x128x1x4x8_0_1_2_4_5 w))
      (broadcastInDim S2x64x128x128x4x8 ![0, 1, 2, 3, 4, 5] bcast_S2x64x1x128x4x8_S2x64x128x128x4x8_0_1_2_3_4_5
        (broadcastInDim S2x64x1x128x4x8 ![0, 1, 3, 4, 5] bcast_S2x64x128x4x8_S2x64x1x128x4x8_0_1_3_4_5 w)))
    (broadcastInDim S2x64x128x128x4x8 ![] bcast_S_S2x64x128x128x4x8 (id (constant S_ .f32 0xFF800000#32))))

/-- The part of the output the chunk's own inputs make. -/
def inner (X : FVec F S2x64x128x4x8x64 .f32) (S : FVec F S2x64x128x128x4 .f32) (G : FVec F S2x64x128x128x4x8 .f32) : FVec F S2x64x128x4x8x64 .f32 :=
  transpose S2x64x128x4x8x64 [0, 1, 5, 2, 3, 4]
    (Host.dotGeneral dot_S2x64x128x4x8x64_S2x64x128x128x4x8_S2x64x4x8x64x128_2_3_5_2_0134_0145 none X
      (mulf (broadcastInDim S2x64x128x128x4x8 ![0, 1, 2, 3, 4, 5] bcast_S2x64x128x128x4x1_S2x64x128x128x4x8_0_1_2_3_4_5
        (broadcastInDim S2x64x128x128x4x1 ![0, 1, 2, 3, 4] bcast_S2x64x128x128x4_S2x64x128x128x4x1_0_1_2_3_4 S)) G))
    transposes_S2x64x4x8x64x128_S2x64x128x4x8x64_0_1_5_2_3_4

/-- The part of the output the entering state makes. -/
def carried (H : FVec F S64x2x4x8x64x128 .f32) (C : FVec F S2x64x128x4x128 .f32) (w : FVec F S2x64x128x4x8 .f32) : FVec F S2x64x128x4x8x64 .f32 :=
  mulf
    (transpose S2x64x128x4x8x64 [0, 1, 5, 2, 3, 4]
      (Host.dotGeneral dot_S2x64x4x8x64x128_S2x64x128x4x128_S2x64x4x8x64x128_5_4_34_2_012_013 none
        (transpose S2x64x4x8x64x128 [1, 0, 2, 3, 4, 5] H transposes_S64x2x4x8x64x128_S2x64x4x8x64x128_1_0_2_3_4_5) C)
      transposes_S2x64x4x8x64x128_S2x64x128x4x8x64_0_1_5_2_3_4)
    (broadcastInDim S2x64x128x4x8x64 ![0, 1, 2, 3, 4, 5] bcast_S2x64x128x4x8x1_S2x64x128x4x8x64_0_1_2_3_4_5
      (broadcastInDim S2x64x128x4x8x1 ![0, 1, 2, 3, 4] bcast_S2x64x128x4x8_S2x64x128x4x8x1_0_1_2_3_4 (Host.exp w)))

/-- The skip's part of the output. -/
def skip (d : FVec F S32 .f32) (x : FVec F S2x8192x2048 .f32) : FVec F S2x8192x32x64 .f32 :=
  mulf (broadcastInDim S2x8192x32x64 ![0, 1, 2, 3] bcast_S1x1x32x1_S2x8192x32x64_0_1_2_3
      (broadcastInDim S1x1x32x1 ![2, 3] bcast_S32x1_S1x1x32x1_2_3 (broadcastInDim S32x1 ![0] bcast_S32_S32x1_0 d)))
    (shapeCast _ x shapeCasts_S2x8192x2048_S2x8192x32x64)

/-- The output before the gate. -/
def mixedArr (I O : FVec F S2x64x128x4x8x64 .f32) (K : FVec F S2x8192x32x64 .f32) : FVec F S2x8192x2048 .f32 :=
  shapeCast _ (addf (shapeCast S2x8192x32x64 (addf I O) shapeCasts_S2x64x128x4x8x64_S2x8192x32x64) K) shapeCasts_S2x8192x32x64_S2x8192x2048

/-- The output gated. -/
def gatedArr (Y z : FVec F S2x8192x2048 .f32) : FVec F S2x8192x4x512 .f32 :=
  shapeCast _ (mulf Y (mulf z (Host.divf (broadcastInDim S2x8192x2048 ![] bcast_S_S2x8192x2048 (constant S_ .f32 0x3F800000#32))
    (addf (broadcastInDim S2x8192x2048 ![] bcast_S_S2x8192x2048 (constant S_ .f32 0x3F800000#32)) (Host.exp (Host.negf z))))))
    shapeCasts_S2x8192x2048_S2x8192x4x512

/-- The gated output over its root mean square, weighted. -/
def normedArr (Y : FVec F S2x8192x4x512 .f32) (nw : FVec F S2048 .f32) : FVec F S2x8192x2048 .bf16 :=
  truncf .bf16 (mulf
    (shapeCast _ (mulf Y (broadcastInDim S2x8192x4x512 ![0, 1, 2, 3] bcast_S2x8192x4x1_S2x8192x4x512_0_1_2_3
      (Host.rsqrt (addf (Host.divf
        (broadcastInDim S2x8192x4x1 ![0, 1, 2] bcast_S2x8192x4_S2x8192x4x1_0_1_2
          (Host.reduceAdd (mulf Y Y) (constant S_ .f32 0x00000000#32) reducesTo_S2x8192x4x512_S2x8192x4_d3))
        (broadcastInDim S2x8192x4x1 ![] bcast_S_S2x8192x4x1 (constant S_ .f32 0x44000000#32)))
        (broadcastInDim S2x8192x4x1 ![] bcast_S_S2x8192x4x1 (constant S_ .f32 0x3727C5AC#32))))))
      shapeCasts_S2x8192x4x512_S2x8192x2048)
    (broadcastInDim S2x8192x2048 ![0, 1, 2] bcast_S1x1x2048_S2x8192x2048_0_1_2 (broadcastInDim S1x1x2048 ![2] bcast_S2048_S1x1x2048_2 nw)))

variable (a0 : Vec F S2x8192x3072 .f32) (a1 : Vec F S2x8192x2048 .f32) (a2 : Vec F S2x8192x32 .f32) (a3 : Vec F S4x3072 .f32)
  (a4 : Vec F S3072 .f32) (a5 a6 a7 : Vec F S32 .f32) (a8 : Vec F S2048 .f32)

/-- The output is the named arrays' composition. -/
theorem output_eq (s : State F) :
    R_main_v173 s a0 a1 a2 a3 a4 a5 a6 a7 a8
      = normedArr (gatedArr (mixedArr
          (inner (A_main_v52 a0 a2 a3 a4 a5 a6) (scores (A_main_v43 a0 a2 a3 a4 a5 a6) (cArr (A_main_v31 a0 a2 a3 a4 a5 a6)))
            (gaps (A_main_v49 a0 a2 a3 a4 a5 a6)))
          (carried s.main_v68_4 (cArr (A_main_v31 a0 a2 a3 a4 a5 a6)) (A_main_v49 a0 a2 a3 a4 a5 a6))
          (skip a7 (A_main_v32 a0 a2 a3 a4 a5 a6))) a1) a8 := by
  rfl
end

end Cert.ReferenceIdeal.Ssd

end
-- ==== Proof.RefParts.lean ====
module

public import proofs.«01_k».proof.Proof.RefOut
public import Idealize.ShloMosaic.Lib.WordCmp

@[expose] public section

set_option maxRecDepth 16384

/-! The named arrays of the reference's output, at an index. -/

noncomputable section

open Idealize.ShloMosaic Idealize.ShloMosaic.TcCoe Idealize.SL.Sem Idealize.ShloMosaic.StableHlo

namespace Cert.ReferenceIdeal.Ssd

open Cert.ReferenceIdeal Cert.ReferenceIdeal.Gen Cert.ReferenceIdeal.Value Cert.ReferenceIdeal.Step Cert.Ssd

theorem cArr_at (v : FVec Ideal S2x8192x3072 .f32) (b : Fin 2) (k : Fin 64) (s : Fin 128) (g : Fin 4) (n : Fin 128) :
    cArr v (ix5 b k s g n) = v (ix3 b (pos k.val s) ⟨2560 + 128 * g.val + n.val, by omega⟩) := by
  pointwise [cArr]
  refine congrArg v ?_
  rw [← pos_eq]
  congr 1
  · apply Fin.ext
    simp only []
    omega
  · omega

theorem scores_at (B C : FVec Ideal S2x64x128x4x128 .f32) (b : Fin 2) (k : Fin 64) (r s : Fin 128) (g : Fin 4) :
    scores B C (ix5 b k r s g) = ∑ n : Fin 128, (B (ix5 b k s g n) : EReal) * C (ix5 b k r g n) := by
  pointwise [scores]

theorem neg_inf : Ideal.ofBits .f32 0xFF800000#32 = ⊥ := by
  simp [Ideal.ofBits, Ideal.ieee]

theorem gaps_at (w : FVec Ideal S2x64x128x4x8 .f32) (b : Fin 2) (k : Fin 64) (r s : Fin 128) (g : Fin 4) (h : Fin 8) :
    gaps w (ix6 b k r s g h)
      = Ideal.exp (if s ≤ r then (w (ix5 b k r g h) : EReal) - w (ix5 b k s g h) else (⊥ : EReal)) := by
  pointwise [gaps]
  rw [WordCmp.cmpi_sge_ofNat (by omega) (by omega), WordCmp.select_ofBool]
  have hb : id (constant (F := Ideal) S_ .f32 0xFF800000#32) ix0 = (⊥ : EReal) := neg_inf
  rw [hb]
  by_cases hs : s ≤ r
  · rw [if_pos hs, if_pos (by simpa using hs)]
  · rw [if_neg hs, if_neg (by simpa using hs)]

theorem dot_inner (X : FVec Ideal S2x64x128x4x8x64 .f32) (M : FVec Ideal S2x64x128x128x4x8 .f32) (b : Fin 2) (k : Fin 64) (r : Fin 128) (g : Fin 4)
    (h : Fin 8) (i : Fin 64) :
    Host.dotGeneral dot_S2x64x128x4x8x64_S2x64x128x128x4x8_S2x64x4x8x64x128_2_3_5_2_0134_0145 none X M (ix6 b k g h i r)
      = ∑ s : Fin 128, (X (ix6 b k s g h i) : EReal) * M (ix6 b k r s g h) := by
  pointwise

theorem spread_group_at (S : FVec Ideal S2x64x128x128x4 .f32) (b : Fin 2) (k : Fin 64) (r s : Fin 128) (g : Fin 4) (h : Fin 8) :
    broadcastInDim S2x64x128x128x4x8 ![0, 1, 2, 3, 4, 5] bcast_S2x64x128x128x4x1_S2x64x128x128x4x8_0_1_2_3_4_5
      (broadcastInDim S2x64x128x128x4x1 ![0, 1, 2, 3, 4] bcast_S2x64x128x128x4_S2x64x128x128x4x1_0_1_2_3_4 S) (ix6 b k r s g h)
      = S (ix5 b k r s g) := by
  pointwise

theorem back_at (w : FVec Ideal S2x64x4x8x64x128 .f32) (b : Fin 2) (k : Fin 64) (r : Fin 128) (g : Fin 4) (h : Fin 8) (i : Fin 64) :
    transpose S2x64x128x4x8x64 [0, 1, 5, 2, 3, 4] w transposes_S2x64x4x8x64x128_S2x64x128x4x8x64_0_1_5_2_3_4 (ix6 b k r g h i)
      = w (ix6 b k g h i r) := by
  pointwise

theorem inner_at (X : FVec Ideal S2x64x128x4x8x64 .f32) (S : FVec Ideal S2x64x128x128x4 .f32) (G : FVec Ideal S2x64x128x128x4x8 .f32)
    (b : Fin 2) (k : Fin 64) (r : Fin 128) (g : Fin 4) (h : Fin 8) (i : Fin 64) :
    inner X S G (ix6 b k r g h i)
      = ∑ s : Fin 128, (X (ix6 b k s g h i) : EReal) * ((S (ix5 b k r s g) : EReal) * G (ix6 b k r s g h)) := by
  unfold inner
  rw [back_at, dot_inner]
  refine Finset.sum_congr rfl fun s _ => ?_
  rw [← spread_group_at S b k r s g h]
  exact congrArg (fun t : EReal => _ * t) (mulf_apply _ _ _)

theorem dot_carried (H : FVec Ideal S2x64x4x8x64x128 .f32) (C : FVec Ideal S2x64x128x4x128 .f32) (b : Fin 2) (k : Fin 64) (r : Fin 128) (g : Fin 4)
    (h : Fin 8) (i : Fin 64) :
    Host.dotGeneral dot_S2x64x4x8x64x128_S2x64x128x4x128_S2x64x4x8x64x128_5_4_34_2_012_013 none H C (ix6 b k g h i r)
      = ∑ n : Fin 128, (H (ix6 b k g h i n) : EReal) * C (ix5 b k r g n) := by
  pointwise

theorem unturned_at (w : FVec Ideal S64x2x4x8x64x128 .f32) (b : Fin 2) (k : Fin 64) (g : Fin 4) (h : Fin 8) (i : Fin 64) (n : Fin 128) :
    transpose S2x64x4x8x64x128 [1, 0, 2, 3, 4, 5] w transposes_S64x2x4x8x64x128_S2x64x4x8x64x128_1_0_2_3_4_5 (ix6 b k g h i n)
      = w (ix6 k b g h i n) := by
  pointwise

theorem carriedArr_at (H : FVec Ideal S64x2x4x8x64x128 .f32) (C : FVec Ideal S2x64x128x4x128 .f32) (w : FVec Ideal S2x64x128x4x8 .f32)
    (b : Fin 2) (k : Fin 64) (r : Fin 128) (g : Fin 4) (h : Fin 8) (i : Fin 64) :
    carried H C w (ix6 b k r g h i)
      = (∑ n : Fin 128, (H (ix6 k b g h i n) : EReal) * C (ix5 b k r g n)) * Ideal.exp (w (ix5 b k r g h) : EReal) := by
  unfold carried
  refine (mulf_apply _ _ _).trans ?_
  refine congrArg₂ (fun a b : EReal => a * b) ?_ (spread_at _ b k r g h i)
  rw [back_at, dot_carried]
  exact Finset.sum_congr rfl fun n _ => by rw [unturned_at]

theorem skip_at (d : FVec Ideal S32 .f32) (x : FVec Ideal S2x8192x2048 .f32) (b : Fin 2) (p : Fin 8192) (h : Fin 32) (i : Fin 64) :
    skip d x (ix4 b p h i) = (d (ix1 h) : EReal) * x (ix3 b p ⟨64 * h.val + i.val, by omega⟩) := by
  pointwise [skip]
  simp only [Nat.mul_comm]

theorem mixedArr_at (I O : FVec Ideal S2x64x128x4x8x64 .f32) (K : FVec Ideal S2x8192x32x64 .f32) (b : Fin 2) (k : Fin 64) (r : Fin 128) (g : Fin 4)
    (h : Fin 8) (i : Fin 64) :
    mixedArr I O K (ix3 b (pos k.val r) (lane g h i))
      = (I (ix6 b k r g h i) : EReal) + O (ix6 b k r g h i) + K (ix4 b (pos k.val r) (head g h) i) := by
  have e1 : (⟨(pos k.val r).val / 128, by omega⟩ : Fin 64) = k := Fin.ext (by show ((128 * k.val + r.val) % 8192) / 128 = k.val; omega)
  have e2 : (⟨(pos k.val r).val % 128, by omega⟩ : Fin 128) = r := Fin.ext (by show ((128 * k.val + r.val) % 8192) % 128 = r.val; omega)
  have e3 : (⟨(lane g h i).val / 64 / 8, by omega⟩ : Fin 4) = g := Fin.ext (by show (512 * g.val + 64 * h.val + i.val) / 64 / 8 = g.val; omega)
  have e4 : (⟨(lane g h i).val / 64 % 8, by omega⟩ : Fin 8) = h := Fin.ext (by show (512 * g.val + 64 * h.val + i.val) / 64 % 8 = h.val; omega)
  have e5 : (⟨(lane g h i).val % 64, by omega⟩ : Fin 64) = i := Fin.ext (by show (512 * g.val + 64 * h.val + i.val) % 64 = i.val; omega)
  pointwise [mixedArr]
  simp only [e1, e2, e3, e4, e5, head_lane]

theorem gatedArr_at (Y z : FVec Ideal S2x8192x2048 .f32) (b : Fin 2) (p : Fin 8192) (g : Fin 4) (q : Fin 512) :
    gatedArr Y z (ix4 b p g q) = (Y (ix3 b p (chan g q)) : EReal) * silu (z (ix3 b p (chan g q))) := by
  have e (w) : (⟨g.val * 512 + q.val, w⟩ : Fin 2048) = chan g q := Fin.ext (by show g.val * 512 + q.val = 512 * g.val + q.val; omega)
  pointwise [gatedArr]
  simp only [e]
  rfl

theorem normedArr_at (Y : FVec Ideal S2x8192x4x512 .f32) (nw : FVec Ideal S2048 .f32) (b : Fin 2) (p : Fin 8192) (g : Fin 4) (q : Fin 512) :
    normedArr Y nw (ix3 b p (chan g q)) = normed (fun i => Y (ix4 b p g i)) q * (nw (ix1 (chan g q)) : EReal) := by
  have e1 : (⟨(chan g q).val / 512, by omega⟩ : Fin 4) = g := Fin.ext (by show (512 * g.val + q.val) / 512 = g.val; omega)
  have e2 : (⟨(chan g q).val % 512, by omega⟩ : Fin 512) = q := Fin.ext (by show (512 * g.val + q.val) % 512 = q.val; omega)
  pointwise [normedArr]
  simp only [e1, e2]
  rfl

end Cert.ReferenceIdeal.Ssd

end
-- ==== Proof.RefFinal.lean ====
module

public import proofs.«01_k».proof.Proof.RefParts

@[expose] public section

set_option maxRecDepth 16384

/-! The reference's two results are the layer's output and its last state. -/

noncomputable section

open Idealize.ShloMosaic Idealize.ShloMosaic.TcCoe Idealize.SL.Sem Idealize.ShloMosaic.StableHlo

namespace Cert.ReferenceIdeal.Ssd

open Cert.ReferenceIdeal Cert.ReferenceIdeal.Gen Cert.ReferenceIdeal.Value Cert.ReferenceIdeal.Step Cert.Ssd

variable (a0 : Vec Ideal S2x8192x3072 .f32) (a1 : Vec Ideal S2x8192x2048 .f32) (a2 : Vec Ideal S2x8192x32 .f32) (a3 : Vec Ideal S4x3072 .f32)
  (a4 : Vec Ideal S3072 .f32) (a5 a6 a7 : Vec Ideal S32 .f32) (a8 : Vec Ideal S2048 .f32)

theorem chan_lane (g : Fin 4) (q : Fin 512) : chan g q = lane g ⟨q.val / 64, by omega⟩ ⟨q.val % 64, by omega⟩ := by
  apply Fin.ext
  show 512 * g.val + q.val = 512 * g.val + 64 * (q.val / 64) + q.val % 64
  omega

theorem c_at (b : Fin 2) (k : Fin 64) (s : Fin 128) (g : Fin 4) (n : Fin 128) :
    cArr (A_main_v31 a0 a2 a3 a4 a5 a6) (ix5 b k s g n)
      = (inputs a0 a1 a2 a3 a4 a5 a6 a7 a8).conv b (pos k.val s) ⟨2560 + 128 * g.val + n.val, by omega⟩ := by
  rw [cArr_at, conv_at a0 a1 a2 a3 a4 a5 a6 a7 a8]

theorem inner_value (b : Fin 2) (k : Fin 64) (r : Fin 128) (g : Fin 4) (h : Fin 8) (i : Fin 64) (A : Args)
    (hA : A = inputs a0 a1 a2 a3 a4 a5 a6 a7 a8) :
    inner (A_main_v52 a0 a2 a3 a4 a5 a6) (scores (A_main_v43 a0 a2 a3 a4 a5 a6) (cArr (A_main_v31 a0 a2 a3 a4 a5 a6)))
        (gaps (A_main_v49 a0 a2 a3 a4 a5 a6)) (ix6 b k r g h i)
      = ∑ s, (∑ n : Fin 128, A.conv b (pos k.val r) ⟨2560 + 128 * g.val + n.val, by omega⟩ * A.conv b (pos k.val s) ⟨2048 + 128 * g.val + n.val, by omega⟩)
          * Ideal.exp (if s ≤ r then cum (fun s => A.decay b (pos k.val s) (head g h)) r - cum (fun s => A.decay b (pos k.val s) (head g h)) s else ⊥)
          * (A.conv b (pos k.val s) ⟨(lane g h i).val, by have := (lane g h i).isLt; omega⟩ * A.step b (pos k.val s) (head g h)) := by
  subst hA
  rw [inner_at]
  refine Finset.sum_congr rfl fun s _ => ?_
  rw [scores_at, gaps_at, xdt_value a0 a1 a2 a3 a4 a5 a6 a7 a8, prefix_at a0 a1 a2 a3 a4 a5 a6 a7 a8, prefix_at a0 a1 a2 a3 a4 a5 a6 a7 a8]
  refine (mul_comm _ _).trans ?_
  refine congrArg (fun t : EReal => t * _ * _) (Finset.sum_congr rfl fun n _ => ?_)
  rw [b_at a0 a1 a2 a3 a4 a5 a6 a7 a8, c_at a0 a1 a2 a3 a4 a5 a6 a7 a8]
  exact mul_comm _ _

theorem carried_value (b : Fin 2) (k : Fin 64) (r : Fin 128) (g : Fin 4) (h : Fin 8) (i : Fin 64) (A : Args)
    (hA : A = inputs a0 a1 a2 a3 a4 a5 a6 a7 a8) :
    carried (trips a0 a2 a3 a4 a5 a6 64).main_v68_4 (cArr (A_main_v31 a0 a2 a3 a4 a5 a6)) (A_main_v49 a0 a2 a3 a4 a5 a6) (ix6 b k r g h i)
      = (∑ n : Fin 128, A.conv b (pos k.val r) ⟨2560 + 128 * g.val + n.val, by omega⟩ * A.state b k.val (lane g h i) n)
          * Ideal.exp (cum (fun s => A.decay b (pos k.val s) (head g h)) r) := by
  subst hA
  rw [carriedArr_at, prefix_at a0 a1 a2 a3 a4 a5 a6 a7 a8]
  refine congrArg (fun t : EReal => t * _) (Finset.sum_congr rfl fun n _ => ?_)
  rw [trips_recorded a0 a1 a2 a3 a4 a5 a6 a7 a8 64 (by omega) k k.isLt, c_at a0 a1 a2 a3 a4 a5 a6 a7 a8]
  exact mul_comm _ _

theorem skip_value (b : Fin 2) (k : Fin 64) (r : Fin 128) (g : Fin 4) (h : Fin 8) (i : Fin 64) (A : Args)
    (hA : A = inputs a0 a1 a2 a3 a4 a5 a6 a7 a8) :
    skip a7 (A_main_v32 a0 a2 a3 a4 a5 a6) (ix4 b (pos k.val r) (head g h) i)
      = A.dk (head g h) * A.conv b (pos k.val r) ⟨(lane g h i).val, by have := (lane g h i).isLt; omega⟩ := by
  subst hA
  rw [skip_at, ← conv_at]
  refine congrArg (fun t : EReal => _ * t) ?_
  unfold A_main_v32
  generalize A_main_v31 a0 a2 a3 a4 a5 a6 = w
  pointwise
  refine congrArg w ?_
  congr 1
  apply Fin.ext
  simp only [lane, head]
  omega

/-- The output before the gate. -/
theorem mixed_value (b : Fin 2) (k : Fin 64) (r : Fin 128) (ch : Fin 2048) :
    mixedArr (inner (A_main_v52 a0 a2 a3 a4 a5 a6) (scores (A_main_v43 a0 a2 a3 a4 a5 a6) (cArr (A_main_v31 a0 a2 a3 a4 a5 a6)))
        (gaps (A_main_v49 a0 a2 a3 a4 a5 a6)))
      (carried (trips a0 a2 a3 a4 a5 a6 64).main_v68_4 (cArr (A_main_v31 a0 a2 a3 a4 a5 a6)) (A_main_v49 a0 a2 a3 a4 a5 a6))
      (skip a7 (A_main_v32 a0 a2 a3 a4 a5 a6)) (ix3 b (pos k.val r) ch)
      = (inputs a0 a1 a2 a3 a4 a5 a6 a7 a8).mixed b k.val r ch := by
  obtain ⟨g, h, i, rfl⟩ : ∃ g h i, ch = lane g h i :=
    ⟨⟨ch.val / 512, by omega⟩, ⟨ch.val % 512 / 64, by omega⟩, ⟨ch.val % 64, by omega⟩,
      Fin.ext (by show ch.val = 512 * (ch.val / 512) + 64 * (ch.val % 512 / 64) + ch.val % 64; omega)⟩
  rw [mixedArr_at, inner_value a0 a1 a2 a3 a4 a5 a6 a7 a8 b k r g h i _ rfl, carried_value a0 a1 a2 a3 a4 a5 a6 a7 a8 b k r g h i _ rfl,
    skip_value a0 a1 a2 a3 a4 a5 a6 a7 a8 b k r g h i _ rfl]
  unfold Args.mixed mix
  simp only [head_lane, group_lane]

/-- The output, at an index. -/
theorem output_at (b : Fin 2) (k : Fin 64) (r : Fin 128) (g : Fin 4) (q : Fin 512) :
    R_main_v173 (trips a0 a2 a3 a4 a5 a6 64) a0 a1 a2 a3 a4 a5 a6 a7 a8 (ix3 b (pos k.val r) (chan g q))
      = (inputs a0 a1 a2 a3 a4 a5 a6 a7 a8).out b k.val r g q := by
  rw [output_eq, normedArr_at]
  simp only [gatedArr_at, mixed_value a0 a1 a2 a3 a4 a5 a6 a7 a8]
  rfl

end Cert.ReferenceIdeal.Ssd

end
-- ==== Proof.Agree.lean ====
module

public import proofs.«01_k».proof.Defs
public import proofs.«01_k».proof.Proof.Fold
public import proofs.«01_k».proof.Proof.RefFinal

@[expose] public section

set_option maxRecDepth 16384

/-! The precondition read as a statement about extended reals, and the results of the two programs compared index by
index. -/

noncomputable section

open Idealize.ShloMosaic Idealize.ShloMosaic.TcCoe Idealize.SL.Sem

namespace Cert.Ssd

/-- The side conditions of the precondition's operations. -/
instance preFacts : Cert.Pre_steps_finite.Facts where
  bcast_S32_S1x1x32_2 := by decide
  bcast_S1x1x32_S2x8192x32_0_1_2 := by decide
  bcast_S_S2x8192x32 := by decide

theorem ofBits_inf : Ideal.ofBits .f32 0x7F800000#32 = ⊤ := by
  simp [Ideal.ofBits, Ideal.ieee]

/-- Where the precondition holds, no step size is infinite before its softplus. -/
theorem finite_of_pre (m : (ℓ : Loc Cert.KernelIdeal.nD Cert.KernelIdeal.τ Cert.KernelIdeal.sig) → Buf (Elt Ideal) ℓ)
    (hpre : Cert.Pre_KernelIdeal_steps_finite m) (c : Dev Cert.KernelIdeal.nD) : Cert.KernelIdeal.Ssd.Finite m c := by
  intro b p h htop
  have h1 := congrFun (hpre c) (ix3 b p h)
  unfold Cert.Pre_steps_finite.fn at h1
  pointwise at h1
  rw [ofBits_inf] at h1
  have h2 : @HAdd.hAdd EReal EReal EReal _
      (m ((c.tc : Thread Cert.KernelIdeal.nD Cert.KernelIdeal.τ).loc Cert.KernelIdeal.main_arg2) (ix3 b p h))
      (m ((c.tc : Thread Cert.KernelIdeal.nD Cert.KernelIdeal.τ).loc Cert.KernelIdeal.main_arg5) (ix1 h)) = ⊤ := htop
  rw [h2] at h1
  simp at h1

/-- Every index of the output is a position of a chunk and a channel of a group. -/
theorem out_index (j : (⟨3, ![2, 8192, 2048]⟩ : Shape).Idx) :
    ∃ (b : Fin 2) (k : Fin 64) (r : Fin 128) (g : Fin 4) (q : Fin 512), j = ix3 b (pos k.val r) (chan g q) := by
  obtain ⟨b, p, ch, rfl⟩ : ∃ (b : Fin 2) (p : Fin 8192) (ch : Fin 2048), j = ix3 b p ch := ⟨_, _, _, eq_ix3 j⟩
  have hp : p = pos (p.val / 128) ⟨p.val % 128, by omega⟩ := Fin.ext (by show p.val = (128 * (p.val / 128) + p.val % 128) % 8192; omega)
  have hc : ch = chan ⟨ch.val / 512, by omega⟩ ⟨ch.val % 512, by omega⟩ := Fin.ext (by show ch.val = 512 * (ch.val / 512) + ch.val % 512; omega)
  exact ⟨b, ⟨p.val / 128, by omega⟩, ⟨p.val % 128, by omega⟩, ⟨ch.val / 512, by omega⟩, ⟨ch.val % 512, by omega⟩,
    congrArg₂ (fun x y => ix3 b x y) hp hc⟩

/-- Every index of the last state is a channel of a group and a state index. -/
theorem state_index (j : (⟨3, ![2, 2048, 128]⟩ : Shape).Idx) :
    ∃ (b : Fin 2) (g : Fin 4) (q : Fin 512) (n : Fin 128), j = ix3 b (chan g q) n := by
  obtain ⟨b, ch, n, rfl⟩ : ∃ (b : Fin 2) (ch : Fin 2048) (n : Fin 128), j = ix3 b ch n := ⟨_, _, _, eq_ix3 j⟩
  have hc : ch = chan ⟨ch.val / 512, by omega⟩ ⟨ch.val % 512, by omega⟩ := Fin.ext (by show ch.val = 512 * (ch.val / 512) + ch.val % 512; omega)
  exact ⟨b, ⟨ch.val / 512, by omega⟩, ⟨ch.val % 512, by omega⟩, n, congrArg (fun x => ix3 b x n) hc⟩

section
variable (m : (ℓ : Loc Cert.KernelIdeal.nD Cert.KernelIdeal.τ Cert.KernelIdeal.sig) → Buf (Elt Ideal) ℓ)
  (c : Dev Cert.KernelIdeal.nD) (a0 : Vec Ideal Cert.ReferenceIdeal.S2x8192x3072 .f32) (a1 : Vec Ideal Cert.ReferenceIdeal.S2x8192x2048 .f32)
  (a2 : Vec Ideal Cert.ReferenceIdeal.S2x8192x32 .f32) (a3 : Vec Ideal Cert.ReferenceIdeal.S4x3072 .f32)
  (a4 : Vec Ideal Cert.ReferenceIdeal.S3072 .f32) (a5 a6 a7 : Vec Ideal Cert.ReferenceIdeal.S32 .f32) (a8 : Vec Ideal Cert.ReferenceIdeal.S2048 .f32)
  (hfin : Cert.KernelIdeal.Ssd.Finite m c)
  (hargs : Cert.ReferenceIdeal.Ssd.inputs a0 a1 a2 a3 a4 a5 a6 a7 a8 = Cert.KernelIdeal.Ssd.args m c)

include hfin hargs

/-- The outputs agree. -/
theorem outputs_agree :
    Cert.ReferenceIdeal.Step.R_main_v173 (Cert.ReferenceIdeal.Ssd.trips a0 a2 a3 a4 a5 a6 64) a0 a1 a2 a3 a4 a5 a6 a7 a8
      = Cert.KernelIdeal.Value.G10 m c := by
  funext j
  obtain ⟨b, k, r, g, q, rfl⟩ := out_index j
  refine (Cert.ReferenceIdeal.Ssd.output_at a0 a1 a2 a3 a4 a5 a6 a7 a8 b k r g q).trans ?_
  rw [hargs]
  exact (Cert.KernelIdeal.Ssd.G10_eq m c hfin b k r g q).symm

/-- The last states agree. -/
theorem states_agree :
    Cert.ReferenceIdeal.Step.R_main_v174 (Cert.ReferenceIdeal.Ssd.trips a0 a2 a3 a4 a5 a6 64) = Cert.KernelIdeal.Value.G11 m c := by
  funext j
  obtain ⟨b, g, q, n, rfl⟩ := state_index j
  rw [Cert.ReferenceIdeal.Ssd.chan_lane]
  refine (Cert.ReferenceIdeal.Ssd.final_at a0 a1 a2 a3 a4 a5 a6 a7 a8 b g _ _ n).trans ?_
  rw [hargs, ← Cert.ReferenceIdeal.Ssd.chan_lane]
  exact (Cert.KernelIdeal.Ssd.G11_eq m c hfin b g q n).symm

end

/-- The loop's records, as the run names them. -/
theorem record_eq (m : (ℓ : Loc Cert.ReferenceIdeal.nD Cert.ReferenceIdeal.τ Cert.ReferenceIdeal.sig) → Buf (Elt Ideal) ℓ)
    (c : Dev Cert.ReferenceIdeal.nD) (k : ℕ) :
    Cert.ReferenceIdeal.ChunkRun.record m c k
      = Cert.ReferenceIdeal.Ssd.trips (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) k := by
  induction k with
  | zero => rfl
  | succ k ih =>
    show Cert.ReferenceIdeal.Step.step k (Cert.ReferenceIdeal.ChunkRun.record m c k) = Cert.ReferenceIdeal.Step.step k _
    rw [ih]

/-- The two programs end with equal results. -/
theorem agree : Cert.algebraic_KernelIdeal_ReferenceIdeal_pre_steps_finite (hKernelIdeal := Cert.KernelIdeal.Gen.facts)
    (hReferenceIdeal := Cert.ReferenceIdeal.Gen.facts) (hPre_steps_finite := preFacts) := by
  intro m ρ m' ρ' hpre hag
  refine ⟨fun c => Cert.KernelIdeal.Value.G10 m c, fun c => Cert.KernelIdeal.Value.G11 m c, Cert.KernelIdeal.Value.run m ρ, ?_⟩
  refine (θ_run _ _ _).mono (fun r h c => ?_) (Cert.ReferenceIdeal.ChunkRun.run_record m' ρ')
  obtain ⟨e0, e1, e2, e3, e4, e5, e6, e7, e8⟩ := hag c
  obtain ⟨h0, h1, hk⟩ := h c
  have hargs : Cert.ReferenceIdeal.Ssd.inputs
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      = Cert.KernelIdeal.Ssd.args m c := by
    rw [e0, e1, e2, e3, e4, e5, e6, e7, e8]
    rfl
  refine ⟨h0.trans ?_, h1.trans ?_, hk⟩
  · rw [record_eq]
    exact outputs_agree m c _ _ _ _ _ _ _ _ _ (finite_of_pre m hpre c) hargs
  · rw [record_eq]
    exact states_agree m c _ _ _ _ _ _ _ _ _ (finite_of_pre m hpre c) hargs

end Cert.Ssd

end
-- ==== Proof.Linear.lean ====
module

public import Idealize.ShloMosaic.Lib.Pointwise
public import Idealize.ShloMosaic.Lib.ValueIdx
public import Idealize.ShloMosaic.PureOps.Ideal
public import Idealize.ShloMosaic.Lib.Pipeline.ValueKit

@[expose] public section

/-! What the projections share, for a segment of `n` columns of the weights that begins at column `o`: one entry of a
projection, the array a call over the prompt leaves, and that array's entries in terms of the arguments. -/

noncomputable section

open Idealize.ShloMosaic Idealize.ShloMosaic.TcCoe

namespace Cert.Proj

/-- A row of the input times a column of the weights, and the column's bias. All the projections' results, the kernels' and
the references', are stated with it. -/
def entry (x w : Fin 1024 → EReal) (b : EReal) : EReal := (∑ k : Fin 1024, x k * w k) + b

variable {n o : ℕ}

/-- The array a call leaves that takes `r` rows against `n` columns. -/
def lin (r n : ℕ) (X : Vec Ideal ⟨2, ![r, 1024]⟩ .bf16) (W : Vec Ideal ⟨2, ![1024, n]⟩ .bf16) (B : Vec Ideal ⟨2, ![1, n]⟩ .f32) :
    Vec Ideal ⟨2, ![r, n]⟩ .f32 :=
  fun i => entry (fun k => X (ix2 (i 0) k)) (fun k => W (ix2 k (i 1))) (B (ix2 0 (i 1)))

/-- The array a call leaves that keeps its result transposed: column `n` of the weights is a row of `W`, for `r` rows of each
of the two prompts. -/
def linT (r n : ℕ) (X : Vec Ideal ⟨3, ![2, r, 1024]⟩ .bf16) (W : Vec Ideal ⟨2, ![n, 1024]⟩ .bf16) (B : Vec Ideal ⟨2, ![n, 1]⟩ .f32) :
    Vec Ideal ⟨3, ![2, n, r]⟩ .f32 :=
  fun i => entry (fun k => X (ix3 (i 0) (i 2) k)) (fun k => W (ix2 (i 1) k)) (B (ix2 (i 1) 0))

/-- The segment of the weights at an entry. -/
theorem weights_at (w : Vec Ideal ⟨2, ![1024, 9808]⟩ .f32) (h : (⟨2, ![1024, 9808]⟩ : Shape).Slices ![0, o] ⟨2, ![1024, n]⟩)
    (k : Fin 1024) (ch : Fin n) (ho : o + ch.val < 9808) :
    (extractStridedSlice ⟨2, ![1024, n]⟩ ![0, o] w h : Vec Ideal ⟨2, ![1024, n]⟩ .f32) (ix2 k ch) = w (ix2 k ⟨o + ch.val, ho⟩) := by
  refine extractStridedSlice_apply _ _ h _ _ fun a => ?_
  match a with
  | ⟨0, _⟩ => simp
  | ⟨1, _⟩ => simp [Nat.add_comm]

/-- The segment of the bias at an entry. -/
theorem bias_at (v : Vec Ideal ⟨1, ![9808]⟩ .f32) (h : (⟨1, ![9808]⟩ : Shape).Slices ![o] ⟨1, ![n]⟩) (ch : Fin n) (ho : o + ch.val < 9808) :
    (extractStridedSlice ⟨1, ![n]⟩ ![o] v h : Vec Ideal ⟨1, ![n]⟩ .f32) (ix1 ch) = v (ix1 ⟨o + ch.val, ho⟩) := by
  refine extractStridedSlice_apply _ _ h _ _ fun a => ?_
  match a with
  | ⟨0, _⟩ => simp [Nat.add_comm]

/-- A bias as a row. -/
theorem bias_row (v : Vec Ideal ⟨1, ![n]⟩ .f32) (h : (⟨1, ![n]⟩ : Shape).ShapeCasts ⟨2, ![1, n]⟩) (ch : Fin n) :
    (shapeCast ⟨2, ![1, n]⟩ v h : Vec Ideal ⟨2, ![1, n]⟩ .f32) (ix2 0 ch) = v (ix1 ch) := by
  refine shapeCast_apply v h _ _ ?_
  rw [Shape.rowMajor_val_one, Shape.rowMajor_val_two]
  simp

/-- The rows of the two prompts, one prompt after the other, taken apart. -/
theorem apart_at (x : Vec Ideal ⟨2, ![16384, n]⟩ .f32) (h : (⟨2, ![16384, n]⟩ : Shape).ShapeCasts ⟨3, ![2, 8192, n]⟩)
    (b : Fin 2) (p : Fin 8192) (ch : Fin n) :
    (shapeCast ⟨3, ![2, 8192, n]⟩ x h : Vec Ideal ⟨3, ![2, 8192, n]⟩ .f32) (ix3 b p ch) = x (ix2 ⟨8192 * b.val + p.val, by omega⟩ ch) := by
  refine shapeCast_apply x h _ _ ?_
  rw [Shape.rowMajor_val_two, Shape.rowMajor_val_three]
  simp
  exact Or.inl (by ring)

/-- The rows of the two prompts put one after the other. -/
theorem together_at {φ : EltTy} (x : Vec Ideal ⟨3, ![2, 8192, n]⟩ φ) (h : (⟨3, ![2, 8192, n]⟩ : Shape).ShapeCasts ⟨2, ![16384, n]⟩)
    (b : Fin 2) (p : Fin 8192) (k : Fin n) :
    (shapeCast ⟨2, ![16384, n]⟩ x h : Vec Ideal ⟨2, ![16384, n]⟩ φ) (ix2 ⟨8192 * b.val + p.val, by omega⟩ k) = x (ix3 b p k) := by
  refine shapeCast_apply x h _ _ ?_
  rw [Shape.rowMajor_val_two, Shape.rowMajor_val_three]
  simp
  exact Or.inl (by ring)

/-- A prompt's call at an entry, from the arguments. -/
theorem prompt_at (x : Vec Ideal ⟨3, ![2, 8192, 1024]⟩ .f32) (w : Vec Ideal ⟨2, ![1024, 9808]⟩ .f32) (v : Vec Ideal ⟨1, ![9808]⟩ .f32)
    (h1 : FTy.bf16.bits < FTy.f32.bits) (h2 : (⟨3, ![2, 8192, 1024]⟩ : Shape).ShapeCasts ⟨2, ![16384, 1024]⟩)
    (h3 : (⟨2, ![1024, 9808]⟩ : Shape).Slices ![0, o] ⟨2, ![1024, n]⟩) (h5 : (⟨1, ![9808]⟩ : Shape).Slices ![o] ⟨1, ![n]⟩)
    (h6 : (⟨1, ![n]⟩ : Shape).ShapeCasts ⟨2, ![1, n]⟩) (h7 : (⟨2, ![16384, n]⟩ : Shape).ShapeCasts ⟨3, ![2, 8192, n]⟩)
    (b : Fin 2) (p : Fin 8192) (ch : Fin n) (ho : o + ch.val < 9808) :
    (shapeCast ⟨3, ![2, 8192, n]⟩ (lin 16384 n
        (shapeCast ⟨2, ![16384, 1024]⟩ (truncf (F := Ideal) .bf16 (x : FVec Ideal ⟨3, ![2, 8192, 1024]⟩ .f32) h1 : Vec Ideal ⟨3, ![2, 8192, 1024]⟩ .bf16) h2)
        (truncf (F := Ideal) .bf16 (extractStridedSlice ⟨2, ![1024, n]⟩ ![0, o] w h3 : FVec Ideal ⟨2, ![1024, n]⟩ .f32) h1)
        (shapeCast ⟨2, ![1, n]⟩ (extractStridedSlice ⟨1, ![n]⟩ ![o] v h5 : Vec Ideal ⟨1, ![n]⟩ .f32) h6)) h7 : Vec Ideal ⟨3, ![2, 8192, n]⟩ .f32) (ix3 b p ch)
      = entry (fun k => x (ix3 b p k)) (fun k => w (ix2 k ⟨o + ch.val, ho⟩)) (v (ix1 ⟨o + ch.val, ho⟩)) := by
  rw [apart_at]
  unfold lin
  congr 1
  · exact funext fun k => together_at _ h2 b p k
  · exact funext fun k => weights_at w h3 k ch ho
  · exact (bias_row _ h6 ch).trans (bias_at v h5 ch ho)

/-- The samples' rows laid flat. -/
theorem flat_at (x : Vec Ideal ⟨3, ![128, 1, n]⟩ .f32) (h : (⟨3, ![128, 1, n]⟩ : Shape).ShapeCasts ⟨2, ![128, n]⟩) (s : Fin 128) (k : Fin n) :
    (shapeCast ⟨2, ![128, n]⟩ x h : Vec Ideal ⟨2, ![128, n]⟩ .f32) (ix2 s k) = x (ix3 s 0 k) := by
  refine shapeCast_apply x h _ _ ?_
  rw [Shape.rowMajor_val_two, Shape.rowMajor_val_three]
  simp

/-- A call over the samples at an entry, from the arguments. -/
theorem sample_at (x : Vec Ideal ⟨3, ![128, 1, 1024]⟩ .f32) (w : Vec Ideal ⟨2, ![1024, 9808]⟩ .f32) (v : Vec Ideal ⟨1, ![9808]⟩ .f32)
    (h1 : FTy.bf16.bits < FTy.f32.bits) (h2 : (⟨3, ![128, 1, 1024]⟩ : Shape).ShapeCasts ⟨2, ![128, 1024]⟩)
    (h3 : (⟨2, ![1024, 9808]⟩ : Shape).Slices ![0, o] ⟨2, ![1024, n]⟩) (h5 : (⟨1, ![9808]⟩ : Shape).Slices ![o] ⟨1, ![n]⟩)
    (h6 : (⟨1, ![n]⟩ : Shape).ShapeCasts ⟨2, ![1, n]⟩) (s : Fin 128) (ch : Fin n) (ho : o + ch.val < 9808) :
    lin 128 n
        (truncf (F := Ideal) .bf16 (shapeCast ⟨2, ![128, 1024]⟩ x h2 : FVec Ideal ⟨2, ![128, 1024]⟩ .f32) h1)
        (truncf (F := Ideal) .bf16 (extractStridedSlice ⟨2, ![1024, n]⟩ ![0, o] w h3 : FVec Ideal ⟨2, ![1024, n]⟩ .f32) h1)
        (shapeCast ⟨2, ![1, n]⟩ (extractStridedSlice ⟨1, ![n]⟩ ![o] v h5 : Vec Ideal ⟨1, ![n]⟩ .f32) h6) (ix2 s ch)
      = entry (fun k => x (ix3 s 0 k)) (fun k => w (ix2 k ⟨o + ch.val, ho⟩)) (v (ix1 ⟨o + ch.val, ho⟩)) := by
  unfold lin
  congr 1
  · exact funext fun k => flat_at x h2 s k
  · exact funext fun k => weights_at w h3 k ch ho
  · exact (bias_row _ h6 ch).trans (bias_at v h5 ch ho)

end Cert.Proj

end
-- ==== Proof.ProjRows.lean ====
module

public import proofs.«01_k».proof.Defs
public import proofs.«01_k».proof.Proof.Gen.Kernel2Ideal.Frame
public import proofs.«01_k».proof.Proof.Gen.Reference2Ideal.Run
public import proofs.«01_k».proof.Proof.Linear
public import Idealize.ShloMosaic.Lib.Pipeline.ValueKit

@[expose] public section

set_option maxRecDepth 16384

/-! The rows of keys and values of the prompts (the result `kv_rows_prompt`). The kernel takes 512 rows of a prompt at a
time, keeps its result transposed and transposes it at the end; the reference takes all rows against all columns of the weights
and cuts the part out. -/

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen Cert.Proj

variable (m : (ℓ : Loc nD τ sig) → Buf (Elt Ideal) ℓ) (c : Dev nD)

/-- Point `t` takes the `t mod 16`-th block of rows of prompt `t / 16`, and all of the weights and the bias. -/
theorem index_facts : ∀ t : Fin cfg0.N, win0_0.index t = ![t.val / 16, t.val % 16, 0] ∧ win0_1.index t = ![0, 0] ∧ win0_2.index t = ![0, 0]
    ∧ win0_3.index t = ![t.val / 16, 0, t.val % 16] :=
  (by decide +kernel : ∀ t : Fin grid0.N, _)

/-- What the body computes from its blocks. -/
theorem block_at (w : Vec Ideal S1024x1024 .bf16) (x : Vec Ideal S1x512x1024 .bf16) (b : Vec Ideal S1024x1 .f32) (ch : Fin 1024) (r : Fin 512) :
    k0_pay1 w x b (ix3 0 ch r) = entry (fun k => x (ix3 0 r k)) (fun k => w (ix2 ch k)) (b (ix2 ch 0)) := by
  pointwise [k0_pay1, entry]
  exact congrArg (· + _) (Finset.sum_congr rfl fun k _ => mul_comm _ _)

/-- The array after the call: every block holds its part of `linT`. -/
theorem final : (dats m 0 c).arrAt 3 cfg0.N = linT 8192 1024 (V m c main_v4) (V m c main_v7) (V m c main_v8) := by
  refine (dats m 0 c).arrAt_eq_of_covers 3 _ (by decide +kernel) fun t hf y => ?_
  have h := index_facts t
  obtain ⟨ch, r, rfl⟩ : ∃ (ch : Fin 1024) (r : Fin 512), y = ix3 0 ch r :=
    ⟨y 1, y 2, by funext a; match a with | ⟨0, _⟩ => exact Subsingleton.elim (α := Fin 1) _ _ | ⟨1, _⟩ => rfl | ⟨2, _⟩ => rfl⟩
  blk_simp
  rw [after0_3]; frame_out
  refine (block_at _ _ _ ch r).trans ?_
  have hN := lt_of_lt_of_eq t.isLt N_0
  have hi : ((View.whole main_v9).slice (win0_3.rect t)).emb (ix3 0 ch r) = (ix3 ⟨t.val / 16, by omega⟩ ch ⟨512 * (t.val % 16) + r.val, by omega⟩ : S2x1024x8192.Idx) := by
    blk_ext [h]
  have e0 : ∀ k : Fin 1024, iblk m c 0 t (ix3 0 r k) = V m c main_v4 (ix3 ⟨t.val / 16, by omega⟩ ⟨512 * (t.val % 16) + r.val, by omega⟩ k) := fun k => by
    blk_ext [iblk, V, h]
  have e1 : ∀ k : Fin 1024, iblk m c 1 t (ix2 ch k) = V m c main_v7 (ix2 ch k) := fun k => by
    blk_ext [iblk, V, h]
  have e2 : iblk m c 2 t (ix2 ch 0) = V m c main_v8 (ix2 ch 0) := by
    blk_ext [iblk, V, h]
  rw [e2]
  simp only [e0, e1]
  refine Eq.trans ?_ (congrArg (linT 8192 1024 _ _ _) hi).symm
  rfl

/-! ## The operands and the result on the host -/

/-- The rows. -/
theorem host_rows : V m c main_v4 = (truncf (F := Ideal) .bf16 (m ((c : Thread nD τ).loc main_arg0)) bitsLt_bf16_f32 : Vec Ideal S2x8192x1024 .bf16) := by
  unfold V V0
  simp only [List.flatten_cons, List.flatten_nil, List.append_nil, hostOps0]
  after_results_simp

/-- The columns of the weights, as rows. -/
theorem host_weights : V m c main_v7 = (transpose S1024x1024 [1, 0] (extractStridedSlice S1024x1024 ![0, 0] (truncf (F := Ideal) .bf16
      (extractStridedSlice S1024x1536 ![0, 6176] (m ((c : Thread nD τ).loc main_arg1)) slices_S1024x9808_S1024x1536_0_6176 : Vec Ideal S1024x1536 .f32) bitsLt_bf16_f32 : Vec Ideal S1024x1536 .bf16)
      slices_S1024x1536_S1024x1024_0_0 : Vec Ideal S1024x1024 .bf16) transposes_S1024x1024_S1024x1024_1_0 : Vec Ideal S1024x1024 .bf16) := by
  unfold V V0
  simp only [List.flatten_cons, List.flatten_nil, List.append_nil, hostOps0]
  after_results_simp

/-- Those columns of the bias, as a column. -/
theorem host_bias : V m c main_v8 = (shapeCast S1024x1 (extractStridedSlice S1x1024 ![0, 0] (shapeCast S1x1536
      (extractStridedSlice S1536 ![6176] (m ((c : Thread nD τ).loc main_arg2)) slices_S9808_S1536_6176 : Vec Ideal S1536 .f32) shapeCasts_S1536_S1x1536 : Vec Ideal S1x1536 .f32)
      slices_S1x1536_S1x1024_0_0 : Vec Ideal S1x1024 .f32) shapeCasts_S1x1024_S1024x1 : Vec Ideal S1024x1 .f32) := by
  unfold V V0
  simp only [List.flatten_cons, List.flatten_nil, List.append_nil, hostOps0]
  after_results_simp
  rfl

/-- The buffer `b` when the program ends. -/
abbrev last (b : Ref sig .tc) : Buf (Elt Ideal) ((c.tc : Thread nD τ).loc b) := Pipeline.afterTail₀ cfgs (dats m) 0 (V0 m) [hostOps1] c b

/-- The call's array when the lines after it run. -/
theorem call_array : Pipeline.withArrays spec0 c (V0 m c) (fun w => (dats m 0 c).arrAt w cfg0.N) (Proc.devRef .tc main_v9) = linT 8192 1024 (V m c main_v4) (V m c main_v7) (V m c main_v8) :=
  (Pipeline.withArrays_arr spec0 winFacts0.arr_inj c (V0 m c) (fun w => (dats m 0 c).arrAt w cfg0.N) 3).trans (final m c)

/-- The lines after the call split the columns into the rows' parts and put the positions in front. -/
theorem last_out : last m c main_v11
    = (transpose S2x8192x4x4x64 [0, 4, 1, 2, 3] (shapeCast S2x4x4x64x8192 (linT 8192 1024 (V m c main_v4) (V m c main_v7) (V m c main_v8)) shapeCasts_S2x1024x8192_S2x4x4x64x8192 : Vec Ideal S2x4x4x64x8192 .f32)
        transposes_S2x4x4x64x8192_S2x8192x4x4x64_0_4_1_2_3 : Vec Ideal S2x8192x4x4x64 .f32) := by
  unfold last Pipeline.afterTail₀
  simp only [hostOps1, List.flatten_cons, List.flatten_nil, List.append_nil, List.cons_append, List.nil_append]
  after_results_simp
  rw [call_array m c]
  congr 1

/-- The result at an entry, from the arguments. -/
theorem out_at (b : Fin 2) (p : Fin 8192) (a : Fin 4) (g : Fin 4) (d : Fin 64) :
    last m c main_v11 (ix5 b p a g d)
      = entry (fun k => m ((c : Thread nD τ).loc main_arg0) (ix3 b ⟨p.val, by omega⟩ k))
        (fun k => m ((c : Thread nD τ).loc main_arg1) (ix2 k ⟨6176 + (a.val * 256 + g.val * 64 + d.val), by omega⟩))
        (m ((c : Thread nD τ).loc main_arg2) (ix1 ⟨6176 + (a.val * 256 + g.val * 64 + d.val), by omega⟩)) := by
  rw [last_out, host_rows, host_weights, host_bias]
  pointwise [linT, entry]

/-- The run: the results are what the lines leave, and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v11) = last m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_v11 (Pipeline.mem_restRefs_of main_v11 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

end Cert.Kernel2Ideal.Proj

namespace Cert.Reference2Ideal.Proj

open Cert.Reference2Ideal Cert.Reference2Ideal.Gen Cert.Proj

/-- The rows of the reference's product at an entry. -/
theorem segment_at (x : Vec Ideal S2x8192x1024 .f32) (w : Vec Ideal S1024x9808 .f32) (bi : Vec Ideal S9808 .f32) (b : Fin 2) (p : Fin 8192) (a : Fin 4) (g : Fin 4) (d : Fin 64) :
    (extractStridedSlice S2x8192x4x4x64 ![0, 0, 0, 0, 0] (shapeCast S2x8192x6x4x64 (extractStridedSlice S2x8192x1536 ![0, 0, 6176]
      (addf (F := Ideal) (Host.dotGeneral (φ₁ := .f32) (φ₂ := .f32) dot_S2x8192x1024_S1024x9808_S2x8192x9808_2_0_01_1_n_n none x w)
      (broadcastInDim S2x8192x9808 ![0, 1, 2] bcast_S1x1x9808_S2x8192x9808_0_1_2 (broadcastInDim S1x1x9808 ![2] bcast_S9808_S1x1x9808_2 bi)))
      slices_S2x8192x9808_S2x8192x1536_0_0_6176 : Vec Ideal S2x8192x1536 .f32) shapeCasts_S2x8192x1536_S2x8192x6x4x64 : Vec Ideal S2x8192x6x4x64 .f32)
      slices_S2x8192x6x4x64_S2x8192x4x4x64_0_0_0_0_0 : Vec Ideal S2x8192x4x4x64 .f32) (ix5 b p a g d)
      = entry (fun k => x (ix3 b ⟨p.val, by omega⟩ k)) (fun k => w (ix2 k ⟨6176 + (a.val * 256 + g.val * 64 + d.val), by omega⟩))
        (bi (ix1 ⟨6176 + (a.val * 256 + g.val * 64 + d.val), by omega⟩)) := by
  pointwise [entry]

end Cert.Reference2Ideal.Proj

namespace Cert.Proj

/-- The two programs' results are equal. -/
theorem agree2 : Cert.algebraic_Kernel2Ideal_Reference2Ideal (hKernel2Ideal := Cert.Kernel2Ideal.Gen.facts)
    (hReference2Ideal := Cert.Reference2Ideal.Gen.facts) := by
  intro m ρ m' ρ' _ hag
  refine ⟨fun c => Cert.Kernel2Ideal.Proj.last m c Cert.Kernel2Ideal.main_v11, Cert.Kernel2Ideal.Proj.run m ρ, ?_⟩
  refine (θ_run _ _ _).mono (fun r h c => ?_) (Cert.Reference2Ideal.Value.run m' ρ')
  obtain ⟨e0, e1, e2⟩ := hag c
  obtain ⟨h0, hk⟩ := h c
  refine ⟨h0.trans ?_, hk⟩
  rw [e0, e1, e2]
  refine funext fun i => ?_
  obtain ⟨b, p, a, g, d, rfl⟩ : ∃ (b : Fin 2) (p : Fin 8192) (a : Fin 4) (g : Fin 4) (d : Fin 64), i = ix5 b p a g d :=
    ⟨i 0, i 1, i 2, i 3, i 4, by funext a; match a with | ⟨0, _⟩ => rfl | ⟨1, _⟩ => rfl | ⟨2, _⟩ => rfl | ⟨3, _⟩ => rfl | ⟨4, _⟩ => rfl⟩
  exact (Cert.Reference2Ideal.Proj.segment_at _ _ _ b p a g d).trans (Cert.Kernel2Ideal.Proj.out_at m c b p a g d).symm

end Cert.Proj

end
-- ==== Proof.ProjWindow.lean ====
module

public import proofs.«01_k».proof.Defs
public import proofs.«01_k».proof.Proof.Gen.Kernel3Ideal.Frame
public import proofs.«01_k».proof.Proof.Gen.Reference3Ideal.Run
public import proofs.«01_k».proof.Proof.Linear
public import Idealize.ShloMosaic.Lib.Pipeline.ValueKit

@[expose] public section

set_option maxRecDepth 16384

/-! The window of the prompts' last keys and values (the result `win_prompt`). The kernel takes 512 rows of a prompt at a
time, keeps its result transposed and transposes it at the end; the reference takes all rows against all columns of the weights
and cuts the part out. -/

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen Cert.Proj

variable (m : (ℓ : Loc nD τ sig) → Buf (Elt Ideal) ℓ) (c : Dev nD)

/-- Point `t` takes the `t mod 1`-th block of rows of prompt `t / 1`, and all of the weights and the bias. -/
theorem index_facts : ∀ t : Fin cfg0.N, win0_0.index t = ![t.val / 1, t.val % 1, 0] ∧ win0_1.index t = ![0, 0] ∧ win0_2.index t = ![0, 0]
    ∧ win0_3.index t = ![t.val / 1, 0, t.val % 1] :=
  (by decide +kernel : ∀ t : Fin grid0.N, _)

/-- What the body computes from its blocks. -/
theorem block_at (w : Vec Ideal S512x1024 .bf16) (x : Vec Ideal S1x512x1024 .bf16) (b : Vec Ideal S512x1 .f32) (ch : Fin 512) (r : Fin 512) :
    k0_pay1 w x b (ix3 0 ch r) = entry (fun k => x (ix3 0 r k)) (fun k => w (ix2 ch k)) (b (ix2 ch 0)) := by
  pointwise [k0_pay1, entry]
  exact congrArg (· + _) (Finset.sum_congr rfl fun k _ => mul_comm _ _)

/-- The array after the call: every block holds its part of `linT`. -/
theorem final : (dats m 0 c).arrAt 3 cfg0.N = linT 512 512 (V m c main_v5) (V m c main_v8) (V m c main_v9) := by
  refine (dats m 0 c).arrAt_eq_of_covers 3 _ (by decide +kernel) fun t hf y => ?_
  have h := index_facts t
  obtain ⟨ch, r, rfl⟩ : ∃ (ch : Fin 512) (r : Fin 512), y = ix3 0 ch r :=
    ⟨y 1, y 2, by funext a; match a with | ⟨0, _⟩ => exact Subsingleton.elim (α := Fin 1) _ _ | ⟨1, _⟩ => rfl | ⟨2, _⟩ => rfl⟩
  blk_simp
  rw [after0_3]; frame_out
  refine (block_at _ _ _ ch r).trans ?_
  have hN := lt_of_lt_of_eq t.isLt N_0
  have hi : ((View.whole main_v10).slice (win0_3.rect t)).emb (ix3 0 ch r) = (ix3 ⟨t.val / 1, by omega⟩ ch ⟨512 * (t.val % 1) + r.val, by omega⟩ : S2x512x512.Idx) := by
    blk_ext [h]
  have e0 : ∀ k : Fin 1024, iblk m c 0 t (ix3 0 r k) = V m c main_v5 (ix3 ⟨t.val / 1, by omega⟩ ⟨512 * (t.val % 1) + r.val, by omega⟩ k) := fun k => by
    blk_ext [iblk, V, h]
  have e1 : ∀ k : Fin 1024, iblk m c 1 t (ix2 ch k) = V m c main_v8 (ix2 ch k) := fun k => by
    blk_ext [iblk, V, h]
  have e2 : iblk m c 2 t (ix2 ch 0) = V m c main_v9 (ix2 ch 0) := by
    blk_ext [iblk, V, h]
  rw [e2]
  simp only [e0, e1]
  refine Eq.trans ?_ (congrArg (linT 512 512 _ _ _) hi).symm
  rfl

/-! ## The operands and the result on the host -/

/-- The rows. -/
theorem host_rows : V m c main_v5 = (extractStridedSlice S2x512x1024 ![0, 7680, 0] (truncf (F := Ideal) .bf16 (m ((c : Thread nD τ).loc main_arg0)) bitsLt_bf16_f32 : Vec Ideal S2x8192x1024 .bf16) slices_S2x8192x1024_S2x512x1024_0_7680_0 : Vec Ideal S2x512x1024 .bf16) := by
  unfold V V0
  simp only [List.flatten_cons, List.flatten_nil, List.append_nil, hostOps0]
  after_results_simp

/-- The columns of the weights, as rows. -/
theorem host_weights : V m c main_v8 = (transpose S512x1024 [1, 0] (extractStridedSlice S1024x512 ![0, 1024] (truncf (F := Ideal) .bf16
      (extractStridedSlice S1024x1536 ![0, 6176] (m ((c : Thread nD τ).loc main_arg1)) slices_S1024x9808_S1024x1536_0_6176 : Vec Ideal S1024x1536 .f32) bitsLt_bf16_f32 : Vec Ideal S1024x1536 .bf16)
      slices_S1024x1536_S1024x512_0_1024 : Vec Ideal S1024x512 .bf16) transposes_S1024x512_S512x1024_1_0 : Vec Ideal S512x1024 .bf16) := by
  unfold V V0
  simp only [List.flatten_cons, List.flatten_nil, List.append_nil, hostOps0]
  after_results_simp

/-- Those columns of the bias, as a column. -/
theorem host_bias : V m c main_v9 = (shapeCast S512x1 (extractStridedSlice S1x512 ![0, 1024] (shapeCast S1x1536
      (extractStridedSlice S1536 ![6176] (m ((c : Thread nD τ).loc main_arg2)) slices_S9808_S1536_6176 : Vec Ideal S1536 .f32) shapeCasts_S1536_S1x1536 : Vec Ideal S1x1536 .f32)
      slices_S1x1536_S1x512_0_1024 : Vec Ideal S1x512 .f32) shapeCasts_S1x512_S512x1 : Vec Ideal S512x1 .f32) := by
  unfold V V0
  simp only [List.flatten_cons, List.flatten_nil, List.append_nil, hostOps0]
  after_results_simp
  rfl

/-- The buffer `b` when the program ends. -/
abbrev last (b : Ref sig .tc) : Buf (Elt Ideal) ((c.tc : Thread nD τ).loc b) := Pipeline.afterTail₀ cfgs (dats m) 0 (V0 m) [hostOps1] c b

/-- The call's array when the lines after it run. -/
theorem call_array : Pipeline.withArrays spec0 c (V0 m c) (fun w => (dats m 0 c).arrAt w cfg0.N) (Proc.devRef .tc main_v10) = linT 512 512 (V m c main_v5) (V m c main_v8) (V m c main_v9) :=
  (Pipeline.withArrays_arr spec0 winFacts0.arr_inj c (V0 m c) (fun w => (dats m 0 c).arrAt w cfg0.N) 3).trans (final m c)

/-- The lines after the call split the columns into the rows' parts and put the positions in front. -/
theorem last_out : last m c main_v12
    = (transpose S2x512x2x4x64 [0, 4, 1, 2, 3] (shapeCast S2x2x4x64x512 (linT 512 512 (V m c main_v5) (V m c main_v8) (V m c main_v9)) shapeCasts_S2x512x512_S2x2x4x64x512 : Vec Ideal S2x2x4x64x512 .f32)
        transposes_S2x2x4x64x512_S2x512x2x4x64_0_4_1_2_3 : Vec Ideal S2x512x2x4x64 .f32) := by
  unfold last Pipeline.afterTail₀
  simp only [hostOps1, List.flatten_cons, List.flatten_nil, List.append_nil, List.cons_append, List.nil_append]
  after_results_simp
  rw [call_array m c]
  congr 1

/-- The result at an entry, from the arguments. -/
theorem out_at (b : Fin 2) (p : Fin 512) (a : Fin 2) (g : Fin 4) (d : Fin 64) :
    last m c main_v12 (ix5 b p a g d)
      = entry (fun k => m ((c : Thread nD τ).loc main_arg0) (ix3 b ⟨7680 + p.val, by omega⟩ k))
        (fun k => m ((c : Thread nD τ).loc main_arg1) (ix2 k ⟨6176 + ((4 + a.val) * 256 + g.val * 64 + d.val), by omega⟩))
        (m ((c : Thread nD τ).loc main_arg2) (ix1 ⟨6176 + ((4 + a.val) * 256 + g.val * 64 + d.val), by omega⟩)) := by
  rw [last_out, host_rows, host_weights, host_bias]
  pointwise [linT, entry]
  simp only [show 1024 + (a.val * 256 + g.val * 64 + d.val) = (4 + a.val) * 256 + g.val * 64 + d.val by omega]

/-- The run: the results are what the lines leave, and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v12) = last m c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_v12 (Pipeline.mem_restRefs_of main_v12 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

end Cert.Kernel3Ideal.Proj

namespace Cert.Reference3Ideal.Proj

open Cert.Reference3Ideal Cert.Reference3Ideal.Gen Cert.Proj

/-- The rows of the reference's product at an entry. -/
theorem segment_at (x : Vec Ideal S2x8192x1024 .f32) (w : Vec Ideal S1024x9808 .f32) (bi : Vec Ideal S9808 .f32) (b : Fin 2) (p : Fin 512) (a : Fin 2) (g : Fin 4) (d : Fin 64) :
    (extractStridedSlice S2x512x2x4x64 ![0, 7680, 4, 0, 0] (shapeCast S2x8192x6x4x64 (extractStridedSlice S2x8192x1536 ![0, 0, 6176]
      (addf (F := Ideal) (Host.dotGeneral (φ₁ := .f32) (φ₂ := .f32) dot_S2x8192x1024_S1024x9808_S2x8192x9808_2_0_01_1_n_n none x w)
      (broadcastInDim S2x8192x9808 ![0, 1, 2] bcast_S1x1x9808_S2x8192x9808_0_1_2 (broadcastInDim S1x1x9808 ![2] bcast_S9808_S1x1x9808_2 bi)))
      slices_S2x8192x9808_S2x8192x1536_0_0_6176 : Vec Ideal S2x8192x1536 .f32) shapeCasts_S2x8192x1536_S2x8192x6x4x64 : Vec Ideal S2x8192x6x4x64 .f32)
      slices_S2x8192x6x4x64_S2x512x2x4x64_0_7680_4_0_0 : Vec Ideal S2x512x2x4x64 .f32) (ix5 b p a g d)
      = entry (fun k => x (ix3 b ⟨7680 + p.val, by omega⟩ k)) (fun k => w (ix2 k ⟨6176 + ((4 + a.val) * 256 + g.val * 64 + d.val), by omega⟩))
        (bi (ix1 ⟨6176 + ((4 + a.val) * 256 + g.val * 64 + d.val), by omega⟩)) := by
  pointwise [entry]

end Cert.Reference3Ideal.Proj

namespace Cert.Proj

/-- The two programs' results are equal. -/
theorem agree3 : Cert.algebraic_Kernel3Ideal_Reference3Ideal (hKernel3Ideal := Cert.Kernel3Ideal.Gen.facts)
    (hReference3Ideal := Cert.Reference3Ideal.Gen.facts) := by
  intro m ρ m' ρ' _ hag
  refine ⟨fun c => Cert.Kernel3Ideal.Proj.last m c Cert.Kernel3Ideal.main_v12, Cert.Kernel3Ideal.Proj.run m ρ, ?_⟩
  refine (θ_run _ _ _).mono (fun r h c => ?_) (Cert.Reference3Ideal.Value.run m' ρ')
  obtain ⟨e0, e1, e2⟩ := hag c
  obtain ⟨h0, hk⟩ := h c
  refine ⟨h0.trans ?_, hk⟩
  rw [e0, e1, e2]
  refine funext fun i => ?_
  obtain ⟨b, p, a, g, d, rfl⟩ : ∃ (b : Fin 2) (p : Fin 512) (a : Fin 2) (g : Fin 4) (d : Fin 64), i = ix5 b p a g d :=
    ⟨i 0, i 1, i 2, i 3, i 4, by funext a; match a with | ⟨0, _⟩ => rfl | ⟨1, _⟩ => rfl | ⟨2, _⟩ => rfl | ⟨3, _⟩ => rfl | ⟨4, _⟩ => rfl⟩
  exact (Cert.Reference3Ideal.Proj.segment_at _ _ _ b p a g d).trans (Cert.Kernel3Ideal.Proj.out_at m c b p a g d).symm

end Cert.Proj

end
-- ==== Proof.ProjConv.lean ====
module

public import proofs.«01_k».proof.Defs
public import proofs.«01_k».proof.Proof.Gen.Kernel4Ideal.Frame
public import proofs.«01_k».proof.Proof.Gen.Reference4Ideal.Run
public import proofs.«01_k».proof.Proof.Linear
public import Idealize.ShloMosaic.Lib.Pipeline.ValueKit

@[expose] public section

set_option maxRecDepth 16384

/-! The projection in front of the convolution (`xbc`), and its last three rows (the result `conv_prompt`). The kernel takes 512 rows of the prompt at a time against the segment's
columns of the weights; the reference takes all rows against all columns and cuts the segment out. -/

noncomputable section

open Idealize.ShloMosaic Idealize.ShloMosaic.TcCoe Idealize.SL.Sem
open Idealize.ShloMosaic.Pipeline (Dat)

namespace Cert.Kernel4Ideal.Proj

open Cert.Kernel4Ideal Cert.Kernel4Ideal.Gen Cert.Proj

variable (m : (ℓ : Loc nD τ sig) → Buf (Elt Ideal) ℓ) (c : Dev nD)

/-- Point `t` takes the `t`-th block of rows, and all of the weights and the bias. -/
theorem index_facts : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- What the body computes from its blocks. -/
theorem block_at (x : Vec Ideal S512x1024 .bf16) (w : Vec Ideal S1024x3072 .bf16) (b : Vec Ideal S1x3072 .f32) (r : Fin 512) (ch : Fin 3072) :
    k0_pay1 x w b (ix2 r ch) = entry (fun k => x (ix2 r k)) (fun k => w (ix2 k ch)) (b (ix2 0 ch)) := by
  pointwise [k0_pay1, entry]

/-- The array after the call: every block holds its rows of `lin`. -/
theorem final : (dats m 0 c).arrAt 3 cfg0.N = lin 16384 3072 (V m c main_v1) (V m c main_v3) (V m c main_v5) := by
  refine (dats m 0 c).arrAt_eq_of_covers 3 _ (by decide +kernel) fun t hf y => ?_
  have h := index_facts t
  obtain ⟨r, ch, rfl⟩ : ∃ (r : Fin 512) (ch : Fin 3072), y = ix2 r ch :=
    ⟨y 0, y 1, by funext a; match a with | ⟨0, _⟩ => rfl | ⟨1, _⟩ => rfl⟩
  blk_simp
  rw [after0_3]; frame_out
  refine (block_at _ _ _ r ch).trans ?_
  have hN := lt_of_lt_of_eq t.isLt N_0
  have hi : ((View.whole main_v6).slice (win0_3.rect t)).emb (ix2 r ch) = (ix2 ⟨512 * t.val + r.val, by omega⟩ ch : S16384x3072.Idx) := by
    blk_ext [h]
  have e0 : ∀ k : Fin 1024, iblk m c 0 t (ix2 r k) = V m c main_v1 (ix2 ⟨512 * t.val + r.val, by omega⟩ k) := fun k => by
    blk_ext [iblk, V, h]
  have e1 : ∀ k : Fin 1024, iblk m c 1 t (ix2 k ch) = V m c main_v3 (ix2 k ch) := fun k => by
    blk_ext [iblk, V, h]
  have e2 : iblk m c 2 t (ix2 0 ch) = V m c main_v5 (ix2 0 ch) := by
    blk_ext [iblk, V, h]
  rw [e2]
  simp only [e0, e1]
  refine Eq.trans ?_ (congrArg (lin 16384 3072 _ _ _) hi).symm
  rfl

/-! ## The operands and the result on the host -/

/-- The rows: the prompts' rows one after the other. -/
theorem host_v1 : V m c main_v1 = (shapeCast S16384x1024 (truncf (F := Ideal) .bf16 (m ((c : Thread nD τ).loc main_arg0)) bitsLt_bf16_f32 : Vec Ideal S2x8192x1024 .bf16) shapeCasts_S2x8192x1024_S16384x1024 : Vec Ideal S16384x1024 .bf16) := by
  unfold V V0
  simp only [List.flatten_cons, List.flatten_nil, List.append_nil, hostOps0]
  after_results_simp
  rfl

/-- The segment's columns of the weights. -/
theorem host_v3 : V m c main_v3 = (truncf (F := Ideal) .bf16 (extractStridedSlice S1024x3072 ![0, 2048] (m ((c : Thread nD τ).loc main_arg1)) slices_S1024x9808_S1024x3072_0_2048 : Vec Ideal S1024x3072 .f32) bitsLt_bf16_f32 : Vec Ideal S1024x3072 .bf16) := by
  unfold V V0
  simp only [List.flatten_cons, List.flatten_nil, List.append_nil, hostOps0]
  after_results_simp

/-- The segment's columns of the bias. -/
theorem host_v5 : V m c main_v5 = (shapeCast S1x3072 (extractStridedSlice S3072 ![2048] (m ((c : Thread nD τ).loc main_arg2)) slices_S9808_S3072_2048 : Vec Ideal S3072 .f32) shapeCasts_S3072_S1x3072 : Vec Ideal S1x3072 .f32) := by
  unfold V V0
  simp only [List.flatten_cons, List.flatten_nil, List.append_nil, hostOps0]
  after_results_simp
  rfl

/-- The buffer `b` when the program ends. -/
abbrev last (b : Ref sig .tc) : Buf (Elt Ideal) ((c.tc : Thread nD τ).loc b) := Pipeline.afterTail₀ cfgs (dats m) 0 (V0 m) [hostOps1] c b

/-- The call's array when the lines after it run. -/
theorem call_array : Pipeline.withArrays spec0 c (V0 m c) (fun w => (dats m 0 c).arrAt w cfg0.N) (Proc.devRef .tc main_v6) = lin 16384 3072 (V m c main_v1) (V m c main_v3) (V m c main_v5) :=
  (Pipeline.withArrays_arr spec0 winFacts0.arr_inj c (V0 m c) (fun w => (dats m 0 c).arrAt w cfg0.N) 3).trans (final m c)

/-- The first line after the call takes the two prompts apart. -/
theorem last_v7 : last m c main_v7
    = shapeCast S2x8192x3072 (lin 16384 3072 (V m c main_v1) (V m c main_v3) (V m c main_v5)) shapeCasts_S16384x3072_S2x8192x3072 := by
  unfold last Pipeline.afterTail₀
  simp only [hostOps1, List.flatten_cons, List.flatten_nil, List.append_nil, List.cons_append, List.nil_append]
  after_results_simp
  exact congrArg (fun x : Vec Ideal S16384x3072 .f32 => shapeCast S2x8192x3072 x shapeCasts_S16384x3072_S2x8192x3072) (call_array m c)

/-- The result at an entry, from the arguments. -/
theorem out_at (b : Fin 2) (p : Fin 8192) (ch : Fin 3072) :
    last m c main_v7 (ix3 b p ch)
      = entry (fun k => m ((c : Thread nD τ).loc main_arg0) (ix3 b p k)) (fun k => m ((c : Thread nD τ).loc main_arg1) (ix2 k ⟨2048 + ch.val, by omega⟩))
        (m ((c : Thread nD τ).loc main_arg2) (ix1 ⟨2048 + ch.val, by omega⟩)) := by
  rw [last_v7, host_v1, host_v3, host_v5]
  exact prompt_at _ _ _ _ _ _ _ _ _ b p ch _

/-- The second line cuts the last three rows out. -/
theorem last_v8 : last m c main_v8
    = extractStridedSlice S2x3x3072 ![0, 8189, 0] (shapeCast S2x8192x3072 (lin 16384 3072 (V m c main_v1) (V m c main_v3) (V m c main_v5)) shapeCasts_S16384x3072_S2x8192x3072 : Vec Ideal S2x8192x3072 .f32) slices_S2x8192x3072_S2x3x3072_0_8189_0 := by
  unfold last Pipeline.afterTail₀
  simp only [hostOps1, List.flatten_cons, List.flatten_nil, List.append_nil, List.cons_append, List.nil_append]
  after_results_simp
  rw [call_array m c]
  congr 1

/-- The last three rows. -/
theorem rows_at (b : Fin 2) (p : Fin 3) (ch : Fin 3072) : last m c main_v8 (ix3 b p ch) = last m c main_v7 (ix3 b ⟨8189 + p.val, by omega⟩ ch) := by
  rw [last_v8, last_v7]
  generalize (shapeCast S2x8192x3072 (lin 16384 3072 (V m c main_v1) (V m c main_v3) (V m c main_v5)) shapeCasts_S16384x3072_S2x8192x3072 : Vec Ideal S2x8192x3072 .f32) = x
  pointwise

/-- The run: the results are what the lines leave, and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v8) = last m c main_v8
      ∧ r.2.mem ((c.tc : Thread nD τ).loc main_v7) = last m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_v8 (Pipeline.mem_restRefs_of main_v8 (by decide) (by decide)),
      (h c).2 main_v7 (Pipeline.mem_restRefs_of main_v7 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

end Cert.Kernel4Ideal.Proj

namespace Cert.Reference4Ideal.Proj

open Cert.Reference4Ideal Cert.Reference4Ideal.Gen Cert.Proj

/-- The segment of the reference's product at an entry. -/
theorem segment_at (x : Vec Ideal S2x8192x1024 .f32) (w : Vec Ideal S1024x9808 .f32) (bi : Vec Ideal S9808 .f32) (b : Fin 2) (p : Fin 8192) (ch : Fin 3072) :
    (extractStridedSlice S2x8192x3072 ![0, 0, 2048] (addf (F := Ideal) (Host.dotGeneral (φ₁ := .f32) (φ₂ := .f32) dot_S2x8192x1024_S1024x9808_S2x8192x9808_2_0_01_1_n_n none x w)
      (broadcastInDim S2x8192x9808 ![0, 1, 2] bcast_S1x1x9808_S2x8192x9808_0_1_2 (broadcastInDim S1x1x9808 ![2] bcast_S9808_S1x1x9808_2 bi))) slices_S2x8192x9808_S2x8192x3072_0_0_2048 : Vec Ideal S2x8192x3072 .f32) (ix3 b p ch)
      = entry (fun k => x (ix3 b p k)) (fun k => w (ix2 k ⟨2048 + ch.val, by omega⟩)) (bi (ix1 ⟨2048 + ch.val, by omega⟩)) := by
  pointwise [entry]

/-- The last three rows of an array. -/
theorem rows_at (x : Vec Ideal S2x8192x3072 .f32) (b : Fin 2) (p : Fin 3) (ch : Fin 3072) :
    (extractStridedSlice S2x3x3072 ![0, 8189, 0] x slices_S2x8192x3072_S2x3x3072_0_8189_0 : Vec Ideal S2x3x3072 .f32) (ix3 b p ch) = x (ix3 b ⟨8189 + p.val, by omega⟩ ch) := by
  pointwise

end Cert.Reference4Ideal.Proj

namespace Cert.Proj

/-- The two programs' results are equal. -/
theorem agree4 : Cert.algebraic_Kernel4Ideal_Reference4Ideal (hKernel4Ideal := Cert.Kernel4Ideal.Gen.facts)
    (hReference4Ideal := Cert.Reference4Ideal.Gen.facts) := by
  intro m ρ m' ρ' _ hag
  refine ⟨fun c => Cert.Kernel4Ideal.Proj.last m c Cert.Kernel4Ideal.main_v8, fun c => Cert.Kernel4Ideal.Proj.last m c Cert.Kernel4Ideal.main_v7, Cert.Kernel4Ideal.Proj.run m ρ, ?_⟩
  refine (θ_run _ _ _).mono (fun r h c => ?_) (Cert.Reference4Ideal.Value.run m' ρ')
  obtain ⟨e0, e1, e2⟩ := hag c
  obtain ⟨h0, h1, hk⟩ := h c
  refine ⟨h0.trans ?_, h1.trans ?_, hk⟩
  · rw [e0, e1, e2]
    refine funext fun i => ?_
    obtain ⟨b, p, ch, rfl⟩ : ∃ (b : Fin 2) (p : Fin 3) (ch : Fin 3072), i = ix3 b p ch :=
      ⟨i 0, i 1, i 2, by funext a; match a with | ⟨0, _⟩ => rfl | ⟨1, _⟩ => rfl | ⟨2, _⟩ => rfl⟩
    exact ((Cert.Reference4Ideal.Proj.rows_at _ b p ch).trans (Cert.Reference4Ideal.Proj.segment_at _ _ _ b _ ch)).trans
      ((Cert.Kernel4Ideal.Proj.rows_at m c b p ch).trans (Cert.Kernel4Ideal.Proj.out_at m c b _ ch)).symm
  · rw [e0, e1, e2]
    refine funext fun i => ?_
    obtain ⟨b, p, ch, rfl⟩ : ∃ (b : Fin 2) (p : Fin 8192) (ch : Fin 3072), i = ix3 b p ch :=
      ⟨i 0, i 1, i 2, by funext a; match a with | ⟨0, _⟩ => rfl | ⟨1, _⟩ => rfl | ⟨2, _⟩ => rfl⟩
    exact (Cert.Reference4Ideal.Proj.segment_at _ _ _ b p ch).trans (Cert.Kernel4Ideal.Proj.out_at m c b p ch).symm

end Cert.Proj

end
-- ==== Proof.ProjGate.lean ====
module

public import proofs.«01_k».proof.Defs
public import proofs.«01_k».proof.Proof.Gen.Kernel5Ideal.Frame
public import proofs.«01_k».proof.Proof.Gen.Reference5Ideal.Run
public import proofs.«01_k».proof.Proof.Linear
public import Idealize.ShloMosaic.Lib.Pipeline.ValueKit

@[expose] public section

set_option maxRecDepth 16384

/-! The projection that gates the recurrence's output (`z`). The kernel takes 512 rows of the prompt at a time against the segment's
columns of the weights; the reference takes all rows against all columns and cuts the segment out. -/

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen Cert.Proj

variable (m : (ℓ : Loc nD τ sig) → Buf (Elt Ideal) ℓ) (c : Dev nD)

/-- Point `t` takes the `t`-th block of rows, and all of the weights and the bias. -/
theorem index_facts : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- What the body computes from its blocks. -/
theorem block_at (x : Vec Ideal S512x1024 .bf16) (w : Vec Ideal S1024x2048 .bf16) (b : Vec Ideal S1x2048 .f32) (r : Fin 512) (ch : Fin 2048) :
    k0_pay1 x w b (ix2 r ch) = entry (fun k => x (ix2 r k)) (fun k => w (ix2 k ch)) (b (ix2 0 ch)) := by
  pointwise [k0_pay1, entry]

/-- The array after the call: every block holds its rows of `lin`. -/
theorem final : (dats m 0 c).arrAt 3 cfg0.N = lin 16384 2048 (V m c main_v1) (V m c main_v3) (V m c main_v5) := by
  refine (dats m 0 c).arrAt_eq_of_covers 3 _ (by decide +kernel) fun t hf y => ?_
  have h := index_facts t
  obtain ⟨r, ch, rfl⟩ : ∃ (r : Fin 512) (ch : Fin 2048), y = ix2 r ch :=
    ⟨y 0, y 1, by funext a; match a with | ⟨0, _⟩ => rfl | ⟨1, _⟩ => rfl⟩
  blk_simp
  rw [after0_3]; frame_out
  refine (block_at _ _ _ r ch).trans ?_
  have hN := lt_of_lt_of_eq t.isLt N_0
  have hi : ((View.whole main_v6).slice (win0_3.rect t)).emb (ix2 r ch) = (ix2 ⟨512 * t.val + r.val, by omega⟩ ch : S16384x2048.Idx) := by
    blk_ext [h]
  have e0 : ∀ k : Fin 1024, iblk m c 0 t (ix2 r k) = V m c main_v1 (ix2 ⟨512 * t.val + r.val, by omega⟩ k) := fun k => by
    blk_ext [iblk, V, h]
  have e1 : ∀ k : Fin 1024, iblk m c 1 t (ix2 k ch) = V m c main_v3 (ix2 k ch) := fun k => by
    blk_ext [iblk, V, h]
  have e2 : iblk m c 2 t (ix2 0 ch) = V m c main_v5 (ix2 0 ch) := by
    blk_ext [iblk, V, h]
  rw [e2]
  simp only [e0, e1]
  refine Eq.trans ?_ (congrArg (lin 16384 2048 _ _ _) hi).symm
  rfl

/-! ## The operands and the result on the host -/

/-- The rows: the prompts' rows one after the other. -/
theorem host_v1 : V m c main_v1 = (shapeCast S16384x1024 (truncf (F := Ideal) .bf16 (m ((c : Thread nD τ).loc main_arg0)) bitsLt_bf16_f32 : Vec Ideal S2x8192x1024 .bf16) shapeCasts_S2x8192x1024_S16384x1024 : Vec Ideal S16384x1024 .bf16) := by
  unfold V V0
  simp only [List.flatten_cons, List.flatten_nil, List.append_nil, hostOps0]
  after_results_simp
  rfl

/-- The segment's columns of the weights. -/
theorem host_v3 : V m c main_v3 = (truncf (F := Ideal) .bf16 (extractStridedSlice S1024x2048 ![0, 0] (m ((c : Thread nD τ).loc main_arg1)) slices_S1024x9808_S1024x2048_0_0 : Vec Ideal S1024x2048 .f32) bitsLt_bf16_f32 : Vec Ideal S1024x2048 .bf16) := by
  unfold V V0
  simp only [List.flatten_cons, List.flatten_nil, List.append_nil, hostOps0]
  after_results_simp

/-- The segment's columns of the bias. -/
theorem host_v5 : V m c main_v5 = (shapeCast S1x2048 (extractStridedSlice S2048 ![0] (m ((c : Thread nD τ).loc main_arg2)) slices_S9808_S2048_0 : Vec Ideal S2048 .f32) shapeCasts_S2048_S1x2048 : Vec Ideal S1x2048 .f32) := by
  unfold V V0
  simp only [List.flatten_cons, List.flatten_nil, List.append_nil, hostOps0]
  after_results_simp
  rfl

/-- The buffer `b` when the program ends. -/
abbrev last (b : Ref sig .tc) : Buf (Elt Ideal) ((c.tc : Thread nD τ).loc b) := Pipeline.afterTail₀ cfgs (dats m) 0 (V0 m) [hostOps1] c b

/-- The call's array when the lines after it run. -/
theorem call_array : Pipeline.withArrays spec0 c (V0 m c) (fun w => (dats m 0 c).arrAt w cfg0.N) (Proc.devRef .tc main_v6) = lin 16384 2048 (V m c main_v1) (V m c main_v3) (V m c main_v5) :=
  (Pipeline.withArrays_arr spec0 winFacts0.arr_inj c (V0 m c) (fun w => (dats m 0 c).arrAt w cfg0.N) 3).trans (final m c)

/-- The first line after the call takes the two prompts apart. -/
theorem last_v7 : last m c main_v7
    = shapeCast S2x8192x2048 (lin 16384 2048 (V m c main_v1) (V m c main_v3) (V m c main_v5)) shapeCasts_S16384x2048_S2x8192x2048 := by
  unfold last Pipeline.afterTail₀
  simp only [hostOps1, List.flatten_cons, List.flatten_nil, List.append_nil, List.cons_append, List.nil_append]
  after_results_simp
  exact congrArg (fun x : Vec Ideal S16384x2048 .f32 => shapeCast S2x8192x2048 x shapeCasts_S16384x2048_S2x8192x2048) (call_array m c)

/-- The result at an entry, from the arguments. -/
theorem out_at (b : Fin 2) (p : Fin 8192) (ch : Fin 2048) :
    last m c main_v7 (ix3 b p ch)
      = entry (fun k => m ((c : Thread nD τ).loc main_arg0) (ix3 b p k)) (fun k => m ((c : Thread nD τ).loc main_arg1) (ix2 k ⟨0 + ch.val, by omega⟩))
        (m ((c : Thread nD τ).loc main_arg2) (ix1 ⟨0 + ch.val, by omega⟩)) := by
  rw [last_v7, host_v1, host_v3, host_v5]
  exact prompt_at _ _ _ _ _ _ _ _ _ b p ch _

/-- The run: the results are what the lines leave, and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v7) = last m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_v7 (Pipeline.mem_restRefs_of main_v7 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

end Cert.Kernel5Ideal.Proj

namespace Cert.Reference5Ideal.Proj

open Cert.Reference5Ideal Cert.Reference5Ideal.Gen Cert.Proj

/-- The segment of the reference's product at an entry. -/
theorem segment_at (x : Vec Ideal S2x8192x1024 .f32) (w : Vec Ideal S1024x9808 .f32) (bi : Vec Ideal S9808 .f32) (b : Fin 2) (p : Fin 8192) (ch : Fin 2048) :
    (extractStridedSlice S2x8192x2048 ![0, 0, 0] (addf (F := Ideal) (Host.dotGeneral (φ₁ := .f32) (φ₂ := .f32) dot_S2x8192x1024_S1024x9808_S2x8192x9808_2_0_01_1_n_n none x w)
      (broadcastInDim S2x8192x9808 ![0, 1, 2] bcast_S1x1x9808_S2x8192x9808_0_1_2 (broadcastInDim S1x1x9808 ![2] bcast_S9808_S1x1x9808_2 bi))) slices_S2x8192x9808_S2x8192x2048_0_0_0 : Vec Ideal S2x8192x2048 .f32) (ix3 b p ch)
      = entry (fun k => x (ix3 b p k)) (fun k => w (ix2 k ⟨0 + ch.val, by omega⟩)) (bi (ix1 ⟨0 + ch.val, by omega⟩)) := by
  pointwise [entry]

end Cert.Reference5Ideal.Proj

namespace Cert.Proj

/-- The two programs' results are equal. -/
theorem agree5 : Cert.algebraic_Kernel5Ideal_Reference5Ideal (hKernel5Ideal := Cert.Kernel5Ideal.Gen.facts)
    (hReference5Ideal := Cert.Reference5Ideal.Gen.facts) := by
  intro m ρ m' ρ' _ hag
  refine ⟨fun c => Cert.Kernel5Ideal.Proj.last m c Cert.Kernel5Ideal.main_v7, Cert.Kernel5Ideal.Proj.run m ρ, ?_⟩
  refine (θ_run _ _ _).mono (fun r h c => ?_) (Cert.Reference5Ideal.Value.run m' ρ')
  obtain ⟨e0, e1, e2⟩ := hag c
  obtain ⟨h0, hk⟩ := h c
  refine ⟨h0.trans ?_, hk⟩
  rw [e0, e1, e2]
  refine funext fun i => ?_
  obtain ⟨b, p, ch, rfl⟩ : ∃ (b : Fin 2) (p : Fin 8192) (ch : Fin 2048), i = ix3 b p ch :=
    ⟨i 0, i 1, i 2, by funext a; match a with | ⟨0, _⟩ => rfl | ⟨1, _⟩ => rfl | ⟨2, _⟩ => rfl⟩
  exact (Cert.Reference5Ideal.Proj.segment_at _ _ _ b p ch).trans (Cert.Kernel5Ideal.Proj.out_at m c b p ch).symm

end Cert.Proj

end
-- ==== Proof.ProjMerge.lean ====
module

public import proofs.«01_k».proof.Defs
public import proofs.«01_k».proof.Proof.Gen.Kernel6Ideal.Frame
public import proofs.«01_k».proof.Proof.Gen.Reference6Ideal.Run
public import proofs.«01_k».proof.Proof.Linear
public import Idealize.ShloMosaic.Lib.Pipeline.ValueKit

@[expose] public section

set_option maxRecDepth 16384

/-! The projection that holds the gates of the merge (`g_merge`). The kernel takes 512 rows of the prompt at a time against the segment's
columns of the weights; the reference takes all rows against all columns and cuts the segment out. -/

noncomputable section

open Idealize.ShloMosaic Idealize.ShloMosaic.TcCoe Idealize.SL.Sem
open Idealize.ShloMosaic.Pipeline (Dat)

namespace Cert.Kernel6Ideal.Proj

open Cert.Kernel6Ideal Cert.Kernel6Ideal.Gen Cert.Proj

variable (m : (ℓ : Loc nD τ sig) → Buf (Elt Ideal) ℓ) (c : Dev nD)

/-- Point `t` takes the `t`-th block of rows, and all of the weights and the bias. -/
theorem index_facts : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- What the body computes from its blocks. -/
theorem block_at (x : Vec Ideal S512x1024 .bf16) (w : Vec Ideal S1024x2048 .bf16) (b : Vec Ideal S1x2048 .f32) (r : Fin 512) (ch : Fin 2048) :
    k0_pay1 x w b (ix2 r ch) = entry (fun k => x (ix2 r k)) (fun k => w (ix2 k ch)) (b (ix2 0 ch)) := by
  pointwise [k0_pay1, entry]

/-- The array after the call: every block holds its rows of `lin`. -/
theorem final : (dats m 0 c).arrAt 3 cfg0.N = lin 16384 2048 (V m c main_v1) (V m c main_v3) (V m c main_v5) := by
  refine (dats m 0 c).arrAt_eq_of_covers 3 _ (by decide +kernel) fun t hf y => ?_
  have h := index_facts t
  obtain ⟨r, ch, rfl⟩ : ∃ (r : Fin 512) (ch : Fin 2048), y = ix2 r ch :=
    ⟨y 0, y 1, by funext a; match a with | ⟨0, _⟩ => rfl | ⟨1, _⟩ => rfl⟩
  blk_simp
  rw [after0_3]; frame_out
  refine (block_at _ _ _ r ch).trans ?_
  have hN := lt_of_lt_of_eq t.isLt N_0
  have hi : ((View.whole main_v6).slice (win0_3.rect t)).emb (ix2 r ch) = (ix2 ⟨512 * t.val + r.val, by omega⟩ ch : S16384x2048.Idx) := by
    blk_ext [h]
  have e0 : ∀ k : Fin 1024, iblk m c 0 t (ix2 r k) = V m c main_v1 (ix2 ⟨512 * t.val + r.val, by omega⟩ k) := fun k => by
    blk_ext [iblk, V, h]
  have e1 : ∀ k : Fin 1024, iblk m c 1 t (ix2 k ch) = V m c main_v3 (ix2 k ch) := fun k => by
    blk_ext [iblk, V, h]
  have e2 : iblk m c 2 t (ix2 0 ch) = V m c main_v5 (ix2 0 ch) := by
    blk_ext [iblk, V, h]
  rw [e2]
  simp only [e0, e1]
  refine Eq.trans ?_ (congrArg (lin 16384 2048 _ _ _) hi).symm
  rfl

/-! ## The operands and the result on the host -/

/-- The rows: the prompts' rows one after the other. -/
theorem host_v1 : V m c main_v1 = (shapeCast S16384x1024 (truncf (F := Ideal) .bf16 (m ((c : Thread nD τ).loc main_arg0)) bitsLt_bf16_f32 : Vec Ideal S2x8192x1024 .bf16) shapeCasts_S2x8192x1024_S16384x1024 : Vec Ideal S16384x1024 .bf16) := by
  unfold V V0
  simp only [List.flatten_cons, List.flatten_nil, List.append_nil, hostOps0]
  after_results_simp
  rfl

/-- The segment's columns of the weights. -/
theorem host_v3 : V m c main_v3 = (truncf (F := Ideal) .bf16 (extractStridedSlice S1024x2048 ![0, 7760] (m ((c : Thread nD τ).loc main_arg1)) slices_S1024x9808_S1024x2048_0_7760 : Vec Ideal S1024x2048 .f32) bitsLt_bf16_f32 : Vec Ideal S1024x2048 .bf16) := by
  unfold V V0
  simp only [List.flatten_cons, List.flatten_nil, List.append_nil, hostOps0]
  after_results_simp

/-- The segment's columns of the bias. -/
theorem host_v5 : V m c main_v5 = (shapeCast S1x2048 (extractStridedSlice S2048 ![7760] (m ((c : Thread nD τ).loc main_arg2)) slices_S9808_S2048_7760 : Vec Ideal S2048 .f32) shapeCasts_S2048_S1x2048 : Vec Ideal S1x2048 .f32) := by
  unfold V V0
  simp only [List.flatten_cons, List.flatten_nil, List.append_nil, hostOps0]
  after_results_simp
  rfl

/-- The buffer `b` when the program ends. -/
abbrev last (b : Ref sig .tc) : Buf (Elt Ideal) ((c.tc : Thread nD τ).loc b) := Pipeline.afterTail₀ cfgs (dats m) 0 (V0 m) [hostOps1] c b

/-- The call's array when the lines after it run. -/
theorem call_array : Pipeline.withArrays spec0 c (V0 m c) (fun w => (dats m 0 c).arrAt w cfg0.N) (Proc.devRef .tc main_v6) = lin 16384 2048 (V m c main_v1) (V m c main_v3) (V m c main_v5) :=
  (Pipeline.withArrays_arr spec0 winFacts0.arr_inj c (V0 m c) (fun w => (dats m 0 c).arrAt w cfg0.N) 3).trans (final m c)

/-- The first line after the call takes the two prompts apart. -/
theorem last_v7 : last m c main_v7
    = shapeCast S2x8192x2048 (lin 16384 2048 (V m c main_v1) (V m c main_v3) (V m c main_v5)) shapeCasts_S16384x2048_S2x8192x2048 := by
  unfold last Pipeline.afterTail₀
  simp only [hostOps1, List.flatten_cons, List.flatten_nil, List.append_nil, List.cons_append, List.nil_append]
  after_results_simp
  exact congrArg (fun x : Vec Ideal S16384x2048 .f32 => shapeCast S2x8192x2048 x shapeCasts_S16384x2048_S2x8192x2048) (call_array m c)

/-- The result at an entry, from the arguments. -/
theorem out_at (b : Fin 2) (p : Fin 8192) (ch : Fin 2048) :
    last m c main_v7 (ix3 b p ch)
      = entry (fun k => m ((c : Thread nD τ).loc main_arg0) (ix3 b p k)) (fun k => m ((c : Thread nD τ).loc main_arg1) (ix2 k ⟨7760 + ch.val, by omega⟩))
        (m ((c : Thread nD τ).loc main_arg2) (ix1 ⟨7760 + ch.val, by omega⟩)) := by
  rw [last_v7, host_v1, host_v3, host_v5]
  exact prompt_at _ _ _ _ _ _ _ _ _ b p ch _

/-- The run: the results are what the lines leave, and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v7) = last m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_v7 (Pipeline.mem_restRefs_of main_v7 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

end Cert.Kernel6Ideal.Proj

namespace Cert.Reference6Ideal.Proj

open Cert.Reference6Ideal Cert.Reference6Ideal.Gen Cert.Proj

/-- The segment of the reference's product at an entry. -/
theorem segment_at (x : Vec Ideal S2x8192x1024 .f32) (w : Vec Ideal S1024x9808 .f32) (bi : Vec Ideal S9808 .f32) (b : Fin 2) (p : Fin 8192) (ch : Fin 2048) :
    (extractStridedSlice S2x8192x2048 ![0, 0, 7760] (addf (F := Ideal) (Host.dotGeneral (φ₁ := .f32) (φ₂ := .f32) dot_S2x8192x1024_S1024x9808_S2x8192x9808_2_0_01_1_n_n none x w)
      (broadcastInDim S2x8192x9808 ![0, 1, 2] bcast_S1x1x9808_S2x8192x9808_0_1_2 (broadcastInDim S1x1x9808 ![2] bcast_S9808_S1x1x9808_2 bi))) slices_S2x8192x9808_S2x8192x2048_0_0_7760 : Vec Ideal S2x8192x2048 .f32) (ix3 b p ch)
      = entry (fun k => x (ix3 b p k)) (fun k => w (ix2 k ⟨7760 + ch.val, by omega⟩)) (bi (ix1 ⟨7760 + ch.val, by omega⟩)) := by
  pointwise [entry]

end Cert.Reference6Ideal.Proj

namespace Cert.Proj

/-- The two programs' results are equal. -/
theorem agree6 : Cert.algebraic_Kernel6Ideal_Reference6Ideal (hKernel6Ideal := Cert.Kernel6Ideal.Gen.facts)
    (hReference6Ideal := Cert.Reference6Ideal.Gen.facts) := by
  intro m ρ m' ρ' _ hag
  refine ⟨fun c => Cert.Kernel6Ideal.Proj.last m c Cert.Kernel6Ideal.main_v7, Cert.Kernel6Ideal.Proj.run m ρ, ?_⟩
  refine (θ_run _ _ _).mono (fun r h c => ?_) (Cert.Reference6Ideal.Value.run m' ρ')
  obtain ⟨e0, e1, e2⟩ := hag c
  obtain ⟨h0, hk⟩ := h c
  refine ⟨h0.trans ?_, hk⟩
  rw [e0, e1, e2]
  refine funext fun i => ?_
  obtain ⟨b, p, ch, rfl⟩ : ∃ (b : Fin 2) (p : Fin 8192) (ch : Fin 2048), i = ix3 b p ch :=
    ⟨i 0, i 1, i 2, by funext a; match a with | ⟨0, _⟩ => rfl | ⟨1, _⟩ => rfl | ⟨2, _⟩ => rfl⟩
  exact (Cert.Reference6Ideal.Proj.segment_at _ _ _ b p ch).trans (Cert.Kernel6Ideal.Proj.out_at m c b p ch).symm

end Cert.Proj

end
-- ==== Proof.SampleRows.lean ====
module

public import proofs.«01_k».proof.Defs
public import proofs.«01_k».proof.Proof.Gen.Kernel7Ideal.Frame
public import proofs.«01_k».proof.Proof.Gen.Reference7Ideal.Run
public import proofs.«01_k».proof.Proof.Linear
public import Idealize.ShloMosaic.Lib.Pipeline.ValueKit

@[expose] public section

set_option maxRecDepth 128

/-! The keys and values of the samples: the new rows (the result `kv_rows_sample`) and the rolled window (`win_sample`). The kernel takes the rows of all samples at
once against the segment's columns of the weights; the reference takes them against all columns and cuts the segment out. -/

noncomputable section

open Idealize.ShloMosaic Idealize.ShloMosaic.TcCoe Idealize.SL.Sem
open Idealize.ShloMosaic.Pipeline (Dat)

namespace Cert.Kernel7Ideal.Proj

open Cert.Kernel7Ideal Cert.Kernel7Ideal.Gen Cert.Proj

variable (m : (ℓ : Loc nD τ sig) → Buf (Elt Ideal) ℓ) (c : Dev nD)

/-- The one point's blocks begin at the beginning. -/
theorem index_facts : ∀ t : Fin cfg0.N, (∀ a, win0_0.index t a = 0) ∧ (∀ a, win0_1.index t a = 0) ∧ (∀ a, win0_2.index t a = 0) ∧ (∀ a, win0_3.index t a = 0) :=
  (by decide +kernel : ∀ t : Fin grid0.N, _)

/-- What the body computes from its blocks. -/
theorem block_at (x : Vec Ideal S128x1024 .bf16) (w : Vec Ideal S1024x1536 .bf16) (b : Vec Ideal S1x1536 .f32) (r : Fin 128) (ch : Fin 1536) :
    k0_pay1 x w b (ix2 r ch) = entry (fun k => x (ix2 r k)) (fun k => w (ix2 k ch)) (b (ix2 0 ch)) := by
  pointwise [k0_pay1, entry]

/-- The rows the point sees are all of them. -/
theorem block_rows (t : Fin cfg0.N) : (iblk m c 0 t : Vec Ideal S128x1024 .bf16) = V m c main_v5 := by
  have h : (((cfg0.win 0).blk t).view.emb : S128x1024.Idx → S128x1024.Idx) = id := by
    refine funext fun y => funext fun a => Fin.ext ?_
    simp -proj -dsimp only [ValueKit.blkEmbVal]
    rw [(index_facts t).1, Nat.zero_mul, Nat.zero_add]
    rfl
  unfold iblk
  simp only [V]
  generalize V0 m c (Proc.devRef .tc main_v5) = Z
  exact funext fun y => congrArg Z (congrFun h y)

/-- The weights the point sees are all of them. -/
theorem block_weights (t : Fin cfg0.N) : (iblk m c 1 t : Vec Ideal S1024x1536 .bf16) = V m c main_v2 := by
  have h : (((cfg0.win 1).blk t).view.emb : S1024x1536.Idx → S1024x1536.Idx) = id := by
    refine funext fun y => funext fun a => Fin.ext ?_
    simp -proj -dsimp only [ValueKit.blkEmbVal]
    rw [(index_facts t).2.1, Nat.zero_mul, Nat.zero_add]
    rfl
  unfold iblk
  simp only [V]
  generalize V0 m c (Proc.devRef .tc main_v2) = Z
  exact funext fun y => congrArg Z (congrFun h y)

/-- The bias the point sees are all of them. -/
theorem block_bias (t : Fin cfg0.N) : (iblk m c 2 t : Vec Ideal S1x1536 .f32) = V m c main_v4 := by
  have h : (((cfg0.win 2).blk t).view.emb : S1x1536.Idx → S1x1536.Idx) = id := by
    refine funext fun y => funext fun a => Fin.ext ?_
    simp -proj -dsimp only [ValueKit.blkEmbVal]
    rw [(index_facts t).2.2.1, Nat.zero_mul, Nat.zero_add]
    rfl
  unfold iblk
  simp only [V]
  generalize V0 m c (Proc.devRef .tc main_v4) = Z
  exact funext fun y => congrArg Z (congrFun h y)

/-- The array after the call. -/
theorem final : (dats m 0 c).arrAt 3 cfg0.N = lin 128 1536 (V m c main_v5) (V m c main_v2) (V m c main_v4) := by
  refine (dats m 0 c).arrAt_eq_of_covers 3 _ (by decide +kernel) fun t hf y => ?_
  obtain ⟨r, ch, rfl⟩ : ∃ (r : Fin 128) (ch : Fin 1536), y = ix2 r ch :=
    ⟨y 0, y 1, by funext a; match a with | ⟨0, _⟩ => rfl | ⟨1, _⟩ => rfl⟩
  blk_simp
  rw [after0_3]; frame_out
  refine (block_at _ _ _ r ch).trans ?_
  have hi : ((View.whole main_v6).slice (win0_3.rect t)).emb (ix2 r ch) = (ix2 r ch : S128x1536.Idx) := by
    refine funext fun a => Fin.ext ?_
    simp -proj -dsimp only [ValueKit.blkEmbVal]
    rw [(index_facts t).2.2.2, Nat.zero_mul, Nat.zero_add]
  have e0 := block_rows m c t
  have e1 := block_weights m c t
  have e2 := block_bias m c t
  generalize V m c main_v5 = X at *
  generalize V m c main_v2 = W at *
  generalize V m c main_v4 = B at *
  subst e0 e1 e2
  refine Eq.trans ?_ (congrArg (lin 128 1536 _ _ _) hi).symm
  rfl

/-! ## The operands and the result on the host -/

/-- The rows. -/
theorem host_rows : V m c main_v5 = (truncf (F := Ideal) .bf16 (shapeCast S128x1024 (m ((c : Thread nD τ).loc main_arg0)) shapeCasts_S128x1x1024_S128x1024 : FVec Ideal S128x1024 .f32) bitsLt_bf16_f32 : Vec Ideal S128x1024 .bf16) := by
  unfold V V0
  simp only [List.flatten_cons, List.flatten_nil, List.append_nil, hostOps0]
  after_results_simp
  rfl

/-- The segment's columns of the weights. -/
theorem host_weights : V m c main_v2 = (truncf (F := Ideal) .bf16 (extractStridedSlice S1024x1536 ![0, 6176] (m ((c : Thread nD τ).loc main_arg2)) slices_S1024x9808_S1024x1536_0_6176 : Vec Ideal S1024x1536 .f32) bitsLt_bf16_f32 : Vec Ideal S1024x1536 .bf16) := by
  unfold V V0
  simp only [List.flatten_cons, List.flatten_nil, List.append_nil, hostOps0]
  after_results_simp

/-- The segment's columns of the bias. -/
theorem host_bias : V m c main_v4 = (shapeCast S1x1536 (extractStridedSlice S1536 ![6176] (m ((c : Thread nD τ).loc main_arg3)) slices_S9808_S1536_6176 : Vec Ideal S1536 .f32) shapeCasts_S1536_S1x1536 : Vec Ideal S1x1536 .f32) := by
  unfold V V0
  simp only [List.flatten_cons, List.flatten_nil, List.append_nil, hostOps0]
  after_results_simp
  rfl

/-- The rows' array, from the arguments. -/
theorem lin_at (s : Fin 128) (ch : Fin 1536) :
    lin 128 1536 (V m c main_v5) (V m c main_v2) (V m c main_v4) (ix2 s ch)
      = entry (fun k => m ((c : Thread nD τ).loc main_arg0) (ix3 s 0 k)) (fun k => m ((c : Thread nD τ).loc main_arg2) (ix2 k ⟨6176 + ch.val, by omega⟩))
        (m ((c : Thread nD τ).loc main_arg3) (ix1 ⟨6176 + ch.val, by omega⟩)) := by
  rw [host_rows, host_weights, host_bias]
  exact sample_at _ _ _ _ _ _ _ _ s ch _

/-- The buffer `b` when the program ends. -/
abbrev last (b : Ref sig .tc) : Buf (Elt Ideal) ((c.tc : Thread nD τ).loc b) := Pipeline.afterTail₀ cfgs (dats m) 0 (V0 m) [hostOps1] c b

/-- The call's array when the lines after it run. -/
theorem call_array : Pipeline.withArrays spec0 c (V0 m c) (fun w => (dats m 0 c).arrAt w cfg0.N) (Proc.devRef .tc main_v6) = lin 128 1536 (V m c main_v5) (V m c main_v2) (V m c main_v4) :=
  (Pipeline.withArrays_arr spec0 winFacts0.arr_inj c (V0 m c) (fun w => (dats m 0 c).arrAt w cfg0.N) 3).trans (final m c)

/-- The new rows: the call's array split into the rows' parts. -/
def rows : Vec Ideal S128x1x6x4x64 .f32 :=
  shapeCast S128x1x6x4x64 (lin 128 1536 (V m c main_v5) (V m c main_v2) (V m c main_v4)) shapeCasts_S128x1536_S128x1x6x4x64

/-- The result `kv_rows_sample`: the first four parts. -/
theorem last_rows : last m c main_v11 = (extractStridedSlice S128x1x4x4x64 ![0, 0, 0, 0, 0] (rows m c) slices_S128x1x6x4x64_S128x1x4x4x64_0_0_0_0_0 : Vec Ideal S128x1x4x4x64 .f32) := by
  unfold last Pipeline.afterTail₀
  simp only [hostOps1, List.flatten_cons, List.flatten_nil, List.append_nil, List.cons_append, List.nil_append]
  after_results_simp
  rw [call_array m c]
  congr 1

/-- The new row behind the window's rows, and the oldest row dropped. -/
def roll (x : Vec Ideal S128x512x2x4x64 .f32) (y : Vec Ideal S128x1x2x4x64 .f32) : Vec Ideal S128x512x2x4x64 .f32 :=
  extractStridedSlice S128x512x2x4x64 ![0, 1, 0, 0, 0] (concatenate S128x513x2x4x64 1 [⟨S128x512x2x4x64, x⟩, ⟨S128x1x2x4x64, y⟩]
    concatenates_S128x512x2x4x64_S128x1x2x4x64_S128x513x2x4x64_d1) slices_S128x513x2x4x64_S128x512x2x4x64_0_1_0_0_0

/-- The result `win_sample`: the last two parts of the new rows rolled into the window. -/
theorem last_window : last m c main_v10
    = roll (m ((c : Thread nD τ).loc main_arg1)) (extractStridedSlice S128x1x2x4x64 ![0, 0, 4, 0, 0] (rows m c) slices_S128x1x6x4x64_S128x1x2x4x64_0_0_4_0_0) := by
  unfold last Pipeline.afterTail₀
  simp only [hostOps1, List.flatten_cons, List.flatten_nil, List.append_nil, List.cons_append, List.nil_append]
  after_results_simp
  refine congrArg₂ roll ?_ ?_
  · after_results_simp
    rw [Pipeline.withArrays_of_ne _ c (V0 m c) _ main_arg1 (by exact (by decide +kernel : ∀ w, Pipeline.arrRef spec0 w ≠ main_arg1))]
    exact V_main_arg1 m c
  · after_results_simp
    rw [call_array m c]
    congr 1

/-- The new rows at an entry, from the arguments. -/
theorem rows_at (s : Fin 128) (a : Fin 6) (g : Fin 4) (d : Fin 64) :
    rows m c (ix5 s 0 a g d)
      = entry (fun k => m ((c : Thread nD τ).loc main_arg0) (ix3 s 0 k)) (fun k => m ((c : Thread nD τ).loc main_arg2) (ix2 k ⟨6176 + (a.val * 256 + g.val * 64 + d.val), by omega⟩))
        (m ((c : Thread nD τ).loc main_arg3) (ix1 ⟨6176 + (a.val * 256 + g.val * 64 + d.val), by omega⟩)) := by
  refine Eq.trans ?_ (lin_at m c s ⟨a.val * 256 + g.val * 64 + d.val, by omega⟩)
  unfold rows
  generalize lin 128 1536 (V m c main_v5) (V m c main_v2) (V m c main_v4) = x
  pointwise

/-- The run: the results are what the lines leave, and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v11) = last m c main_v11
      ∧ r.2.mem ((c.tc : Thread nD τ).loc main_v10) = last m c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2 main_v11 (Pipeline.mem_restRefs_of main_v11 (by decide) (by decide)), (h c).2 main_v10 (Pipeline.mem_restRefs_of main_v10 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Cert.Kernel7Ideal.Proj

namespace Cert.Reference7Ideal.Proj

open Cert.Reference7Ideal Cert.Reference7Ideal.Gen Cert.Proj

/-- The segment of the reference's product. -/
def segment (x : Vec Ideal S128x1x1024 .f32) (w : Vec Ideal S1024x9808 .f32) (bi : Vec Ideal S9808 .f32) : Vec Ideal S128x1x1536 .f32 :=
  extractStridedSlice S128x1x1536 ![0, 0, 6176] (addf (F := Ideal) (Host.dotGeneral (φ₁ := .f32) (φ₂ := .f32) dot_S128x1x1024_S1024x9808_S128x1x9808_2_0_01_1_n_n none x w)
      (broadcastInDim S128x1x9808 ![0, 1, 2] bcast_S1x1x9808_S128x1x9808_0_1_2 (broadcastInDim S1x1x9808 ![2] bcast_S9808_S1x1x9808_2 bi))) slices_S128x1x9808_S128x1x1536_0_0_6176

/-- The segment at an entry. -/
theorem segment_at (x : Vec Ideal S128x1x1024 .f32) (w : Vec Ideal S1024x9808 .f32) (bi : Vec Ideal S9808 .f32) (s : Fin 128) (ch : Fin 1536) :
    segment x w bi (ix3 s 0 ch)
      = entry (fun k => x (ix3 s 0 k)) (fun k => w (ix2 k ⟨6176 + ch.val, by omega⟩)) (bi (ix1 ⟨6176 + ch.val, by omega⟩)) := by
  pointwise [segment, entry]

/-- The segment split into the rows' parts. -/
def rows (x : Vec Ideal S128x1x1024 .f32) (w : Vec Ideal S1024x9808 .f32) (bi : Vec Ideal S9808 .f32) : Vec Ideal S128x1x6x4x64 .f32 :=
  shapeCast S128x1x6x4x64 (segment x w bi) shapeCasts_S128x1x1536_S128x1x6x4x64

/-- The rows at an entry. -/
theorem rows_at (x : Vec Ideal S128x1x1024 .f32) (w : Vec Ideal S1024x9808 .f32) (bi : Vec Ideal S9808 .f32) (s : Fin 128) (a : Fin 6) (g : Fin 4) (d : Fin 64) :
    rows x w bi (ix5 s 0 a g d)
      = entry (fun k => x (ix3 s 0 k)) (fun k => w (ix2 k ⟨6176 + (a.val * 256 + g.val * 64 + d.val), by omega⟩)) (bi (ix1 ⟨6176 + (a.val * 256 + g.val * 64 + d.val), by omega⟩)) := by
  refine Eq.trans ?_ (segment_at x w bi s ⟨a.val * 256 + g.val * 64 + d.val, by omega⟩)
  unfold rows
  generalize segment x w bi = y
  pointwise

end Cert.Reference7Ideal.Proj

namespace Cert.Proj

/-- The two programs' new rows are the same. -/
theorem rows_eq (m : (ℓ : Loc Cert.Kernel7Ideal.nD Cert.Kernel7Ideal.τ Cert.Kernel7Ideal.sig) → Buf (Elt Ideal) ℓ) (c : Dev Cert.Kernel7Ideal.nD) :
    Cert.Reference7Ideal.Proj.rows (m ((c.tc : Thread Cert.Kernel7Ideal.nD Cert.Kernel7Ideal.τ).loc Cert.Kernel7Ideal.main_arg0))
        (m ((c.tc : Thread Cert.Kernel7Ideal.nD Cert.Kernel7Ideal.τ).loc Cert.Kernel7Ideal.main_arg2))
        (m ((c.tc : Thread Cert.Kernel7Ideal.nD Cert.Kernel7Ideal.τ).loc Cert.Kernel7Ideal.main_arg3))
      = Cert.Kernel7Ideal.Proj.rows m c := by
  refine funext fun i => ?_
  obtain ⟨s, a, g, d, rfl⟩ : ∃ (s : Fin 128) (a : Fin 6) (g : Fin 4) (d : Fin 64), i = ix5 s 0 a g d :=
    ⟨i 0, i 2, i 3, i 4, by funext a; match a with | ⟨0, _⟩ => rfl | ⟨1, _⟩ => exact Subsingleton.elim (α := Fin 1) _ _ | ⟨2, _⟩ => rfl | ⟨3, _⟩ => rfl | ⟨4, _⟩ => rfl⟩
  exact (Cert.Reference7Ideal.Proj.rows_at _ _ _ s a g d).trans (Cert.Kernel7Ideal.Proj.rows_at m c s a g d).symm

/-- The two programs' results are equal. -/
theorem agree7 : Cert.algebraic_Kernel7Ideal_Reference7Ideal (hKernel7Ideal := Cert.Kernel7Ideal.Gen.facts)
    (hReference7Ideal := Cert.Reference7Ideal.Gen.facts) := by
  intro m ρ m' ρ' _ hag
  refine ⟨fun c => Cert.Kernel7Ideal.Proj.last m c Cert.Kernel7Ideal.main_v11, fun c => Cert.Kernel7Ideal.Proj.last m c Cert.Kernel7Ideal.main_v10, Cert.Kernel7Ideal.Proj.run m ρ, ?_⟩
  refine (θ_run _ _ _).mono (fun r h c => ?_) (Cert.Reference7Ideal.Value.run m' ρ')
  obtain ⟨e0, e1, e2, e3⟩ := hag c
  obtain ⟨h0, h1, hk⟩ := h c
  refine ⟨h0.trans ?_, h1.trans ?_, hk⟩
  · rw [e0, e2, e3]
    refine Eq.trans ?_ (Cert.Kernel7Ideal.Proj.last_rows m c).symm
    rw [← rows_eq m c]
    rfl
  · rw [e0, e1, e2, e3]
    refine Eq.trans ?_ (Cert.Kernel7Ideal.Proj.last_window m c).symm
    rw [← rows_eq m c]
    rfl

end Cert.Proj

end
-- ==== Proof.SampleConv.lean ====
module

public import proofs.«01_k».proof.Defs
public import proofs.«01_k».proof.Proof.Gen.Kernel8Ideal.Frame
public import proofs.«01_k».proof.Proof.Gen.Reference8Ideal.Run
public import proofs.«01_k».proof.Proof.Linear
public import Idealize.ShloMosaic.Lib.Pipeline.ValueKit

@[expose] public section

set_option maxRecDepth 128

/-! The projection in front of the convolution (`xbc`) for the samples, and the rolled state (the result `conv_sample`). The kernel takes the rows of all samples at
once against the segment's columns of the weights; the reference takes them against all columns and cuts the segment out. -/

noncomputable section

open Idealize.ShloMosaic Idealize.ShloMosaic.TcCoe Idealize.SL.Sem
open Idealize.ShloMosaic.Pipeline (Dat)

namespace Cert.Kernel8Ideal.Proj

open Cert.Kernel8Ideal Cert.Kernel8Ideal.Gen Cert.Proj

variable (m : (ℓ : Loc nD τ sig) → Buf (Elt Ideal) ℓ) (c : Dev nD)

/-- The one point's blocks begin at the beginning. -/
theorem index_facts : ∀ t : Fin cfg0.N, (∀ a, win0_0.index t a = 0) ∧ (∀ a, win0_1.index t a = 0) ∧ (∀ a, win0_2.index t a = 0) ∧ (∀ a, win0_3.index t a = 0) :=
  (by decide +kernel : ∀ t : Fin grid0.N, _)

/-- What the body computes from its blocks. -/
theorem block_at (x : Vec Ideal S128x1024 .bf16) (w : Vec Ideal S1024x3072 .bf16) (b : Vec Ideal S1x3072 .f32) (r : Fin 128) (ch : Fin 3072) :
    k0_pay1 x w b (ix2 r ch) = entry (fun k => x (ix2 r k)) (fun k => w (ix2 k ch)) (b (ix2 0 ch)) := by
  pointwise [k0_pay1, entry]

/-- The rows the point sees are all of them. -/
theorem block_rows (t : Fin cfg0.N) : (iblk m c 0 t : Vec Ideal S128x1024 .bf16) = V m c main_v5 := by
  have h : (((cfg0.win 0).blk t).view.emb : S128x1024.Idx → S128x1024.Idx) = id := by
    refine funext fun y => funext fun a => Fin.ext ?_
    simp -proj -dsimp only [ValueKit.blkEmbVal]
    rw [(index_facts t).1, Nat.zero_mul, Nat.zero_add]
    rfl
  unfold iblk
  simp only [V]
  generalize V0 m c (Proc.devRef .tc main_v5) = Z
  exact funext fun y => congrArg Z (congrFun h y)

/-- The weights the point sees are all of them. -/
theorem block_weights (t : Fin cfg0.N) : (iblk m c 1 t : Vec Ideal S1024x3072 .bf16) = V m c main_v2 := by
  have h : (((cfg0.win 1).blk t).view.emb : S1024x3072.Idx → S1024x3072.Idx) = id := by
    refine funext fun y => funext fun a => Fin.ext ?_
    simp -proj -dsimp only [ValueKit.blkEmbVal]
    rw [(index_facts t).2.1, Nat.zero_mul, Nat.zero_add]
    rfl
  unfold iblk
  simp only [V]
  generalize V0 m c (Proc.devRef .tc main_v2) = Z
  exact funext fun y => congrArg Z (congrFun h y)

/-- The bias the point sees are all of them. -/
theorem block_bias (t : Fin cfg0.N) : (iblk m c 2 t : Vec Ideal S1x3072 .f32) = V m c main_v4 := by
  have h : (((cfg0.win 2).blk t).view.emb : S1x3072.Idx → S1x3072.Idx) = id := by
    refine funext fun y => funext fun a => Fin.ext ?_
    simp -proj -dsimp only [ValueKit.blkEmbVal]
    rw [(index_facts t).2.2.1, Nat.zero_mul, Nat.zero_add]
    rfl
  unfold iblk
  simp only [V]
  generalize V0 m c (Proc.devRef .tc main_v4) = Z
  exact funext fun y => congrArg Z (congrFun h y)

/-- The array after the call. -/
theorem final : (dats m 0 c).arrAt 3 cfg0.N = lin 128 3072 (V m c main_v5) (V m c main_v2) (V m c main_v4) := by
  refine (dats m 0 c).arrAt_eq_of_covers 3 _ (by decide +kernel) fun t hf y => ?_
  obtain ⟨r, ch, rfl⟩ : ∃ (r : Fin 128) (ch : Fin 3072), y = ix2 r ch :=
    ⟨y 0, y 1, by funext a; match a with | ⟨0, _⟩ => rfl | ⟨1, _⟩ => rfl⟩
  blk_simp
  rw [after0_3]; frame_out
  refine (block_at _ _ _ r ch).trans ?_
  have hi : ((View.whole main_v6).slice (win0_3.rect t)).emb (ix2 r ch) = (ix2 r ch : S128x3072.Idx) := by
    refine funext fun a => Fin.ext ?_
    simp -proj -dsimp only [ValueKit.blkEmbVal]
    rw [(index_facts t).2.2.2, Nat.zero_mul, Nat.zero_add]
  have e0 := block_rows m c t
  have e1 := block_weights m c t
  have e2 := block_bias m c t
  generalize V m c main_v5 = X at *
  generalize V m c main_v2 = W at *
  generalize V m c main_v4 = B at *
  subst e0 e1 e2
  refine Eq.trans ?_ (congrArg (lin 128 3072 _ _ _) hi).symm
  rfl

/-! ## The operands and the result on the host -/

/-- The rows. -/
theorem host_rows : V m c main_v5 = (truncf (F := Ideal) .bf16 (shapeCast S128x1024 (m ((c : Thread nD τ).loc main_arg0)) shapeCasts_S128x1x1024_S128x1024 : FVec Ideal S128x1024 .f32) bitsLt_bf16_f32 : Vec Ideal S128x1024 .bf16) := by
  unfold V V0
  simp only [List.flatten_cons, List.flatten_nil, List.append_nil, hostOps0]
  after_results_simp
  rfl

/-- The segment's columns of the weights. -/
theorem host_weights : V m c main_v2 = (truncf (F := Ideal) .bf16 (extractStridedSlice S1024x3072 ![0, 2048] (m ((c : Thread nD τ).loc main_arg2)) slices_S1024x9808_S1024x3072_0_2048 : Vec Ideal S1024x3072 .f32) bitsLt_bf16_f32 : Vec Ideal S1024x3072 .bf16) := by
  unfold V V0
  simp only [List.flatten_cons, List.flatten_nil, List.append_nil, hostOps0]
  after_results_simp

/-- The segment's columns of the bias. -/
theorem host_bias : V m c main_v4 = (shapeCast S1x3072 (extractStridedSlice S3072 ![2048] (m ((c : Thread nD τ).loc main_arg3)) slices_S9808_S3072_2048 : Vec Ideal S3072 .f32) shapeCasts_S3072_S1x3072 : Vec Ideal S1x3072 .f32) := by
  unfold V V0
  simp only [List.flatten_cons, List.flatten_nil, List.append_nil, hostOps0]
  after_results_simp
  rfl

/-- The rows' array, from the arguments. -/
theorem lin_at (s : Fin 128) (ch : Fin 3072) :
    lin 128 3072 (V m c main_v5) (V m c main_v2) (V m c main_v4) (ix2 s ch)
      = entry (fun k => m ((c : Thread nD τ).loc main_arg0) (ix3 s 0 k)) (fun k => m ((c : Thread nD τ).loc main_arg2) (ix2 k ⟨2048 + ch.val, by omega⟩))
        (m ((c : Thread nD τ).loc main_arg3) (ix1 ⟨2048 + ch.val, by omega⟩)) := by
  rw [host_rows, host_weights, host_bias]
  exact sample_at _ _ _ _ _ _ _ _ s ch _

/-- The buffer `b` when the program ends. -/
abbrev last (b : Ref sig .tc) : Buf (Elt Ideal) ((c.tc : Thread nD τ).loc b) := Pipeline.afterTail₀ cfgs (dats m) 0 (V0 m) [hostOps1] c b

/-- The call's array when the lines after it run. -/
theorem call_array : Pipeline.withArrays spec0 c (V0 m c) (fun w => (dats m 0 c).arrAt w cfg0.N) (Proc.devRef .tc main_v6) = lin 128 3072 (V m c main_v5) (V m c main_v2) (V m c main_v4) :=
  (Pipeline.withArrays_arr spec0 winFacts0.arr_inj c (V0 m c) (fun w => (dats m 0 c).arrAt w cfg0.N) 3).trans (final m c)

/-- The new row behind the state's rows, and the oldest row dropped. -/
def roll (x : Vec Ideal S128x3x3072 .f32) (y : Vec Ideal S128x1x3072 .f32) : Vec Ideal S128x3x3072 .f32 :=
  extractStridedSlice S128x3x3072 ![0, 1, 0] (concatenate S128x4x3072 1 [⟨S128x3x3072, x⟩, ⟨S128x1x3072, y⟩]
    concatenates_S128x3x3072_S128x1x3072_S128x4x3072_d1) slices_S128x4x3072_S128x3x3072_0_1_0

/-- The call leaves the state as the arguments gave it. -/
theorem state_kept : Pipeline.withArrays spec0 c (V0 m c) (fun w => (dats m 0 c).arrAt w cfg0.N) (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

/-- The result `conv_sample`, as the lines after the call leave it. -/
theorem last_state : last m c main_v9
    = roll (m ((c : Thread nD τ).loc main_arg1)) (broadcastInDim S128x1x3072 ![0, 2] bcast_S128x3072_S128x1x3072_0_2 (lin 128 3072 (V m c main_v5) (V m c main_v2) (V m c main_v4))) := by
  unfold last Pipeline.afterTail₀
  simp only [hostOps1, List.flatten_cons, List.flatten_nil, List.append_nil, List.cons_append, List.nil_append]
  after_results_simp
  refine congrArg₂ roll ?_ ?_
  · after_results_simp
    exact state_kept m c
  · after_results_simp
    rw [call_array m c]

/-- The new row at an entry. -/
theorem row_at (x : Vec Ideal S128x3072 .f32) (s : Fin 128) (ch : Fin 3072) :
    (broadcastInDim S128x1x3072 ![0, 2] bcast_S128x3072_S128x1x3072_0_2 x : Vec Ideal S128x1x3072 .f32) (ix3 s 0 ch) = x (ix2 s ch) := by
  pointwise

/-- The run: the results are what the lines leave, and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v9) = last m c main_v9
      ∧ r.2.mem ((c.tc : Thread nD τ).loc main_v6) = lin 128 3072 (V m c main_v5) (V m c main_v2) (V m c main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2 main_v9 (Pipeline.mem_restRefs_of main_v9 (by decide) (by decide)), ((h c).1 3).trans (final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Cert.Kernel8Ideal.Proj

namespace Cert.Reference8Ideal.Proj

open Cert.Reference8Ideal Cert.Reference8Ideal.Gen Cert.Proj

/-- The segment of the reference's product. -/
def segment (x : Vec Ideal S128x1x1024 .f32) (w : Vec Ideal S1024x9808 .f32) (bi : Vec Ideal S9808 .f32) : Vec Ideal S128x1x3072 .f32 :=
  extractStridedSlice S128x1x3072 ![0, 0, 2048] (addf (F := Ideal) (Host.dotGeneral (φ₁ := .f32) (φ₂ := .f32) dot_S128x1x1024_S1024x9808_S128x1x9808_2_0_01_1_n_n none x w)
      (broadcastInDim S128x1x9808 ![0, 1, 2] bcast_S1x1x9808_S128x1x9808_0_1_2 (broadcastInDim S1x1x9808 ![2] bcast_S9808_S1x1x9808_2 bi))) slices_S128x1x9808_S128x1x3072_0_0_2048

/-- The segment at an entry. -/
theorem segment_at (x : Vec Ideal S128x1x1024 .f32) (w : Vec Ideal S1024x9808 .f32) (bi : Vec Ideal S9808 .f32) (s : Fin 128) (ch : Fin 3072) :
    segment x w bi (ix3 s 0 ch)
      = entry (fun k => x (ix3 s 0 k)) (fun k => w (ix2 k ⟨2048 + ch.val, by omega⟩)) (bi (ix1 ⟨2048 + ch.val, by omega⟩)) := by
  pointwise [segment, entry]
end Cert.Reference8Ideal.Proj

namespace Cert.Proj

/-- The two programs' results are equal. -/
theorem agree8 : Cert.algebraic_Kernel8Ideal_Reference8Ideal (hKernel8Ideal := Cert.Kernel8Ideal.Gen.facts)
    (hReference8Ideal := Cert.Reference8Ideal.Gen.facts) := by
  intro m ρ m' ρ' _ hag
  refine ⟨fun c => Cert.Kernel8Ideal.Proj.last m c Cert.Kernel8Ideal.main_v9, fun c => lin 128 3072 (Cert.Kernel8Ideal.Gen.V m c Cert.Kernel8Ideal.main_v5) (Cert.Kernel8Ideal.Gen.V m c Cert.Kernel8Ideal.main_v2) (Cert.Kernel8Ideal.Gen.V m c Cert.Kernel8Ideal.main_v4), Cert.Kernel8Ideal.Proj.run m ρ, ?_⟩
  refine (θ_run _ _ _).mono (fun r h c => ?_) (Cert.Reference8Ideal.Value.run m' ρ')
  obtain ⟨e0, e1, e2, e3⟩ := hag c
  obtain ⟨h0, h1, hk⟩ := h c
  refine ⟨h0.trans ?_, h1.trans ?_, hk⟩
  · rw [e0, e1, e2, e3]
    refine Eq.trans ?_ (Cert.Kernel8Ideal.Proj.last_state m c).symm
    refine congrArg (Cert.Kernel8Ideal.Proj.roll _) (funext fun i => ?_)
    obtain ⟨s, ch, rfl⟩ : ∃ (s : Fin 128) (ch : Fin 3072), i = ix3 s 0 ch :=
      ⟨i 0, i 2, by funext a; match a with | ⟨0, _⟩ => rfl | ⟨1, _⟩ => exact Subsingleton.elim (α := Fin 1) _ _ | ⟨2, _⟩ => rfl⟩
    exact (Cert.Reference8Ideal.Proj.segment_at _ _ _ s ch).trans
      ((Cert.Kernel8Ideal.Proj.row_at _ s ch).trans (Cert.Kernel8Ideal.Proj.lin_at m c s ch)).symm
  · rw [e0, e2, e3]
    refine funext fun i => ?_
    obtain ⟨s, ch, rfl⟩ : ∃ (s : Fin 128) (ch : Fin 3072), i = ix2 s ch :=
      ⟨i 0, i 1, by funext a; match a with | ⟨0, _⟩ => rfl | ⟨1, _⟩ => rfl⟩
    exact ((flat_at (n := 3072) _ _ s ch).trans (Cert.Reference8Ideal.Proj.segment_at _ _ _ s ch)).trans
      (Cert.Kernel8Ideal.Proj.lin_at m c s ch).symm

end Cert.Proj

end
-- ==== Proof.MergeSpec.lean ====
module

public import proofs.«01_k».proof.Proof.Linear
public import Idealize.ShloMosaic.Lib.Pipeline.ValueKit

@[expose] public section

set_option maxRecDepth 16384

/-! The merge of the two branches for one row: the gates, the output projection, the residual and the norm. -/

noncomputable section

open Idealize.ShloMosaic Idealize.ShloMosaic.TcCoe

namespace Cert.Merge

/-- A column of the merged branches: each branch's projection under its gate. -/
def gated (sy : Fin 2048 → EReal) (ny : Fin 1024 → EReal) (gs gn : EReal) (ws : Fin 2048 → EReal) (wn : Fin 1024 → EReal) : EReal :=
  Ideal.logistic gs * (∑ k, sy k * ws k) + Ideal.logistic gn * (∑ k, ny k * wn k)

/-- A column of the scaled input plus the output projection of the merged branches. -/
def resid (x : EReal) (v w : Fin 1024 → EReal) (b : EReal) : EReal := Ideal.ofBits .f32 0x3F9837F0#32 * x + ((∑ k, v k * w k) + b)

/-- The mean of a row. -/
def mean (u : Fin 1024 → EReal) : EReal := Ideal.div (∑ k, u k) (Ideal.ofBits .f32 0x44800000#32)

/-- A column of the normalised row. -/
def normed (u : Fin 1024 → EReal) (j : Fin 1024) (g b : EReal) : EReal :=
  (u j - mean u) * Ideal.rsqrt (mean (fun k => (u k - mean u) * (u k - mean u)) + Ideal.ofBits .f32 0x3727C5AC#32) * g + b

/-- The row before the norm. -/
def before (x : Fin 1024 → EReal) (sy : Fin 2048 → EReal) (ny : Fin 1024 → EReal) (gm : Fin 2048 → EReal) (ws : Fin 2048 → Fin 1024 → EReal)
    (wn wo : Fin 1024 → Fin 1024 → EReal) (bo : Fin 1024 → EReal) (j : Fin 1024) : EReal :=
  resid (x j) (fun k => gated sy ny (gm ⟨k.val, by omega⟩) (gm ⟨1024 + k.val, by omega⟩) (fun l => ws l k) (fun l => wn l k)) (fun k => wo k j) (bo j)

end Cert.Merge

end
-- ==== Proof.Merge.lean ====
module

public import proofs.«01_k».proof.Defs
public import proofs.«01_k».proof.Proof.Gen.Kernel9Ideal.Frame
public import proofs.«01_k».proof.Proof.Linear
public import proofs.«01_k».proof.Proof.MergeSpec
public import Idealize.ShloMosaic.Lib.Pipeline.ValueKit

@[expose] public section

set_option maxRecDepth 16384

/-! The merge's kernel: it takes 256 rows at a time against the whole weights, and every row of its first result is the row of
`MergeSpec`. Its second result, the router's logits, is no result of the program. -/

noncomputable section

open Idealize.ShloMosaic Idealize.ShloMosaic.TcCoe Idealize.SL.Sem
open Idealize.ShloMosaic.Pipeline (Dat)

namespace Cert.Kernel9Ideal.Merge

open Cert.Kernel9Ideal Cert.Kernel9Ideal.Gen Cert.Merge

variable (m : (ℓ : Loc nD τ sig) → Buf (Elt Ideal) ℓ) (c : Dev nD)

/-- Point `t` takes the `t`-th block of rows. -/
theorem index_rows : ∀ t : Fin cfg0.N, win0_0.index t = ![t.val, 0] ∧ win0_1.index t = ![t.val, 0] ∧ win0_2.index t = ![t.val, 0] ∧ win0_3.index t = ![t.val, 0] ∧ win0_12.index t = ![t.val, 0] :=
  (by decide +kernel : ∀ t : Fin grid0.N, _)

/-- Every point takes all of the weights. -/
theorem index_whole : ∀ t : Fin cfg0.N, win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

/-- The rows before the norm, in a block. -/
theorem before_at (sy : Vec Ideal S256x2048 .bf16) (ws : Vec Ideal S2048x1024 .bf16) (ny : Vec Ideal S256x1024 .bf16) (wn : Vec Ideal S1024x1024 .bf16)
    (gm : Vec Ideal S256x2048 .f32) (x : Vec Ideal S256x1024 .f32) (wo : Vec Ideal S1024x1024 .bf16) (bo : Vec Ideal S1x1024 .f32) (r : Fin 256) (ch : Fin 1024) :
    k0_pay3 sy ws ny wn gm x wo bo (ix2 r ch)
      = before (fun k => x (ix2 r k)) (fun k => sy (ix2 r k)) (fun k => ny (ix2 r k)) (fun k => gm (ix2 r k)) (fun k j => ws (ix2 k j))
          (fun k j => wn (ix2 k j)) (fun k j => wo (ix2 k j)) (fun j => bo (ix2 0 j)) ch := by
  pointwise [k0_pay3, before, resid, gated]

/-- The norm of a block's rows. -/
theorem norm_at (u : FVec Ideal S256x1024 .f32) (g b : Vec Ideal S1x1024 .f32) (r : Fin 256) (ch : Fin 1024) :
    k0_pay1 u (k0_pay4 g) b (ix2 r ch) = normed (fun k => u (ix2 r k)) ch (g (ix2 0 ch)) (b (ix2 0 ch)) := by
  pointwise [k0_pay1, k0_pay4, normed, mean]

/-- What a point writes, from its blocks. -/
theorem written (x0 : Vec Ideal S256x1024 .f32) (x1 : Vec Ideal S256x2048 .bf16) (x2 : Vec Ideal S256x1024 .bf16) (x3 : Vec Ideal S256x2048 .f32) (x4 : Vec Ideal S2048x1024 .bf16) (x5 x6 : Vec Ideal S1024x1024 .bf16) (x7 x8 x9 : Vec Ideal S1x1024 .f32) (x10 x11 : Vec Ideal S1024x128 .bf16) :
    out0_12 x0 x1 x2 x3 x4 x5 x6 x7 x8 x9 x10 x11 = k0_pay1 (k0_pay3 x1 x4 x2 x5 x3 x0 x6 x7) (k0_pay4 x8) x9 := by
  have h5 : k0_pay5 x0 x1 x2 x3 x4 x5 x6 x7 x8 x9 x10 x11 = k0_pay3 x1 x4 x2 x5 x3 x0 x6 x7 := by
    unfold k0_pay5
    frame_out
  have h6 : k0_pay6 x0 x1 x2 x3 x4 x5 x6 x7 x8 x9 x10 x11 = k0_pay4 x8 := by
    unfold k0_pay6
    frame_out
  frame_out
  rw [h5, h6]

/-- The array the call leaves, from its operands. -/
def rows (x : Vec Ideal S16384x1024 .f32) (sy : Vec Ideal S16384x2048 .bf16) (ny : Vec Ideal S16384x1024 .bf16) (gm : Vec Ideal S16384x2048 .f32)
    (ws : Vec Ideal S2048x1024 .bf16) (wn wo : Vec Ideal S1024x1024 .bf16) (bo g b : Vec Ideal S1x1024 .f32) : Vec Ideal S16384x1024 .f32 :=
  fun i => normed (before (fun k => x (ix2 (i 0) k)) (fun k => sy (ix2 (i 0) k)) (fun k => ny (ix2 (i 0) k)) (fun k => gm (ix2 (i 0) k))
    (fun k j => ws (ix2 k j)) (fun k j => wn (ix2 k j)) (fun k j => wo (ix2 k j)) (fun j => bo (ix2 0 j))) (i 1) (g (ix2 0 (i 1))) (b (ix2 0 (i 1)))

/-- The call's array, over its operands. -/
abbrev called : Vec Ideal S16384x1024 .f32 :=
  rows (V m c main_v11) (V m c main_v13) (V m c main_v15) (V m c main_v16) (V m c main_v5) (V m c main_v6) (V m c main_v7) (V m c main_v8) (V m c main_v9) (V m c main_v10)

/-- A block's row is a row of the whole. -/
theorem row_lt (t : Fin cfg0.N) (r : Fin 256) : 256 * t.val + r.val < 16384 := by
  have hN := lt_of_lt_of_eq t.isLt N_0
  omega

/-! The blocks of the operands a point takes. -/

theorem block0 (t : Fin cfg0.N) (r : Fin 256) (k : Fin 1024) : iblk m c 0 t (ix2 r k) = V m c main_v11 (ix2 ⟨256 * t.val + r.val, row_lt t r⟩ k) := by
  have h := index_rows t
  blk_ext [iblk, V, h]

theorem block1 (t : Fin cfg0.N) (r : Fin 256) (k : Fin 2048) : iblk m c 1 t (ix2 r k) = V m c main_v13 (ix2 ⟨256 * t.val + r.val, row_lt t r⟩ k) := by
  have h := index_rows t
  blk_ext [iblk, V, h]

theorem block2 (t : Fin cfg0.N) (r : Fin 256) (k : Fin 1024) : iblk m c 2 t (ix2 r k) = V m c main_v15 (ix2 ⟨256 * t.val + r.val, row_lt t r⟩ k) := by
  have h := index_rows t
  blk_ext [iblk, V, h]

theorem block3 (t : Fin cfg0.N) (r : Fin 256) (k : Fin 2048) : iblk m c 3 t (ix2 r k) = V m c main_v16 (ix2 ⟨256 * t.val + r.val, row_lt t r⟩ k) := by
  have h := index_rows t
  blk_ext [iblk, V, h]

theorem block4 (t : Fin cfg0.N) (k : Fin 2048) (j : Fin 1024) : iblk m c 4 t (ix2 k j) = V m c main_v5 (ix2 k j) := by
  have h := index_whole t
  blk_ext [iblk, V, h]

theorem block5 (t : Fin cfg0.N) (k : Fin 1024) (j : Fin 1024) : iblk m c 5 t (ix2 k j) = V m c main_v6 (ix2 k j) := by
  have h := index_whole t
  blk_ext [iblk, V, h]

theorem block6 (t : Fin cfg0.N) (k : Fin 1024) (j : Fin 1024) : iblk m c 6 t (ix2 k j) = V m c main_v7 (ix2 k j) := by
  have h := index_whole t
  blk_ext [iblk, V, h]

theorem block7 (t : Fin cfg0.N) (j : Fin 1024) : iblk m c 7 t (ix2 0 j) = V m c main_v8 (ix2 0 j) := by
  have h := index_whole t
  blk_ext [iblk, V, h]

theorem block8 (t : Fin cfg0.N) (j : Fin 1024) : iblk m c 8 t (ix2 0 j) = V m c main_v9 (ix2 0 j) := by
  have h := index_whole t
  blk_ext [iblk, V, h]

theorem block9 (t : Fin cfg0.N) (j : Fin 1024) : iblk m c 9 t (ix2 0 j) = V m c main_v10 (ix2 0 j) := by
  have h := index_whole t
  blk_ext [iblk, V, h]

/-- The array after the call: every block holds its rows. -/
theorem final : (dats m 0 c).arrAt 12 cfg0.N = called m c := by
  refine (dats m 0 c).arrAt_eq_of_covers 12 _ (by decide +kernel) fun t hf y => ?_
  have h := index_rows t
  obtain ⟨r, ch, rfl⟩ : ∃ (r : Fin 256) (ch : Fin 1024), y = ix2 r ch :=
    ⟨y 0, y 1, by funext a; match a with | ⟨0, _⟩ => rfl | ⟨1, _⟩ => rfl⟩
  blk_simp
  rw [after0_12, written]
  have hi : ((View.whole main_v17_0).slice (win0_12.rect t)).emb (ix2 r ch) = (ix2 ⟨256 * t.val + r.val, row_lt t r⟩ ch : S16384x1024.Idx) := by
    blk_ext [h]
  refine (norm_at _ _ _ r ch).trans ?_
  refine Eq.trans ?_ (congrArg (called m c) hi).symm
  have hb : (fun k => k0_pay3 (iblk m c 1 t) (iblk m c 4 t) (iblk m c 2 t) (iblk m c 5 t) (iblk m c 3 t) (iblk m c 0 t) (iblk m c 6 t) (iblk m c 7 t) (ix2 r k)) = _ :=
    funext fun k => before_at _ _ _ _ _ _ _ _ r k
  rw [block8, block9]
  refine (congrArg (fun u => normed u ch _ _) hb).trans ?_
  simp only [block0, block1, block2, block3, block4, block5, block6, block7]
  rfl

/-! ## The operands and the result on the host -/

/-- The input rows. -/
theorem host_v11 : V m c main_v11 = (shapeCast S16384x1024 (m ((c : Thread nD τ).loc main_arg0)) shapeCasts_S2x8192x1024_S16384x1024 : Vec Ideal S16384x1024 .f32) := by
  unfold V V0
  simp only [List.flatten_cons, List.flatten_nil, List.append_nil, List.cons_append, List.nil_append, hostOps0, hostOps0_1, hostOps0_2]
  after_results_simp
  try rfl

/-- The rows of the recurrence's branch. -/
theorem host_v13 : V m c main_v13 = (shapeCast S16384x2048 (truncf (F := Ideal) .bf16 (m ((c : Thread nD τ).loc main_arg1)) bitsLt_bf16_f32 : Vec Ideal S2x8192x2048 .bf16) shapeCasts_S2x8192x2048_S16384x2048 : Vec Ideal S16384x2048 .bf16) := by
  unfold V V0
  simp only [List.flatten_cons, List.flatten_nil, List.append_nil, List.cons_append, List.nil_append, hostOps0, hostOps0_1, hostOps0_2]
  after_results_simp
  try rfl

/-- The rows of the attention's branch. -/
theorem host_v15 : V m c main_v15 = (shapeCast S16384x1024 (truncf (F := Ideal) .bf16 (m ((c : Thread nD τ).loc main_arg2)) bitsLt_bf16_f32 : Vec Ideal S2x8192x1024 .bf16) shapeCasts_S2x8192x1024_S16384x1024 : Vec Ideal S16384x1024 .bf16) := by
  unfold V V0
  simp only [List.flatten_cons, List.flatten_nil, List.append_nil, List.cons_append, List.nil_append, hostOps0, hostOps0_1, hostOps0_2]
  after_results_simp
  try rfl

/-- The rows of the merge gates. -/
theorem host_v16 : V m c main_v16 = (shapeCast S16384x2048 (m ((c : Thread nD τ).loc main_arg3)) shapeCasts_S2x8192x2048_S16384x2048 : Vec Ideal S16384x2048 .f32) := by
  unfold V V0
  simp only [List.flatten_cons, List.flatten_nil, List.append_nil, List.cons_append, List.nil_append, hostOps0, hostOps0_1, hostOps0_2]
  after_results_simp
  try rfl

/-- The recurrence's weights. -/
theorem host_v5 : V m c main_v5 = (truncf (F := Ideal) .bf16 (m ((c : Thread nD τ).loc main_arg4)) bitsLt_bf16_f32 : Vec Ideal S2048x1024 .bf16) := by
  unfold V V0
  simp only [List.flatten_cons, List.flatten_nil, List.append_nil, List.cons_append, List.nil_append, hostOps0, hostOps0_1, hostOps0_2]
  after_results_simp
  try rfl

/-- The attention's weights. -/
theorem host_v6 : V m c main_v6 = (truncf (F := Ideal) .bf16 (m ((c : Thread nD τ).loc main_arg5)) bitsLt_bf16_f32 : Vec Ideal S1024x1024 .bf16) := by
  unfold V V0
  simp only [List.flatten_cons, List.flatten_nil, List.append_nil, List.cons_append, List.nil_append, hostOps0, hostOps0_1, hostOps0_2]
  after_results_simp
  try rfl

/-- The output weights. -/
theorem host_v7 : V m c main_v7 = (truncf (F := Ideal) .bf16 (m ((c : Thread nD τ).loc main_arg6)) bitsLt_bf16_f32 : Vec Ideal S1024x1024 .bf16) := by
  unfold V V0
  simp only [List.flatten_cons, List.flatten_nil, List.append_nil, List.cons_append, List.nil_append, hostOps0, hostOps0_1, hostOps0_2]
  after_results_simp
  try rfl

/-- The output bias. -/
theorem host_v8 : V m c main_v8 = (shapeCast S1x1024 (m ((c : Thread nD τ).loc main_arg7)) shapeCasts_S1024_S1x1024 : Vec Ideal S1x1024 .f32) := by
  unfold V V0
  simp only [List.flatten_cons, List.flatten_nil, List.append_nil, List.cons_append, List.nil_append, hostOps0, hostOps0_1, hostOps0_2]
  after_results_simp
  try rfl

/-- The scale of the norm. -/
theorem host_v9 : V m c main_v9 = (shapeCast S1x1024 (m ((c : Thread nD τ).loc main_arg8)) shapeCasts_S1024_S1x1024 : Vec Ideal S1x1024 .f32) := by
  unfold V V0
  simp only [List.flatten_cons, List.flatten_nil, List.append_nil, List.cons_append, List.nil_append, hostOps0, hostOps0_1, hostOps0_2]
  after_results_simp
  try rfl

/-- The shift of the norm. -/
theorem host_v10 : V m c main_v10 = (shapeCast S1x1024 (m ((c : Thread nD τ).loc main_arg9)) shapeCasts_S1024_S1x1024 : Vec Ideal S1x1024 .f32) := by
  unfold V V0
  simp only [List.flatten_cons, List.flatten_nil, List.append_nil, List.cons_append, List.nil_append, hostOps0, hostOps0_1, hostOps0_2]
  after_results_simp
  try rfl

/-- The buffer `b` when the program ends. -/
abbrev last (b : Ref sig .tc) : Buf (Elt Ideal) ((c.tc : Thread nD τ).loc b) := Pipeline.afterTail₀ cfgs (dats m) 0 (V0 m) [hostOps1] c b

/-- The call's array when the lines after it run. -/
theorem call_array : Pipeline.withArrays spec0 c (V0 m c) (fun w => (dats m 0 c).arrAt w cfg0.N) (Proc.devRef .tc main_v17_0) = called m c :=
  (Pipeline.withArrays_arr spec0 winFacts0.arr_inj c (V0 m c) (fun w => (dats m 0 c).arrAt w cfg0.N) 12).trans (final m c)

/-- The line after the call takes the two prompts apart. -/
theorem last_v18 : last m c main_v18 = shapeCast S2x8192x1024 (called m c) shapeCasts_S16384x1024_S2x8192x1024 := by
  unfold last Pipeline.afterTail₀
  simp only [hostOps1, List.flatten_cons, List.flatten_nil, List.append_nil, List.cons_append, List.nil_append]
  after_results_simp
  exact congrArg (fun x : Vec Ideal S16384x1024 .f32 => shapeCast S2x8192x1024 x shapeCasts_S16384x1024_S2x8192x1024) (call_array m c)

/-- The result at an entry, from the arguments. -/
theorem out_at (b : Fin 2) (p : Fin 8192) (ch : Fin 1024) :
    last m c main_v18 (ix3 b p ch)
      = normed (before (fun k => m ((c : Thread nD τ).loc main_arg0) (ix3 b p k)) (fun k => m ((c : Thread nD τ).loc main_arg1) (ix3 b p k))
          (fun k => m ((c : Thread nD τ).loc main_arg2) (ix3 b p k)) (fun k => m ((c : Thread nD τ).loc main_arg3) (ix3 b p k))
          (fun k j => m ((c : Thread nD τ).loc main_arg4) (ix2 k j)) (fun k j => m ((c : Thread nD τ).loc main_arg5) (ix2 k j))
          (fun k j => m ((c : Thread nD τ).loc main_arg6) (ix2 k j)) (fun j => m ((c : Thread nD τ).loc main_arg7) (ix1 j))) ch
          (m ((c : Thread nD τ).loc main_arg8) (ix1 ch)) (m ((c : Thread nD τ).loc main_arg9) (ix1 ch)) := by
  rw [last_v18]
  refine (Cert.Proj.apart_at _ shapeCasts_S16384x1024_S2x8192x1024 b p ch).trans ?_
  unfold called rows
  rw [host_v11, host_v13, host_v15, host_v16, host_v5, host_v6, host_v7, host_v8, host_v9, host_v10]
  congr 1
  · congr 1
    · exact funext fun k => Cert.Proj.together_at _ _ b p k
    · exact funext fun k => Cert.Proj.together_at _ _ b p k
    · exact funext fun k => Cert.Proj.together_at _ _ b p k
    · exact funext fun k => Cert.Proj.together_at _ _ b p k
    · exact funext fun j => Cert.Proj.bias_row _ _ j
  · exact Cert.Proj.bias_row _ _ ch
  · exact Cert.Proj.bias_row _ _ ch

/-- The run: the result is what the lines leave, and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v18) = last m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).2 main_v18 (Pipeline.mem_restRefs_of main_v18 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩) (run_main m ρ)

end Cert.Kernel9Ideal.Merge

end
-- ==== Proof.MergeRef.lean ====
module

public import proofs.«01_k».proof.Defs
public import proofs.«01_k».proof.Proof.Gen.Reference9Ideal.Run
public import proofs.«01_k».proof.Proof.Merge
public import Idealize.ShloMosaic.Lib.Pipeline.ValueKit

@[expose] public section

set_option maxRecDepth 16384

/-! The merge's reference, entry by entry, and its agreement with the kernel. -/

noncomputable section

open Idealize.ShloMosaic Idealize.ShloMosaic.TcCoe Idealize.SL.Sem

namespace Cert.Reference9Ideal.Merge

open Cert.Reference9Ideal Cert.Reference9Ideal.Gen Cert.Merge

/-- The gates of the two branches, before they are taken apart. -/
def gates (gm : Vec Ideal S2x8192x2048 .f32) : FVec Ideal S2x8192x2048 .f32 :=
  Host.divf (broadcastInDim S2x8192x2048 ![] bcast_S_S2x8192x2048 (constant (F := Ideal) S_ .f32 0x3F800000#32))
    (addf (broadcastInDim S2x8192x2048 ![] bcast_S_S2x8192x2048 (constant (F := Ideal) S_ .f32 0x3F800000#32)) (Host.exp (Host.negf gm)))

/-- The rows before the norm. -/
def rows (x : Vec Ideal S2x8192x1024 .f32) (sy : Vec Ideal S2x8192x2048 .f32) (ny : Vec Ideal S2x8192x1024 .f32) (gm : Vec Ideal S2x8192x2048 .f32)
    (ws : Vec Ideal S2048x1024 .f32) (wn wo : Vec Ideal S1024x1024 .f32) (bo : Vec Ideal S1024 .f32) : FVec Ideal S2x8192x1024 .f32 :=
  addf (mulf (broadcastInDim S2x8192x1024 ![] bcast_S_S2x8192x1024 (constant (F := Ideal) S_ .f32 0x3F9837F0#32)) x)
    (addf (Host.dotGeneral (φ₁ := .f32) (φ₂ := .f32) dot_S2x8192x1024_S1024x1024_S2x8192x1024_2_0_01_1_n_n none
        (addf (mulf (extractStridedSlice S2x8192x1024 ![0, 0, 0] (gates gm) slices_S2x8192x2048_S2x8192x1024_0_0_0)
            (Host.dotGeneral (φ₁ := .f32) (φ₂ := .f32) dot_S2x8192x2048_S2048x1024_S2x8192x1024_2_0_01_1_n_n none sy ws))
          (mulf (extractStridedSlice S2x8192x1024 ![0, 0, 1024] (gates gm) slices_S2x8192x2048_S2x8192x1024_0_0_1024)
            (Host.dotGeneral (φ₁ := .f32) (φ₂ := .f32) dot_S2x8192x1024_S1024x1024_S2x8192x1024_2_0_01_1_n_n none ny wn))) wo)
      (broadcastInDim S2x8192x1024 ![0, 1, 2] bcast_S1x1x1024_S2x8192x1024_0_1_2 (broadcastInDim S1x1x1024 ![2] bcast_S1024_S1x1x1024_2 bo)))

/-- The means of the rows. -/
def means (u : FVec Ideal S2x8192x1024 .f32) : FVec Ideal S2x8192x1 .f32 :=
  Host.divf (broadcastInDim S2x8192x1 ![0, 1] bcast_S2x8192_S2x8192x1_0_1 (Host.reduceAdd u (constant (F := Ideal) S_ .f32 0x00000000#32) reducesTo_S2x8192x1024_S2x8192_d2 h_S_))
    (broadcastInDim S2x8192x1 ![] bcast_S_S2x8192x1 (constant (F := Ideal) S_ .f32 0x44800000#32))

/-- The rows with their means taken off. -/
def centred (u : FVec Ideal S2x8192x1024 .f32) : FVec Ideal S2x8192x1024 .f32 :=
  subf u (broadcastInDim S2x8192x1024 ![0, 1, 2] bcast_S2x8192x1_S2x8192x1024_0_1_2 (means u))

/-- The normalised rows. -/
def norms (u : FVec Ideal S2x8192x1024 .f32) (g b : Vec Ideal S1024 .f32) : FVec Ideal S2x8192x1024 .f32 :=
  addf (mulf (mulf (centred u) (broadcastInDim S2x8192x1024 ![0, 1, 2] bcast_S2x8192x1_S2x8192x1024_0_1_2
        (Host.rsqrt (addf (means (mulf (centred u) (centred u))) (broadcastInDim S2x8192x1 ![] bcast_S_S2x8192x1 (constant (F := Ideal) S_ .f32 0x3727C5AC#32))))))
      (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S1x1x1024_S2x8192x1024_0_1_2 (broadcastInDim S1x1x1024 ![2] bcast_S1024_S1x1x1024_2 b))

theorem gates_at (gm : Vec Ideal S2x8192x2048 .f32) (b : Fin 2) (p : Fin 8192) (k : Fin 2048) : gates gm (ix3 b p k) = Ideal.logistic (gm (ix3 b p k)) := by
  pointwise [gates, Ideal.logistic]

theorem rows_at (x : Vec Ideal S2x8192x1024 .f32) (sy : Vec Ideal S2x8192x2048 .f32) (ny : Vec Ideal S2x8192x1024 .f32) (gm : Vec Ideal S2x8192x2048 .f32)
    (ws : Vec Ideal S2048x1024 .f32) (wn wo : Vec Ideal S1024x1024 .f32) (bo : Vec Ideal S1024 .f32) (b : Fin 2) (p : Fin 8192) (ch : Fin 1024) :
    rows x sy ny gm ws wn wo bo (ix3 b p ch)
      = before (fun k => x (ix3 b p k)) (fun k => sy (ix3 b p k)) (fun k => ny (ix3 b p k)) (fun k => gm (ix3 b p k)) (fun k j => ws (ix2 k j))
          (fun k j => wn (ix2 k j)) (fun k j => wo (ix2 k j)) (fun j => bo (ix1 j)) ch := by
  have hg := gates_at gm b p
  unfold rows
  generalize gates gm = G at hg
  unfold before resid gated
  simp only [← hg]
  pointwise []

theorem means_at (u : FVec Ideal S2x8192x1024 .f32) (b : Fin 2) (p : Fin 8192) : means u (ix3 b p 0) = mean fun k => u (ix3 b p k) := by
  pointwise [means, mean]

theorem centred_at (u : FVec Ideal S2x8192x1024 .f32) (b : Fin 2) (p : Fin 8192) (ch : Fin 1024) :
    centred u (ix3 b p ch) = u (ix3 b p ch) - mean fun k => u (ix3 b p k) := by
  rw [← means_at]
  unfold centred
  generalize means u = M
  pointwise []

theorem norms_at (u : FVec Ideal S2x8192x1024 .f32) (g s : Vec Ideal S1024 .f32) (b : Fin 2) (p : Fin 8192) (ch : Fin 1024) :
    norms u g s (ix3 b p ch) = normed (fun k => u (ix3 b p k)) ch (g (ix1 ch)) (s (ix1 ch)) := by
  have hc := centred_at u b p
  have hm := means_at (mulf (centred u) (centred u)) b p
  unfold norms normed
  simp only [← hc]
  have hs : (mean fun k => centred u (ix3 b p k) * centred u (ix3 b p k)) = means (mulf (centred u) (centred u)) (ix3 b p 0) := hm.symm
  rw [hs]
  generalize means (mulf (centred u) (centred u)) = M
  generalize centred u = C
  pointwise []

end Cert.Reference9Ideal.Merge

namespace Cert.Merge

/-- The two programs' results are equal. -/
theorem agree9 : Cert.algebraic_Kernel9Ideal_Reference9Ideal (hKernel9Ideal := Cert.Kernel9Ideal.Gen.facts)
    (hReference9Ideal := Cert.Reference9Ideal.Gen.facts) := by
  intro m ρ m' ρ' _ hag
  refine ⟨fun c => Cert.Kernel9Ideal.Merge.last m c Cert.Kernel9Ideal.main_v18, Cert.Kernel9Ideal.Merge.run m ρ, ?_⟩
  refine (θ_run _ _ _).mono (fun r h c => ?_) (Cert.Reference9Ideal.Value.run m' ρ')
  obtain ⟨e0, e1, e2, e3, e4, e5, e6, e7, e8, e9, e10⟩ := hag c
  obtain ⟨h0, hk⟩ := h c
  refine ⟨h0.trans ?_, hk⟩
  unfold Cert.Reference9Ideal.Value.res_main_v43
  rw [e0, e1, e2, e3, e4, e5, e6, e7, e8, e9]
  refine funext fun i => ?_
  obtain ⟨b, p, ch, rfl⟩ : ∃ (b : Fin 2) (p : Fin 8192) (ch : Fin 1024), i = ix3 b p ch :=
    ⟨i 0, i 1, i 2, by funext a; match a with | ⟨0, _⟩ => rfl | ⟨1, _⟩ => rfl | ⟨2, _⟩ => rfl⟩
  refine Eq.trans ?_ (Cert.Kernel9Ideal.Merge.out_at m c b p ch).symm
  refine (Cert.Reference9Ideal.Merge.norms_at (Cert.Reference9Ideal.Merge.rows _ _ _ _ _ _ _ _) _ _ b p ch).trans ?_
  exact congrArg (fun u => normed u ch _ _) (funext fun k => Cert.Reference9Ideal.Merge.rows_at _ _ _ _ _ _ _ _ b p k)

end Cert.Merge

end
-- ==== Proof.ProjKv.lean ====
module

public import proofs.«01_k».proof.Defs
public import proofs.«01_k».proof.Proof.Gen.Kernel10Ideal.Frame
public import proofs.«01_k».proof.Proof.Gen.Reference10Ideal.Run
public import proofs.«01_k».proof.Proof.Linear
public import Idealize.ShloMosaic.Lib.Pipeline.ValueKit

@[expose] public section

set_option maxRecDepth 16384

/-! The keys' and values' projection (`kv`): two rows of keys and two of values for the compressed and selected blocks, and one of each for the window. The kernel takes 512 rows of the prompt at a time against the segment's
columns of the weights; the reference takes all rows against all columns and cuts the segment out. -/

noncomputable section

open Idealize.ShloMosaic Idealize.ShloMosaic.TcCoe Idealize.SL.Sem
open Idealize.ShloMosaic.Pipeline (Dat)

namespace Cert.Kernel10Ideal.Proj

open Cert.Kernel10Ideal Cert.Kernel10Ideal.Gen Cert.Proj

variable (m : (ℓ : Loc nD τ sig) → Buf (Elt Ideal) ℓ) (c : Dev nD)

/-- Point `t` takes the `t`-th block of rows, and all of the weights and the bias. -/
theorem index_facts : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- What the body computes from its blocks. -/
theorem block_at (x : Vec Ideal S512x1024 .bf16) (w : Vec Ideal S1024x1536 .bf16) (b : Vec Ideal S1x1536 .f32) (r : Fin 512) (ch : Fin 1536) :
    k0_pay1 x w b (ix2 r ch) = entry (fun k => x (ix2 r k)) (fun k => w (ix2 k ch)) (b (ix2 0 ch)) := by
  pointwise [k0_pay1, entry]

/-- The array after the call: every block holds its rows of `lin`. -/
theorem final : (dats m 0 c).arrAt 3 cfg0.N = lin 16384 1536 (V m c main_v1) (V m c main_v3) (V m c main_v5) := by
  refine (dats m 0 c).arrAt_eq_of_covers 3 _ (by decide +kernel) fun t hf y => ?_
  have h := index_facts t
  obtain ⟨r, ch, rfl⟩ : ∃ (r : Fin 512) (ch : Fin 1536), y = ix2 r ch :=
    ⟨y 0, y 1, by funext a; match a with | ⟨0, _⟩ => rfl | ⟨1, _⟩ => rfl⟩
  blk_simp
  rw [after0_3]; frame_out
  refine (block_at _ _ _ r ch).trans ?_
  have hN := lt_of_lt_of_eq t.isLt N_0
  have hi : ((View.whole main_v6).slice (win0_3.rect t)).emb (ix2 r ch) = (ix2 ⟨512 * t.val + r.val, by omega⟩ ch : S16384x1536.Idx) := by
    blk_ext [h]
  have e0 : ∀ k : Fin 1024, iblk m c 0 t (ix2 r k) = V m c main_v1 (ix2 ⟨512 * t.val + r.val, by omega⟩ k) := fun k => by
    blk_ext [iblk, V, h]
  have e1 : ∀ k : Fin 1024, iblk m c 1 t (ix2 k ch) = V m c main_v3 (ix2 k ch) := fun k => by
    blk_ext [iblk, V, h]
  have e2 : iblk m c 2 t (ix2 0 ch) = V m c main_v5 (ix2 0 ch) := by
    blk_ext [iblk, V, h]
  rw [e2]
  simp only [e0, e1]
  refine Eq.trans ?_ (congrArg (lin 16384 1536 _ _ _) hi).symm
  rfl

/-! ## The operands and the result on the host -/

/-- The rows: the prompts' rows one after the other. -/
theorem host_v1 : V m c main_v1 = (shapeCast S16384x1024 (truncf (F := Ideal) .bf16 (m ((c : Thread nD τ).loc main_arg0)) bitsLt_bf16_f32 : Vec Ideal S2x8192x1024 .bf16) shapeCasts_S2x8192x1024_S16384x1024 : Vec Ideal S16384x1024 .bf16) := by
  unfold V V0
  simp only [List.flatten_cons, List.flatten_nil, List.append_nil, hostOps0]
  after_results_simp
  rfl

/-- The segment's columns of the weights. -/
theorem host_v3 : V m c main_v3 = (truncf (F := Ideal) .bf16 (extractStridedSlice S1024x1536 ![0, 6176] (m ((c : Thread nD τ).loc main_arg1)) slices_S1024x9808_S1024x1536_0_6176 : Vec Ideal S1024x1536 .f32) bitsLt_bf16_f32 : Vec Ideal S1024x1536 .bf16) := by
  unfold V V0
  simp only [List.flatten_cons, List.flatten_nil, List.append_nil, hostOps0]
  after_results_simp

/-- The segment's columns of the bias. -/
theorem host_v5 : V m c main_v5 = (shapeCast S1x1536 (extractStridedSlice S1536 ![6176] (m ((c : Thread nD τ).loc main_arg2)) slices_S9808_S1536_6176 : Vec Ideal S1536 .f32) shapeCasts_S1536_S1x1536 : Vec Ideal S1x1536 .f32) := by
  unfold V V0
  simp only [List.flatten_cons, List.flatten_nil, List.append_nil, hostOps0]
  after_results_simp
  rfl

/-- The buffer `b` when the program ends. -/
abbrev last (b : Ref sig .tc) : Buf (Elt Ideal) ((c.tc : Thread nD τ).loc b) := Pipeline.afterTail₀ cfgs (dats m) 0 (V0 m) [hostOps1] c b

/-- The call's array when the lines after it run. -/
theorem call_array : Pipeline.withArrays spec0 c (V0 m c) (fun w => (dats m 0 c).arrAt w cfg0.N) (Proc.devRef .tc main_v6) = lin 16384 1536 (V m c main_v1) (V m c main_v3) (V m c main_v5) :=
  (Pipeline.withArrays_arr spec0 winFacts0.arr_inj c (V0 m c) (fun w => (dats m 0 c).arrAt w cfg0.N) 3).trans (final m c)

/-- The line after the call takes the two prompts apart, and a row into its six parts, four heads and 64 entries. -/
theorem last_v7 : last m c main_v7
    = shapeCast S2x8192x6x4x64 (lin 16384 1536 (V m c main_v1) (V m c main_v3) (V m c main_v5)) shapeCasts_S16384x1536_S2x8192x6x4x64 := by
  unfold last Pipeline.afterTail₀
  simp only [hostOps1, List.flatten_cons, List.flatten_nil, List.append_nil, List.cons_append, List.nil_append]
  after_results_simp
  exact congrArg (fun x : Vec Ideal S16384x1536 .f32 => shapeCast S2x8192x6x4x64 x shapeCasts_S16384x1536_S2x8192x6x4x64) (call_array m c)

/-- The flat array's columns taken into parts, heads and entries. -/
theorem parts_at (x : Vec Ideal S16384x1536 .f32) (b : Fin 2) (p : Fin 8192) (a : Fin 6) (g : Fin 4) (d : Fin 64) :
    (shapeCast S2x8192x6x4x64 x shapeCasts_S16384x1536_S2x8192x6x4x64 : Vec Ideal S2x8192x6x4x64 .f32) (ix5 b p a g d)
      = x (ix2 ⟨8192 * b.val + p.val, by omega⟩ ⟨a.val * 256 + g.val * 64 + d.val, by omega⟩) := by
  refine shapeCast_apply x _ _ _ ?_
  rw [Shape.rowMajor_val_two, Shape.rowMajor_val_five]
  simp
  ring

/-- The result at an entry, from the arguments. -/
theorem out_at (b : Fin 2) (p : Fin 8192) (a : Fin 6) (g : Fin 4) (d : Fin 64) :
    last m c main_v7 (ix5 b p a g d)
      = entry (fun k => m ((c : Thread nD τ).loc main_arg0) (ix3 b p k)) (fun k => m ((c : Thread nD τ).loc main_arg1) (ix2 k ⟨6176 + (a.val * 256 + g.val * 64 + d.val), by omega⟩))
        (m ((c : Thread nD τ).loc main_arg2) (ix1 ⟨6176 + (a.val * 256 + g.val * 64 + d.val), by omega⟩)) := by
  rw [last_v7, host_v1, host_v3, host_v5, parts_at]
  unfold lin
  congr 1
  · exact funext fun k => together_at _ shapeCasts_S2x8192x1024_S16384x1024 b p k
  · exact funext fun k => weights_at _ slices_S1024x9808_S1024x1536_0_6176 k ⟨a.val * 256 + g.val * 64 + d.val, by omega⟩ (by simp only; omega)
  · exact (bias_row _ shapeCasts_S1536_S1x1536 ⟨a.val * 256 + g.val * 64 + d.val, by omega⟩).trans (bias_at _ slices_S9808_S1536_6176 ⟨a.val * 256 + g.val * 64 + d.val, by omega⟩ (by simp only; omega))

/-- The run: the results are what the lines leave, and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v7) = last m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_v7 (Pipeline.mem_restRefs_of main_v7 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

end Cert.Kernel10Ideal.Proj

namespace Cert.Reference10Ideal.Proj

open Cert.Reference10Ideal Cert.Reference10Ideal.Gen Cert.Proj

/-- The rows of the reference's product at an entry. -/
theorem segment_at (x : Vec Ideal S2x8192x1024 .f32) (w : Vec Ideal S1024x9808 .f32) (bi : Vec Ideal S9808 .f32) (b : Fin 2) (p : Fin 8192) (a : Fin 6) (g : Fin 4) (d : Fin 64) :
    (shapeCast S2x8192x6x4x64 (extractStridedSlice S2x8192x1536 ![0, 0, 6176]
      (addf (F := Ideal) (Host.dotGeneral (φ₁ := .f32) (φ₂ := .f32) dot_S2x8192x1024_S1024x9808_S2x8192x9808_2_0_01_1_n_n none x w)
      (broadcastInDim S2x8192x9808 ![0, 1, 2] bcast_S1x1x9808_S2x8192x9808_0_1_2 (broadcastInDim S1x1x9808 ![2] bcast_S9808_S1x1x9808_2 bi)))
      slices_S2x8192x9808_S2x8192x1536_0_0_6176 : Vec Ideal S2x8192x1536 .f32) shapeCasts_S2x8192x1536_S2x8192x6x4x64 : Vec Ideal S2x8192x6x4x64 .f32) (ix5 b p a g d)
      = entry (fun k => x (ix3 b p k)) (fun k => w (ix2 k ⟨6176 + (a.val * 256 + g.val * 64 + d.val), by omega⟩))
        (bi (ix1 ⟨6176 + (a.val * 256 + g.val * 64 + d.val), by omega⟩)) := by
  pointwise [entry]

end Cert.Reference10Ideal.Proj

namespace Cert.Proj

/-- The two programs' results are equal. -/
theorem agree10 : Cert.algebraic_Kernel10Ideal_Reference10Ideal (hKernel10Ideal := Cert.Kernel10Ideal.Gen.facts)
    (hReference10Ideal := Cert.Reference10Ideal.Gen.facts) := by
  intro m ρ m' ρ' _ hag
  refine ⟨fun c => Cert.Kernel10Ideal.Proj.last m c Cert.Kernel10Ideal.main_v7, Cert.Kernel10Ideal.Proj.run m ρ, ?_⟩
  refine (θ_run _ _ _).mono (fun r h c => ?_) (Cert.Reference10Ideal.Value.run m' ρ')
  obtain ⟨e0, e1, e2⟩ := hag c
  obtain ⟨h0, hk⟩ := h c
  refine ⟨h0.trans ?_, hk⟩
  rw [e0, e1, e2]
  refine funext fun i => ?_
  obtain ⟨b, p, a, g, d, rfl⟩ : ∃ (b : Fin 2) (p : Fin 8192) (a : Fin 6) (g : Fin 4) (d : Fin 64), i = ix5 b p a g d :=
    ⟨i 0, i 1, i 2, i 3, i 4, by funext a; match a with | ⟨0, _⟩ => rfl | ⟨1, _⟩ => rfl | ⟨2, _⟩ => rfl | ⟨3, _⟩ => rfl | ⟨4, _⟩ => rfl⟩
  exact (Cert.Reference10Ideal.Proj.segment_at _ _ _ b p a g d).trans (Cert.Kernel10Ideal.Proj.out_at m c b p a g d).symm

end Cert.Proj

end
-- ==== Proof.StepValue.lean ====
module

public import proofs.«01_k».proof.Defs
public import proofs.«01_k».proof.Proof.Gen.Kernel11Ideal.Frame
public import proofs.«01_k».proof.Proof.Spec
public import Idealize.ShloMosaic.Lib.Pipeline.ValueKit

@[expose] public section

set_option maxRecDepth 16384

/-! The values a point of the sample step computes before its stores, at an entry: the convolved channels, the step sizes and
decays spread over their heads' channels, and the table that holds both, channel by channel. -/

noncomputable section

open Idealize.ShloMosaic Idealize.ShloMosaic.TcCoe Idealize.SL.Sem

namespace Cert.Kernel11Ideal.Step

open Cert.Kernel11Ideal Cert.Kernel11Ideal.Gen Cert.Ssd

/-- The convolved and gated channel `ch` of row `r`: the new column first, then the three before it. -/
def chan (x0 : Vec Ideal S8x3072 .f32) (x1 : Vec Ideal S8x3x3072 .f32) (x5 : Vec Ideal S4x3072 .f32) (x6 : Vec Ideal S1x3072 .f32) (r : Fin 8) (ch : Fin 3072) : EReal :=
  silu (x0 (ix2 r ch) * x5 (ix2 3 ch) + x6 (ix2 0 ch) + x1 (ix3 r 0 ch) * x5 (ix2 0 ch) + x1 (ix3 r 1 ch) * x5 (ix2 1 ch)
    + x1 (ix3 r 2 ch) * x5 (ix2 2 ch))

/-- The step size of a lane. -/
def dtv (x3 : Vec Ideal S8x128 .f32) (x7 : Vec Ideal S1x128 .f32) (r : Fin 8) (l : Fin 128) : EReal := softp (x3 (ix2 r l) + x7 (ix2 0 l))

/-- The decay of a lane. -/
def decay (x3 : Vec Ideal S8x128 .f32) (x7 x8 : Vec Ideal S1x128 .f32) (r : Fin 8) (l : Fin 128) : EReal :=
  Ideal.exp (dtv x3 x7 r l * -Ideal.exp (x8 (ix2 0 l)))

variable (x0 : Vec Ideal S8x3072 .f32) (x1 : Vec Ideal S8x3x3072 .f32) (x2 : Vec Ideal S8x2048 .f32) (x3 : Vec Ideal S8x128 .f32) (x4 : Vec Ideal S8x2048x128 .f32)
  (x5 : Vec Ideal S4x3072 .f32) (x6 : Vec Ideal S1x3072 .f32) (x7 x8 x9 : Vec Ideal S1x128 .f32) (x10 : Vec Ideal S1x2048 .f32) (x11 : Vec Ideal S128x2048 .bf16)

theorem conv_at (r : Fin 8) (ch : Fin 3072) :
    k0_pay2 (View.ld x5 r0_0) (View.ld x0 r0_1) (View.ld x6 r0_2) (View.ld x1 r0_3) (View.ld x1 r0_4) (View.ld x1 r0_5) (ix2 r ch)
      = chan x0 x1 x5 x6 r ch := by
  pointwise [k0_pay2, chan, silu]

/-- The weights of the state's input. -/
theorem weights_at (r : Fin 8) (k : Fin 512) :
    k0_pay185 x0 x1 x2 x3 x4 x5 x6 x7 x8 x9 x10 x11 (ix2 r k) = chan x0 x1 x5 x6 r ⟨2048 + k.val, by omega⟩ := by
  rw [← conv_at]
  unfold k0_pay185 k0_pay4
  generalize k0_pay2 (F := Ideal) _ _ _ _ _ _ = a
  pointwise

/-- The channels. -/
theorem channels_at (r : Fin 8) (q : Fin 2048) :
    k0_pay184 x0 x1 x2 x3 x4 x5 x6 x7 x8 x9 x10 x11 (ix2 r q) = chan x0 x1 x5 x6 r ⟨q.val, by omega⟩ := by
  rw [← conv_at]
  unfold k0_pay184 k0_pay3
  generalize k0_pay2 (F := Ideal) _ _ _ _ _ _ = a
  pointwise

section spread

variable (v w : FVec Ideal S8x128 .f32) (q : Fin 2048) (l : Fin 128) (hE : ∀ k : Fin 128, x11 (ix2 k q) = if k = l then (1 : EReal) else 0)

include hE in
/-- The step sizes, spread. -/
theorem spread_size (r : Fin 8) : k0_pay8 v k0_pay7 x8 x9 x11 (ix2 ⟨r.val, by omega⟩ q) = sel3 (softp (v (ix2 r l))) := by
  pointwise [k0_pay8, k0_pay7]
  simp only [hE, mul_ite, mul_one, mul_zero, Finset.sum_ite_eq', Finset.mem_univ, if_true, zero_sub]
  rfl

include hE in
/-- The decays, spread. -/
theorem spread_decay (r : Fin 8) : k0_pay8 v k0_pay7 x8 x9 x11 (ix2 ⟨8 + r.val, by omega⟩ q)
    = sel3 (Ideal.exp (softp (v (ix2 r l)) * -Ideal.exp (x8 (ix2 0 l)))) := by
  pointwise [k0_pay8, k0_pay7]
  simp only [hE, mul_ite, mul_one, mul_zero, Finset.sum_ite_eq', Finset.mem_univ, if_true, zero_sub]
  rfl

include hE in
/-- The table's first columns: a channel's decay in each row. -/
theorem table_decay (r : Fin 8) : k0_pay192 x0 x1 x2 x3 x4 x5 x6 x7 x8 x9 x10 x11 (ix2 q ⟨r.val, by omega⟩) = decay x3 x7 x8 r l := by
  have hs := spread_decay x8 x9 x11 (k0_pay6 x3 x7) q l hE r
  unfold k0_pay192 k0_pay187 k0_pay188
  simp (disch := decide) only [View.ld_unit_lit']
  generalize k0_pay184 (F := Ideal) _ _ _ _ _ _ _ _ _ _ _ _ = a
  unfold k0_pay12 k0_pay9 k0_pay11
  generalize k0_pay8 (F := Ideal) _ _ _ _ _ = ex at hs ⊢
  pointwise
  refine hs.trans ((sel3_eq (exp_ne_top (ne_top_of_le_ne_top EReal.zero_ne_top (step_nonpos (softp_nonneg _) _)))).trans ?_)
  pointwise [k0_pay6, decay, dtv]

include hE in
/-- The table's next columns: a channel's input in each row. -/
theorem table_input (r : Fin 8) (hx : x3 (ix2 r l) + x7 (ix2 0 l) ≠ ⊤) :
    k0_pay192 x0 x1 x2 x3 x4 x5 x6 x7 x8 x9 x10 x11 (ix2 q ⟨8 + r.val, by omega⟩) = chan x0 x1 x5 x6 r ⟨q.val, by omega⟩ * dtv x3 x7 r l := by
  have hs := spread_size x8 x9 x11 (k0_pay6 x3 x7) q l hE r
  rw [← channels_at x0 x1 x2 x3 x4 x5 x6 x7 x8 x9 x10 x11 r q]
  unfold k0_pay192 k0_pay187 k0_pay188
  simp (disch := decide) only [View.ld_unit_lit']
  generalize k0_pay184 (F := Ideal) _ _ _ _ _ _ _ _ _ _ _ _ = a
  unfold k0_pay12 k0_pay9 k0_pay11
  generalize k0_pay8 (F := Ideal) _ _ _ _ _ = ex at hs ⊢
  pointwise
  refine congrArg (fun y => a (ix2 r q) * y) (hs.trans ((sel3_eq (softp_ne_top ?_)).trans ?_))
  · pointwise [k0_pay6]
    exact hx
  · pointwise [k0_pay6, dtv]

end spread

end Cert.Kernel11Ideal.Step

end
-- ==== Proof.StepTiles.lean ====
module

public import proofs.«01_k».proof.Defs
public import proofs.«01_k».proof.Proof.Gen.Kernel11Ideal.Frame
public import Idealize.ShloMosaic.Lib.Pipeline.ValueKit

@[expose] public section

set_option maxRecDepth 16384

/-! What a point of the sample step writes: its 32 stores, one for each of 8 rows and 4 groups, are the tiles of one array. -/

noncomputable section

open Idealize.ShloMosaic Idealize.ShloMosaic.TcCoe Idealize.SL.Sem

namespace Cert.Kernel11Ideal.Step

open Cert.Kernel11Ideal Cert.Kernel11Ideal.Gen

/-- The states of 8 rows after the step: `cols` holds, channel by channel, the decay of row `r` in column `r` and its input in column
`8 + r`; `bm` holds the rows' four groups of 128 weights. -/
def stepped (bm : FVec Ideal S8x512 .f32) (cols : FVec Ideal S2048x128 .f32) (st : Vec Ideal S8x2048x128 .f32) (r : Fin 8) (q : Fin 2048) (n : Fin 128) : EReal :=
  st (ix3 r q n) * cols (ix2 q ⟨r.val, by omega⟩) + cols (ix2 q ⟨8 + r.val, by omega⟩) * bm (ix2 r ⟨128 * (q.val / 512) + n.val, by omega⟩)

/-- Entries at equal places. -/
theorem same_entries (bm : FVec Ideal S8x512 .f32) (cols : FVec Ideal S2048x128 .f32) (st : Vec Ideal S8x2048x128 .f32) {r ρ : Fin 8} {q κ : Fin 2048} {n : Fin 128}
    {c d : Fin 128} {o : Fin 512} (hr : r.val = ρ.val) (hq : q.val = κ.val) (hc : c.val = r.val) (hd : d.val = 8 + r.val) (ho : o.val = 128 * (q.val / 512) + n.val) :
    st (ix3 ρ κ n) * cols (ix2 κ c) + cols (ix2 κ d) * bm (ix2 ρ o) = stepped bm cols st r q n := by
  obtain rfl : r = ρ := Fin.ext hr
  obtain rfl : q = κ := Fin.ext hq
  exact congrArg₂ (· + ·) (congrArg (fun c => st (ix3 r q n) * cols (ix2 q c)) (Fin.ext hc))
    (congrArg₂ (· * ·) (congrArg (fun d => cols (ix2 q d)) (Fin.ext hd)) (congrArg (fun o => bm (ix2 r o)) (Fin.ext ho)))

section tiles

variable (x0 : Vec Ideal S8x3072 .f32) (x1 : Vec Ideal S8x3x3072 .f32) (x2 : Vec Ideal S8x2048 .f32) (x3 : Vec Ideal S8x128 .f32) (x4 : Vec Ideal S8x2048x128 .f32)
  (x5 : Vec Ideal S4x3072 .f32) (x6 : Vec Ideal S1x3072 .f32) (x7 x8 x9 : Vec Ideal S1x128 .f32) (x10 : Vec Ideal S1x2048 .f32) (x11 : Vec Ideal S128x2048 .bf16)

theorem written (r : Fin 8) (q : Fin 2048) (n : Fin 128) :
    out0_13 x0 x1 x2 x3 x4 x5 x6 x7 x8 x9 x10 x11 (ix3 r q n)
      = stepped (k0_pay185 x0 x1 x2 x3 x4 x5 x6 x7 x8 x9 x10 x11) (k0_pay192 x0 x1 x2 x3 x4 x5 x6 x7 x8 x9 x10 x11) x4 r q n := by
  unfold out0_13 k0_pay211 k0_pay210 k0_pay207 k0_pay206 k0_pay204 k0_pay200 k0_pay198 k0_pay196 k0_pay195 k0_pay194 k0_pay193
  generalize k0_pay185 x0 x1 x2 x3 x4 x5 x6 x7 x8 x9 x10 x11 = bm
  generalize k0_pay192 x0 x1 x2 x3 x4 x5 x6 x7 x8 x9 x10 x11 = cols
  canon_tiles x h
  all_goals
    obtain ⟨a, p, k, rfl⟩ : ∃ (a : Fin 1) (p : Fin 512) (k : Fin 128), x = ix3 a p k :=
      ⟨x 0, x 1, x 2, by funext d; match d with | ⟨0, _⟩ => rfl | ⟨1, _⟩ => rfl | ⟨2, _⟩ => rfl⟩
    open_payloads
    obtain rfl : n = k := Fin.ext h2
    pointwise []
    refine same_entries bm cols x4 ?_ ?_ ?_ ?_ ?_
    all_goals
      have hr : r.val = _ := h0
      have hq : q.val = _ := h1
      simp at hr hq ⊢
      try omega

end tiles

end Cert.Kernel11Ideal.Step

end
-- ==== Proof.StepSpec.lean ====
module

public import proofs.«01_k».proof.Proof.Spec

@[expose] public section

/-! One step of the recurrence: the 3072 channels are the convolution of the new column with the three before it, gated; the first
2048 feed the 32 heads' states of 64 by 128, and each group of eight heads takes its 128 weights from the last 1024. -/

noncomputable section

open Idealize.ShloMosaic

namespace Cert.Step

open Cert.Ssd

/-- A channel: its convolution over four columns, gated. -/
def channel (x : Fin 128 → Fin 3072 → EReal) (s : Fin 128 → Fin 3 → Fin 3072 → EReal) (w : Fin 4 → Fin 3072 → EReal) (b : Fin 3072 → EReal)
    (r : Fin 128) (ch : Fin 3072) : EReal :=
  silu (s r 0 ch * w 0 ch + s r 1 ch * w 1 ch + s r 2 ch * w 2 ch + x r ch * w 3 ch + b ch)

/-- A state's entry after the step: the old entry decayed, plus the input times its weight. -/
def newState (st dt a xs bs : EReal) : EReal := st * Ideal.exp (dt * -Ideal.exp a) + xs * dt * bs

/-- The state of row `r` and head `h` after the step, at channel `p` and place `n`. -/
def after (x : Fin 128 → Fin 3072 → EReal) (s : Fin 128 → Fin 3 → Fin 3072 → EReal) (w : Fin 4 → Fin 3072 → EReal) (b : Fin 3072 → EReal)
    (dt : Fin 128 → Fin 32 → EReal) (bias a : Fin 32 → EReal) (st : EReal) (r : Fin 128) (h : Fin 32) (p : Fin 64) (n : Fin 128) : EReal :=
  newState st (softp (dt r h + bias h)) (a h) (channel x s w b r ⟨64 * h.val + p.val, by omega⟩)
    (channel x s w b r ⟨2048 + 128 * (h.val / 8) + n.val, by omega⟩)

end Cert.Step

end
-- ==== Proof.StepInputs.lean ====
module

public import proofs.«01_k».proof.Proof.StepValue
public import proofs.«01_k».proof.Proof.StepTiles
public import proofs.«01_k».proof.Proof.StepSpec

@[expose] public section

set_option maxRecDepth 16384

/-! What a point of the sample step finds in its input blocks: eight rows of the arguments, the rows of constants, and the matrix
that spreads a head's lane over the head's channels. -/

noncomputable section

open Idealize.ShloMosaic Idealize.ShloMosaic.TcCoe Idealize.SL.Sem
open Idealize.ShloMosaic.Pipeline (Dat)

namespace Cert.Kernel11Ideal.Step

open Cert.Kernel11Ideal Cert.Kernel11Ideal.Gen Cert.Ssd

variable (m : (ℓ : Loc nD τ sig) → Buf (Elt Ideal) ℓ) (c : Dev nD) (t : Fin cfg0.N)

/-- Point `t` takes the `t`-th eight rows. -/
theorem index_rows : ∀ t : Fin cfg0.N, win0_0.index t = ![t.val, 0] ∧ win0_1.index t = ![t.val, 0, 0] ∧ win0_3.index t = ![t.val, 0]
    ∧ win0_4.index t = ![t.val, 0, 0] ∧ win0_13.index t = ![t.val, 0, 0] :=
  (by decide +kernel : ∀ t : Fin grid0.N, _)

/-- Every point takes the whole of the constants. -/
theorem index_whole : ∀ t : Fin cfg0.N, win0_5.index t = ![0, 0] ∧ win0_6.index t = ![0, 0] ∧ win0_7.index t = ![0, 0]
    ∧ win0_8.index t = ![0, 0] ∧ win0_11.index t = ![0, 0] :=
  (by decide +kernel : ∀ t : Fin grid0.N, _)

/-- A row of a point's block, among all rows. -/
def rowOf (r : Fin 8) : Fin 128 := ⟨8 * t.val + r.val, by have hN := lt_of_lt_of_eq t.isLt N_0; omega⟩

/-! ## What the host lines prepare -/

/-- A row of per-head constants, filled up with zeros. -/
abbrev padRow (x : Vec Ideal S32 .f32) : Vec Ideal S1x128 .f32 :=
  shapeCast S1x128 (pad S128 ![0] ![96] ![0] x (sitofp (F := Ideal) .f32 (constantI S_ 32 0#32)) pads_S32_S128_0960 h_S_) shapeCasts_S128_S1x128

/-- The step sizes, zeros behind the 32 heads. -/
abbrev padSteps (x : Vec Ideal S128x32 .f32) : Vec Ideal S128x128 .f32 :=
  pad S128x128 ![0, 0] ![0, 96] ![0, 0] x (sitofp (F := Ideal) .f32 (constantI S_ 32 0#32)) pads_S128x32_S128x128_000_0960 h_S_

theorem padRow_at (x : Vec Ideal S32 .f32) (l : Fin 128) (hl : l.val < 32) : padRow x (ix2 0 l) = x (ix1 ⟨l.val, hl⟩) := by
  pointwise [padRow]
  rw [dif_pos hl]

theorem padSteps_at (x : Vec Ideal S128x32 .f32) (r l : Fin 128) (hl : l.val < 32) : padSteps x (ix2 r l) = x (ix2 r ⟨l.val, hl⟩) := by
  pointwise [padSteps]
  rw [dif_pos hl]

theorem host_v0 : V m c main_v0 = padSteps (m ((c : Thread nD τ).loc main_arg3)) := by
  unfold V V0
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

theorem host_v1 : V m c main_v1 = (shapeCast S128x2048x128 (m ((c : Thread nD τ).loc main_arg4)) shapeCasts_S128x32x64x128_S128x2048x128 : Vec Ideal S128x2048x128 .f32) := by
  unfold V V0
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

theorem host_v2 : V m c main_v2 = (shapeCast S1x3072 (m ((c : Thread nD τ).loc main_arg6)) shapeCasts_S3072_S1x3072 : Vec Ideal S1x3072 .f32) := by
  unfold V V0
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

theorem host_v4 : V m c main_v4 = padRow (m ((c : Thread nD τ).loc main_arg7)) := by
  unfold V V0
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

theorem host_v6 : V m c main_v6 = padRow (m ((c : Thread nD τ).loc main_arg8)) := by
  unfold V V0
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

theorem host_v16 : V m c main_v16 = (truncf (F := Ideal) .bf16 (select (cmpi .eq (iotaInDim S128x2048 32 0) (Host.shrsi (iotaInDim S128x2048 32 1) (broadcastInDim S128x2048 ![] bcast_S_S128x2048 (constantI S_ 32 6#32))))
      (broadcastInDim S128x2048 ![] bcast_S_S128x2048 (constant (F := Ideal) S_ .f32 0x3F800000#32)) (broadcastInDim S128x2048 ![] bcast_S_S128x2048 (constant (F := Ideal) S_ .f32 0x00000000#32))) bitsLt_bf16_f32 : Vec Ideal S128x2048 .bf16) := by
  unfold V V0
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

/-! ## The blocks -/

theorem in0_at (r : Fin 8) (ch : Fin 3072) : iblk m c 0 t (ix2 r ch) = m ((c : Thread nD τ).loc main_arg0) (ix2 (rowOf t r) ch) := by
  have h := index_rows t
  blk_ext [iblk, V, h, rowOf]

theorem in1_at (r : Fin 8) (k : Fin 3) (ch : Fin 3072) : iblk m c 1 t (ix3 r k ch) = m ((c : Thread nD τ).loc main_arg1) (ix3 (rowOf t r) k ch) := by
  have h := index_rows t
  blk_ext [iblk, V, h, rowOf]

theorem in3_at (r : Fin 8) (l : Fin 128) (hl : l.val < 32) :
    iblk m c 3 t (ix2 r l) = m ((c : Thread nD τ).loc main_arg3) (ix2 (rowOf t r) ⟨l.val, hl⟩) := by
  have h := index_rows t
  have e : iblk m c 3 t (ix2 r l) = V m c main_v0 (ix2 (rowOf t r) l) := by
    blk_ext [iblk, V, h, rowOf]
  rw [e, host_v0]
  exact padSteps_at _ _ l hl

theorem in4_at (r : Fin 8) (q : Fin 2048) (n : Fin 128) : iblk m c 4 t (ix3 r q n) = V m c main_v1 (ix3 (rowOf t r) q n) := by
  have h := index_rows t
  blk_ext [iblk, V, h, rowOf]

theorem in5_at (k : Fin 4) (ch : Fin 3072) : iblk m c 5 t (ix2 k ch) = m ((c : Thread nD τ).loc main_arg5) (ix2 k ch) := by
  have h := index_whole t
  blk_ext [iblk, V, h]

theorem in6_at (ch : Fin 3072) : iblk m c 6 t (ix2 0 ch) = m ((c : Thread nD τ).loc main_arg6) (ix1 ch) := by
  have h := index_whole t
  have e : iblk m c 6 t (ix2 0 ch) = V m c main_v2 (ix2 0 ch) := by
    blk_ext [iblk, V, h]
  rw [e, host_v2]
  pointwise

theorem in7_at (l : Fin 128) (hl : l.val < 32) : iblk m c 7 t (ix2 0 l) = m ((c : Thread nD τ).loc main_arg7) (ix1 ⟨l.val, hl⟩) := by
  have h := index_whole t
  have e : iblk m c 7 t (ix2 0 l) = V m c main_v4 (ix2 0 l) := by
    blk_ext [iblk, V, h]
  rw [e, host_v4]
  exact padRow_at _ l hl

theorem in8_at (l : Fin 128) (hl : l.val < 32) : iblk m c 8 t (ix2 0 l) = m ((c : Thread nD τ).loc main_arg8) (ix1 ⟨l.val, hl⟩) := by
  have h := index_whole t
  have e : iblk m c 8 t (ix2 0 l) = V m c main_v6 (ix2 0 l) := by
    blk_ext [iblk, V, h]
  rw [e, host_v6]
  exact padRow_at _ l hl

/-- A channel's head, as the host lines compute it. -/
theorem shift_at : ∀ ch : Fin 2048, IntOp.shrsi .host (BitVec.ofNat 32 ch.val) 6#32 = BitVec.ofNat 32 (ch.val / 64) := by
  decide +kernel

theorem in11_at (k : Fin 128) (q : Fin 2048) :
    (iblk m c 11 t (ix2 k q) : EReal) = if k = ⟨q.val / 64, by omega⟩ then (1 : EReal) else 0 := by
  have h := index_whole t
  have e : iblk m c 11 t (ix2 k q) = V m c main_v16 (ix2 k q) := by
    blk_ext [iblk, V, h]
  rw [e, host_v16]
  pointwise
  rw [shift_at, WordCmp.cmpi_eq_ofNat (by omega) (by omega), WordCmp.select_ofBool]
  simp only [decide_eq_true_eq, Fin.ext_iff]

end Cert.Kernel11Ideal.Step

end
-- ==== Proof.StepRun.lean ====
module

public import proofs.«01_k».proof.Proof.StepInputs

@[expose] public section

set_option maxRecDepth 16384

/-! The sample step's kernel: the states it leaves are those of `StepSpec`, where no step size is infinite before its softplus. -/

noncomputable section

open Idealize.ShloMosaic Idealize.ShloMosaic.TcCoe Idealize.SL.Sem
open Idealize.ShloMosaic.Pipeline (Dat)

namespace Cert.Kernel11Ideal.Step

open Cert.Kernel11Ideal Cert.Kernel11Ideal.Gen Cert.Ssd Cert.Step

variable (m : (ℓ : Loc nD τ sig) → Buf (Elt Ideal) ℓ) (c : Dev nD)

/-! The arguments. -/

abbrev argX (r : Fin 128) (ch : Fin 3072) : EReal := m ((c : Thread nD τ).loc main_arg0) (ix2 r ch)
abbrev argS (r : Fin 128) (k : Fin 3) (ch : Fin 3072) : EReal := m ((c : Thread nD τ).loc main_arg1) (ix3 r k ch)
abbrev argT (r : Fin 128) (h : Fin 32) : EReal := m ((c : Thread nD τ).loc main_arg3) (ix2 r h)
abbrev argW (k : Fin 4) (ch : Fin 3072) : EReal := m ((c : Thread nD τ).loc main_arg5) (ix2 k ch)
abbrev argB (ch : Fin 3072) : EReal := m ((c : Thread nD τ).loc main_arg6) (ix1 ch)
abbrev argD (h : Fin 32) : EReal := m ((c : Thread nD τ).loc main_arg7) (ix1 h)
abbrev argA (h : Fin 32) : EReal := m ((c : Thread nD τ).loc main_arg8) (ix1 h)

/-- No step size is infinite before its softplus. -/
def Finite : Prop := ∀ r h, argT m c r h + argD m c h ≠ ⊤

/-- A channel of a block is a channel of the whole. -/
theorem chan_eq (t : Fin cfg0.N) (r : Fin 8) (ch : Fin 3072) :
    chan (iblk m c 0 t) (iblk m c 1 t) (iblk m c 5 t) (iblk m c 6 t) r ch = channel (argX m c) (argS m c) (argW m c) (argB m c) (rowOf t r) ch := by
  unfold chan channel
  rw [in0_at, in1_at, in1_at, in1_at, in5_at, in5_at, in5_at, in5_at, in6_at]
  refine congrArg silu ?_
  abel

/-- A state's entry after the step, its row's heads put together: channel `q` belongs to head `q / 64` and to group `q / 512`. -/
def entryAt (r : Fin 128) (q : Fin 2048) (n : Fin 128) : EReal :=
  newState (V m c main_v1 (ix3 r q n)) (softp (argT m c r ⟨q.val / 64, by omega⟩ + argD m c ⟨q.val / 64, by omega⟩)) (argA m c ⟨q.val / 64, by omega⟩)
    (channel (argX m c) (argS m c) (argW m c) (argB m c) r ⟨q.val, by omega⟩)
    (channel (argX m c) (argS m c) (argW m c) (argB m c) r ⟨2048 + (128 * (q.val / 512) + n.val), by omega⟩)

/-- The states the call leaves. -/
def called : Vec Ideal S128x2048x128 .f32 := fun i => entryAt m c (i 0) (i 1) (i 2)

/-- A point's block of the states, at an entry. -/
theorem block_at (hfin : Finite m c) (t : Fin cfg0.N) (r : Fin 8) (q : Fin 2048) (n : Fin 128) :
    out0_13 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (ix3 r q n)
      = called m c (ix3 (rowOf t r) q n) := by
  have hl : q.val / 64 < 32 := by omega
  have hE : ∀ k : Fin 128, (iblk m c 11 t (ix2 k q) : EReal) = if k = ⟨q.val / 64, by omega⟩ then (1 : EReal) else 0 := fun k => in11_at m c t k q
  have hT := in3_at m c t r ⟨q.val / 64, by omega⟩ hl
  have hD := in7_at m c t ⟨q.val / 64, by omega⟩ hl
  have hA := in8_at m c t ⟨q.val / 64, by omega⟩ hl
  have hx : @HAdd.hAdd EReal EReal EReal _ (iblk m c 3 t (ix2 r ⟨q.val / 64, by omega⟩)) (iblk m c 7 t (ix2 0 ⟨q.val / 64, by omega⟩)) ≠ ⊤ := by
    rw [hT, hD]
    exact hfin _ _
  refine (written _ _ _ _ _ _ _ _ _ _ _ _ r q n).trans ?_
  show _ = entryAt m c (rowOf t r) q n
  unfold stepped entryAt newState
  rw [table_decay _ _ _ _ _ _ _ _ _ _ _ _ q ⟨q.val / 64, by omega⟩ hE r, table_input _ _ _ _ _ _ _ _ _ _ _ _ q ⟨q.val / 64, by omega⟩ hE r hx, weights_at, chan_eq, chan_eq, in4_at]
  unfold decay dtv
  rw [hT, hD, hA]

/-- The array after the call. -/
theorem final (hfin : Finite m c) : (dats m 0 c).arrAt 13 cfg0.N = called m c := by
  refine (dats m 0 c).arrAt_eq_of_covers 13 _ (by decide +kernel) fun t hf y => ?_
  have h := index_rows t
  obtain ⟨r, q, n, rfl⟩ : ∃ (r : Fin 8) (q : Fin 2048) (n : Fin 128), y = ix3 r q n :=
    ⟨y 0, y 1, y 2, by funext a; match a with | ⟨0, _⟩ => rfl | ⟨1, _⟩ => rfl | ⟨2, _⟩ => rfl⟩
  blk_simp
  rw [after0_13]
  have hi : ((View.whole main_v17_1).slice (win0_13.rect t)).emb (ix3 r q n) = (ix3 (rowOf t r) q n : S128x2048x128.Idx) := by
    blk_ext [h, rowOf]
  exact (block_at m c hfin t r q n).trans (congrArg (called m c) hi).symm

/-- The buffer `b` when the program ends. -/
abbrev last (b : Ref sig .tc) : Buf (Elt Ideal) ((c.tc : Thread nD τ).loc b) := Pipeline.afterTail₀ cfgs (dats m) 0 (V0 m) [hostOps1] c b

/-- The call's array when the line after it runs. -/
theorem call_array (hfin : Finite m c) :
    Pipeline.withArrays spec0 c (V0 m c) (fun w => (dats m 0 c).arrAt w cfg0.N) (Proc.devRef .tc main_v17_1) = called m c :=
  (Pipeline.withArrays_arr spec0 winFacts0.arr_inj c (V0 m c) (fun w => (dats m 0 c).arrAt w cfg0.N) 13).trans (final m c hfin)

/-- The line after the call takes the heads apart. -/
theorem last_v18 (hfin : Finite m c) : last m c main_v18 = shapeCast S128x32x64x128 (called m c) shapeCasts_S128x2048x128_S128x32x64x128 := by
  unfold last Pipeline.afterTail₀
  simp only [hostOps1, List.flatten_cons, List.flatten_nil, List.append_nil, List.cons_append, List.nil_append]
  after_results_simp
  exact congrArg (fun x : Vec Ideal S128x2048x128 .f32 => shapeCast S128x32x64x128 x shapeCasts_S128x2048x128_S128x32x64x128) (call_array m c hfin)

/-- Heads put together. -/
theorem together_at (x : Vec Ideal S128x32x64x128 .f32) (r : Fin 128) (h : Fin 32) (p : Fin 64) (n : Fin 128) :
    (shapeCast S128x2048x128 x shapeCasts_S128x32x64x128_S128x2048x128 : Vec Ideal S128x2048x128 .f32) (ix3 r ⟨64 * h.val + p.val, by omega⟩ n)
      = x (ix4 r h p n) := by
  refine shapeCast_apply _ _ _ _ ?_
  rw [Shape.rowMajor_val_three, Shape.rowMajor_val_four]
  show ((r.val * 32 + h.val) * 64 + p.val) * 128 + n.val = (r.val * 2048 + (64 * h.val + p.val)) * 128 + n.val
  omega

/-- Heads taken apart. -/
theorem apart_at (x : Vec Ideal S128x2048x128 .f32) (r : Fin 128) (h : Fin 32) (p : Fin 64) (n : Fin 128) :
    (shapeCast S128x32x64x128 x shapeCasts_S128x2048x128_S128x32x64x128 : Vec Ideal S128x32x64x128 .f32) (ix4 r h p n)
      = x (ix3 r ⟨64 * h.val + p.val, by omega⟩ n) := by
  refine shapeCast_apply _ _ _ _ ?_
  rw [Shape.rowMajor_val_three, Shape.rowMajor_val_four]
  show (r.val * 2048 + (64 * h.val + p.val)) * 128 + n.val = ((r.val * 32 + h.val) * 64 + p.val) * 128 + n.val
  omega

/-- The states on the way in. -/
theorem states_in (r : Fin 128) (h : Fin 32) (p : Fin 64) (n : Fin 128) :
    V m c main_v1 (ix3 r ⟨64 * h.val + p.val, by omega⟩ n) = m ((c : Thread nD τ).loc main_arg4) (ix4 r h p n) := by
  rw [host_v1]
  exact together_at _ r h p n

/-- The result at an entry, from the arguments. -/
theorem out_at (hfin : Finite m c) (r : Fin 128) (h : Fin 32) (p : Fin 64) (n : Fin 128) :
    last m c main_v18 (ix4 r h p n)
      = after (argX m c) (argS m c) (argW m c) (argB m c) (argT m c) (argD m c) (argA m c) (m ((c : Thread nD τ).loc main_arg4) (ix4 r h p n)) r h p n := by
  rw [last_v18 m c hfin]
  refine (apart_at _ r h p n).trans ?_
  have hh : (⟨(64 * h.val + p.val) / 64, by omega⟩ : Fin 32) = h := Fin.ext (by show (64 * h.val + p.val) / 64 = h.val; omega)
  have hb : (⟨2048 + (128 * ((64 * h.val + p.val) / 512) + n.val), by omega⟩ : Fin 3072) = ⟨2048 + 128 * (h.val / 8) + n.val, by omega⟩ :=
    Fin.ext (by show 2048 + (128 * ((64 * h.val + p.val) / 512) + n.val) = 2048 + 128 * (h.val / 8) + n.val; omega)
  unfold after
  rw [← states_in m c r h p n]
  show entryAt m c r ⟨64 * h.val + p.val, by omega⟩ n = _
  unfold entryAt
  rw [hh, hb]

/-- The run: the result is what the lines leave, and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v18) = last m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).2 main_v18 (Pipeline.mem_restRefs_of main_v18 (by decide) (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩) (run_main m ρ)

end Cert.Kernel11Ideal.Step

end
-- ==== Proof.StepRef.lean ====
module

public import proofs.«01_k».proof.Defs
public import proofs.«01_k».proof.Proof.Gen.Reference11Ideal.Run
public import proofs.«01_k».proof.Proof.StepSpec
public import Idealize.ShloMosaic.Lib.Pipeline.ValueKit

@[expose] public section

set_option maxRecDepth 16384

/-! The sample step's reference, entry by entry: its new states are those of `StepSpec`. -/

noncomputable section

open Idealize.ShloMosaic Idealize.ShloMosaic.TcCoe Idealize.SL.Sem

namespace Cert.Reference11Ideal.Step

open Cert.Reference11Ideal Cert.Reference11Ideal.Gen Cert.Ssd Cert.Step

/-- The four columns of a row: the three before, then the new one. -/
def columns (x : Vec Ideal S128x3072 .f32) (s : Vec Ideal S128x3x3072 .f32) : FVec Ideal S128x4x3072 .f32 :=
  concatenate S128x4x3072 1 [⟨S128x3x3072, s⟩, ⟨S128x1x3072, (broadcastInDim S128x1x3072 ![0, 2] bcast_S128x3072_S128x1x3072_0_2 x)⟩]
    concatenates_S128x3x3072_S128x1x3072_S128x4x3072_d1

/-- The convolution of the columns. -/
def convolved (H : FVec Ideal S128x4x3072 .f32) (w : Vec Ideal S4x3072 .f32) (b : Vec Ideal S3072 .f32) : FVec Ideal S128x3072 .f32 :=
  addf (addf (addf (addf
    (mulf (shapeCast S128x3072 (extractStridedSlice S128x1x3072 ![0, 0, 0] H slices_S128x4x3072_S128x1x3072_0_0_0) shapeCasts_S128x1x3072_S128x3072)
      (broadcastInDim S128x3072 ![0, 1] bcast_S1x3072_S128x3072_0_1 (broadcastInDim S1x3072 ![1] bcast_S3072_S1x3072_1 (shapeCast S3072 (extractStridedSlice S1x3072 ![0, 0] w slices_S4x3072_S1x3072_0_0) shapeCasts_S1x3072_S3072))))
    (mulf (shapeCast S128x3072 (extractStridedSlice S128x1x3072 ![0, 1, 0] H slices_S128x4x3072_S128x1x3072_0_1_0) shapeCasts_S128x1x3072_S128x3072)
      (broadcastInDim S128x3072 ![0, 1] bcast_S1x3072_S128x3072_0_1 (broadcastInDim S1x3072 ![1] bcast_S3072_S1x3072_1 (shapeCast S3072 (extractStridedSlice S1x3072 ![1, 0] w slices_S4x3072_S1x3072_1_0) shapeCasts_S1x3072_S3072)))))
    (mulf (shapeCast S128x3072 (extractStridedSlice S128x1x3072 ![0, 2, 0] H slices_S128x4x3072_S128x1x3072_0_2_0) shapeCasts_S128x1x3072_S128x3072)
      (broadcastInDim S128x3072 ![0, 1] bcast_S1x3072_S128x3072_0_1 (broadcastInDim S1x3072 ![1] bcast_S3072_S1x3072_1 (shapeCast S3072 (extractStridedSlice S1x3072 ![2, 0] w slices_S4x3072_S1x3072_2_0) shapeCasts_S1x3072_S3072)))))
    (mulf (shapeCast S128x3072 (extractStridedSlice S128x1x3072 ![0, 3, 0] H slices_S128x4x3072_S128x1x3072_0_3_0) shapeCasts_S128x1x3072_S128x3072)
      (broadcastInDim S128x3072 ![0, 1] bcast_S1x3072_S128x3072_0_1 (broadcastInDim S1x3072 ![1] bcast_S3072_S1x3072_1 (shapeCast S3072 (extractStridedSlice S1x3072 ![3, 0] w slices_S4x3072_S1x3072_3_0) shapeCasts_S1x3072_S3072)))))
    (broadcastInDim S128x3072 ![0, 1] bcast_S1x3072_S128x3072_0_1 (broadcastInDim S1x3072 ![1] bcast_S3072_S1x3072_1 b))

/-- The gate. -/
def gated (u : FVec Ideal S128x3072 .f32) : FVec Ideal S128x3072 .f32 :=
  mulf u (Host.divf (broadcastInDim S128x3072 ![] bcast_S_S128x3072 (constant (F := Ideal) S_ .f32 0x3F800000#32))
    (addf (broadcastInDim S128x3072 ![] bcast_S_S128x3072 (constant (F := Ideal) S_ .f32 0x3F800000#32)) (Host.exp (Host.negf u))))

/-- The step sizes with their bias. -/
def biased (d : Vec Ideal S128x32 .f32) (b : Vec Ideal S32 .f32) : FVec Ideal S128x32 .f32 :=
  addf d (broadcastInDim S128x32 ![0, 1] bcast_S1x32_S128x32_0_1 (broadcastInDim S1x32 ![1] bcast_S32_S1x32_1 b))

/-- The softplus. -/
def sizes (d : FVec Ideal S128x32 .f32) : FVec Ideal S128x32 .f32 :=
  select (cmpf .une (subf d (broadcastInDim S128x32 ![] bcast_S_S128x32 (constant (F := Ideal) S_ .f32 0x00000000#32))) (subf d (broadcastInDim S128x32 ![] bcast_S_S128x32 (constant (F := Ideal) S_ .f32 0x00000000#32))))
    (addf d (broadcastInDim S128x32 ![] bcast_S_S128x32 (constant (F := Ideal) S_ .f32 0x00000000#32)))
    (addf (maximumf d (broadcastInDim S128x32 ![] bcast_S_S128x32 (constant (F := Ideal) S_ .f32 0x00000000#32)))
      (Host.log1p (Host.exp (Host.negf (Host.absf (subf d (broadcastInDim S128x32 ![] bcast_S_S128x32 (constant (F := Ideal) S_ .f32 0x00000000#32))))))))

/-- The groups' weights, one row for each head. -/
def weights (C : FVec Ideal S128x3072 .f32) : FVec Ideal S128x32x128 .f32 :=
  shapeCast S128x32x128 (broadcastInDim S128x4x8x128 ![0, 1, 3] bcast_S128x4x128_S128x4x8x128_0_1_3
    (shapeCast S128x4x128 (extractStridedSlice S128x512 ![0, 2048] C slices_S128x3072_S128x512_0_2048) shapeCasts_S128x512_S128x4x128)) shapeCasts_S128x4x8x128_S128x32x128

/-- The heads' channels. -/
def heads (C : FVec Ideal S128x3072 .f32) : FVec Ideal S128x32x64 .f32 :=
  shapeCast S128x32x64 (extractStridedSlice S128x2048 ![0, 0] C slices_S128x3072_S128x2048_0_0) shapeCasts_S128x2048_S128x32x64

/-- The states after the step. -/
def states (st : Vec Ideal S128x32x64x128 .f32) (a : Vec Ideal S32 .f32) (D : FVec Ideal S128x32 .f32) (X : FVec Ideal S128x32x64 .f32) (B : FVec Ideal S128x32x128 .f32) : FVec Ideal S128x32x64x128 .f32 :=
  addf (mulf st (broadcastInDim S128x32x64x128 ![0, 1, 2, 3] bcast_S128x32x1x1_S128x32x64x128_0_1_2_3 (broadcastInDim S128x32x1x1 ![0, 1] bcast_S128x32_S128x32x1x1_0_1
      (Host.exp (mulf D (broadcastInDim S128x32 ![0, 1] bcast_S1x32_S128x32_0_1 (broadcastInDim S1x32 ![1] bcast_S32_S1x32_1 (Host.negf (Host.exp a)))))))))
    (mulf (broadcastInDim S128x32x64x128 ![0, 1, 2, 3] bcast_S128x32x64x1_S128x32x64x128_0_1_2_3 (broadcastInDim S128x32x64x1 ![0, 1, 2] bcast_S128x32x64_S128x32x64x1_0_1_2
        (mulf X (broadcastInDim S128x32x64 ![0, 1, 2] bcast_S128x32x1_S128x32x64_0_1_2 (broadcastInDim S128x32x1 ![0, 1] bcast_S128x32_S128x32x1_0_1 D)))))
      (broadcastInDim S128x32x64x128 ![0, 1, 2, 3] bcast_S128x32x1x128_S128x32x64x128_0_1_2_3 (broadcastInDim S128x32x1x128 ![0, 1, 3] bcast_S128x32x128_S128x32x1x128_0_1_3 B)))

theorem old_at (x : Vec Ideal S128x3072 .f32) (s : Vec Ideal S128x3x3072 .f32) (r : Fin 128) (k : Fin 3) (ch : Fin 3072) :
    columns x s (ix3 r ⟨k.val, by omega⟩ ch) = s (ix3 r k ch) := by
  fin_cases k <;> pointwise [columns]

theorem new_at (x : Vec Ideal S128x3072 .f32) (s : Vec Ideal S128x3x3072 .f32) (r : Fin 128) (ch : Fin 3072) :
    columns x s (ix3 r 3 ch) = x (ix2 r ch) := by
  pointwise [columns]

theorem convolved_at (H : FVec Ideal S128x4x3072 .f32) (w : Vec Ideal S4x3072 .f32) (b : Vec Ideal S3072 .f32) (r : Fin 128) (ch : Fin 3072) :
    convolved H w b (ix2 r ch) = H (ix3 r 0 ch) * w (ix2 0 ch) + H (ix3 r 1 ch) * w (ix2 1 ch) + H (ix3 r 2 ch) * w (ix2 2 ch) + H (ix3 r 3 ch) * w (ix2 3 ch) + b (ix1 ch) := by
  pointwise [convolved]

theorem gated_at (u : FVec Ideal S128x3072 .f32) (r : Fin 128) (ch : Fin 3072) : gated u (ix2 r ch) = silu (u (ix2 r ch)) := by
  pointwise [gated, silu, Ideal.logistic]

theorem channel_at (x : Vec Ideal S128x3072 .f32) (s : Vec Ideal S128x3x3072 .f32) (w : Vec Ideal S4x3072 .f32) (b : Vec Ideal S3072 .f32) (r : Fin 128) (ch : Fin 3072) :
    gated (convolved (columns x s) w b) (ix2 r ch)
      = channel (fun r ch => x (ix2 r ch)) (fun r k ch => s (ix3 r k ch)) (fun k ch => w (ix2 k ch)) (fun ch => b (ix1 ch)) r ch := by
  have h0 : columns x s (ix3 r 0 ch) = s (ix3 r 0 ch) := old_at x s r 0 ch
  have h1 : columns x s (ix3 r 1 ch) = s (ix3 r 1 ch) := old_at x s r 1 ch
  have h2 : columns x s (ix3 r 2 ch) = s (ix3 r 2 ch) := old_at x s r 2 ch
  have h3 := new_at x s r ch
  rw [gated_at, convolved_at, h0, h1, h2, h3]
  rfl

theorem biased_at (d : Vec Ideal S128x32 .f32) (b : Vec Ideal S32 .f32) (r : Fin 128) (h : Fin 32) : biased d b (ix2 r h) = d (ix2 r h) + b (ix1 h) := by
  pointwise [biased]

theorem sizes_at (d : FVec Ideal S128x32 .f32) (r : Fin 128) (h : Fin 32) : sizes d (ix2 r h) = softp (d (ix2 r h)) := by
  pointwise [sizes, softp]
  rw [if_neg (not_not.mpr rfl)]
  rfl

theorem heads_at (C : FVec Ideal S128x3072 .f32) (r : Fin 128) (h : Fin 32) (p : Fin 64) : heads C (ix3 r h p) = C (ix2 r ⟨64 * h.val + p.val, by omega⟩) := by
  unfold heads
  refine (shapeCast_apply _ _ _ (ix2 r ⟨64 * h.val + p.val, by omega⟩) ?_).trans ?_
  · rw [Shape.rowMajor_val_two, Shape.rowMajor_val_three]
    show r.val * 2048 + (64 * h.val + p.val) = (r.val * 32 + h.val) * 64 + p.val
    omega
  · pointwise []

theorem weights_at (C : FVec Ideal S128x3072 .f32) (r : Fin 128) (h : Fin 32) (n : Fin 128) :
    weights C (ix3 r h n) = C (ix2 r ⟨2048 + 128 * (h.val / 8) + n.val, by omega⟩) := by
  unfold weights
  refine (shapeCast_apply _ _ _ (ix4 r ⟨h.val / 8, by omega⟩ ⟨h.val % 8, by omega⟩ n) ?_).trans ?_
  · rw [Shape.rowMajor_val_four, Shape.rowMajor_val_three]
    show ((r.val * 4 + h.val / 8) * 8 + h.val % 8) * 128 + n.val = (r.val * 32 + h.val) * 128 + n.val
    omega
  · have e : (shapeCast S128x4x128 (extractStridedSlice S128x512 ![0, 2048] C slices_S128x3072_S128x512_0_2048) shapeCasts_S128x512_S128x4x128 : FVec Ideal S128x4x128 .f32)
        (ix3 r ⟨h.val / 8, by omega⟩ n) = C (ix2 r ⟨2048 + 128 * (h.val / 8) + n.val, by omega⟩) := by
      refine (shapeCast_apply _ _ _ (ix2 r ⟨128 * (h.val / 8) + n.val, by omega⟩) ?_).trans ?_
      · rw [Shape.rowMajor_val_two, Shape.rowMajor_val_three]
        show r.val * 512 + (128 * (h.val / 8) + n.val) = (r.val * 4 + h.val / 8) * 128 + n.val
        omega
      · refine (?_ : _ = C (ix2 r ⟨2048 + (128 * (h.val / 8) + n.val), by omega⟩)).trans (congrArg (fun o => C (ix2 r o)) (Fin.ext (by show 2048 + (128 * (h.val / 8) + n.val) = 2048 + 128 * (h.val / 8) + n.val; omega)))
        pointwise []
    rw [← e]
    generalize shapeCast S128x4x128 _ _ = G
    pointwise []

theorem states_at (st : Vec Ideal S128x32x64x128 .f32) (a : Vec Ideal S32 .f32) (D : FVec Ideal S128x32 .f32) (X : FVec Ideal S128x32x64 .f32) (B : FVec Ideal S128x32x128 .f32)
    (r : Fin 128) (h : Fin 32) (p : Fin 64) (n : Fin 128) :
    states st a D X B (ix4 r h p n) = newState (st (ix4 r h p n)) (D (ix2 r h)) (a (ix1 h)) (X (ix3 r h p)) (B (ix3 r h n)) := by
  pointwise [states, newState]

/-- The reference's result at an entry. -/
theorem result_at (x : Vec Ideal S128x3072 .f32) (s : Vec Ideal S128x3x3072 .f32) (d : Vec Ideal S128x32 .f32) (st : Vec Ideal S128x32x64x128 .f32)
    (w : Vec Ideal S4x3072 .f32) (b : Vec Ideal S3072 .f32) (bias a : Vec Ideal S32 .f32) (r : Fin 128) (h : Fin 32) (p : Fin 64) (n : Fin 128) :
    states st a (sizes (biased d bias)) (heads (gated (convolved (columns x s) w b))) (weights (gated (convolved (columns x s) w b))) (ix4 r h p n)
      = after (fun r ch => x (ix2 r ch)) (fun r k ch => s (ix3 r k ch)) (fun k ch => w (ix2 k ch)) (fun ch => b (ix1 ch)) (fun r h => d (ix2 r h))
          (fun h => bias (ix1 h)) (fun h => a (ix1 h)) (st (ix4 r h p n)) r h p n := by
  rw [states_at, sizes_at, biased_at, heads_at, weights_at, channel_at, channel_at]
  rfl

end Cert.Reference11Ideal.Step

end
-- ==== Proof.StepAgree.lean ====
module

public import proofs.«01_k».proof.Proof.StepRun
public import proofs.«01_k».proof.Proof.StepRef
public import proofs.«01_k».proof.Proof.Agree

@[expose] public section

set_option maxRecDepth 16384

/-! The sample step's kernel and its reference end with equal states. -/

noncomputable section

open Idealize.ShloMosaic Idealize.ShloMosaic.TcCoe Idealize.SL.Sem

namespace Cert.Step

instance preFacts : Cert.Pre_step_finite.Facts where
  bcast_S32_S1x32_1 := by decide
  bcast_S1x32_S128x32_0_1 := by decide
  bcast_S_S128x32 := by decide

/-- Where the precondition holds, no step size is infinite before its softplus. -/
theorem finite_of_pre (m : (ℓ : Loc Cert.Kernel11Ideal.nD Cert.Kernel11Ideal.τ Cert.Kernel11Ideal.sig) → Buf (Elt Ideal) ℓ)
    (hpre : Cert.Pre_Kernel11Ideal_step_finite m) (c : Dev Cert.Kernel11Ideal.nD) : Cert.Kernel11Ideal.Step.Finite m c := by
  intro r h htop
  have h1 := congrFun (hpre c) (ix2 r h)
  unfold Cert.Pre_step_finite.fn at h1
  pointwise at h1
  rw [Cert.Ssd.ofBits_inf] at h1
  have h2 : @HAdd.hAdd EReal EReal EReal _
      (m ((c.tc : Thread Cert.Kernel11Ideal.nD Cert.Kernel11Ideal.τ).loc Cert.Kernel11Ideal.main_arg3) (ix2 r h))
      (m ((c.tc : Thread Cert.Kernel11Ideal.nD Cert.Kernel11Ideal.τ).loc Cert.Kernel11Ideal.main_arg7) (ix1 h)) = ⊤ := htop
  rw [h2] at h1
  simp at h1

/-- The two programs' results are equal. -/
theorem agree11 : Cert.algebraic_Kernel11Ideal_Reference11Ideal_pre_step_finite (hKernel11Ideal := Cert.Kernel11Ideal.Gen.facts)
    (hReference11Ideal := Cert.Reference11Ideal.Gen.facts) (hPre_step_finite := preFacts) := by
  intro m ρ m' ρ' hpre hag
  refine ⟨fun c => Cert.Kernel11Ideal.Step.last m c Cert.Kernel11Ideal.main_v18, Cert.Kernel11Ideal.Step.run m ρ, ?_⟩
  refine (θ_run _ _ _).mono (fun r h c => ?_) (Cert.Reference11Ideal.Value.run m' ρ')
  obtain ⟨e0, e1, e2, e3, e4, e5, e6, e7, e8, e9, e10⟩ := hag c
  obtain ⟨h0, hk⟩ := h c
  refine ⟨h0.trans ?_, hk⟩
  unfold Cert.Reference11Ideal.Value.res_main_v65
  rw [e0, e1, e3, e4, e5, e6, e7, e8]
  refine funext fun i => ?_
  obtain ⟨r, h, p, n, rfl⟩ : ∃ (r : Fin 128) (h : Fin 32) (p : Fin 64) (n : Fin 128), i = ix4 r h p n :=
    ⟨i 0, i 1, i 2, i 3, by funext a; match a with | ⟨0, _⟩ => rfl | ⟨1, _⟩ => rfl | ⟨2, _⟩ => rfl | ⟨3, _⟩ => rfl⟩
  refine Eq.trans ?_ (Cert.Kernel11Ideal.Step.out_at m c (finite_of_pre m hpre c) r h p n).symm
  exact Cert.Reference11Ideal.Step.result_at _ _ _ _ _ _ _ _ r h p n

end Cert.Step

end
-- ==== Proof.LinearPad.lean ====
module

public import proofs.«01_k».proof.Proof.Linear

@[expose] public section

/-! The projection of the heads' step sizes has 32 columns, and its calls take 128: the weights and the bias are filled up with
zeros. Here is what such a call leaves at an entry: the projection in the lanes of the 32 heads, and zero behind them. -/

noncomputable section

open Idealize.ShloMosaic Idealize.ShloMosaic.TcCoe

namespace Cert.Proj

/-- The shape of a single number. -/
abbrev S0 : Shape := ⟨0, ![]⟩

/-- The number the lanes are filled up with. -/
abbrev filler : Vec Ideal S0 .f32 := sitofp (F := Ideal) .f32 (constantI S0 32 0#32)

/-- It is zero. -/
theorem filler_zero : (FloatOps.sitofp (F := Ideal) FTy.f32 (0#32) : EReal) = 0 := by
  simp [FloatOps.sitofp]

/-- A head's step size for a row `x` of the input, and zero in the lanes behind the heads. -/
def step (x : Fin 1024 → EReal) (w : Vec Ideal ⟨2, ![1024, 9808]⟩ .f32) (v : Vec Ideal ⟨1, ![9808]⟩ .f32) (l : Fin 128) : EReal :=
  if h : l.val < 32 then entry x (fun k => w (ix2 k ⟨5120 + l.val, by omega⟩)) (v (ix1 ⟨5120 + l.val, by omega⟩)) else 0

/-- A zero column and a zero bias give zero. -/
theorem entry_zero (x : Fin 1024 → EReal) : entry x (fun _ => 0) 0 = 0 := by
  simp [entry]

section Fill

variable (h0 : 0 < S0.numel)

/-- The weights in a head's lane. -/
theorem fill_weights_head (x : Vec Ideal ⟨2, ![1024, 32]⟩ .f32) (h : (⟨2, ![1024, 32]⟩ : Shape).Pads (![0, 0] : Fin 2 → Nat) ![0, 96] ![0, 0] ⟨2, ![1024, 128]⟩)
    (k : Fin 1024) (l : Fin 128) (hl : l.val < 32) :
    (pad ⟨2, ![1024, 128]⟩ ![0, 0] ![0, 96] ![0, 0] x filler h h0 : Vec Ideal ⟨2, ![1024, 128]⟩ .f32) (ix2 k l) = x (ix2 k ⟨l.val, hl⟩) := by
  pointwise
  rw [dif_pos hl]

/-- The weights behind the heads. -/
theorem fill_weights_behind (x : Vec Ideal ⟨2, ![1024, 32]⟩ .f32) (h : (⟨2, ![1024, 32]⟩ : Shape).Pads (![0, 0] : Fin 2 → Nat) ![0, 96] ![0, 0] ⟨2, ![1024, 128]⟩)
    (k : Fin 1024) (l : Fin 128) (hl : ¬ l.val < 32) :
    (pad ⟨2, ![1024, 128]⟩ ![0, 0] ![0, 96] ![0, 0] x filler h h0 : Vec Ideal ⟨2, ![1024, 128]⟩ .f32) (ix2 k l) = (0 : EReal) := by
  pointwise
  rw [dif_neg hl]
  exact filler_zero

/-- The bias in a head's lane. -/
theorem fill_bias_head (x : Vec Ideal ⟨1, ![32]⟩ .f32) (h : (⟨1, ![32]⟩ : Shape).Pads (![0] : Fin 1 → Nat) ![96] ![0] ⟨1, ![128]⟩)
    (l : Fin 128) (hl : l.val < 32) :
    (pad ⟨1, ![128]⟩ ![0] ![96] ![0] x filler h h0 : Vec Ideal ⟨1, ![128]⟩ .f32) (ix1 l) = x (ix1 ⟨l.val, hl⟩) := by
  pointwise
  rw [dif_pos hl]

/-- The bias behind the heads. -/
theorem fill_bias_behind (x : Vec Ideal ⟨1, ![32]⟩ .f32) (h : (⟨1, ![32]⟩ : Shape).Pads (![0] : Fin 1 → Nat) ![96] ![0] ⟨1, ![128]⟩)
    (l : Fin 128) (hl : ¬ l.val < 32) :
    (pad ⟨1, ![128]⟩ ![0] ![96] ![0] x filler h h0 : Vec Ideal ⟨1, ![128]⟩ .f32) (ix1 l) = (0 : EReal) := by
  pointwise
  rw [dif_neg hl]
  exact filler_zero

/-- A call against the filled weights and bias, at an entry. -/
theorem lin_fill_at {r : ℕ} (X : Vec Ideal ⟨2, ![r, 1024]⟩ .bf16) (w : Vec Ideal ⟨2, ![1024, 9808]⟩ .f32) (v : Vec Ideal ⟨1, ![9808]⟩ .f32)
    (h1 : FTy.bf16.bits < FTy.f32.bits)
    (h3 : (⟨2, ![1024, 9808]⟩ : Shape).Slices ![0, 5120] ⟨2, ![1024, 32]⟩) (h5 : (⟨1, ![9808]⟩ : Shape).Slices ![5120] ⟨1, ![32]⟩)
    (p3 : (⟨2, ![1024, 32]⟩ : Shape).Pads (![0, 0] : Fin 2 → Nat) ![0, 96] ![0, 0] ⟨2, ![1024, 128]⟩)
    (p5 : (⟨1, ![32]⟩ : Shape).Pads (![0] : Fin 1 → Nat) ![96] ![0] ⟨1, ![128]⟩)
    (h6 : (⟨1, ![128]⟩ : Shape).ShapeCasts ⟨2, ![1, 128]⟩) (i : Fin r) (l : Fin 128) :
    lin r 128 X
        (truncf (F := Ideal) .bf16 (pad ⟨2, ![1024, 128]⟩ ![0, 0] ![0, 96] ![0, 0]
          (extractStridedSlice ⟨2, ![1024, 32]⟩ ![0, 5120] w h3 : Vec Ideal ⟨2, ![1024, 32]⟩ .f32) filler p3 h0 : FVec Ideal ⟨2, ![1024, 128]⟩ .f32) h1)
        (shapeCast ⟨2, ![1, 128]⟩ (pad ⟨1, ![128]⟩ ![0] ![96] ![0]
          (extractStridedSlice ⟨1, ![32]⟩ ![5120] v h5 : Vec Ideal ⟨1, ![32]⟩ .f32) filler p5 h0 : Vec Ideal ⟨1, ![128]⟩ .f32) h6) (ix2 i l)
      = step (fun k => X (ix2 i k)) w v l := by
  unfold step lin
  by_cases hl : l.val < 32
  · rw [dif_pos hl]
    congr 1
    · exact funext fun k => (fill_weights_head h0 _ p3 k l hl).trans (weights_at w h3 k ⟨l.val, hl⟩ _)
    · exact (bias_row _ h6 l).trans ((fill_bias_head h0 _ p5 l hl).trans (bias_at v h5 ⟨l.val, hl⟩ _))
  · rw [dif_neg hl]
    refine Eq.trans ?_ (entry_zero (fun k => X (ix2 i k)))
    congr 1
    · exact funext fun k => fill_weights_behind h0 _ p3 k l hl
    · exact (bias_row _ h6 l).trans (fill_bias_behind h0 _ p5 l hl)

end Fill

end Cert.Proj

end
-- ==== Proof.ProjStep.lean ====
module

public import proofs.«01_k».proof.Defs
public import proofs.«01_k».proof.Proof.Gen.Kernel12Ideal.Frame
public import proofs.«01_k».proof.Proof.Gen.Reference12Ideal.Run
public import proofs.«01_k».proof.Proof.LinearPad
public import Idealize.ShloMosaic.Lib.Pipeline.ValueKit

@[expose] public section

set_option maxRecDepth 16384

/-! The projection of the heads' step sizes (`dt`) for the prompts. The kernel takes 512 rows at a time against the segment's columns
of the weights, filled up with zeros from 32 columns to 128; the reference takes all rows against all columns, cuts the segment out
and puts zeros behind it. -/

noncomputable section

open Idealize.ShloMosaic Idealize.ShloMosaic.TcCoe Idealize.SL.Sem
open Idealize.ShloMosaic.Pipeline (Dat)

namespace Cert.Kernel12Ideal.Proj

open Cert.Kernel12Ideal Cert.Kernel12Ideal.Gen Cert.Proj

variable (m : (ℓ : Loc nD τ sig) → Buf (Elt Ideal) ℓ) (c : Dev nD)

/-- Point `t` takes the `t`-th block of rows, and all of the weights and the bias. -/
theorem index_facts : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- What the body computes from its blocks. -/
theorem block_at (x : Vec Ideal S512x1024 .bf16) (w : Vec Ideal S1024x128 .bf16) (b : Vec Ideal S1x128 .f32) (r : Fin 512) (ch : Fin 128) :
    k0_pay1 x w b (ix2 r ch) = entry (fun k => x (ix2 r k)) (fun k => w (ix2 k ch)) (b (ix2 0 ch)) := by
  pointwise [k0_pay1, entry]

/-- The array after the call: every block holds its rows of `lin`. -/
theorem final : (dats m 0 c).arrAt 3 cfg0.N = lin 16384 128 (V m c main_v7) (V m c main_v5) (V m c main_v4) := by
  refine (dats m 0 c).arrAt_eq_of_covers 3 _ (by decide +kernel) fun t hf y => ?_
  have h := index_facts t
  obtain ⟨r, ch, rfl⟩ : ∃ (r : Fin 512) (ch : Fin 128), y = ix2 r ch :=
    ⟨y 0, y 1, by funext a; match a with | ⟨0, _⟩ => rfl | ⟨1, _⟩ => rfl⟩
  blk_simp
  rw [after0_3]; frame_out
  refine (block_at _ _ _ r ch).trans ?_
  have hN := lt_of_lt_of_eq t.isLt N_0
  have hi : ((View.whole main_v8).slice (win0_3.rect t)).emb (ix2 r ch) = (ix2 ⟨512 * t.val + r.val, by omega⟩ ch : S16384x128.Idx) := by
    blk_ext [h]
  have e0 : ∀ k : Fin 1024, iblk m c 0 t (ix2 r k) = V m c main_v7 (ix2 ⟨512 * t.val + r.val, by omega⟩ k) := fun k => by
    blk_ext [iblk, V, h]
  have e1 : ∀ k : Fin 1024, iblk m c 1 t (ix2 k ch) = V m c main_v5 (ix2 k ch) := fun k => by
    blk_ext [iblk, V, h]
  have e2 : iblk m c 2 t (ix2 0 ch) = V m c main_v4 (ix2 0 ch) := by
    blk_ext [iblk, V, h]
  rw [e2]
  simp only [e0, e1]
  refine Eq.trans ?_ (congrArg (lin 16384 128 _ _ _) hi).symm
  rfl

/-! ## The operands and the result on the host -/

/-- The rows: the prompts' rows one after the other. -/
theorem host_rows : V m c main_v7 = (shapeCast S16384x1024 (truncf (F := Ideal) .bf16 (m ((c : Thread nD τ).loc main_arg0)) bitsLt_bf16_f32 : Vec Ideal S2x8192x1024 .bf16) shapeCasts_S2x8192x1024_S16384x1024 : Vec Ideal S16384x1024 .bf16) := by
  unfold V V0
  simp only [List.flatten_cons, List.flatten_nil, List.append_nil, List.cons_append, List.nil_append, hostOps0, hostOps0_1, hostOps0_2, hostOps0_3, hostOps0_4]
  after_results_simp
  rfl

/-- The segment's columns of the weights, filled up with zeros. -/
theorem host_weights : V m c main_v5 = (truncf (F := Ideal) .bf16 (pad S1024x128 ![0, 0] ![0, 96] ![0, 0]
    (extractStridedSlice S1024x32 ![0, 5120] (m ((c : Thread nD τ).loc main_arg1)) slices_S1024x9808_S1024x32_0_5120 : Vec Ideal S1024x32 .f32) filler
    pads_S1024x32_S1024x128_000_0960 h_S_ : FVec Ideal S1024x128 .f32) bitsLt_bf16_f32 : Vec Ideal S1024x128 .bf16) := by
  unfold V V0
  simp only [List.flatten_cons, List.flatten_nil, List.append_nil, List.cons_append, List.nil_append, hostOps0, hostOps0_1, hostOps0_2, hostOps0_3, hostOps0_4]
  after_results_simp
  rfl

/-- The segment's columns of the bias, filled up with zeros. -/
theorem host_bias : V m c main_v4 = (shapeCast S1x128 (pad S128 ![0] ![96] ![0]
    (extractStridedSlice S32 ![5120] (m ((c : Thread nD τ).loc main_arg2)) slices_S9808_S32_5120 : Vec Ideal S32 .f32) filler
    pads_S32_S128_0960 h_S_ : Vec Ideal S128 .f32) shapeCasts_S128_S1x128 : Vec Ideal S1x128 .f32) := by
  unfold V V0
  simp only [List.flatten_cons, List.flatten_nil, List.append_nil, List.cons_append, List.nil_append, hostOps0, hostOps0_1, hostOps0_2, hostOps0_3, hostOps0_4]
  after_results_simp
  rfl

/-- The buffer `b` when the program ends. -/
abbrev last (b : Ref sig .tc) : Buf (Elt Ideal) ((c.tc : Thread nD τ).loc b) := Pipeline.afterTail₀ cfgs (dats m) 0 (V0 m) [hostOps1] c b

/-- The call's array when the lines after it run. -/
theorem call_array : Pipeline.withArrays spec0 c (V0 m c) (fun w => (dats m 0 c).arrAt w cfg0.N) (Proc.devRef .tc main_v8) = lin 16384 128 (V m c main_v7) (V m c main_v5) (V m c main_v4) :=
  (Pipeline.withArrays_arr spec0 winFacts0.arr_inj c (V0 m c) (fun w => (dats m 0 c).arrAt w cfg0.N) 3).trans (final m c)

/-- The first line after the call takes the two prompts apart. -/
theorem last_rows : last m c main_v9
    = shapeCast S2x8192x128 (lin 16384 128 (V m c main_v7) (V m c main_v5) (V m c main_v4)) shapeCasts_S16384x128_S2x8192x128 := by
  unfold last Pipeline.afterTail₀
  simp only [hostOps1, List.flatten_cons, List.flatten_nil, List.append_nil, List.cons_append, List.nil_append]
  after_results_simp
  exact congrArg (fun x : Vec Ideal S16384x128 .f32 => shapeCast S2x8192x128 x shapeCasts_S16384x128_S2x8192x128) (call_array m c)

/-- The result at an entry, from the arguments. -/
theorem out_at (b : Fin 2) (p : Fin 8192) (l : Fin 128) :
    last m c main_v9 (ix3 b p l)
      = step (fun k => m ((c : Thread nD τ).loc main_arg0) (ix3 b p k)) (m ((c : Thread nD τ).loc main_arg1)) (m ((c : Thread nD τ).loc main_arg2)) l := by
  rw [last_rows, host_rows, host_weights, host_bias]
  refine (apart_at _ _ b p l).trans ((lin_fill_at h_S_ _ _ _ _ _ _ _ _ _ _ l).trans ?_)
  exact congrArg (fun x => step x _ _ l) (funext fun k => together_at _ _ b p k)

/-- The run: the results are what the lines leave, and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v9) = last m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_v9 (Pipeline.mem_restRefs_of main_v9 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

end Cert.Kernel12Ideal.Proj

namespace Cert.Reference12Ideal.Proj

open Cert.Reference12Ideal Cert.Reference12Ideal.Gen Cert.Proj

/-- The reference's product and bias, for all columns. -/
abbrev product (x : Vec Ideal S2x8192x1024 .f32) (w : Vec Ideal S1024x9808 .f32) (bi : Vec Ideal S9808 .f32) : Vec Ideal S2x8192x9808 .f32 :=
  addf (F := Ideal) (Host.dotGeneral (φ₁ := .f32) (φ₂ := .f32) dot_S2x8192x1024_S1024x9808_S2x8192x9808_2_0_01_1_n_n none x w)
    (broadcastInDim S2x8192x9808 ![0, 1, 2] bcast_S1x1x9808_S2x8192x9808_0_1_2 (broadcastInDim S1x1x9808 ![2] bcast_S9808_S1x1x9808_2 bi))

/-- The reference's result: the segment, and zeros behind it. -/
abbrev segment (x : Vec Ideal S2x8192x1024 .f32) (w : Vec Ideal S1024x9808 .f32) (bi : Vec Ideal S9808 .f32) : Vec Ideal S2x8192x128 .f32 :=
  pad S2x8192x128 ![0, 0, 0] ![0, 0, 96] ![0, 0, 0] (extractStridedSlice S2x8192x32 ![0, 0, 5120] (product x w bi) slices_S2x8192x9808_S2x8192x32_0_0_5120 : Vec Ideal S2x8192x32 .f32)
    filler pads_S2x8192x32_S2x8192x128_000_000_0960 h_S_

/-- The segment at an entry. -/
theorem segment_at (x : Vec Ideal S2x8192x1024 .f32) (w : Vec Ideal S1024x9808 .f32) (bi : Vec Ideal S9808 .f32) (b : Fin 2) (p : Fin 8192) (l : Fin 128) :
    segment x w bi (ix3 b p l) = step (fun k => x (ix3 b p k)) w bi l := by
  unfold step
  by_cases hl : l.val < 32
  · rw [dif_pos hl]
    pointwise [segment, product, entry]
    rw [dif_pos hl]
  · rw [dif_neg hl]
    pointwise [segment]
    rw [dif_neg hl]
    exact filler_zero

end Cert.Reference12Ideal.Proj

namespace Cert.Proj

/-- The two programs' results are equal. -/
theorem agree12 : Cert.algebraic_Kernel12Ideal_Reference12Ideal (hKernel12Ideal := Cert.Kernel12Ideal.Gen.facts)
    (hReference12Ideal := Cert.Reference12Ideal.Gen.facts) := by
  intro m ρ m' ρ' _ hag
  refine ⟨fun c => Cert.Kernel12Ideal.Proj.last m c Cert.Kernel12Ideal.main_v9, Cert.Kernel12Ideal.Proj.run m ρ, ?_⟩
  refine (θ_run _ _ _).mono (fun r h c => ?_) (Cert.Reference12Ideal.Value.run m' ρ')
  obtain ⟨e0, e1, e2⟩ := hag c
  obtain ⟨h0, hk⟩ := h c
  refine ⟨h0.trans ?_, hk⟩
  rw [e0, e1, e2]
  refine funext fun i => ?_
  obtain ⟨b, p, ch, rfl⟩ : ∃ (b : Fin 2) (p : Fin 8192) (ch : Fin 128), i = ix3 b p ch :=
    ⟨i 0, i 1, i 2, by funext a; match a with | ⟨0, _⟩ => rfl | ⟨1, _⟩ => rfl | ⟨2, _⟩ => rfl⟩
  exact (Cert.Reference12Ideal.Proj.segment_at _ _ _ b p ch).trans (Cert.Kernel12Ideal.Proj.out_at m c b p ch).symm

end Cert.Proj

end
-- ==== Proof.SampleStep.lean ====
module

public import proofs.«01_k».proof.Defs
public import proofs.«01_k».proof.Proof.Gen.Kernel13Ideal.Frame
public import proofs.«01_k».proof.Proof.Gen.Reference13Ideal.Run
public import proofs.«01_k».proof.Proof.LinearPad
public import Idealize.ShloMosaic.Lib.Pipeline.ValueKit

@[expose] public section

set_option maxRecDepth 128

/-! The projection of the heads' step sizes (`dt`) for the samples. The kernel takes the rows of all samples at once against the
segment's columns of the weights, filled up with zeros from 32 columns to 128; the reference takes them against all columns, cuts
the segment out and puts zeros behind it. -/

noncomputable section

open Idealize.ShloMosaic Idealize.ShloMosaic.TcCoe Idealize.SL.Sem
open Idealize.ShloMosaic.Pipeline (Dat)

namespace Cert.Kernel13Ideal.Proj

open Cert.Kernel13Ideal Cert.Kernel13Ideal.Gen Cert.Proj

variable (m : (ℓ : Loc nD τ sig) → Buf (Elt Ideal) ℓ) (c : Dev nD)

/-- The one point's blocks begin at the beginning. -/
theorem index_facts : ∀ t : Fin cfg0.N, (∀ a, win0_0.index t a = 0) ∧ (∀ a, win0_1.index t a = 0) ∧ (∀ a, win0_2.index t a = 0) ∧ (∀ a, win0_3.index t a = 0) :=
  (by decide +kernel : ∀ t : Fin grid0.N, _)

/-- What the body computes from its blocks. -/
theorem block_at (x : Vec Ideal S128x1024 .bf16) (w : Vec Ideal S1024x128 .bf16) (b : Vec Ideal S1x128 .f32) (r : Fin 128) (ch : Fin 128) :
    k0_pay1 x w b (ix2 r ch) = entry (fun k => x (ix2 r k)) (fun k => w (ix2 k ch)) (b (ix2 0 ch)) := by
  pointwise [k0_pay1, entry]

/-- The rows the point sees are all of them. -/
theorem block_rows (t : Fin cfg0.N) : (iblk m c 0 t : Vec Ideal S128x1024 .bf16) = V m c main_v7 := by
  have h : (((cfg0.win 0).blk t).view.emb : S128x1024.Idx → S128x1024.Idx) = id := by
    refine funext fun y => funext fun a => Fin.ext ?_
    simp -proj -dsimp only [ValueKit.blkEmbVal]
    rw [(index_facts t).1, Nat.zero_mul, Nat.zero_add]
    rfl
  unfold iblk
  generalize V m c main_v7 = Z
  exact funext fun y => congrArg Z (congrFun h y)

/-- The weights the point sees are all of them. -/
theorem block_weights (t : Fin cfg0.N) : (iblk m c 1 t : Vec Ideal S1024x128 .bf16) = V m c main_v5 := by
  have h : (((cfg0.win 1).blk t).view.emb : S1024x128.Idx → S1024x128.Idx) = id := by
    refine funext fun y => funext fun a => Fin.ext ?_
    simp -proj -dsimp only [ValueKit.blkEmbVal]
    rw [(index_facts t).2.1, Nat.zero_mul, Nat.zero_add]
    rfl
  unfold iblk
  generalize V m c main_v5 = Z
  exact funext fun y => congrArg Z (congrFun h y)

/-- The bias the point sees are all of them. -/
theorem block_bias (t : Fin cfg0.N) : (iblk m c 2 t : Vec Ideal S1x128 .f32) = V m c main_v4 := by
  have h : (((cfg0.win 2).blk t).view.emb : S1x128.Idx → S1x128.Idx) = id := by
    refine funext fun y => funext fun a => Fin.ext ?_
    simp -proj -dsimp only [ValueKit.blkEmbVal]
    rw [(index_facts t).2.2.1, Nat.zero_mul, Nat.zero_add]
    rfl
  unfold iblk
  generalize V m c main_v4 = Z
  exact funext fun y => congrArg Z (congrFun h y)

/-- The array after the call. -/
theorem final : (dats m 0 c).arrAt 3 cfg0.N = lin 128 128 (V m c main_v7) (V m c main_v5) (V m c main_v4) := by
  refine (dats m 0 c).arrAt_eq_of_covers 3 _ (by decide +kernel) fun t hf y => ?_
  obtain ⟨r, ch, rfl⟩ : ∃ (r : Fin 128) (ch : Fin 128), y = ix2 r ch :=
    ⟨y 0, y 1, by funext a; match a with | ⟨0, _⟩ => rfl | ⟨1, _⟩ => rfl⟩
  blk_simp
  rw [after0_3]; frame_out
  refine (block_at _ _ _ r ch).trans ?_
  have hi : ((View.whole main_v8).slice (win0_3.rect t)).emb (ix2 r ch) = (ix2 r ch : S128x128.Idx) := by
    refine funext fun a => Fin.ext ?_
    simp -proj -dsimp only [ValueKit.blkEmbVal]
    rw [(index_facts t).2.2.2, Nat.zero_mul, Nat.zero_add]
  have e0 := block_rows m c t
  have e1 := block_weights m c t
  have e2 := block_bias m c t
  generalize V m c main_v7 = X at *
  generalize V m c main_v5 = W at *
  generalize V m c main_v4 = B at *
  subst e0 e1 e2
  refine Eq.trans ?_ (congrArg (lin 128 128 _ _ _) hi).symm
  rfl

/-! ## The operands and the result on the host -/

/-- The rows. -/
theorem host_rows : V m c main_v7 = (truncf (F := Ideal) .bf16 (shapeCast S128x1024 (m ((c : Thread nD τ).loc main_arg0)) shapeCasts_S128x1x1024_S128x1024 : FVec Ideal S128x1024 .f32) bitsLt_bf16_f32 : Vec Ideal S128x1024 .bf16) := by
  unfold V
  simp only [List.flatten_cons, List.flatten_nil, List.append_nil, List.cons_append, List.nil_append, hostOps0, hostOps0_1, hostOps0_2, hostOps0_3, hostOps0_4]
  after_results_simp
  rfl

/-- The segment's columns of the weights, filled up with zeros. -/
theorem host_weights : V m c main_v5 = (truncf (F := Ideal) .bf16 (pad S1024x128 ![0, 0] ![0, 96] ![0, 0]
    (extractStridedSlice S1024x32 ![0, 5120] (m ((c : Thread nD τ).loc main_arg1)) slices_S1024x9808_S1024x32_0_5120 : Vec Ideal S1024x32 .f32) filler
    pads_S1024x32_S1024x128_000_0960 h_S_ : FVec Ideal S1024x128 .f32) bitsLt_bf16_f32 : Vec Ideal S1024x128 .bf16) := by
  unfold V
  simp only [List.flatten_cons, List.flatten_nil, List.append_nil, List.cons_append, List.nil_append, hostOps0, hostOps0_1, hostOps0_2, hostOps0_3, hostOps0_4]
  after_results_simp
  rfl

/-- The segment's columns of the bias, filled up with zeros. -/
theorem host_bias : V m c main_v4 = (shapeCast S1x128 (pad S128 ![0] ![96] ![0]
    (extractStridedSlice S32 ![5120] (m ((c : Thread nD τ).loc main_arg2)) slices_S9808_S32_5120 : Vec Ideal S32 .f32) filler
    pads_S32_S128_0960 h_S_ : Vec Ideal S128 .f32) shapeCasts_S128_S1x128 : Vec Ideal S1x128 .f32) := by
  unfold V
  simp only [List.flatten_cons, List.flatten_nil, List.append_nil, List.cons_append, List.nil_append, hostOps0, hostOps0_1, hostOps0_2, hostOps0_3, hostOps0_4]
  after_results_simp
  rfl

/-- The result at an entry, from the arguments. -/
theorem out_at (s l : Fin 128) :
    lin 128 128 (V m c main_v7) (V m c main_v5) (V m c main_v4) (ix2 s l)
      = step (fun k => m ((c : Thread nD τ).loc main_arg0) (ix3 s 0 k)) (m ((c : Thread nD τ).loc main_arg1)) (m ((c : Thread nD τ).loc main_arg2)) l := by
  rw [host_rows, host_weights, host_bias]
  refine (lin_fill_at h_S_ _ _ _ _ _ _ _ _ _ _ l).trans ?_
  exact congrArg (fun x => step x _ _ l) (funext fun k => flat_at _ _ s k)

/-- The run: the result is the call's array, and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v8) = lin 128 128 (V m c main_v7) (V m c main_v5) (V m c main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel13Ideal.Proj

namespace Cert.Reference13Ideal.Proj

open Cert.Reference13Ideal Cert.Reference13Ideal.Gen Cert.Proj

/-- The segment of the reference's product. -/
def product (x : Vec Ideal S128x1x1024 .f32) (w : Vec Ideal S1024x9808 .f32) (bi : Vec Ideal S9808 .f32) : Vec Ideal S128x1x32 .f32 :=
  extractStridedSlice S128x1x32 ![0, 0, 5120] (addf (F := Ideal) (Host.dotGeneral (φ₁ := .f32) (φ₂ := .f32) dot_S128x1x1024_S1024x9808_S128x1x9808_2_0_01_1_n_n none x w)
      (broadcastInDim S128x1x9808 ![0, 1, 2] bcast_S1x1x9808_S128x1x9808_0_1_2 (broadcastInDim S1x1x9808 ![2] bcast_S9808_S1x1x9808_2 bi))) slices_S128x1x9808_S128x1x32_0_0_5120

/-- That segment at an entry. -/
theorem product_at (x : Vec Ideal S128x1x1024 .f32) (w : Vec Ideal S1024x9808 .f32) (bi : Vec Ideal S9808 .f32) (s : Fin 128) (ch : Fin 32) :
    product x w bi (ix3 s 0 ch)
      = entry (fun k => x (ix3 s 0 k)) (fun k => w (ix2 k ⟨5120 + ch.val, by omega⟩)) (bi (ix1 ⟨5120 + ch.val, by omega⟩)) := by
  pointwise [product, entry]

/-- An array with zeros behind the heads. -/
abbrev filled (y : Vec Ideal S128x32 .f32) : Vec Ideal S128x128 .f32 :=
  pad S128x128 ![0, 0] ![0, 96] ![0, 0] y filler pads_S128x32_S128x128_000_0960 h_S_

theorem filled_head (y : Vec Ideal S128x32 .f32) (s l : Fin 128) (hl : l.val < 32) : filled y (ix2 s l) = y (ix2 s ⟨l.val, hl⟩) := by
  pointwise [filled]
  rw [dif_pos hl]

theorem filled_behind (y : Vec Ideal S128x32 .f32) (s l : Fin 128) (hl : ¬ l.val < 32) : filled y (ix2 s l) = (0 : EReal) := by
  pointwise [filled]
  rw [dif_neg hl]
  exact filler_zero

/-- The reference's result at an entry. -/
theorem segment_at (x : Vec Ideal S128x1x1024 .f32) (w : Vec Ideal S1024x9808 .f32) (bi : Vec Ideal S9808 .f32) (s l : Fin 128) :
    filled (shapeCast S128x32 (product x w bi) shapeCasts_S128x1x32_S128x32) (ix2 s l) = step (fun k => x (ix3 s 0 k)) w bi l := by
  unfold step
  by_cases hl : l.val < 32
  · rw [dif_pos hl, filled_head _ s l hl]
    exact (flat_at (n := 32) _ _ s ⟨l.val, hl⟩).trans (product_at x w bi s ⟨l.val, hl⟩)
  · rw [dif_neg hl]
    exact filled_behind _ s l hl

end Cert.Reference13Ideal.Proj

namespace Cert.Proj

/-- The two programs' results are equal. -/
theorem agree13 : Cert.algebraic_Kernel13Ideal_Reference13Ideal (hKernel13Ideal := Cert.Kernel13Ideal.Gen.facts)
    (hReference13Ideal := Cert.Reference13Ideal.Gen.facts) := by
  intro m ρ m' ρ' _ hag
  refine ⟨fun c => lin 128 128 (Cert.Kernel13Ideal.Gen.V m c Cert.Kernel13Ideal.main_v7) (Cert.Kernel13Ideal.Gen.V m c Cert.Kernel13Ideal.main_v5) (Cert.Kernel13Ideal.Gen.V m c Cert.Kernel13Ideal.main_v4), Cert.Kernel13Ideal.Proj.run m ρ, ?_⟩
  refine (θ_run _ _ _).mono (fun r h c => ?_) (Cert.Reference13Ideal.Value.run m' ρ')
  obtain ⟨e0, e1, e2⟩ := hag c
  obtain ⟨h0, hk⟩ := h c
  refine ⟨h0.trans ?_, hk⟩
  rw [e0, e1, e2]
  refine funext fun i => ?_
  obtain ⟨s, l, rfl⟩ : ∃ (s : Fin 128) (l : Fin 128), i = ix2 s l :=
    ⟨i 0, i 1, by funext a; match a with | ⟨0, _⟩ => rfl | ⟨1, _⟩ => rfl⟩
  exact (Cert.Reference13Ideal.Proj.segment_at _ _ _ s l).trans (Cert.Kernel13Ideal.Proj.out_at m c s l).symm

end Cert.Proj

end
-- ==== Proof.CmpRun.lean ====
module

public import proofs.«01_k».proof.Defs
public import proofs.«01_k».proof.Proof.Gen.Kernel15Ideal.Frame
public import proofs.«01_k».proof.Proof.Gen.Reference15Ideal.Run
public import proofs.«01_k».proof.Proof.Linear
public import Idealize.ShloMosaic.Lib.Pipeline.ValueKit
public import Idealize.ShloMosaic.Lib.WritesUnit

@[expose] public section

/-! The compressed blocks' call over the pages of the cache. A point takes 32 pages, permutes each page's rows so that the rows at one
position of its eight runs lie together, and adds up one product for each of the 16 positions. Here is what a point writes, as such a sum. -/

set_option maxRecDepth 65536

noncomputable section

open Idealize.ShloMosaic Idealize.ShloMosaic.TcCoe Idealize.SL.Sem
open Idealize.ShloMosaic.Pipeline (Dat)

namespace Cert.Kernel15Ideal.Cmp

open Cert.Kernel15Ideal Cert.Kernel15Ideal.Gen

variable (m : (ℓ : Loc nD τ sig) → Buf (Elt Ideal) ℓ) (c : Dev nD)

/-- One position of a block: the rows at it, the position's shift added, times the position's weights. -/
def term (x : Vec Ideal S32x8x256 .f32) (p : Vec Ideal S1x256 .f32) (w : Vec Ideal S1x256x512 .bf16) : FVec Ideal S256x512 .f32 :=
  matmul dot_S256x256_S256x512_S256x512_1_0_0_1_n_n none
    (truncf .bf16 (addf (shapeCast S256x256 x shapeCasts_S32x8x256_S256x256) (broadcastTo S256x256 (shapeCast S1x256 p shapeCasts_S1x256_S1x256) broadcasts_S1x256_S256x256)) bitsLt_bf16_f32)
    (shapeCast S256x512 w shapeCasts_S1x256x512_S256x512 : FVec Ideal S256x512 .bf16) (constant S256x512 .f32 0x00000000#32)

/-- The sum of the first `n` positions, in their order. -/
def acc (x : Fin 16 → Vec Ideal S32x8x256 .f32) (p : Fin 16 → Vec Ideal S1x256 .f32) (w : Fin 16 → Vec Ideal S1x256x512 .bf16) :
    (n : ℕ) → n ≤ 16 → FVec Ideal S256x512 .f32
  | 0, _ => constant S256x512 .f32 0x00000000#32
  | n + 1, h => addf (acc x p w n (Nat.le_of_succ_le h)) (term (x ⟨n, h⟩) (p ⟨n, h⟩) (w ⟨n, h⟩))

/-- The eight rows at a position lie within a page. -/
theorem inb_x (l : Fin 16) : ∀ a, (![0, 8 * l.val, 0] : Fin 3 → ℕ) a + S32x8x256.size a ≤ S32x128x256.size a := by
  have := l.isLt
  intro a; match a with | ⟨0, _⟩ => exact Nat.le_refl _ | ⟨1, _⟩ => (show 8 * l.val + 8 ≤ 128; omega) | ⟨2, _⟩ => exact Nat.le_refl _

/-- A position's shift lies within the shifts. -/
theorem inb_p (l : Fin 32) : ∀ a, (![l.val, 0] : Fin 2 → ℕ) a + S1x256.size a ≤ S32x256.size a := by
  have := l.isLt
  intro a; match a with | ⟨0, _⟩ => (show l.val + 1 ≤ 32; omega) | ⟨1, _⟩ => exact Nat.le_refl _

/-- A position's weights lie within the weights. -/
theorem inb_w (l : Fin 16) : ∀ a, (![l.val, 0, 0] : Fin 3 → ℕ) a + S1x256x512.size a ≤ S16x256x512.size a := by
  have := l.isLt
  intro a; match a with | ⟨0, _⟩ => (show l.val + 1 ≤ 16; omega) | ⟨1, _⟩ => exact Nat.le_refl _ | ⟨2, _⟩ => exact Nat.le_refl _

section
variable (c : Dev nD) (i : grid0.Coords) (arg1 : Memref sig .tc .vmem S32x256x128 .f32) (harg1 : arg1.IsWhole) (arg2 : Memref sig .tc .vmem S32x256 .f32) (harg2 : arg2.IsWhole) (arg3 : Memref sig .tc .vmem S16x256x512 .bf16) (harg3 : arg3.IsWhole)
    (arg4 : Memref sig .tc .vmem S16x256x512 .bf16) (harg4 : arg4.IsWhole) (arg5 : Memref sig .tc .vmem S256x1024 .f32) (harg5 : arg5.IsWhole) (arg6 : Memref sig .tc .vmem S32x128x256 .f32) (harg6 : arg6.IsWhole)
    (x0 : Vec Ideal S32x256x128 .f32) (x1 : Vec Ideal S32x256 .f32) (x2 x3 : Vec Ideal S16x256x512 .bf16)

/-- The pages a point has permuted. -/
def pages : List (View.Piece (Elt Ideal) S32x128x256 .f32) :=
  pb_k0_t1 (F := Ideal) Variants.none c none i arg1 harg1 arg2 harg2 arg3 harg3 arg4 harg4 arg5 harg5 arg6 harg6 kernelRun0_A.sl.v1 k0_pay4 (harg1.unread x0) 32

/-- The rows at a position of every block. -/
def rowsAt (l : Fin 16) : Vec Ideal S32x8x256 .f32 :=
  arg6.view.readCov (pages c i arg1 harg1 arg2 harg2 arg3 harg3 arg4 harg4 arg5 harg5 arg6 harg6 x0)
    (Rect.unit (s := S32x128x256) ![0, 8 * l.val, 0] S32x8x256.size (inb_x l)).toLoadRect

/-- A position's shift. -/
def shiftAt (l : Fin 32) : Vec Ideal S1x256 .f32 :=
  arg2.view.readAt (Elt Ideal) (Rect.unit (s := S32x256) ![l.val, 0] S1x256.size (inb_p l)).toLoadRect (harg2.unread x1)

/-- A position's weights. -/
def weightAt (a : Memref sig .tc .vmem S16x256x512 .bf16) (ha : a.IsWhole) (x : Vec Ideal S16x256x512 .bf16) (l : Fin 16) : Vec Ideal S1x256x512 .bf16 :=
  a.view.readAt (Elt Ideal) (Rect.unit (s := S16x256x512) ![l.val, 0, 0] S1x256x512.size (inb_w l)).toLoadRect (ha.unread x)

set_option maxHeartbeats 4000000 in
/-- What a point stores: the sum over all positions for the second half of the columns, and for the first. -/
theorem run_pieces :
    (kernelRun0_A (F := Ideal) c i arg1 harg1 arg2 harg2 arg3 harg3 arg4 harg4 arg5 harg5 arg6 harg6 x0 x1 x2 x3).1
      = [⟨Rect.unit (s := S256x1024) ![0, 512] S256x512.size inb_S256x1024_S256x512_0_512,
          acc (rowsAt c i arg1 harg1 arg2 harg2 arg3 harg3 arg4 harg4 arg5 harg5 arg6 harg6 x0) (fun l => shiftAt arg2 harg2 x1 ⟨16 + l.val, by omega⟩) (weightAt arg4 harg4 x3) 16 (by omega)⟩,
        ⟨Rect.unit (s := S256x1024) ![0, 0] S256x512.size inb_S256x1024_S256x512_0_0,
          acc (rowsAt c i arg1 harg1 arg2 harg2 arg3 harg3 arg4 harg4 arg5 harg5 arg6 harg6 x0) (fun l => shiftAt arg2 harg2 x1 ⟨l.val, by omega⟩) (weightAt arg3 harg3 x2) 16 (by omega)⟩] := by
  unfold kernelRun0_A
  rfl

end

end Cert.Kernel15Ideal.Cmp

end
-- ==== Proof.CmpPages.lean ====
module

public import proofs.«01_k».proof.Proof.CmpRun
public import proofs.«01_k».proof.Proof.Gen.Kernel15Ideal.Frame
public import proofs.«01_k».proof.Proof.Gen.Reference15Ideal.Run
public import proofs.«01_k».proof.Proof.Linear
public import Idealize.ShloMosaic.Lib.Pipeline.ValueKit
public import Idealize.ShloMosaic.Lib.WritesUnit

@[expose] public section

/-! The compressed blocks' call: a point's values at an entry. -/

set_option maxRecDepth 65536

noncomputable section

open Idealize.ShloMosaic Idealize.ShloMosaic.TcCoe Idealize.SL.Sem
open Idealize.ShloMosaic.Pipeline (Dat)

namespace Cert.Kernel15Ideal.Cmp

open Cert.Kernel15Ideal Cert.Kernel15Ideal.Gen

variable (m : (ℓ : Loc nD τ sig) → Buf (Elt Ideal) ℓ) (c : Dev nD)

/-- The place that a row of a permuted page comes from, as the kernel computes it. -/
theorem source : ∀ r : Fin 128, k0_pay4 (ix2 r 0) = BitVec.ofNat 32 (16 * (r.val % 8) + r.val / 8) := by decide +kernel

/-- The permutation's table is one where a row's source is the column, and nowhere else. -/
theorem place (r : Fin 128) (k : Fin 128) :
    (IntOp.cmpi CmpIPredicate.eq (kernelRun0_A.sl.v1 (ix2 r k)) (k0_pay4 (ix2 r k)) = 1#1) ↔ k.val = 16 * (r.val % 8) + r.val / 8 := by
  have h4 : k0_pay4 (ix2 r k) = BitVec.ofNat 32 (16 * (r.val % 8) + r.val / 8) := (show k0_pay4 (ix2 r k) = k0_pay4 (ix2 r 0) from rfl).trans (source r)
  have h1 : kernelRun0_A.sl.v1 (ix2 r k) = BitVec.ofNat 32 k.val := by
    unfold kernelRun0_A.sl.v1
    pointwise []
  rw [h4, h1]
  constructor
  · intro h
    by_contra hne
    have hb : (BitVec.ofNat 32 k.val == BitVec.ofNat 32 (16 * (r.val % 8) + r.val / 8)) = false := by
      rw [beq_eq_false_iff_ne]
      intro e
      have e' := congrArg BitVec.toNat e
      rw [BitVec.toNat_ofNat, BitVec.toNat_ofNat] at e'
      omega
    unfold IntOp.cmpi at h
    simp [hb] at h
  · intro h
    rw [h]
    unfold IntOp.cmpi
    simp

/-- A permuted page at an entry: the product with a table of zeros and ones takes one row. -/
theorem page_at (x : Vec Ideal S1x256x128 .f32) (r : Fin 128) (j : Fin 256) :
    k0_pay5 kernelRun0_A.sl.v1 k0_pay4 x (ix3 0 r j) = x (ix3 0 j ⟨16 * (r.val % 8) + r.val / 8, by omega⟩) := by
  have h : k0_pay5 kernelRun0_A.sl.v1 k0_pay4 x (ix3 0 r j)
      = ∑ k : Fin 128, (if IntOp.cmpi CmpIPredicate.eq (kernelRun0_A.sl.v1 (ix2 r k)) (k0_pay4 (ix2 r k)) = 1#1 then (1 : EReal) else 0) * x (ix3 0 j k) := by
    pointwise [k0_pay5]
    refine Finset.sum_congr rfl fun k _ => ?_
    by_cases hk : IntOp.cmpi CmpIPredicate.eq (kernelRun0_A.sl.v1 (ix2 r k)) (k0_pay4 (ix2 r k)) = 1#1
    · rw [if_pos hk, one_mul, hk]; rfl
    · rw [if_neg hk, zero_mul]; exact if_neg hk
  rw [h, Finset.sum_eq_single (⟨16 * (r.val % 8) + r.val / 8, by omega⟩ : Fin 128)]
  · rw [if_pos ((place _ _).2 rfl), one_mul]
  · intro k _ hk
    rw [if_neg fun e => hk (Fin.ext ((place _ _).1 e)), zero_mul]
  · intro hk; exact absurd (Finset.mem_univ _) hk

/-- Trip `k` of the loop over pages takes page `k`. -/
theorem off1_eq : ∀ k : Fin k0_t1_loop.trips, k0_off1 k = ![k.val, 0, 0] := by decide +kernel
/-- And it writes page `k`. -/
theorem off2_eq : ∀ k : Fin k0_t1_loop.trips, k0_off2 k = ![k.val, 0, 0] := by decide +kernel
/-- The loop comes to every page. -/
theorem trips_eq : k0_t1_loop.trips = 32 := by decide +kernel

section
variable (c : Dev nD) (i : grid0.Coords) (arg1 : Memref sig .tc .vmem S32x256x128 .f32) (harg1 : arg1.IsWhole) (arg2 : Memref sig .tc .vmem S32x256 .f32) (harg2 : arg2.IsWhole) (arg3 : Memref sig .tc .vmem S16x256x512 .bf16) (harg3 : arg3.IsWhole)
    (arg4 : Memref sig .tc .vmem S16x256x512 .bf16) (harg4 : arg4.IsWhole) (arg5 : Memref sig .tc .vmem S256x1024 .f32) (harg5 : arg5.IsWhole) (arg6 : Memref sig .tc .vmem S32x128x256 .f32) (harg6 : arg6.IsWhole)
    (x0 : Vec Ideal S32x256x128 .f32) (x1 : Vec Ideal S32x256 .f32) (x2 x3 : Vec Ideal S16x256x512 .bf16)

/-- A page as it comes in. -/
def pageIn (k : Fin k0_t1_loop.trips) : Vec Ideal S1x256x128 .f32 :=
  arg1.view.readAt (Elt Ideal) (Rect.unit (s := S32x256x128) (k0_off1 k) S1x256x128.size (k0_off1_inb k)).toLoadRect (harg1.unread x0)

/-- A trip stores its page, permuted. -/
theorem trip_pieces (k : Fin k0_t1_loop.trips) :
    tripL_k0_t1 (F := Ideal) Variants.none c none i arg1 harg1 arg2 harg2 arg3 harg3 arg4 harg4 arg5 harg5 arg6 harg6 kernelRun0_A.sl.v1 k0_pay4 (harg1.unread x0) k
      = [⟨Rect.unit (s := S32x128x256) (k0_off2 k) S1x128x256.size (k0_off2_inb k), k0_pay5 kernelRun0_A.sl.v1 k0_pay4 (pageIn arg1 harg1 x0 k)⟩] := by
  unfold tripL_k0_t1 trip_k0_t1
  rfl

/-- A page at an entry. -/
theorem pageIn_at (k : Fin k0_t1_loop.trips) (j : Fin 256) (q : Fin 128) :
    pageIn arg1 harg1 x0 k (ix3 0 j q) = x0 (ix3 ⟨k.val, lt_of_lt_of_eq k.isLt trips_eq⟩ j q) := by
  unfold pageIn
  refine (congrFun (harg1.read_unread (Val := Elt Ideal) x0) _).trans (congrArg x0 ?_)
  have h := off1_eq k
  funext a
  apply Fin.ext
  refine (congrArg (fun z : Fin 3 → ℕ => z a + 1 * ((ix3 0 j q : S1x256x128.Idx) a).val) h).trans ?_
  match a with | ⟨0, _⟩ => rfl | ⟨1, _⟩ => (show 0 + 1 * j.val = j.val; omega) | ⟨2, _⟩ => (show 0 + 1 * q.val = q.val; omega)

/-- What the first `n` trips leave, at an entry of a page they have come to. -/
theorem pages_at (f : arg6.view.ty.Contents (Elt Ideal)) (n : ℕ) (hn : n ≤ 32) (a : Fin 32) (r : Fin 128) (j : Fin 256) (ha : a.val < n) :
    arg6.view.read (Elt Ideal) (arg6.view.writes (Elt Ideal) f
      (pb_k0_t1 (F := Ideal) Variants.none c none i arg1 harg1 arg2 harg2 arg3 harg3 arg4 harg4 arg5 harg5 arg6 harg6 kernelRun0_A.sl.v1 k0_pay4 (harg1.unread x0) n)) (ix3 a r j)
      = x0 (ix3 a j ⟨16 * (r.val % 8) + r.val / 8, by omega⟩) := by
  induction n with
  | zero => omega
  | succ k ih =>
    have hk : k < k0_t1_loop.trips := by rw [trips_eq]; omega
    have e := pb_k0_t1_succ (F := Ideal) Variants.none c none i arg1 harg1 arg2 harg2 arg3 harg3 arg4 harg4 arg5 harg5 arg6 harg6 kernelRun0_A.sl.v1 k0_pay4 (harg1.unread x0) ⟨k, hk⟩
    rw [trip_pieces] at e
    rw [e]
    show arg6.view.read (Elt Ideal) (arg6.view.writes (Elt Ideal) f (_ :: _)) _ = _
    by_cases h : a.val = k
    · refine (View.read_writes_cons_unit_of_mem arg6.view f (k0_off2_inb ⟨k, hk⟩) _ _ (ix3 a r j) (ix3 0 r j) (off2_eq ⟨k, hk⟩) fun b => ?_).trans ?_
      · match b with | ⟨0, _⟩ => (show a.val = k + 0; omega) | ⟨1, _⟩ => (show r.val = 0 + r.val; omega) | ⟨2, _⟩ => (show j.val = 0 + j.val; omega)
      · rw [page_at, pageIn_at]
        exact congrArg (fun z => x0 (ix3 z j _)) (Fin.ext h.symm)
    · refine (View.read_writes_cons_unit_of_not_mem arg6.view f (k0_off2_inb ⟨k, hk⟩) _ _ (ix3 a r j) (off2_eq ⟨k, hk⟩) 0 (Or.inl ?_)).trans (ih (by omega) (by omega))
      show a.val < k
      omega

/-- The rows at a position, at an entry. -/
theorem rowsAt_at (l : Fin 16) (a : Fin 32) (b : Fin 8) (j : Fin 256) :
    rowsAt c i arg1 harg1 arg2 harg2 arg3 harg3 arg4 harg4 arg5 harg5 arg6 harg6 x0 l (ix3 a b j) = x0 (ix3 a j ⟨16 * b.val + l.val, by omega⟩) := by
  have h := pages_at c i arg1 harg1 arg2 harg2 arg3 harg3 arg4 harg4 arg5 harg5 arg6 harg6 x0 arg6.view.junk 32 (by omega) a ⟨8 * l.val + b.val, by omega⟩ j a.isLt
  unfold rowsAt View.readCov pages
  refine Eq.trans (congrArg (arg6.view.read (Elt Ideal) (arg6.view.writes (Elt Ideal) arg6.view.junk _)) ?_) (h.trans (congrArg (fun z => x0 (ix3 a j z)) (Fin.ext ?_)))
  · funext d
    apply Fin.ext
    match d with | ⟨0, _⟩ => (show 0 + 1 * a.val = a.val; omega) | ⟨1, _⟩ => (show 8 * l.val + 1 * b.val = 8 * l.val + b.val; omega) | ⟨2, _⟩ => (show 0 + 1 * j.val = j.val; omega)
  · show 16 * ((8 * l.val + b.val) % 8) + (8 * l.val + b.val) / 8 = 16 * b.val + l.val
    omega

/-- A position's shift at an entry. -/
theorem shiftAt_at (l : Fin 32) (j : Fin 256) : shiftAt arg2 harg2 x1 l (ix2 0 j) = x1 (ix2 l j) := by
  unfold shiftAt
  refine (congrFun (harg2.read_unread (Val := Elt Ideal) x1) _).trans (congrArg x1 ?_)
  funext d
  apply Fin.ext
  match d with | ⟨0, _⟩ => (show l.val + 1 * 0 = l.val; omega) | ⟨1, _⟩ => (show 0 + 1 * j.val = j.val; omega)

/-- A position's weights at an entry. -/
theorem weightAt_at (l : Fin 16) (j : Fin 256) (q : Fin 512) : weightAt arg3 harg3 x2 l (ix3 0 j q) = x2 (ix3 l j q) := by
  unfold weightAt
  refine (congrFun (harg3.read_unread (Val := Elt Ideal) x2) _).trans (congrArg x2 ?_)
  funext d
  apply Fin.ext
  match d with | ⟨0, _⟩ => (show l.val + 1 * 0 = l.val; omega) | ⟨1, _⟩ => (show 0 + 1 * j.val = j.val; omega) | ⟨2, _⟩ => (show 0 + 1 * q.val = q.val; omega)

/-- One position's term, at an entry. -/
theorem term_at (x : Vec Ideal S32x8x256 .f32) (p : Vec Ideal S1x256 .f32) (w : Vec Ideal S1x256x512 .bf16) (a : Fin 32) (b : Fin 8) (q : Fin 512) :
    term x p w (ix2 ⟨8 * a.val + b.val, by omega⟩ q) = ∑ j : Fin 256, ((x (ix3 a b j) : EReal) + p (ix2 0 j)) * w (ix3 0 j q) := by
  have e : ∀ j : Fin 256, (shapeCast S256x256 x shapeCasts_S32x8x256_S256x256 : Vec Ideal S256x256 .f32) (ix2 ⟨8 * a.val + b.val, by omega⟩ j) = x (ix3 a b j) := fun j => by
    refine shapeCast_apply x _ _ _ ?_
    rw [Shape.rowMajor_val_three, Shape.rowMajor_val_two]
    show (a.val * 8 + b.val) * 256 + j.val = (8 * a.val + b.val) * 256 + j.val
    omega
  unfold term
  generalize (shapeCast S256x256 x shapeCasts_S32x8x256_S256x256 : Vec Ideal S256x256 .f32) = X at e ⊢
  simp only [← e]
  pointwise []

/-- The sum over all positions, at an entry. -/
theorem acc_at (x : Fin 16 → Vec Ideal S32x8x256 .f32) (p : Fin 16 → Vec Ideal S1x256 .f32) (w : Fin 16 → Vec Ideal S1x256x512 .bf16) (a : Fin 32) (b : Fin 8) (q : Fin 512) :
    acc x p w 16 (Nat.le_refl _) (ix2 ⟨8 * a.val + b.val, by omega⟩ q) = ∑ l : Fin 16, ∑ j : Fin 256, ((x l (ix3 a b j) : EReal) + p l (ix2 0 j)) * w l (ix3 0 j q) := by
  have h : ∀ n (hn : n ≤ 16), acc x p w n hn (ix2 ⟨8 * a.val + b.val, by omega⟩ q)
      = ∑ l : Fin n, ∑ j : Fin 256, ((x ⟨l.val, by omega⟩ (ix3 a b j) : EReal) + p ⟨l.val, by omega⟩ (ix2 0 j)) * w ⟨l.val, by omega⟩ (ix3 0 j q) := by
    intro n
    induction n with
    | zero => intro hn; rw [Fin.sum_univ_zero]; unfold acc; pointwise []
    | succ n ih =>
      intro hn
      rw [Fin.sum_univ_castSucc]
      exact congrArg₂ (· + ·) (ih (Nat.le_of_succ_le hn)) (term_at _ _ _ a b q)
  exact h 16 _

end

end Cert.Kernel15Ideal.Cmp

end
-- ==== Proof.CmpHost.lean ====
module

public import proofs.«01_k».proof.Proof.CmpPages
public import proofs.«01_k».proof.Proof.Gen.Kernel15Ideal.Frame
public import proofs.«01_k».proof.Proof.Gen.Reference15Ideal.Run
public import proofs.«01_k».proof.Proof.Linear
public import Idealize.ShloMosaic.Lib.Pipeline.ValueKit
public import Idealize.ShloMosaic.Lib.WritesUnit

@[expose] public section

/-! The compressed blocks' call: the array that it leaves, and its operands on the host. -/

set_option maxRecDepth 65536

noncomputable section

open Idealize.ShloMosaic Idealize.ShloMosaic.TcCoe Idealize.SL.Sem
open Idealize.ShloMosaic.Pipeline (Dat)

namespace Cert.Kernel15Ideal.Cmp

open Cert.Kernel15Ideal Cert.Kernel15Ideal.Gen

variable (m : (ℓ : Loc nD τ sig) → Buf (Elt Ideal) ℓ) (c : Dev nD)

/-- Point `t` takes the `t`-th run of 32 pages, their first 256 rows, and all of the shifts and weights. -/
theorem index_facts : ∀ t : Fin cfg0.N, win0_0.index t = ![t.val, 0, 0] ∧ win0_1.index t = ![0, 0] ∧ win0_2.index t = ![0, 0, 0] ∧ win0_3.index t = ![0, 0, 0] ∧ win0_4.index t = ![t.val, 0] :=
  (by decide +kernel : ∀ t : Fin grid0.N, _)

/-- The products of a run of 16 rows: row `8 p + b` of the result is the run `b` of page `p`. -/
def part (X : Vec Ideal S2560x1024x128 .f32) (P : Vec Ideal S32x256 .f32) (W : Vec Ideal S16x256x512 .bf16) (o : Fin 2) (R : Fin 20480) (q : Fin 512) : EReal :=
  ∑ l : Fin 16, ∑ j : Fin 256, ((X (ix3 ⟨R.val / 8, by omega⟩ ⟨j.val, by omega⟩ ⟨16 * (R.val % 8) + l.val, by omega⟩) : EReal) + P (ix2 ⟨16 * o.val + l.val, by omega⟩ j)) * W (ix3 l j q)

/-- The array after the call. -/
def called : Vec Ideal S20480x1024 .f32 := fun i =>
  if h : (i 1).val < 512 then part (V m c main_v23) (V m c main_v21) (V m c main_v17) 0 (i 0) ⟨(i 1).val, h⟩
  else part (V m c main_v23) (V m c main_v21) (V m c main_v18) 1 (i 0) ⟨(i 1).val - 512, by have := (i 1).isLt; change (i 1).val < 1024 at this; omega⟩

/-- A point's pages at an entry. -/
theorem in0_at (t : Fin cfg0.N) (a : Fin 32) (j : Fin 256) (s : Fin 128) (p : Fin 2560) (hp : p.val = 32 * t.val + a.val) :
    iblk m c 0 t (ix3 a j s) = V m c main_v23 (ix3 p ⟨j.val, by omega⟩ s) := by
  have h := index_facts t
  blk_ext [iblk, V, h]

/-- A point's shifts are all of them. -/
theorem in1_at (t : Fin cfg0.N) (l : Fin 32) (j : Fin 256) : iblk m c 1 t (ix2 l j) = V m c main_v21 (ix2 l j) := by
  have h := index_facts t
  blk_ext [iblk, V, h]

/-- A point's first weights are all of them. -/
theorem in2_at (t : Fin cfg0.N) (l : Fin 16) (j : Fin 256) (q : Fin 512) : iblk m c 2 t (ix3 l j q) = V m c main_v17 (ix3 l j q) := by
  have h := index_facts t
  blk_ext [iblk, V, h]

/-- And so are the second. -/
theorem in3_at (t : Fin cfg0.N) (l : Fin 16) (j : Fin 256) (q : Fin 512) : iblk m c 3 t (ix3 l j q) = V m c main_v18 (ix3 l j q) := by
  have h := index_facts t
  blk_ext [iblk, V, h]

/-- A point's block, at an entry. -/
theorem block_at (t : Fin cfg0.N) (a : Fin 32) (b : Fin 8) (q : Fin 1024) (R : Fin 20480) (hR : R.val = 256 * t.val + (8 * a.val + b.val)) :
    outsAt0 m c t (ix2 ⟨8 * a.val + b.val, by omega⟩ q) = called m c (ix2 R q) := by
  unfold outsAt0 out0_A_4
  rw [run_pieces]
  have hX : ∀ (l : Fin 16) (j : Fin 256), iblk m c 0 t (ix3 a j ⟨16 * b.val + l.val, by omega⟩) = V m c main_v23 (ix3 ⟨R.val / 8, by omega⟩ ⟨j.val, by omega⟩ ⟨16 * (R.val % 8) + l.val, by omega⟩) := fun l j => by
    refine (in0_at m c t a j _ ⟨R.val / 8, by omega⟩ (by show R.val / 8 = _; omega)).trans ?_
    exact congrArg (fun z => V m c main_v23 (ix3 _ _ z)) (Fin.ext (by show 16 * b.val + l.val = 16 * (R.val % 8) + l.val; omega))
  by_cases hq : q.val < 512
  · refine (View.read_writes_cons_unit_of_not_mem VO0_4 _ inb_S256x1024_S256x512_0_512 _ _ _ rfl 1 (Or.inl hq)).trans ?_
    refine (View.read_writes_cons_unit_of_mem VO0_4 _ inb_S256x1024_S256x512_0_0 _ _ _ (ix2 ⟨8 * a.val + b.val, by omega⟩ ⟨q.val, hq⟩) rfl fun d => ?_).trans ?_
    · match d with | ⟨0, _⟩ => (show 8 * a.val + b.val = 0 + (8 * a.val + b.val); omega) | ⟨1, _⟩ => (show q.val = 0 + q.val; omega)
    · refine (acc_at _ _ _ a b ⟨q.val, hq⟩).trans (Eq.trans ?_ (dif_pos hq).symm)
      unfold part
      refine Finset.sum_congr rfl fun l _ => Finset.sum_congr rfl fun j _ => ?_
      rw [rowsAt_at, shiftAt_at, weightAt_at, hX, in1_at, in2_at]
      have e1 : V m c main_v21 (ix2 ⟨l.val, by omega⟩ j) = V m c main_v21 (ix2 ⟨16 * (0 : Fin 2).val + l.val, by simp; omega⟩ j) :=
        congrArg (fun z => V m c main_v21 (ix2 z j)) (Fin.ext (by show l.val = 16 * 0 + l.val; omega))
      rw [e1]; rfl
  · refine (View.read_writes_cons_unit_of_mem VO0_4 _ inb_S256x1024_S256x512_0_512 _ _ _ (ix2 ⟨8 * a.val + b.val, by omega⟩ ⟨q.val - 512, by omega⟩) rfl fun d => ?_).trans ?_
    · match d with | ⟨0, _⟩ => (show 8 * a.val + b.val = 0 + (8 * a.val + b.val); omega) | ⟨1, _⟩ => (show q.val = 512 + (q.val - 512); omega)
    · refine (acc_at _ _ _ a b ⟨q.val - 512, by omega⟩).trans (Eq.trans ?_ (dif_neg hq).symm)
      unfold part
      refine Finset.sum_congr rfl fun l _ => Finset.sum_congr rfl fun j _ => ?_
      rw [rowsAt_at, shiftAt_at, weightAt_at, hX, in1_at, in3_at]
      have e1 : V m c main_v21 (ix2 ⟨16 + l.val, by omega⟩ j) = V m c main_v21 (ix2 ⟨16 * (1 : Fin 2).val + l.val, by simp; omega⟩ j) :=
        congrArg (fun z => V m c main_v21 (ix2 z j)) (Fin.ext (by show 16 + l.val = 16 * 1 + l.val; omega))
      rw [e1]; rfl

/-- The array after the call: every block holds its pages' rows. -/
theorem final : (dats m 0 c).arrAt 4 cfg0.N = called m c := by
  refine (dats m 0 c).arrAt_eq_of_covers 4 _ (by decide +kernel) fun t hf y => ?_
  have h := index_facts t
  have hN := lt_of_lt_of_eq t.isLt N_0
  obtain ⟨r, q, rfl⟩ : ∃ (r : Fin 256) (q : Fin 1024), y = ix2 r q :=
    ⟨y 0, y 1, by funext a; match a with | ⟨0, _⟩ => rfl | ⟨1, _⟩ => rfl⟩
  obtain ⟨a, b, rfl⟩ : ∃ (a : Fin 32) (b : Fin 8), r = ⟨8 * a.val + b.val, by omega⟩ :=
    ⟨⟨r.val / 8, by omega⟩, ⟨r.val % 8, by omega⟩, Fin.ext (by show r.val = 8 * (r.val / 8) + r.val % 8; omega)⟩
  blk_simp
  rw [after0_4]
  have hi : ((View.whole main_v24).slice (win0_4.rect t)).emb (ix2 ⟨8 * a.val + b.val, by omega⟩ q) = (ix2 ⟨256 * t.val + (8 * a.val + b.val), by omega⟩ q : S20480x1024.Idx) := by
    blk_ext [h]
  exact (block_at m c t a b q ⟨256 * t.val + (8 * a.val + b.val), by omega⟩ rfl).trans (congrArg (called m c) hi).symm

/-! ## The operands on the host -/

/-- The pages with their places last. -/
theorem host_pages : V m c main_v23 = (shapeCast S2560x1024x128 (transpose S2560x4x4x64x128 [0, 2, 3, 4, 1] (m ((c : Thread nD τ).loc main_arg0)) transposes_S2560x128x4x4x64_S2560x4x4x64x128_0_2_3_4_1 : Vec Ideal S2560x4x4x64x128 .f32) shapeCasts_S2560x4x4x64x128_S2560x1024x128 : Vec Ideal S2560x1024x128 .f32) := by
  unfold V
  simp only [List.flatten_cons, List.flatten_nil, List.append_nil, List.cons_append, List.nil_append, hostOps0]
  after_results_simp
  rfl

/-- The shifts, once for every group. -/
theorem host_shifts : V m c main_v21 = (shapeCast S32x256 (broadcastInDim S1x32x4x64 ![0, 1, 2, 3] bcast_S1x32x1x64_S1x32x4x64_0_1_2_3
      (shapeCast S1x32x1x64 (shapeCast S32x64 (extractStridedSlice S1x32x64 ![0, 0, 0] (m ((c : Thread nD τ).loc main_arg2)) slices_S2x32x64_S1x32x64_0_0_0 : Vec Ideal S1x32x64 .f32) shapeCasts_S1x32x64_S32x64 : Vec Ideal S32x64 .f32) shapeCasts_S32x64_S1x32x1x64 : Vec Ideal S1x32x1x64 .f32) : Vec Ideal S1x32x4x64 .f32) shapeCasts_S1x32x4x64_S32x256 : Vec Ideal S32x256 .f32) := by
  unfold V
  simp only [List.flatten_cons, List.flatten_nil, List.append_nil, List.cons_append, List.nil_append, hostOps0]
  after_results_simp
  rfl

/-- The table of ones on the diagonal. -/
abbrev eye : Vec Ideal S4x4 .f32 := uitofp (F := Ideal) .f32 (cmpi .eq (addi (iotaInDim S4x4 32 0) (broadcastInDim S4x4 ![] bcast_S_S4x4 (constantI S_ 32 0#32))) (iotaInDim S4x4 32 1))

/-- The weights with every group's block on a diagonal. -/
abbrev blocks (w : Vec Ideal S2x32x64x128 .f32) : Vec Ideal S32x4x64x4x128 .f32 :=
  mulf (F := Ideal) (broadcastInDim S32x4x64x4x128 ![0, 1, 2, 3, 4] bcast_S1x4x1x4x1_S32x4x64x4x128_0_1_2_3_4 (broadcastInDim S1x4x1x4x1 ![1, 3] bcast_S4x4_S1x4x1x4x1_1_3 eye : Vec Ideal S1x4x1x4x1 .f32) : FVec Ideal S32x4x64x4x128 .f32)
    (broadcastInDim S32x4x64x4x128 ![0, 1, 2, 3, 4] bcast_S32x1x64x1x128_S32x4x64x4x128_0_1_2_3_4 (broadcastInDim S32x1x64x1x128 ![0, 2, 4] bcast_S32x64x128_S32x1x64x1x128_0_2_4
      (shapeCast S32x64x128 (extractStridedSlice S1x32x64x128 ![0, 0, 0, 0] w slices_S2x32x64x128_S1x32x64x128_0_0_0_0 : Vec Ideal S1x32x64x128 .f32) shapeCasts_S1x32x64x128_S32x64x128 : Vec Ideal S32x64x128 .f32) : Vec Ideal S32x1x64x1x128 .f32))

/-- Those, a group's lanes in one axis. -/
abbrev big (w : Vec Ideal S2x32x64x128 .f32) : Vec Ideal S32x256x512 .bf16 :=
  truncf (F := Ideal) .bf16 (shapeCast S32x256x512 (blocks w) shapeCasts_S32x4x64x4x128_S32x256x512 : Vec Ideal S32x256x512 .f32) bitsLt_bf16_f32

/-- The weights of a block's first 16 rows. -/
theorem host_first : V m c main_v17 = extractStridedSlice S16x256x512 ![0, 0, 0] (big (m ((c : Thread nD τ).loc main_arg1))) slices_S32x256x512_S16x256x512_0_0_0 := by
  unfold V
  simp only [List.flatten_cons, List.flatten_nil, List.append_nil, List.cons_append, List.nil_append, hostOps0]
  after_results_simp
  rfl

/-- The weights of a block's last 16 rows. -/
theorem host_last : V m c main_v18 = extractStridedSlice S16x256x512 ![16, 0, 0] (big (m ((c : Thread nD τ).loc main_arg1))) slices_S32x256x512_S16x256x512_16_0_0 := by
  unfold V
  simp only [List.flatten_cons, List.flatten_nil, List.append_nil, List.cons_append, List.nil_append, hostOps0]
  after_results_simp
  rfl

/-- The table at an entry. -/
theorem eye_at (g h : Fin 4) : eye (ix2 g h) = if g = h then (1 : EReal) else 0 := by
  pointwise [eye]
  fin_cases g <;> fin_cases h <;> simp [FloatOps.uitofp, IntOp.cmpi, IntOp.addi]

/-- A weight of the table of blocks. -/
theorem big_at (w : Vec Ideal S2x32x64x128 .f32) (l : Fin 32) (g h : Fin 4) (d : Fin 64) (e : Fin 128) :
    big w (ix3 l ⟨64 * g.val + d.val, by omega⟩ ⟨128 * h.val + e.val, by omega⟩) = (if g = h then (1 : EReal) else 0) * w (ix4 0 l d e) := by
  have h1 : big w (ix3 l ⟨64 * g.val + d.val, by omega⟩ ⟨128 * h.val + e.val, by omega⟩) = blocks w (ix5 l g d h e) := by
    refine shapeCast_apply (blocks w) _ _ _ ?_
    rw [Shape.rowMajor_val_three, Shape.rowMajor_val_five]
    simp
    omega
  rw [h1, ← eye_at]
  have h2 : ∀ (y : Vec Ideal S1x32x64x128 .f32), (shapeCast S32x64x128 y shapeCasts_S1x32x64x128_S32x64x128 : Vec Ideal S32x64x128 .f32) (ix3 l d e) = y (ix4 0 l d e) := fun y => by
    refine shapeCast_apply y _ _ _ ?_
    rw [Shape.rowMajor_val_three, Shape.rowMajor_val_four]
    simp
  unfold blocks
  generalize eye = Y
  have h3 := h2 (extractStridedSlice S1x32x64x128 ![0, 0, 0, 0] w slices_S2x32x64x128_S1x32x64x128_0_0_0_0)
  generalize (shapeCast S32x64x128 _ shapeCasts_S1x32x64x128_S32x64x128 : Vec Ideal S32x64x128 .f32) = Z at h3 ⊢
  have h4 : (extractStridedSlice S1x32x64x128 ![0, 0, 0, 0] w slices_S2x32x64x128_S1x32x64x128_0_0_0_0 : Vec Ideal S1x32x64x128 .f32) (ix4 0 l d e) = w (ix4 0 l d e) := by
    pointwise []
  rw [← h4, ← h3]
  pointwise []

/-- The pages at an entry: the keys of group `g`. -/
theorem pages_host_at (x : Vec Ideal S2560x128x4x4x64 .f32) (p : Fin 2560) (g : Fin 4) (d : Fin 64) (s : Fin 128) :
    (shapeCast S2560x1024x128 (transpose S2560x4x4x64x128 [0, 2, 3, 4, 1] x transposes_S2560x128x4x4x64_S2560x4x4x64x128_0_2_3_4_1 : Vec Ideal S2560x4x4x64x128 .f32) shapeCasts_S2560x4x4x64x128_S2560x1024x128 : Vec Ideal S2560x1024x128 .f32)
        (ix3 p ⟨64 * g.val + d.val, by omega⟩ s) = x (ix5 p s 0 g d) := by
  refine Eq.trans (shapeCast_apply _ _ _ (ix5 p 0 g d s) ?_) ?_
  · rw [Shape.rowMajor_val_three, Shape.rowMajor_val_five]
    simp
    omega
  · pointwise []

/-- The shifts at an entry. -/
theorem shifts_host_at (x : Vec Ideal S2x32x64 .f32) (l : Fin 32) (g : Fin 4) (d : Fin 64) :
    (shapeCast S32x256 (broadcastInDim S1x32x4x64 ![0, 1, 2, 3] bcast_S1x32x1x64_S1x32x4x64_0_1_2_3
      (shapeCast S1x32x1x64 (shapeCast S32x64 (extractStridedSlice S1x32x64 ![0, 0, 0] x slices_S2x32x64_S1x32x64_0_0_0 : Vec Ideal S1x32x64 .f32) shapeCasts_S1x32x64_S32x64 : Vec Ideal S32x64 .f32) shapeCasts_S32x64_S1x32x1x64 : Vec Ideal S1x32x1x64 .f32) : Vec Ideal S1x32x4x64 .f32) shapeCasts_S1x32x4x64_S32x256 : Vec Ideal S32x256 .f32)
        (ix2 l ⟨64 * g.val + d.val, by omega⟩) = x (ix3 0 l d) := by
  refine Eq.trans (shapeCast_apply _ _ _ (ix4 0 l g d) ?_) ?_
  · rw [Shape.rowMajor_val_two, Shape.rowMajor_val_four]
    simp
    omega
  have h1 : ∀ y : Vec Ideal S32x64 .f32, (shapeCast S1x32x1x64 y shapeCasts_S32x64_S1x32x1x64 : Vec Ideal S1x32x1x64 .f32) (ix4 0 l 0 d) = y (ix2 l d) := fun y => by
    refine shapeCast_apply y _ _ _ ?_
    rw [Shape.rowMajor_val_two, Shape.rowMajor_val_four]
    simp
  have h2 : ∀ y : Vec Ideal S1x32x64 .f32, (shapeCast S32x64 y shapeCasts_S1x32x64_S32x64 : Vec Ideal S32x64 .f32) (ix2 l d) = y (ix3 0 l d) := fun y => by
    refine shapeCast_apply y _ _ _ ?_
    rw [Shape.rowMajor_val_two, Shape.rowMajor_val_three]
    simp
  have h3 : (extractStridedSlice S1x32x64 ![0, 0, 0] x slices_S2x32x64_S1x32x64_0_0_0 : Vec Ideal S1x32x64 .f32) (ix3 0 l d) = x (ix3 0 l d) := by
    pointwise []
  refine Eq.trans ?_ ((h1 _).trans ((h2 _).trans h3))
  generalize (shapeCast S1x32x1x64 _ shapeCasts_S32x64_S1x32x1x64 : Vec Ideal S1x32x1x64 .f32) = Z
  pointwise []

end Cert.Kernel15Ideal.Cmp

end
-- ==== Proof.CmpSpec.lean ====
module

public import proofs.«01_k».proof.Proof.Linear

@[expose] public section

/-! What the compressed blocks' call gives, at an entry: one description for the keys and for the values. -/

noncomputable section

open Idealize.ShloMosaic Idealize.ShloMosaic.TcCoe

namespace Cert.Cmp

/-- What a run of 16 rows of one group's rows adds to a block's hidden row: every place's row, the place's shift added, times the place's
weights. The run is `b` of page `p`, and `o` says whether it begins the block or ends it; the rows are the part `t` of the cache, with the shifts and weights `k`. -/
def added (x : (⟨5, ![2560, 128, 4, 4, 64]⟩ : Shape).Idx → EReal) (w : (⟨4, ![2, 32, 64, 128]⟩ : Shape).Idx → EReal) (s : (⟨3, ![2, 32, 64]⟩ : Shape).Idx → EReal)
    (t : Fin 4) (k : Fin 2) (p : Fin 2560) (b : Fin 8) (o : Fin 2) (g : Fin 4) (e : Fin 128) : EReal :=
  ∑ l : Fin 16, ∑ d : Fin 64, (x (ix5 p ⟨16 * b.val + l.val, by omega⟩ t g d) + s (ix3 k ⟨16 * o.val + l.val, by omega⟩ d)) * w (ix4 k ⟨16 * o.val + l.val, by omega⟩ d e)

/-- A sum over 256 lanes is one over 4 groups of 64. -/
theorem sum_groups (f : Fin 256 → EReal) : ∑ j : Fin 256, f j = ∑ g : Fin 4, ∑ d : Fin 64, f ⟨64 * g.val + d.val, by omega⟩ := by
  rw [← Fintype.sum_prod_type', ← (finProdFinEquiv (m := 4) (n := 64)).sum_comp]
  refine Finset.sum_congr rfl fun x _ => congrArg f (Fin.ext ?_)
  show x.2.val + 64 * x.1.val = 64 * x.1.val + x.2.val
  omega

end Cert.Cmp

end
-- ==== Proof.CmpAgree.lean ====
module

public import proofs.«01_k».proof.Proof.CmpHost
public import proofs.«01_k».proof.Proof.CmpSpec

@[expose] public section

/-! The compressed blocks' call: its result is the reference's. -/

set_option maxRecDepth 16384

noncomputable section

open Idealize.ShloMosaic Idealize.ShloMosaic.TcCoe Idealize.SL.Sem

namespace Cert.Kernel15Ideal.Cmp

open Cert.Kernel15Ideal Cert.Kernel15Ideal.Gen Cert.Cmp

variable (m : (ℓ : Loc nD τ sig) → Buf (Elt Ideal) ℓ) (c : Dev nD)

/-! The arguments. -/

abbrev argX : Vec Ideal S2560x128x4x4x64 .f32 := m ((c : Thread nD τ).loc main_arg0)
abbrev argW : Vec Ideal S2x32x64x128 .f32 := m ((c : Thread nD τ).loc main_arg1)
abbrev argP : Vec Ideal S2x32x64 .f32 := m ((c : Thread nD τ).loc main_arg2)

/-- A half's weights at an entry. -/
theorem first_at (l : Fin 16) (j : Fin 256) (q : Fin 512) : V m c main_v17 (ix3 l j q) = big (argW m c) (ix3 ⟨16 * (0 : Fin 2).val + l.val, by simp; omega⟩ j q) := by
  rw [host_first]
  refine extractStridedSlice_apply _ _ _ _ _ fun a => ?_
  match a with
  | ⟨0, _⟩ => simp
  | ⟨1, _⟩ => simp
  | ⟨2, _⟩ => simp

/-- The other half's. -/
theorem last_at (l : Fin 16) (j : Fin 256) (q : Fin 512) : V m c main_v18 (ix3 l j q) = big (argW m c) (ix3 ⟨16 * (1 : Fin 2).val + l.val, by simp; omega⟩ j q) := by
  rw [host_last]
  refine extractStridedSlice_apply _ _ _ _ _ fun a => ?_
  match a with
  | ⟨0, _⟩ => simp
  | ⟨1, _⟩ => simp
  | ⟨2, _⟩ => simp

/-- A half's products: the weights off the diagonal are zero. -/
theorem part_at (W : Vec Ideal S16x256x512 .bf16) (o : Fin 2) (hW : ∀ (l : Fin 16) (j : Fin 256) (q : Fin 512), W (ix3 l j q) = big (argW m c) (ix3 ⟨16 * o.val + l.val, by omega⟩ j q))
    (p : Fin 2560) (b : Fin 8) (g : Fin 4) (e : Fin 128) :
    part (V m c main_v23) (V m c main_v21) W o ⟨8 * p.val + b.val, by omega⟩ ⟨128 * g.val + e.val, by omega⟩ = added (argX m c) (argW m c) (argP m c) 0 0 p b o g e := by
  unfold part added
  refine Finset.sum_congr rfl fun l _ => ?_
  rw [sum_groups, Finset.sum_eq_single g]
  · refine Finset.sum_congr rfl fun d _ => ?_
    rw [hW, big_at, if_pos rfl, one_mul, host_pages, host_shifts, shifts_host_at]
    refine congrArg (fun z : EReal => (z + _) * _) (Eq.trans ?_ (pages_host_at (argX m c) p g d ⟨16 * b.val + l.val, by omega⟩))
    refine congrArg _ ?_
    funext a
    apply Fin.ext
    match a with
    | ⟨0, _⟩ => (show (8 * p.val + b.val) / 8 = p.val; omega)
    | ⟨1, _⟩ => rfl
    | ⟨2, _⟩ => (show 16 * ((8 * p.val + b.val) % 8) + l.val = 16 * b.val + l.val; omega)
  · intro g' _ hg
    refine Finset.sum_eq_zero fun d _ => ?_
    rw [hW, big_at, if_neg hg, zero_mul, mul_zero]
  · intro hg; exact absurd (Finset.mem_univ _) hg

/-- The result at an entry. -/
theorem called_at (p : Fin 2560) (b : Fin 8) (o : Fin 2) (g : Fin 4) (e : Fin 128) :
    called m c (ix2 ⟨8 * p.val + b.val, by omega⟩ ⟨512 * o.val + (128 * g.val + e.val), by omega⟩) = added (argX m c) (argW m c) (argP m c) 0 0 p b o g e := by
  match o with
  | ⟨0, _⟩ =>
    refine (dif_pos (show 512 * 0 + (128 * g.val + e.val) < 512 by omega)).trans (Eq.trans ?_ (part_at m c (V m c main_v17) 0 (first_at m c) p b g e))
    exact congrArg (part _ _ _ _ _) (Fin.ext (by show 512 * 0 + (128 * g.val + e.val) = 128 * g.val + e.val; omega))
  | ⟨1, _⟩ =>
    refine (dif_neg (show ¬ 512 * 1 + (128 * g.val + e.val) < 512 by omega)).trans (Eq.trans ?_ (part_at m c (V m c main_v18) 1 (last_at m c) p b g e))
    exact congrArg (part _ _ _ _ _) (Fin.ext (by show 512 * 1 + (128 * g.val + e.val) - 512 = 128 * g.val + e.val; omega))

/-- The run: the result is the call's array, and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v24) = called m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 4).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel15Ideal.Cmp

namespace Cert.Reference15Ideal.Cmp

open Cert.Reference15Ideal Cert.Reference15Ideal.Gen Cert.Cmp

/-- The rows of the keys, 16 to a run. -/
abbrev rows (x : Vec Ideal S2560x128x4x4x64 .f32) : Vec Ideal S20480x16x4x64 .f32 :=
  shapeCast S20480x16x4x64 (shapeCast S2560x128x4x64 (extractStridedSlice S2560x128x1x4x64 ![0, 0, 0, 0, 0] x slices_S2560x128x4x4x64_S2560x128x1x4x64_0_0_0_0_0 : Vec Ideal S2560x128x1x4x64 .f32)
    shapeCasts_S2560x128x1x4x64_S2560x128x4x64 : Vec Ideal S2560x128x4x64 .f32) shapeCasts_S2560x128x4x64_S20480x16x4x64

/-- The keys' shifts. -/
abbrev shifts (s : Vec Ideal S2x32x64 .f32) : Vec Ideal S32x64 .f32 :=
  shapeCast S32x64 (extractStridedSlice S1x32x64 ![0, 0, 0] s slices_S2x32x64_S1x32x64_0_0_0 : Vec Ideal S1x32x64 .f32) shapeCasts_S1x32x64_S32x64

/-- The keys' weights. -/
abbrev weights (w : Vec Ideal S2x32x64x128 .f32) : Vec Ideal S32x64x128 .f32 :=
  shapeCast S32x64x128 (extractStridedSlice S1x32x64x128 ![0, 0, 0, 0] w slices_S2x32x64x128_S1x32x64x128_0_0_0_0 : Vec Ideal S1x32x64x128 .f32) shapeCasts_S1x32x64x128_S32x64x128

/-- The product of all runs with one half of the shifts and weights. -/
abbrev half (r : Vec Ideal S20480x16x4x64 .f32) (s : Vec Ideal S16x64 .f32) (w : Vec Ideal S16x64x128 .f32) : Vec Ideal S20480x4x128 .f32 :=
  Host.dotGeneral (F := Ideal) (φ₁ := .f32) (φ₂ := .f32) dot_S20480x16x4x64_S16x64x128_S20480x4x128_31_10_02_2_n_n none
    (addf (F := Ideal) (φ := .f32) r (broadcastInDim S20480x16x4x64 ![0, 1, 2, 3] bcast_S1x16x1x64_S20480x16x4x64_0_1_2_3 (broadcastInDim S1x16x1x64 ![1, 3] bcast_S16x64_S1x16x1x64_1_3 s : Vec Ideal S1x16x1x64 .f32))) w

/-- Such a product at an entry. -/
theorem half_at (r : Vec Ideal S20480x16x4x64 .f32) (s : Vec Ideal S16x64 .f32) (w : Vec Ideal S16x64x128 .f32) (n : Fin 20480) (g : Fin 4) (e : Fin 128) :
    half r s w (ix3 n g e) = ∑ l : Fin 16, ∑ d : Fin 64, ((r (ix4 n l g d) : EReal) + s (ix2 l d)) * w (ix3 l d e) := by
  pointwise [half]
  exact Finset.sum_comm

/-- The two halves side by side, a run's groups in one row. -/
abbrev joined (y z : Vec Ideal S20480x4x128 .f32) : Vec Ideal S20480x1024 .f32 :=
  shapeCast S20480x1024 (concatenate S20480x2x4x128 1 [⟨S20480x1x4x128, (broadcastInDim S20480x1x4x128 ![0, 2, 3] bcast_S20480x4x128_S20480x1x4x128_0_2_3 y : Vec Ideal S20480x1x4x128 .f32)⟩,
      ⟨S20480x1x4x128, (broadcastInDim S20480x1x4x128 ![0, 2, 3] bcast_S20480x4x128_S20480x1x4x128_0_2_3 z : Vec Ideal S20480x1x4x128 .f32)⟩] concatenates_S20480x1x4x128_S20480x1x4x128_S20480x2x4x128_d1 : Vec Ideal S20480x2x4x128 .f32)
    shapeCasts_S20480x2x4x128_S20480x1024

/-- Those at an entry. -/
theorem joined_at (y z : Vec Ideal S20480x4x128 .f32) (n : Fin 20480) (o : Fin 2) (g : Fin 4) (e : Fin 128) :
    joined y z (ix2 n ⟨512 * o.val + (128 * g.val + e.val), by omega⟩) = if o = 0 then y (ix3 n g e) else z (ix3 n g e) := by
  refine Eq.trans (shapeCast_apply _ _ _ (ix4 n o g e) ?_) ?_
  · rw [Shape.rowMajor_val_two, Shape.rowMajor_val_four]
    simp
    omega
  · fin_cases o
    · pointwise []
    · pointwise []

/-- The rows at an entry. -/
theorem rows_at (x : Vec Ideal S2560x128x4x4x64 .f32) (p : Fin 2560) (b : Fin 8) (l : Fin 16) (g : Fin 4) (d : Fin 64) :
    rows x (ix4 ⟨8 * p.val + b.val, by omega⟩ l g d) = x (ix5 p ⟨16 * b.val + l.val, by omega⟩ 0 g d) := by
  refine Eq.trans (shapeCast_apply _ _ _ (ix4 p ⟨16 * b.val + l.val, by omega⟩ g d) ?_) (Eq.trans (shapeCast_apply _ _ _ (ix5 p ⟨16 * b.val + l.val, by omega⟩ 0 g d) ?_) ?_)
  · rw [Shape.rowMajor_val_four, Shape.rowMajor_val_four]
    simp
    omega
  · rw [Shape.rowMajor_val_four, Shape.rowMajor_val_five]
    simp
  · refine extractStridedSlice_apply _ _ _ _ _ fun a => ?_
    match a with
    | ⟨0, _⟩ => simp
    | ⟨1, _⟩ => simp
    | ⟨2, _⟩ => simp
    | ⟨3, _⟩ => simp
    | ⟨4, _⟩ => simp

/-- The shifts at an entry. -/
theorem shifts_at (s : Vec Ideal S2x32x64 .f32) (l : Fin 32) (d : Fin 64) : shifts s (ix2 l d) = s (ix3 0 l d) := by
  refine Eq.trans (shapeCast_apply _ _ _ (ix3 0 l d) ?_) ?_
  · rw [Shape.rowMajor_val_two, Shape.rowMajor_val_three]
    simp
  · pointwise []

/-- The weights at an entry. -/
theorem weights_at (w : Vec Ideal S2x32x64x128 .f32) (l : Fin 32) (d : Fin 64) (e : Fin 128) : weights w (ix3 l d e) = w (ix4 0 l d e) := by
  refine Eq.trans (shapeCast_apply _ _ _ (ix4 0 l d e) ?_) ?_
  · rw [Shape.rowMajor_val_three, Shape.rowMajor_val_four]
    simp
  · pointwise []

/-- The halves of the shifts. -/
theorem shifts_cut (s : Vec Ideal S32x64 .f32) (l : Fin 16) (d : Fin 64) :
    (extractStridedSlice S16x64 ![0, 0] s slices_S32x64_S16x64_0_0 : Vec Ideal S16x64 .f32) (ix2 l d) = s (ix2 ⟨16 * (0 : Fin 2).val + l.val, by simp; omega⟩ d)
    ∧ (extractStridedSlice S16x64 ![16, 0] s slices_S32x64_S16x64_16_0 : Vec Ideal S16x64 .f32) (ix2 l d) = s (ix2 ⟨16 * (1 : Fin 2).val + l.val, by simp; omega⟩ d) := by
  constructor <;> refine extractStridedSlice_apply _ _ _ _ _ fun a => ?_
  · match a with
    | ⟨0, _⟩ => simp
    | ⟨1, _⟩ => simp
  · match a with
    | ⟨0, _⟩ => simp
    | ⟨1, _⟩ => simp

/-- The halves of the weights. -/
theorem weights_cut (w : Vec Ideal S32x64x128 .f32) (l : Fin 16) (d : Fin 64) (e : Fin 128) :
    (extractStridedSlice S16x64x128 ![0, 0, 0] w slices_S32x64x128_S16x64x128_0_0_0 : Vec Ideal S16x64x128 .f32) (ix3 l d e) = w (ix3 ⟨16 * (0 : Fin 2).val + l.val, by simp; omega⟩ d e)
    ∧ (extractStridedSlice S16x64x128 ![16, 0, 0] w slices_S32x64x128_S16x64x128_16_0_0 : Vec Ideal S16x64x128 .f32) (ix3 l d e) = w (ix3 ⟨16 * (1 : Fin 2).val + l.val, by simp; omega⟩ d e) := by
  constructor <;> refine extractStridedSlice_apply _ _ _ _ _ fun a => ?_
  · match a with
    | ⟨0, _⟩ => simp
    | ⟨1, _⟩ => simp
    | ⟨2, _⟩ => simp
  · match a with
    | ⟨0, _⟩ => simp
    | ⟨1, _⟩ => simp
    | ⟨2, _⟩ => simp

/-- The reference's result. -/
abbrev result (x : Vec Ideal S2560x128x4x4x64 .f32) (w : Vec Ideal S2x32x64x128 .f32) (s : Vec Ideal S2x32x64 .f32) : Vec Ideal S20480x1024 .f32 :=
  joined (half (rows x) (extractStridedSlice S16x64 ![0, 0] (shifts s) slices_S32x64_S16x64_0_0) (extractStridedSlice S16x64x128 ![0, 0, 0] (weights w) slices_S32x64x128_S16x64x128_0_0_0))
    (half (rows x) (extractStridedSlice S16x64 ![16, 0] (shifts s) slices_S32x64_S16x64_16_0) (extractStridedSlice S16x64x128 ![16, 0, 0] (weights w) slices_S32x64x128_S16x64x128_16_0_0))

/-- The reference's result at an entry. -/
theorem result_at (x : Vec Ideal S2560x128x4x4x64 .f32) (w : Vec Ideal S2x32x64x128 .f32) (s : Vec Ideal S2x32x64 .f32) (p : Fin 2560) (b : Fin 8) (o : Fin 2) (g : Fin 4) (e : Fin 128) :
    result x w s (ix2 ⟨8 * p.val + b.val, by omega⟩ ⟨512 * o.val + (128 * g.val + e.val), by omega⟩) = added x w s 0 0 p b o g e := by
  refine (joined_at _ _ _ o g e).trans ?_
  unfold added
  match o with
  | ⟨0, _⟩ =>
    refine (if_pos rfl).trans ((half_at _ _ _ _ g e).trans ?_)
    refine Finset.sum_congr rfl fun l _ => Finset.sum_congr rfl fun d _ => ?_
    rw [rows_at, (shifts_cut _ l d).1, (weights_cut _ l d e).1, shifts_at, weights_at]
    rfl
  | ⟨1, _⟩ =>
    refine (if_neg (fun h => Nat.one_ne_zero (congrArg Fin.val h))).trans ((half_at _ _ _ _ g e).trans ?_)
    refine Finset.sum_congr rfl fun l _ => Finset.sum_congr rfl fun d _ => ?_
    rw [rows_at, (shifts_cut _ l d).2, (weights_cut _ l d e).2, shifts_at, weights_at]
    rfl

end Cert.Reference15Ideal.Cmp

namespace Cert.Cmp

/-- The two programs' results are equal. -/
theorem agree15 : Cert.algebraic_Kernel15Ideal_Reference15Ideal (hKernel15Ideal := Cert.Kernel15Ideal.Gen.facts)
    (hReference15Ideal := Cert.Reference15Ideal.Gen.facts) := by
  intro m ρ m' ρ' _ hag
  refine ⟨fun c => Cert.Kernel15Ideal.Cmp.called m c, Cert.Kernel15Ideal.Cmp.run m ρ, ?_⟩
  refine (θ_run _ _ _).mono (fun r h c => ?_) (Cert.Reference15Ideal.Value.run m' ρ')
  obtain ⟨e0, e1, e2⟩ := hag c
  obtain ⟨h0, hk⟩ := h c
  refine ⟨h0.trans ?_, hk⟩
  rw [e0, e1, e2]
  refine funext fun i => ?_
  obtain ⟨n, q, rfl⟩ : ∃ (n : Fin 20480) (q : Fin 1024), i = ix2 n q :=
    ⟨i 0, i 1, by funext j; match j with | ⟨0, _⟩ => rfl | ⟨1, _⟩ => rfl⟩
  obtain ⟨p, b, rfl⟩ : ∃ (p : Fin 2560) (b : Fin 8), n = ⟨8 * p.val + b.val, by omega⟩ :=
    ⟨⟨n.val / 8, by omega⟩, ⟨n.val % 8, by omega⟩, Fin.ext (by show n.val = 8 * (n.val / 8) + n.val % 8; omega)⟩
  obtain ⟨o, g, e, rfl⟩ : ∃ (o : Fin 2) (g : Fin 4) (e : Fin 128), q = ⟨512 * o.val + (128 * g.val + e.val), by omega⟩ :=
    ⟨⟨q.val / 512, by omega⟩, ⟨q.val / 128 % 4, by omega⟩, ⟨q.val % 128, by omega⟩,
      Fin.ext (by show q.val = 512 * (q.val / 512) + (128 * (q.val / 128 % 4) + q.val % 128); omega)⟩
  exact (Cert.Reference15Ideal.Cmp.result_at _ _ _ p b o g e).trans (Cert.Kernel15Ideal.Cmp.called_at m c p b o g e).symm

end Cert.Cmp

end
-- ==== Proof.CmpValRun.lean ====
module

public import proofs.«01_k».proof.Defs
public import proofs.«01_k».proof.Proof.Gen.Kernel16Ideal.Frame
public import proofs.«01_k».proof.Proof.Gen.Reference16Ideal.Run
public import proofs.«01_k».proof.Proof.Linear
public import Idealize.ShloMosaic.Lib.Pipeline.ValueKit
public import Idealize.ShloMosaic.Lib.WritesUnit

@[expose] public section

/-! The compressed blocks' call for the values over the pages of the cache. A point takes 32 pages, permutes each page's rows so that the rows at one
position of its eight runs lie together, and adds up one product for each of the 16 positions. Here is what a point writes, as such a sum. -/

set_option maxRecDepth 65536

noncomputable section

open Idealize.ShloMosaic Idealize.ShloMosaic.TcCoe Idealize.SL.Sem
open Idealize.ShloMosaic.Pipeline (Dat)

namespace Cert.Kernel16Ideal.Cmp

open Cert.Kernel16Ideal Cert.Kernel16Ideal.Gen

variable (m : (ℓ : Loc nD τ sig) → Buf (Elt Ideal) ℓ) (c : Dev nD)

/-- One position of a block: the rows at it, the position's shift added, times the position's weights. -/
def term (x : Vec Ideal S32x8x256 .f32) (p : Vec Ideal S1x256 .f32) (w : Vec Ideal S1x256x512 .bf16) : FVec Ideal S256x512 .f32 :=
  matmul dot_S256x256_S256x512_S256x512_1_0_0_1_n_n none
    (truncf .bf16 (addf (shapeCast S256x256 x shapeCasts_S32x8x256_S256x256) (broadcastTo S256x256 (shapeCast S1x256 p shapeCasts_S1x256_S1x256) broadcasts_S1x256_S256x256)) bitsLt_bf16_f32)
    (shapeCast S256x512 w shapeCasts_S1x256x512_S256x512 : FVec Ideal S256x512 .bf16) (constant S256x512 .f32 0x00000000#32)

/-- The sum of the first `n` positions, in their order. -/
def acc (x : Fin 16 → Vec Ideal S32x8x256 .f32) (p : Fin 16 → Vec Ideal S1x256 .f32) (w : Fin 16 → Vec Ideal S1x256x512 .bf16) :
    (n : ℕ) → n ≤ 16 → FVec Ideal S256x512 .f32
  | 0, _ => constant S256x512 .f32 0x00000000#32
  | n + 1, h => addf (acc x p w n (Nat.le_of_succ_le h)) (term (x ⟨n, h⟩) (p ⟨n, h⟩) (w ⟨n, h⟩))

/-- The eight rows at a position lie within a page. -/
theorem inb_x (l : Fin 16) : ∀ a, (![0, 8 * l.val, 0] : Fin 3 → ℕ) a + S32x8x256.size a ≤ S32x128x256.size a := by
  have := l.isLt
  intro a; match a with | ⟨0, _⟩ => exact Nat.le_refl _ | ⟨1, _⟩ => (show 8 * l.val + 8 ≤ 128; omega) | ⟨2, _⟩ => exact Nat.le_refl _

/-- A position's shift lies within the shifts. -/
theorem inb_p (l : Fin 32) : ∀ a, (![l.val, 0] : Fin 2 → ℕ) a + S1x256.size a ≤ S32x256.size a := by
  have := l.isLt
  intro a; match a with | ⟨0, _⟩ => (show l.val + 1 ≤ 32; omega) | ⟨1, _⟩ => exact Nat.le_refl _

/-- A position's weights lie within the weights. -/
theorem inb_w (l : Fin 16) : ∀ a, (![l.val, 0, 0] : Fin 3 → ℕ) a + S1x256x512.size a ≤ S16x256x512.size a := by
  have := l.isLt
  intro a; match a with | ⟨0, _⟩ => (show l.val + 1 ≤ 16; omega) | ⟨1, _⟩ => exact Nat.le_refl _ | ⟨2, _⟩ => exact Nat.le_refl _

section
variable (c : Dev nD) (i : grid0.Coords) (arg1 : Memref sig .tc .vmem S32x256x128 .f32) (harg1 : arg1.IsWhole) (arg2 : Memref sig .tc .vmem S32x256 .f32) (harg2 : arg2.IsWhole) (arg3 : Memref sig .tc .vmem S16x256x512 .bf16) (harg3 : arg3.IsWhole)
    (arg4 : Memref sig .tc .vmem S16x256x512 .bf16) (harg4 : arg4.IsWhole) (arg5 : Memref sig .tc .vmem S256x1024 .f32) (harg5 : arg5.IsWhole) (arg6 : Memref sig .tc .vmem S32x128x256 .f32) (harg6 : arg6.IsWhole)
    (x0 : Vec Ideal S32x256x128 .f32) (x1 : Vec Ideal S32x256 .f32) (x2 x3 : Vec Ideal S16x256x512 .bf16)

/-- The pages a point has permuted. -/
def pages : List (View.Piece (Elt Ideal) S32x128x256 .f32) :=
  pb_k0_t1 (F := Ideal) Variants.none c none i arg1 harg1 arg2 harg2 arg3 harg3 arg4 harg4 arg5 harg5 arg6 harg6 kernelRun0_A.sl.v1 k0_pay4 (harg1.unread x0) 32

/-- The rows at a position of every block. -/
def rowsAt (l : Fin 16) : Vec Ideal S32x8x256 .f32 :=
  arg6.view.readCov (pages c i arg1 harg1 arg2 harg2 arg3 harg3 arg4 harg4 arg5 harg5 arg6 harg6 x0)
    (Rect.unit (s := S32x128x256) ![0, 8 * l.val, 0] S32x8x256.size (inb_x l)).toLoadRect

/-- A position's shift. -/
def shiftAt (l : Fin 32) : Vec Ideal S1x256 .f32 :=
  arg2.view.readAt (Elt Ideal) (Rect.unit (s := S32x256) ![l.val, 0] S1x256.size (inb_p l)).toLoadRect (harg2.unread x1)

/-- A position's weights. -/
def weightAt (a : Memref sig .tc .vmem S16x256x512 .bf16) (ha : a.IsWhole) (x : Vec Ideal S16x256x512 .bf16) (l : Fin 16) : Vec Ideal S1x256x512 .bf16 :=
  a.view.readAt (Elt Ideal) (Rect.unit (s := S16x256x512) ![l.val, 0, 0] S1x256x512.size (inb_w l)).toLoadRect (ha.unread x)

set_option maxHeartbeats 4000000 in
/-- What a point stores: the sum over all positions for the second half of the columns, and for the first. -/
theorem run_pieces :
    (kernelRun0_A (F := Ideal) c i arg1 harg1 arg2 harg2 arg3 harg3 arg4 harg4 arg5 harg5 arg6 harg6 x0 x1 x2 x3).1
      = [⟨Rect.unit (s := S256x1024) ![0, 512] S256x512.size inb_S256x1024_S256x512_0_512,
          acc (rowsAt c i arg1 harg1 arg2 harg2 arg3 harg3 arg4 harg4 arg5 harg5 arg6 harg6 x0) (fun l => shiftAt arg2 harg2 x1 ⟨16 + l.val, by omega⟩) (weightAt arg4 harg4 x3) 16 (by omega)⟩,
        ⟨Rect.unit (s := S256x1024) ![0, 0] S256x512.size inb_S256x1024_S256x512_0_0,
          acc (rowsAt c i arg1 harg1 arg2 harg2 arg3 harg3 arg4 harg4 arg5 harg5 arg6 harg6 x0) (fun l => shiftAt arg2 harg2 x1 ⟨l.val, by omega⟩) (weightAt arg3 harg3 x2) 16 (by omega)⟩] := by
  unfold kernelRun0_A
  rfl

end

end Cert.Kernel16Ideal.Cmp

end
-- ==== Proof.CmpValPages.lean ====
module

public import proofs.«01_k».proof.Proof.CmpValRun
public import proofs.«01_k».proof.Proof.Gen.Kernel16Ideal.Frame
public import proofs.«01_k».proof.Proof.Gen.Reference16Ideal.Run
public import proofs.«01_k».proof.Proof.Linear
public import Idealize.ShloMosaic.Lib.Pipeline.ValueKit
public import Idealize.ShloMosaic.Lib.WritesUnit

@[expose] public section

/-! The compressed blocks' call for the values: a point's values at an entry. -/

set_option maxRecDepth 65536

noncomputable section

open Idealize.ShloMosaic Idealize.ShloMosaic.TcCoe Idealize.SL.Sem
open Idealize.ShloMosaic.Pipeline (Dat)

namespace Cert.Kernel16Ideal.Cmp

open Cert.Kernel16Ideal Cert.Kernel16Ideal.Gen

variable (m : (ℓ : Loc nD τ sig) → Buf (Elt Ideal) ℓ) (c : Dev nD)

/-- The place that a row of a permuted page comes from, as the kernel computes it. -/
theorem source : ∀ r : Fin 128, k0_pay4 (ix2 r 0) = BitVec.ofNat 32 (16 * (r.val % 8) + r.val / 8) := by decide +kernel

/-- The permutation's table is one where a row's source is the column, and nowhere else. -/
theorem place (r : Fin 128) (k : Fin 128) :
    (IntOp.cmpi CmpIPredicate.eq (kernelRun0_A.sl.v1 (ix2 r k)) (k0_pay4 (ix2 r k)) = 1#1) ↔ k.val = 16 * (r.val % 8) + r.val / 8 := by
  have h4 : k0_pay4 (ix2 r k) = BitVec.ofNat 32 (16 * (r.val % 8) + r.val / 8) := (show k0_pay4 (ix2 r k) = k0_pay4 (ix2 r 0) from rfl).trans (source r)
  have h1 : kernelRun0_A.sl.v1 (ix2 r k) = BitVec.ofNat 32 k.val := by
    unfold kernelRun0_A.sl.v1
    pointwise []
  rw [h4, h1]
  constructor
  · intro h
    by_contra hne
    have hb : (BitVec.ofNat 32 k.val == BitVec.ofNat 32 (16 * (r.val % 8) + r.val / 8)) = false := by
      rw [beq_eq_false_iff_ne]
      intro e
      have e' := congrArg BitVec.toNat e
      rw [BitVec.toNat_ofNat, BitVec.toNat_ofNat] at e'
      omega
    unfold IntOp.cmpi at h
    simp [hb] at h
  · intro h
    rw [h]
    unfold IntOp.cmpi
    simp

/-- A permuted page at an entry: the product with a table of zeros and ones takes one row. -/
theorem page_at (x : Vec Ideal S1x256x128 .f32) (r : Fin 128) (j : Fin 256) :
    k0_pay5 kernelRun0_A.sl.v1 k0_pay4 x (ix3 0 r j) = x (ix3 0 j ⟨16 * (r.val % 8) + r.val / 8, by omega⟩) := by
  have h : k0_pay5 kernelRun0_A.sl.v1 k0_pay4 x (ix3 0 r j)
      = ∑ k : Fin 128, (if IntOp.cmpi CmpIPredicate.eq (kernelRun0_A.sl.v1 (ix2 r k)) (k0_pay4 (ix2 r k)) = 1#1 then (1 : EReal) else 0) * x (ix3 0 j k) := by
    pointwise [k0_pay5]
    refine Finset.sum_congr rfl fun k _ => ?_
    by_cases hk : IntOp.cmpi CmpIPredicate.eq (kernelRun0_A.sl.v1 (ix2 r k)) (k0_pay4 (ix2 r k)) = 1#1
    · rw [if_pos hk, one_mul, hk]; rfl
    · rw [if_neg hk, zero_mul]; exact if_neg hk
  rw [h, Finset.sum_eq_single (⟨16 * (r.val % 8) + r.val / 8, by omega⟩ : Fin 128)]
  · rw [if_pos ((place _ _).2 rfl), one_mul]
  · intro k _ hk
    rw [if_neg fun e => hk (Fin.ext ((place _ _).1 e)), zero_mul]
  · intro hk; exact absurd (Finset.mem_univ _) hk

/-- Trip `k` of the loop over pages takes page `k`. -/
theorem off1_eq : ∀ k : Fin k0_t1_loop.trips, k0_off1 k = ![k.val, 0, 0] := by decide +kernel
/-- And it writes page `k`. -/
theorem off2_eq : ∀ k : Fin k0_t1_loop.trips, k0_off2 k = ![k.val, 0, 0] := by decide +kernel
/-- The loop comes to every page. -/
theorem trips_eq : k0_t1_loop.trips = 32 := by decide +kernel

section
variable (c : Dev nD) (i : grid0.Coords) (arg1 : Memref sig .tc .vmem S32x256x128 .f32) (harg1 : arg1.IsWhole) (arg2 : Memref sig .tc .vmem S32x256 .f32) (harg2 : arg2.IsWhole) (arg3 : Memref sig .tc .vmem S16x256x512 .bf16) (harg3 : arg3.IsWhole)
    (arg4 : Memref sig .tc .vmem S16x256x512 .bf16) (harg4 : arg4.IsWhole) (arg5 : Memref sig .tc .vmem S256x1024 .f32) (harg5 : arg5.IsWhole) (arg6 : Memref sig .tc .vmem S32x128x256 .f32) (harg6 : arg6.IsWhole)
    (x0 : Vec Ideal S32x256x128 .f32) (x1 : Vec Ideal S32x256 .f32) (x2 x3 : Vec Ideal S16x256x512 .bf16)

/-- A page as it comes in. -/
def pageIn (k : Fin k0_t1_loop.trips) : Vec Ideal S1x256x128 .f32 :=
  arg1.view.readAt (Elt Ideal) (Rect.unit (s := S32x256x128) (k0_off1 k) S1x256x128.size (k0_off1_inb k)).toLoadRect (harg1.unread x0)

/-- A trip stores its page, permuted. -/
theorem trip_pieces (k : Fin k0_t1_loop.trips) :
    tripL_k0_t1 (F := Ideal) Variants.none c none i arg1 harg1 arg2 harg2 arg3 harg3 arg4 harg4 arg5 harg5 arg6 harg6 kernelRun0_A.sl.v1 k0_pay4 (harg1.unread x0) k
      = [⟨Rect.unit (s := S32x128x256) (k0_off2 k) S1x128x256.size (k0_off2_inb k), k0_pay5 kernelRun0_A.sl.v1 k0_pay4 (pageIn arg1 harg1 x0 k)⟩] := by
  unfold tripL_k0_t1 trip_k0_t1
  rfl

/-- A page at an entry. -/
theorem pageIn_at (k : Fin k0_t1_loop.trips) (j : Fin 256) (q : Fin 128) :
    pageIn arg1 harg1 x0 k (ix3 0 j q) = x0 (ix3 ⟨k.val, lt_of_lt_of_eq k.isLt trips_eq⟩ j q) := by
  unfold pageIn
  refine (congrFun (harg1.read_unread (Val := Elt Ideal) x0) _).trans (congrArg x0 ?_)
  have h := off1_eq k
  funext a
  apply Fin.ext
  refine (congrArg (fun z : Fin 3 → ℕ => z a + 1 * ((ix3 0 j q : S1x256x128.Idx) a).val) h).trans ?_
  match a with | ⟨0, _⟩ => rfl | ⟨1, _⟩ => (show 0 + 1 * j.val = j.val; omega) | ⟨2, _⟩ => (show 0 + 1 * q.val = q.val; omega)

/-- What the first `n` trips leave, at an entry of a page they have come to. -/
theorem pages_at (f : arg6.view.ty.Contents (Elt Ideal)) (n : ℕ) (hn : n ≤ 32) (a : Fin 32) (r : Fin 128) (j : Fin 256) (ha : a.val < n) :
    arg6.view.read (Elt Ideal) (arg6.view.writes (Elt Ideal) f
      (pb_k0_t1 (F := Ideal) Variants.none c none i arg1 harg1 arg2 harg2 arg3 harg3 arg4 harg4 arg5 harg5 arg6 harg6 kernelRun0_A.sl.v1 k0_pay4 (harg1.unread x0) n)) (ix3 a r j)
      = x0 (ix3 a j ⟨16 * (r.val % 8) + r.val / 8, by omega⟩) := by
  induction n with
  | zero => omega
  | succ k ih =>
    have hk : k < k0_t1_loop.trips := by rw [trips_eq]; omega
    have e := pb_k0_t1_succ (F := Ideal) Variants.none c none i arg1 harg1 arg2 harg2 arg3 harg3 arg4 harg4 arg5 harg5 arg6 harg6 kernelRun0_A.sl.v1 k0_pay4 (harg1.unread x0) ⟨k, hk⟩
    rw [trip_pieces] at e
    rw [e]
    show arg6.view.read (Elt Ideal) (arg6.view.writes (Elt Ideal) f (_ :: _)) _ = _
    by_cases h : a.val = k
    · refine (View.read_writes_cons_unit_of_mem arg6.view f (k0_off2_inb ⟨k, hk⟩) _ _ (ix3 a r j) (ix3 0 r j) (off2_eq ⟨k, hk⟩) fun b => ?_).trans ?_
      · match b with | ⟨0, _⟩ => (show a.val = k + 0; omega) | ⟨1, _⟩ => (show r.val = 0 + r.val; omega) | ⟨2, _⟩ => (show j.val = 0 + j.val; omega)
      · rw [page_at, pageIn_at]
        exact congrArg (fun z => x0 (ix3 z j _)) (Fin.ext h.symm)
    · refine (View.read_writes_cons_unit_of_not_mem arg6.view f (k0_off2_inb ⟨k, hk⟩) _ _ (ix3 a r j) (off2_eq ⟨k, hk⟩) 0 (Or.inl ?_)).trans (ih (by omega) (by omega))
      show a.val < k
      omega

/-- The rows at a position, at an entry. -/
theorem rowsAt_at (l : Fin 16) (a : Fin 32) (b : Fin 8) (j : Fin 256) :
    rowsAt c i arg1 harg1 arg2 harg2 arg3 harg3 arg4 harg4 arg5 harg5 arg6 harg6 x0 l (ix3 a b j) = x0 (ix3 a j ⟨16 * b.val + l.val, by omega⟩) := by
  have h := pages_at c i arg1 harg1 arg2 harg2 arg3 harg3 arg4 harg4 arg5 harg5 arg6 harg6 x0 arg6.view.junk 32 (by omega) a ⟨8 * l.val + b.val, by omega⟩ j a.isLt
  unfold rowsAt View.readCov pages
  refine Eq.trans (congrArg (arg6.view.read (Elt Ideal) (arg6.view.writes (Elt Ideal) arg6.view.junk _)) ?_) (h.trans (congrArg (fun z => x0 (ix3 a j z)) (Fin.ext ?_)))
  · funext d
    apply Fin.ext
    match d with | ⟨0, _⟩ => (show 0 + 1 * a.val = a.val; omega) | ⟨1, _⟩ => (show 8 * l.val + 1 * b.val = 8 * l.val + b.val; omega) | ⟨2, _⟩ => (show 0 + 1 * j.val = j.val; omega)
  · show 16 * ((8 * l.val + b.val) % 8) + (8 * l.val + b.val) / 8 = 16 * b.val + l.val
    omega

/-- A position's shift at an entry. -/
theorem shiftAt_at (l : Fin 32) (j : Fin 256) : shiftAt arg2 harg2 x1 l (ix2 0 j) = x1 (ix2 l j) := by
  unfold shiftAt
  refine (congrFun (harg2.read_unread (Val := Elt Ideal) x1) _).trans (congrArg x1 ?_)
  funext d
  apply Fin.ext
  match d with | ⟨0, _⟩ => (show l.val + 1 * 0 = l.val; omega) | ⟨1, _⟩ => (show 0 + 1 * j.val = j.val; omega)

/-- A position's weights at an entry. -/
theorem weightAt_at (l : Fin 16) (j : Fin 256) (q : Fin 512) : weightAt arg3 harg3 x2 l (ix3 0 j q) = x2 (ix3 l j q) := by
  unfold weightAt
  refine (congrFun (harg3.read_unread (Val := Elt Ideal) x2) _).trans (congrArg x2 ?_)
  funext d
  apply Fin.ext
  match d with | ⟨0, _⟩ => (show l.val + 1 * 0 = l.val; omega) | ⟨1, _⟩ => (show 0 + 1 * j.val = j.val; omega) | ⟨2, _⟩ => (show 0 + 1 * q.val = q.val; omega)

/-- One position's term, at an entry. -/
theorem term_at (x : Vec Ideal S32x8x256 .f32) (p : Vec Ideal S1x256 .f32) (w : Vec Ideal S1x256x512 .bf16) (a : Fin 32) (b : Fin 8) (q : Fin 512) :
    term x p w (ix2 ⟨8 * a.val + b.val, by omega⟩ q) = ∑ j : Fin 256, ((x (ix3 a b j) : EReal) + p (ix2 0 j)) * w (ix3 0 j q) := by
  have e : ∀ j : Fin 256, (shapeCast S256x256 x shapeCasts_S32x8x256_S256x256 : Vec Ideal S256x256 .f32) (ix2 ⟨8 * a.val + b.val, by omega⟩ j) = x (ix3 a b j) := fun j => by
    refine shapeCast_apply x _ _ _ ?_
    rw [Shape.rowMajor_val_three, Shape.rowMajor_val_two]
    show (a.val * 8 + b.val) * 256 + j.val = (8 * a.val + b.val) * 256 + j.val
    omega
  unfold term
  generalize (shapeCast S256x256 x shapeCasts_S32x8x256_S256x256 : Vec Ideal S256x256 .f32) = X at e ⊢
  simp only [← e]
  pointwise []

/-- The sum over all positions, at an entry. -/
theorem acc_at (x : Fin 16 → Vec Ideal S32x8x256 .f32) (p : Fin 16 → Vec Ideal S1x256 .f32) (w : Fin 16 → Vec Ideal S1x256x512 .bf16) (a : Fin 32) (b : Fin 8) (q : Fin 512) :
    acc x p w 16 (Nat.le_refl _) (ix2 ⟨8 * a.val + b.val, by omega⟩ q) = ∑ l : Fin 16, ∑ j : Fin 256, ((x l (ix3 a b j) : EReal) + p l (ix2 0 j)) * w l (ix3 0 j q) := by
  have h : ∀ n (hn : n ≤ 16), acc x p w n hn (ix2 ⟨8 * a.val + b.val, by omega⟩ q)
      = ∑ l : Fin n, ∑ j : Fin 256, ((x ⟨l.val, by omega⟩ (ix3 a b j) : EReal) + p ⟨l.val, by omega⟩ (ix2 0 j)) * w ⟨l.val, by omega⟩ (ix3 0 j q) := by
    intro n
    induction n with
    | zero => intro hn; rw [Fin.sum_univ_zero]; unfold acc; pointwise []
    | succ n ih =>
      intro hn
      rw [Fin.sum_univ_castSucc]
      exact congrArg₂ (· + ·) (ih (Nat.le_of_succ_le hn)) (term_at _ _ _ a b q)
  exact h 16 _

end

end Cert.Kernel16Ideal.Cmp

end
-- ==== Proof.CmpValHost.lean ====
module

public import proofs.«01_k».proof.Proof.CmpValPages
public import proofs.«01_k».proof.Proof.Gen.Kernel16Ideal.Frame
public import proofs.«01_k».proof.Proof.Gen.Reference16Ideal.Run
public import proofs.«01_k».proof.Proof.Linear
public import Idealize.ShloMosaic.Lib.Pipeline.ValueKit
public import Idealize.ShloMosaic.Lib.WritesUnit

@[expose] public section

/-! The compressed blocks' call for the values: the array that it leaves, and its operands on the host. -/

set_option maxRecDepth 65536

noncomputable section

open Idealize.ShloMosaic Idealize.ShloMosaic.TcCoe Idealize.SL.Sem
open Idealize.ShloMosaic.Pipeline (Dat)

namespace Cert.Kernel16Ideal.Cmp

open Cert.Kernel16Ideal Cert.Kernel16Ideal.Gen

variable (m : (ℓ : Loc nD τ sig) → Buf (Elt Ideal) ℓ) (c : Dev nD)

/-- Point `t` takes the `t`-th run of 32 pages, their second 256 rows, and all of the shifts and weights. -/
theorem index_facts : ∀ t : Fin cfg0.N, win0_0.index t = ![t.val, 1, 0] ∧ win0_1.index t = ![0, 0] ∧ win0_2.index t = ![0, 0, 0] ∧ win0_3.index t = ![0, 0, 0] ∧ win0_4.index t = ![t.val, 0] :=
  (by decide +kernel : ∀ t : Fin grid0.N, _)

/-- The products of a run of 16 rows: row `8 p + b` of the result is the run `b` of page `p`. -/
def part (X : Vec Ideal S2560x1024x128 .f32) (P : Vec Ideal S32x256 .f32) (W : Vec Ideal S16x256x512 .bf16) (o : Fin 2) (R : Fin 20480) (q : Fin 512) : EReal :=
  ∑ l : Fin 16, ∑ j : Fin 256, ((X (ix3 ⟨R.val / 8, by omega⟩ ⟨256 + j.val, by omega⟩ ⟨16 * (R.val % 8) + l.val, by omega⟩) : EReal) + P (ix2 ⟨16 * o.val + l.val, by omega⟩ j)) * W (ix3 l j q)

/-- The array after the call. -/
def called : Vec Ideal S20480x1024 .f32 := fun i =>
  if h : (i 1).val < 512 then part (V m c main_v23) (V m c main_v21) (V m c main_v17) 0 (i 0) ⟨(i 1).val, h⟩
  else part (V m c main_v23) (V m c main_v21) (V m c main_v18) 1 (i 0) ⟨(i 1).val - 512, by have := (i 1).isLt; change (i 1).val < 1024 at this; omega⟩

/-- A point's pages at an entry. -/
theorem in0_at (t : Fin cfg0.N) (a : Fin 32) (j : Fin 256) (s : Fin 128) (p : Fin 2560) (hp : p.val = 32 * t.val + a.val) :
    iblk m c 0 t (ix3 a j s) = V m c main_v23 (ix3 p ⟨256 + j.val, by omega⟩ s) := by
  have h := index_facts t
  blk_ext [iblk, V, h]

/-- A point's shifts are all of them. -/
theorem in1_at (t : Fin cfg0.N) (l : Fin 32) (j : Fin 256) : iblk m c 1 t (ix2 l j) = V m c main_v21 (ix2 l j) := by
  have h := index_facts t
  blk_ext [iblk, V, h]

/-- A point's first weights are all of them. -/
theorem in2_at (t : Fin cfg0.N) (l : Fin 16) (j : Fin 256) (q : Fin 512) : iblk m c 2 t (ix3 l j q) = V m c main_v17 (ix3 l j q) := by
  have h := index_facts t
  blk_ext [iblk, V, h]

/-- And so are the second. -/
theorem in3_at (t : Fin cfg0.N) (l : Fin 16) (j : Fin 256) (q : Fin 512) : iblk m c 3 t (ix3 l j q) = V m c main_v18 (ix3 l j q) := by
  have h := index_facts t
  blk_ext [iblk, V, h]

/-- A point's block, at an entry. -/
theorem block_at (t : Fin cfg0.N) (a : Fin 32) (b : Fin 8) (q : Fin 1024) (R : Fin 20480) (hR : R.val = 256 * t.val + (8 * a.val + b.val)) :
    outsAt0 m c t (ix2 ⟨8 * a.val + b.val, by omega⟩ q) = called m c (ix2 R q) := by
  unfold outsAt0 out0_A_4
  rw [run_pieces]
  have hX : ∀ (l : Fin 16) (j : Fin 256), iblk m c 0 t (ix3 a j ⟨16 * b.val + l.val, by omega⟩) = V m c main_v23 (ix3 ⟨R.val / 8, by omega⟩ ⟨256 + j.val, by omega⟩ ⟨16 * (R.val % 8) + l.val, by omega⟩) := fun l j => by
    refine (in0_at m c t a j _ ⟨R.val / 8, by omega⟩ (by show R.val / 8 = _; omega)).trans ?_
    exact congrArg (fun z => V m c main_v23 (ix3 _ _ z)) (Fin.ext (by show 16 * b.val + l.val = 16 * (R.val % 8) + l.val; omega))
  by_cases hq : q.val < 512
  · refine (View.read_writes_cons_unit_of_not_mem VO0_4 _ inb_S256x1024_S256x512_0_512 _ _ _ rfl 1 (Or.inl hq)).trans ?_
    refine (View.read_writes_cons_unit_of_mem VO0_4 _ inb_S256x1024_S256x512_0_0 _ _ _ (ix2 ⟨8 * a.val + b.val, by omega⟩ ⟨q.val, hq⟩) rfl fun d => ?_).trans ?_
    · match d with | ⟨0, _⟩ => (show 8 * a.val + b.val = 0 + (8 * a.val + b.val); omega) | ⟨1, _⟩ => (show q.val = 0 + q.val; omega)
    · refine (acc_at _ _ _ a b ⟨q.val, hq⟩).trans (Eq.trans ?_ (dif_pos hq).symm)
      unfold part
      refine Finset.sum_congr rfl fun l _ => Finset.sum_congr rfl fun j _ => ?_
      rw [rowsAt_at, shiftAt_at, weightAt_at, hX, in1_at, in2_at]
      have e1 : V m c main_v21 (ix2 ⟨l.val, by omega⟩ j) = V m c main_v21 (ix2 ⟨16 * (0 : Fin 2).val + l.val, by simp; omega⟩ j) :=
        congrArg (fun z => V m c main_v21 (ix2 z j)) (Fin.ext (by show l.val = 16 * 0 + l.val; omega))
      rw [e1]; rfl
  · refine (View.read_writes_cons_unit_of_mem VO0_4 _ inb_S256x1024_S256x512_0_512 _ _ _ (ix2 ⟨8 * a.val + b.val, by omega⟩ ⟨q.val - 512, by omega⟩) rfl fun d => ?_).trans ?_
    · match d with | ⟨0, _⟩ => (show 8 * a.val + b.val = 0 + (8 * a.val + b.val); omega) | ⟨1, _⟩ => (show q.val = 512 + (q.val - 512); omega)
    · refine (acc_at _ _ _ a b ⟨q.val - 512, by omega⟩).trans (Eq.trans ?_ (dif_neg hq).symm)
      unfold part
      refine Finset.sum_congr rfl fun l _ => Finset.sum_congr rfl fun j _ => ?_
      rw [rowsAt_at, shiftAt_at, weightAt_at, hX, in1_at, in3_at]
      have e1 : V m c main_v21 (ix2 ⟨16 + l.val, by omega⟩ j) = V m c main_v21 (ix2 ⟨16 * (1 : Fin 2).val + l.val, by simp; omega⟩ j) :=
        congrArg (fun z => V m c main_v21 (ix2 z j)) (Fin.ext (by show 16 + l.val = 16 * 1 + l.val; omega))
      rw [e1]; rfl

/-- The array after the call: every block holds its pages' rows. -/
theorem final : (dats m 0 c).arrAt 4 cfg0.N = called m c := by
  refine (dats m 0 c).arrAt_eq_of_covers 4 _ (by decide +kernel) fun t hf y => ?_
  have h := index_facts t
  have hN := lt_of_lt_of_eq t.isLt N_0
  obtain ⟨r, q, rfl⟩ : ∃ (r : Fin 256) (q : Fin 1024), y = ix2 r q :=
    ⟨y 0, y 1, by funext a; match a with | ⟨0, _⟩ => rfl | ⟨1, _⟩ => rfl⟩
  obtain ⟨a, b, rfl⟩ : ∃ (a : Fin 32) (b : Fin 8), r = ⟨8 * a.val + b.val, by omega⟩ :=
    ⟨⟨r.val / 8, by omega⟩, ⟨r.val % 8, by omega⟩, Fin.ext (by show r.val = 8 * (r.val / 8) + r.val % 8; omega)⟩
  blk_simp
  rw [after0_4]
  have hi : ((View.whole main_v24).slice (win0_4.rect t)).emb (ix2 ⟨8 * a.val + b.val, by omega⟩ q) = (ix2 ⟨256 * t.val + (8 * a.val + b.val), by omega⟩ q : S20480x1024.Idx) := by
    blk_ext [h]
  exact (block_at m c t a b q ⟨256 * t.val + (8 * a.val + b.val), by omega⟩ rfl).trans (congrArg (called m c) hi).symm

/-! ## The operands on the host -/

/-- The pages with their places last. -/
theorem host_pages : V m c main_v23 = (shapeCast S2560x1024x128 (transpose S2560x4x4x64x128 [0, 2, 3, 4, 1] (m ((c : Thread nD τ).loc main_arg0)) transposes_S2560x128x4x4x64_S2560x4x4x64x128_0_2_3_4_1 : Vec Ideal S2560x4x4x64x128 .f32) shapeCasts_S2560x4x4x64x128_S2560x1024x128 : Vec Ideal S2560x1024x128 .f32) := by
  unfold V
  simp only [List.flatten_cons, List.flatten_nil, List.append_nil, List.cons_append, List.nil_append, hostOps0]
  after_results_simp
  rfl

/-- The shifts, once for every group. -/
theorem host_shifts : V m c main_v21 = (shapeCast S32x256 (broadcastInDim S1x32x4x64 ![0, 1, 2, 3] bcast_S1x32x1x64_S1x32x4x64_0_1_2_3
      (shapeCast S1x32x1x64 (shapeCast S32x64 (extractStridedSlice S1x32x64 ![1, 0, 0] (m ((c : Thread nD τ).loc main_arg2)) slices_S2x32x64_S1x32x64_1_0_0 : Vec Ideal S1x32x64 .f32) shapeCasts_S1x32x64_S32x64 : Vec Ideal S32x64 .f32) shapeCasts_S32x64_S1x32x1x64 : Vec Ideal S1x32x1x64 .f32) : Vec Ideal S1x32x4x64 .f32) shapeCasts_S1x32x4x64_S32x256 : Vec Ideal S32x256 .f32) := by
  unfold V
  simp only [List.flatten_cons, List.flatten_nil, List.append_nil, List.cons_append, List.nil_append, hostOps0]
  after_results_simp
  rfl

/-- The table of ones on the diagonal. -/
abbrev eye : Vec Ideal S4x4 .f32 := uitofp (F := Ideal) .f32 (cmpi .eq (addi (iotaInDim S4x4 32 0) (broadcastInDim S4x4 ![] bcast_S_S4x4 (constantI S_ 32 0#32))) (iotaInDim S4x4 32 1))

/-- The weights with every group's block on a diagonal. -/
abbrev blocks (w : Vec Ideal S2x32x64x128 .f32) : Vec Ideal S32x4x64x4x128 .f32 :=
  mulf (F := Ideal) (broadcastInDim S32x4x64x4x128 ![0, 1, 2, 3, 4] bcast_S1x4x1x4x1_S32x4x64x4x128_0_1_2_3_4 (broadcastInDim S1x4x1x4x1 ![1, 3] bcast_S4x4_S1x4x1x4x1_1_3 eye : Vec Ideal S1x4x1x4x1 .f32) : FVec Ideal S32x4x64x4x128 .f32)
    (broadcastInDim S32x4x64x4x128 ![0, 1, 2, 3, 4] bcast_S32x1x64x1x128_S32x4x64x4x128_0_1_2_3_4 (broadcastInDim S32x1x64x1x128 ![0, 2, 4] bcast_S32x64x128_S32x1x64x1x128_0_2_4
      (shapeCast S32x64x128 (extractStridedSlice S1x32x64x128 ![1, 0, 0, 0] w slices_S2x32x64x128_S1x32x64x128_1_0_0_0 : Vec Ideal S1x32x64x128 .f32) shapeCasts_S1x32x64x128_S32x64x128 : Vec Ideal S32x64x128 .f32) : Vec Ideal S32x1x64x1x128 .f32))

/-- Those, a group's lanes in one axis. -/
abbrev big (w : Vec Ideal S2x32x64x128 .f32) : Vec Ideal S32x256x512 .bf16 :=
  truncf (F := Ideal) .bf16 (shapeCast S32x256x512 (blocks w) shapeCasts_S32x4x64x4x128_S32x256x512 : Vec Ideal S32x256x512 .f32) bitsLt_bf16_f32

/-- The weights of a block's first 16 rows. -/
theorem host_first : V m c main_v17 = extractStridedSlice S16x256x512 ![0, 0, 0] (big (m ((c : Thread nD τ).loc main_arg1))) slices_S32x256x512_S16x256x512_0_0_0 := by
  unfold V
  simp only [List.flatten_cons, List.flatten_nil, List.append_nil, List.cons_append, List.nil_append, hostOps0]
  after_results_simp
  rfl

/-- The weights of a block's last 16 rows. -/
theorem host_last : V m c main_v18 = extractStridedSlice S16x256x512 ![16, 0, 0] (big (m ((c : Thread nD τ).loc main_arg1))) slices_S32x256x512_S16x256x512_16_0_0 := by
  unfold V
  simp only [List.flatten_cons, List.flatten_nil, List.append_nil, List.cons_append, List.nil_append, hostOps0]
  after_results_simp
  rfl

/-- The table at an entry. -/
theorem eye_at (g h : Fin 4) : eye (ix2 g h) = if g = h then (1 : EReal) else 0 := by
  pointwise [eye]
  fin_cases g <;> fin_cases h <;> simp [FloatOps.uitofp, IntOp.cmpi, IntOp.addi]

/-- A weight of the table of blocks. -/
theorem big_at (w : Vec Ideal S2x32x64x128 .f32) (l : Fin 32) (g h : Fin 4) (d : Fin 64) (e : Fin 128) :
    big w (ix3 l ⟨64 * g.val + d.val, by omega⟩ ⟨128 * h.val + e.val, by omega⟩) = (if g = h then (1 : EReal) else 0) * w (ix4 1 l d e) := by
  have h1 : big w (ix3 l ⟨64 * g.val + d.val, by omega⟩ ⟨128 * h.val + e.val, by omega⟩) = blocks w (ix5 l g d h e) := by
    refine shapeCast_apply (blocks w) _ _ _ ?_
    rw [Shape.rowMajor_val_three, Shape.rowMajor_val_five]
    simp
    omega
  rw [h1, ← eye_at]
  have h2 : ∀ (y : Vec Ideal S1x32x64x128 .f32), (shapeCast S32x64x128 y shapeCasts_S1x32x64x128_S32x64x128 : Vec Ideal S32x64x128 .f32) (ix3 l d e) = y (ix4 0 l d e) := fun y => by
    refine shapeCast_apply y _ _ _ ?_
    rw [Shape.rowMajor_val_three, Shape.rowMajor_val_four]
    simp
  unfold blocks
  generalize eye = Y
  have h3 := h2 (extractStridedSlice S1x32x64x128 ![1, 0, 0, 0] w slices_S2x32x64x128_S1x32x64x128_1_0_0_0)
  generalize (shapeCast S32x64x128 _ shapeCasts_S1x32x64x128_S32x64x128 : Vec Ideal S32x64x128 .f32) = Z at h3 ⊢
  have h4 : (extractStridedSlice S1x32x64x128 ![1, 0, 0, 0] w slices_S2x32x64x128_S1x32x64x128_1_0_0_0 : Vec Ideal S1x32x64x128 .f32) (ix4 0 l d e) = w (ix4 1 l d e) := by
    pointwise []
  rw [← h4, ← h3]
  pointwise []

/-- The pages at an entry: the values of group `g`. -/
theorem pages_host_at (x : Vec Ideal S2560x128x4x4x64 .f32) (p : Fin 2560) (g : Fin 4) (d : Fin 64) (s : Fin 128) :
    (shapeCast S2560x1024x128 (transpose S2560x4x4x64x128 [0, 2, 3, 4, 1] x transposes_S2560x128x4x4x64_S2560x4x4x64x128_0_2_3_4_1 : Vec Ideal S2560x4x4x64x128 .f32) shapeCasts_S2560x4x4x64x128_S2560x1024x128 : Vec Ideal S2560x1024x128 .f32)
        (ix3 p ⟨256 + (64 * g.val + d.val), by omega⟩ s) = x (ix5 p s 1 g d) := by
  refine Eq.trans (shapeCast_apply _ _ _ (ix5 p 1 g d s) ?_) ?_
  · rw [Shape.rowMajor_val_three, Shape.rowMajor_val_five]
    simp
    omega
  · pointwise []

/-- The shifts at an entry. -/
theorem shifts_host_at (x : Vec Ideal S2x32x64 .f32) (l : Fin 32) (g : Fin 4) (d : Fin 64) :
    (shapeCast S32x256 (broadcastInDim S1x32x4x64 ![0, 1, 2, 3] bcast_S1x32x1x64_S1x32x4x64_0_1_2_3
      (shapeCast S1x32x1x64 (shapeCast S32x64 (extractStridedSlice S1x32x64 ![1, 0, 0] x slices_S2x32x64_S1x32x64_1_0_0 : Vec Ideal S1x32x64 .f32) shapeCasts_S1x32x64_S32x64 : Vec Ideal S32x64 .f32) shapeCasts_S32x64_S1x32x1x64 : Vec Ideal S1x32x1x64 .f32) : Vec Ideal S1x32x4x64 .f32) shapeCasts_S1x32x4x64_S32x256 : Vec Ideal S32x256 .f32)
        (ix2 l ⟨64 * g.val + d.val, by omega⟩) = x (ix3 1 l d) := by
  refine Eq.trans (shapeCast_apply _ _ _ (ix4 0 l g d) ?_) ?_
  · rw [Shape.rowMajor_val_two, Shape.rowMajor_val_four]
    simp
    omega
  have h1 : ∀ y : Vec Ideal S32x64 .f32, (shapeCast S1x32x1x64 y shapeCasts_S32x64_S1x32x1x64 : Vec Ideal S1x32x1x64 .f32) (ix4 0 l 0 d) = y (ix2 l d) := fun y => by
    refine shapeCast_apply y _ _ _ ?_
    rw [Shape.rowMajor_val_two, Shape.rowMajor_val_four]
    simp
  have h2 : ∀ y : Vec Ideal S1x32x64 .f32, (shapeCast S32x64 y shapeCasts_S1x32x64_S32x64 : Vec Ideal S32x64 .f32) (ix2 l d) = y (ix3 0 l d) := fun y => by
    refine shapeCast_apply y _ _ _ ?_
    rw [Shape.rowMajor_val_two, Shape.rowMajor_val_three]
    simp
  have h3 : (extractStridedSlice S1x32x64 ![1, 0, 0] x slices_S2x32x64_S1x32x64_1_0_0 : Vec Ideal S1x32x64 .f32) (ix3 0 l d) = x (ix3 1 l d) := by
    pointwise []
  refine Eq.trans ?_ ((h1 _).trans ((h2 _).trans h3))
  generalize (shapeCast S1x32x1x64 _ shapeCasts_S32x64_S1x32x1x64 : Vec Ideal S1x32x1x64 .f32) = Z
  pointwise []

end Cert.Kernel16Ideal.Cmp

end
-- ==== Proof.CmpValAgree.lean ====
module

public import proofs.«01_k».proof.Proof.CmpValHost
public import proofs.«01_k».proof.Proof.CmpSpec

@[expose] public section

/-! The compressed blocks' call for the values: its result is the reference's. -/

set_option maxRecDepth 16384

noncomputable section

open Idealize.ShloMosaic Idealize.ShloMosaic.TcCoe Idealize.SL.Sem

namespace Cert.Kernel16Ideal.Cmp

open Cert.Kernel16Ideal Cert.Kernel16Ideal.Gen Cert.Cmp

variable (m : (ℓ : Loc nD τ sig) → Buf (Elt Ideal) ℓ) (c : Dev nD)

/-! The arguments. -/

abbrev argX : Vec Ideal S2560x128x4x4x64 .f32 := m ((c : Thread nD τ).loc main_arg0)
abbrev argW : Vec Ideal S2x32x64x128 .f32 := m ((c : Thread nD τ).loc main_arg1)
abbrev argP : Vec Ideal S2x32x64 .f32 := m ((c : Thread nD τ).loc main_arg2)

/-- A half's weights at an entry. -/
theorem first_at (l : Fin 16) (j : Fin 256) (q : Fin 512) : V m c main_v17 (ix3 l j q) = big (argW m c) (ix3 ⟨16 * (0 : Fin 2).val + l.val, by simp; omega⟩ j q) := by
  rw [host_first]
  refine extractStridedSlice_apply _ _ _ _ _ fun a => ?_
  match a with
  | ⟨0, _⟩ => simp
  | ⟨1, _⟩ => simp
  | ⟨2, _⟩ => simp

/-- The other half's. -/
theorem last_at (l : Fin 16) (j : Fin 256) (q : Fin 512) : V m c main_v18 (ix3 l j q) = big (argW m c) (ix3 ⟨16 * (1 : Fin 2).val + l.val, by simp; omega⟩ j q) := by
  rw [host_last]
  refine extractStridedSlice_apply _ _ _ _ _ fun a => ?_
  match a with
  | ⟨0, _⟩ => simp
  | ⟨1, _⟩ => simp
  | ⟨2, _⟩ => simp

/-- A half's products: the weights off the diagonal are zero. -/
theorem part_at (W : Vec Ideal S16x256x512 .bf16) (o : Fin 2) (hW : ∀ (l : Fin 16) (j : Fin 256) (q : Fin 512), W (ix3 l j q) = big (argW m c) (ix3 ⟨16 * o.val + l.val, by omega⟩ j q))
    (p : Fin 2560) (b : Fin 8) (g : Fin 4) (e : Fin 128) :
    part (V m c main_v23) (V m c main_v21) W o ⟨8 * p.val + b.val, by omega⟩ ⟨128 * g.val + e.val, by omega⟩ = added (argX m c) (argW m c) (argP m c) 1 1 p b o g e := by
  unfold part added
  refine Finset.sum_congr rfl fun l _ => ?_
  rw [sum_groups, Finset.sum_eq_single g]
  · refine Finset.sum_congr rfl fun d _ => ?_
    rw [hW, big_at, if_pos rfl, one_mul, host_pages, host_shifts, shifts_host_at]
    refine congrArg (fun z : EReal => (z + _) * _) (Eq.trans ?_ (pages_host_at (argX m c) p g d ⟨16 * b.val + l.val, by omega⟩))
    refine congrArg _ ?_
    funext a
    apply Fin.ext
    match a with
    | ⟨0, _⟩ => (show (8 * p.val + b.val) / 8 = p.val; omega)
    | ⟨1, _⟩ => rfl
    | ⟨2, _⟩ => (show 16 * ((8 * p.val + b.val) % 8) + l.val = 16 * b.val + l.val; omega)
  · intro g' _ hg
    refine Finset.sum_eq_zero fun d _ => ?_
    rw [hW, big_at, if_neg hg, zero_mul, mul_zero]
  · intro hg; exact absurd (Finset.mem_univ _) hg

/-- The result at an entry. -/
theorem called_at (p : Fin 2560) (b : Fin 8) (o : Fin 2) (g : Fin 4) (e : Fin 128) :
    called m c (ix2 ⟨8 * p.val + b.val, by omega⟩ ⟨512 * o.val + (128 * g.val + e.val), by omega⟩) = added (argX m c) (argW m c) (argP m c) 1 1 p b o g e := by
  match o with
  | ⟨0, _⟩ =>
    refine (dif_pos (show 512 * 0 + (128 * g.val + e.val) < 512 by omega)).trans (Eq.trans ?_ (part_at m c (V m c main_v17) 0 (first_at m c) p b g e))
    exact congrArg (part _ _ _ _ _) (Fin.ext (by show 512 * 0 + (128 * g.val + e.val) = 128 * g.val + e.val; omega))
  | ⟨1, _⟩ =>
    refine (dif_neg (show ¬ 512 * 1 + (128 * g.val + e.val) < 512 by omega)).trans (Eq.trans ?_ (part_at m c (V m c main_v18) 1 (last_at m c) p b g e))
    exact congrArg (part _ _ _ _ _) (Fin.ext (by show 512 * 1 + (128 * g.val + e.val) - 512 = 128 * g.val + e.val; omega))

/-- The run: the result is the call's array, and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v24) = called m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 4).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel16Ideal.Cmp

namespace Cert.Reference16Ideal.Cmp

open Cert.Reference16Ideal Cert.Reference16Ideal.Gen Cert.Cmp

/-- The rows of the values, 16 to a run. -/
abbrev rows (x : Vec Ideal S2560x128x4x4x64 .f32) : Vec Ideal S20480x16x4x64 .f32 :=
  shapeCast S20480x16x4x64 (shapeCast S2560x128x4x64 (extractStridedSlice S2560x128x1x4x64 ![0, 0, 1, 0, 0] x slices_S2560x128x4x4x64_S2560x128x1x4x64_0_0_1_0_0 : Vec Ideal S2560x128x1x4x64 .f32)
    shapeCasts_S2560x128x1x4x64_S2560x128x4x64 : Vec Ideal S2560x128x4x64 .f32) shapeCasts_S2560x128x4x64_S20480x16x4x64

/-- The values' shifts. -/
abbrev shifts (s : Vec Ideal S2x32x64 .f32) : Vec Ideal S32x64 .f32 :=
  shapeCast S32x64 (extractStridedSlice S1x32x64 ![1, 0, 0] s slices_S2x32x64_S1x32x64_1_0_0 : Vec Ideal S1x32x64 .f32) shapeCasts_S1x32x64_S32x64

/-- The values' weights. -/
abbrev weights (w : Vec Ideal S2x32x64x128 .f32) : Vec Ideal S32x64x128 .f32 :=
  shapeCast S32x64x128 (extractStridedSlice S1x32x64x128 ![1, 0, 0, 0] w slices_S2x32x64x128_S1x32x64x128_1_0_0_0 : Vec Ideal S1x32x64x128 .f32) shapeCasts_S1x32x64x128_S32x64x128

/-- The product of all runs with one half of the shifts and weights. -/
abbrev half (r : Vec Ideal S20480x16x4x64 .f32) (s : Vec Ideal S16x64 .f32) (w : Vec Ideal S16x64x128 .f32) : Vec Ideal S20480x4x128 .f32 :=
  Host.dotGeneral (F := Ideal) (φ₁ := .f32) (φ₂ := .f32) dot_S20480x16x4x64_S16x64x128_S20480x4x128_31_10_02_2_n_n none
    (addf (F := Ideal) (φ := .f32) r (broadcastInDim S20480x16x4x64 ![0, 1, 2, 3] bcast_S1x16x1x64_S20480x16x4x64_0_1_2_3 (broadcastInDim S1x16x1x64 ![1, 3] bcast_S16x64_S1x16x1x64_1_3 s : Vec Ideal S1x16x1x64 .f32))) w

/-- Such a product at an entry. -/
theorem half_at (r : Vec Ideal S20480x16x4x64 .f32) (s : Vec Ideal S16x64 .f32) (w : Vec Ideal S16x64x128 .f32) (n : Fin 20480) (g : Fin 4) (e : Fin 128) :
    half r s w (ix3 n g e) = ∑ l : Fin 16, ∑ d : Fin 64, ((r (ix4 n l g d) : EReal) + s (ix2 l d)) * w (ix3 l d e) := by
  pointwise [half]
  exact Finset.sum_comm

/-- The two halves side by side, a run's groups in one row. -/
abbrev joined (y z : Vec Ideal S20480x4x128 .f32) : Vec Ideal S20480x1024 .f32 :=
  shapeCast S20480x1024 (concatenate S20480x2x4x128 1 [⟨S20480x1x4x128, (broadcastInDim S20480x1x4x128 ![0, 2, 3] bcast_S20480x4x128_S20480x1x4x128_0_2_3 y : Vec Ideal S20480x1x4x128 .f32)⟩,
      ⟨S20480x1x4x128, (broadcastInDim S20480x1x4x128 ![0, 2, 3] bcast_S20480x4x128_S20480x1x4x128_0_2_3 z : Vec Ideal S20480x1x4x128 .f32)⟩] concatenates_S20480x1x4x128_S20480x1x4x128_S20480x2x4x128_d1 : Vec Ideal S20480x2x4x128 .f32)
    shapeCasts_S20480x2x4x128_S20480x1024

/-- Those at an entry. -/
theorem joined_at (y z : Vec Ideal S20480x4x128 .f32) (n : Fin 20480) (o : Fin 2) (g : Fin 4) (e : Fin 128) :
    joined y z (ix2 n ⟨512 * o.val + (128 * g.val + e.val), by omega⟩) = if o = 0 then y (ix3 n g e) else z (ix3 n g e) := by
  refine Eq.trans (shapeCast_apply _ _ _ (ix4 n o g e) ?_) ?_
  · rw [Shape.rowMajor_val_two, Shape.rowMajor_val_four]
    simp
    omega
  · fin_cases o
    · pointwise []
    · pointwise []

/-- The rows at an entry. -/
theorem rows_at (x : Vec Ideal S2560x128x4x4x64 .f32) (p : Fin 2560) (b : Fin 8) (l : Fin 16) (g : Fin 4) (d : Fin 64) :
    rows x (ix4 ⟨8 * p.val + b.val, by omega⟩ l g d) = x (ix5 p ⟨16 * b.val + l.val, by omega⟩ 1 g d) := by
  refine Eq.trans (shapeCast_apply _ _ _ (ix4 p ⟨16 * b.val + l.val, by omega⟩ g d) ?_) (Eq.trans (shapeCast_apply _ _ _ (ix5 p ⟨16 * b.val + l.val, by omega⟩ 0 g d) ?_) ?_)
  · rw [Shape.rowMajor_val_four, Shape.rowMajor_val_four]
    simp
    omega
  · rw [Shape.rowMajor_val_four, Shape.rowMajor_val_five]
    simp
  · refine extractStridedSlice_apply _ _ _ _ _ fun a => ?_
    match a with
    | ⟨0, _⟩ => simp
    | ⟨1, _⟩ => simp
    | ⟨2, _⟩ => simp
    | ⟨3, _⟩ => simp
    | ⟨4, _⟩ => simp

/-- The shifts at an entry. -/
theorem shifts_at (s : Vec Ideal S2x32x64 .f32) (l : Fin 32) (d : Fin 64) : shifts s (ix2 l d) = s (ix3 1 l d) := by
  refine Eq.trans (shapeCast_apply _ _ _ (ix3 0 l d) ?_) ?_
  · rw [Shape.rowMajor_val_two, Shape.rowMajor_val_three]
    simp
  · pointwise []

/-- The weights at an entry. -/
theorem weights_at (w : Vec Ideal S2x32x64x128 .f32) (l : Fin 32) (d : Fin 64) (e : Fin 128) : weights w (ix3 l d e) = w (ix4 1 l d e) := by
  refine Eq.trans (shapeCast_apply _ _ _ (ix4 0 l d e) ?_) ?_
  · rw [Shape.rowMajor_val_three, Shape.rowMajor_val_four]
    simp
  · pointwise []

/-- The halves of the shifts. -/
theorem shifts_cut (s : Vec Ideal S32x64 .f32) (l : Fin 16) (d : Fin 64) :
    (extractStridedSlice S16x64 ![0, 0] s slices_S32x64_S16x64_0_0 : Vec Ideal S16x64 .f32) (ix2 l d) = s (ix2 ⟨16 * (0 : Fin 2).val + l.val, by simp; omega⟩ d)
    ∧ (extractStridedSlice S16x64 ![16, 0] s slices_S32x64_S16x64_16_0 : Vec Ideal S16x64 .f32) (ix2 l d) = s (ix2 ⟨16 * (1 : Fin 2).val + l.val, by simp; omega⟩ d) := by
  constructor <;> refine extractStridedSlice_apply _ _ _ _ _ fun a => ?_
  · match a with
    | ⟨0, _⟩ => simp
    | ⟨1, _⟩ => simp
  · match a with
    | ⟨0, _⟩ => simp
    | ⟨1, _⟩ => simp

/-- The halves of the weights. -/
theorem weights_cut (w : Vec Ideal S32x64x128 .f32) (l : Fin 16) (d : Fin 64) (e : Fin 128) :
    (extractStridedSlice S16x64x128 ![0, 0, 0] w slices_S32x64x128_S16x64x128_0_0_0 : Vec Ideal S16x64x128 .f32) (ix3 l d e) = w (ix3 ⟨16 * (0 : Fin 2).val + l.val, by simp; omega⟩ d e)
    ∧ (extractStridedSlice S16x64x128 ![16, 0, 0] w slices_S32x64x128_S16x64x128_16_0_0 : Vec Ideal S16x64x128 .f32) (ix3 l d e) = w (ix3 ⟨16 * (1 : Fin 2).val + l.val, by simp; omega⟩ d e) := by
  constructor <;> refine extractStridedSlice_apply _ _ _ _ _ fun a => ?_
  · match a with
    | ⟨0, _⟩ => simp
    | ⟨1, _⟩ => simp
    | ⟨2, _⟩ => simp
  · match a with
    | ⟨0, _⟩ => simp
    | ⟨1, _⟩ => simp
    | ⟨2, _⟩ => simp

/-- The reference's result. -/
abbrev result (x : Vec Ideal S2560x128x4x4x64 .f32) (w : Vec Ideal S2x32x64x128 .f32) (s : Vec Ideal S2x32x64 .f32) : Vec Ideal S20480x1024 .f32 :=
  joined (half (rows x) (extractStridedSlice S16x64 ![0, 0] (shifts s) slices_S32x64_S16x64_0_0) (extractStridedSlice S16x64x128 ![0, 0, 0] (weights w) slices_S32x64x128_S16x64x128_0_0_0))
    (half (rows x) (extractStridedSlice S16x64 ![16, 0] (shifts s) slices_S32x64_S16x64_16_0) (extractStridedSlice S16x64x128 ![16, 0, 0] (weights w) slices_S32x64x128_S16x64x128_16_0_0))

/-- The reference's result at an entry. -/
theorem result_at (x : Vec Ideal S2560x128x4x4x64 .f32) (w : Vec Ideal S2x32x64x128 .f32) (s : Vec Ideal S2x32x64 .f32) (p : Fin 2560) (b : Fin 8) (o : Fin 2) (g : Fin 4) (e : Fin 128) :
    result x w s (ix2 ⟨8 * p.val + b.val, by omega⟩ ⟨512 * o.val + (128 * g.val + e.val), by omega⟩) = added x w s 1 1 p b o g e := by
  refine (joined_at _ _ _ o g e).trans ?_
  unfold added
  match o with
  | ⟨0, _⟩ =>
    refine (if_pos rfl).trans ((half_at _ _ _ _ g e).trans ?_)
    refine Finset.sum_congr rfl fun l _ => Finset.sum_congr rfl fun d _ => ?_
    rw [rows_at, (shifts_cut _ l d).1, (weights_cut _ l d e).1, shifts_at, weights_at]
    rfl
  | ⟨1, _⟩ =>
    refine (if_neg (fun h => Nat.one_ne_zero (congrArg Fin.val h))).trans ((half_at _ _ _ _ g e).trans ?_)
    refine Finset.sum_congr rfl fun l _ => Finset.sum_congr rfl fun d _ => ?_
    rw [rows_at, (shifts_cut _ l d).2, (weights_cut _ l d e).2, shifts_at, weights_at]
    rfl

end Cert.Reference16Ideal.Cmp

namespace Cert.Cmp

/-- The two programs' results are equal. -/
theorem agree16 : Cert.algebraic_Kernel16Ideal_Reference16Ideal (hKernel16Ideal := Cert.Kernel16Ideal.Gen.facts)
    (hReference16Ideal := Cert.Reference16Ideal.Gen.facts) := by
  intro m ρ m' ρ' _ hag
  refine ⟨fun c => Cert.Kernel16Ideal.Cmp.called m c, Cert.Kernel16Ideal.Cmp.run m ρ, ?_⟩
  refine (θ_run _ _ _).mono (fun r h c => ?_) (Cert.Reference16Ideal.Value.run m' ρ')
  obtain ⟨e0, e1, e2⟩ := hag c
  obtain ⟨h0, hk⟩ := h c
  refine ⟨h0.trans ?_, hk⟩
  rw [e0, e1, e2]
  refine funext fun i => ?_
  obtain ⟨n, q, rfl⟩ : ∃ (n : Fin 20480) (q : Fin 1024), i = ix2 n q :=
    ⟨i 0, i 1, by funext j; match j with | ⟨0, _⟩ => rfl | ⟨1, _⟩ => rfl⟩
  obtain ⟨p, b, rfl⟩ : ∃ (p : Fin 2560) (b : Fin 8), n = ⟨8 * p.val + b.val, by omega⟩ :=
    ⟨⟨n.val / 8, by omega⟩, ⟨n.val % 8, by omega⟩, Fin.ext (by show n.val = 8 * (n.val / 8) + n.val % 8; omega)⟩
  obtain ⟨o, g, e, rfl⟩ : ∃ (o : Fin 2) (g : Fin 4) (e : Fin 128), q = ⟨512 * o.val + (128 * g.val + e.val), by omega⟩ :=
    ⟨⟨q.val / 512, by omega⟩, ⟨q.val / 128 % 4, by omega⟩, ⟨q.val % 128, by omega⟩,
      Fin.ext (by show q.val = 512 * (q.val / 512) + (128 * (q.val / 128 % 4) + q.val % 128); omega)⟩
  exact (Cert.Reference16Ideal.Cmp.result_at _ _ _ p b o g e).trans (Cert.Kernel16Ideal.Cmp.called_at m c p b o g e).symm

end Cert.Cmp

end
-- ==== Proof.LinearQuery.lean ====
module

public import proofs.«01_k».proof.Defs
public import proofs.«01_k».proof.Proof.Gen.Kernel14Ideal.Frame
public import proofs.«01_k».proof.Proof.LinearPad
public import Idealize.ShloMosaic.Lib.Pipeline.ValueKit

@[expose] public section

set_option maxRecDepth 16384

/-! The weights and the bias of the queries' projection, as the host prepares them: each head's 64 columns are multiplied by the
scores' scale and laid into 128 lanes. Behind the 64 lanes the weights are zero and the bias holds constants of the head's slope;
those lanes are not looked at here. Since the scale is a positive real, a projection against scaled weights with a scaled bias is
the projection times the scale, whatever the entries are. -/

noncomputable section

open Idealize.ShloMosaic Idealize.ShloMosaic.TcCoe

namespace Cert.Query

open Cert.Kernel14Ideal Cert.Kernel14Ideal.Gen Cert.Proj

/-- The scores' scale. -/
abbrev scale : EReal := Ideal.ofBits .f32 0x3E38AA3B#32

/-- The scale is a real, and not negative. -/
theorem scale_real : 0 ≤ scale ∧ scale ≠ ⊤ := by
  have h : ∃ r : ℝ, 0 ≤ r ∧ scale = (r : EReal) := by
    simp only [Ideal.ofBits, Ideal.ieee]
    rw [if_neg (by decide), if_neg (by decide), if_neg (by decide)]
    exact ⟨_, by positivity, rfl⟩
  obtain ⟨r, h0, h1⟩ := h
  exact ⟨h1 ▸ EReal.coe_nonneg.mpr h0, h1 ▸ EReal.coe_ne_top r⟩

/-- Scaling the weights scales a sum of products. -/
theorem sum_scaled {n : ℕ} (x w : Fin n → EReal) (s : EReal) (h0 : 0 ≤ s) (h1 : s ≠ ⊤) : ∑ k, x k * (w k * s) = (∑ k, x k * w k) * s := by
  induction n with
  | zero => simp
  | succ n ih =>
    rw [Fin.sum_univ_succ, Fin.sum_univ_succ, ih, EReal.right_distrib_of_nonneg_of_ne_top h0 h1, mul_assoc]

/-- Scaling the weights and the bias scales the projection. -/
theorem entry_scaled (x w : Fin 1024 → EReal) (b s : EReal) (h0 : 0 ≤ s) (h1 : s ≠ ⊤) : entry x (fun k => w k * s) (b * s) = entry x w b * s := by
  unfold entry
  rw [sum_scaled x w s h0 h1, EReal.right_distrib_of_nonneg_of_ne_top h0 h1]

/-- Lane `d` of head `a`, among all lanes. -/
abbrev laneOf (a : Fin 16) (d : Fin 64) : Fin 2048 := ⟨128 * a.val + d.val, by omega⟩

/-- Lane `d` of a head, among its 128. -/
abbrev wide (d : Fin 64) : Fin 128 := ⟨d.val, by omega⟩

/-- The weights' columns of the queries. -/
abbrev columns (w : Vec Ideal S1024x9808 .f32) : Vec Ideal S1024x16x64 .f32 :=
  shapeCast S1024x16x64 (extractStridedSlice S1024x1024 ![0, 5152] w slices_S1024x9808_S1024x1024_0_5152 : Vec Ideal S1024x1024 .f32) shapeCasts_S1024x1024_S1024x16x64

theorem columns_at (w : Vec Ideal S1024x9808 .f32) (k : Fin 1024) (a : Fin 16) (d : Fin 64) :
    columns w (ix3 k a d) = w (ix2 k ⟨5152 + (64 * a.val + d.val), by omega⟩) := by
  refine Eq.trans (shapeCast_apply _ _ _ (ix2 k (⟨64 * a.val + d.val, by omega⟩ : Fin 1024)) ?_) (weights_at w _ k _ _)
  rw [Shape.rowMajor_val_two, Shape.rowMajor_val_three]
  simp
  omega

/-- The same scaled, and laid into 128 lanes. -/
abbrev fillColumns (y : Vec Ideal S1024x16x64 .f32) : Vec Ideal S1024x16x128 .f32 :=
  pad S1024x16x128 ![0, 0, 0] ![0, 0, 64] ![0, 0, 0]
    (mulf (F := Ideal) (y : FVec Ideal S1024x16x64 .f32) (broadcastInDim S1024x16x64 ![] bcast_S_S1024x16x64 (constant (F := Ideal) S_ .f32 0x3E38AA3B#32)) : FVec Ideal S1024x16x64 .f32)
    filler pads_S1024x16x64_S1024x16x128_000_000_0640 h_S_

theorem fillColumns_at (y : Vec Ideal S1024x16x64 .f32) (k : Fin 1024) (a : Fin 16) (d : Fin 64) :
    fillColumns y (ix3 k a (wide d)) = @HMul.hMul EReal EReal EReal _ (y (ix3 k a d)) scale := by
  pointwise [fillColumns, wide]

/-- The weights the call takes. -/
abbrev weights (w : Vec Ideal S1024x9808 .f32) : Vec Ideal S1024x2048 .bf16 :=
  truncf (F := Ideal) .bf16 (shapeCast S1024x2048 (fillColumns (columns w)) shapeCasts_S1024x16x128_S1024x2048 : FVec Ideal S1024x2048 .f32) bitsLt_bf16_f32

theorem query_weights_at (w : Vec Ideal S1024x9808 .f32) (k : Fin 1024) (a : Fin 16) (d : Fin 64) :
    weights w (ix2 k (laneOf a d)) = @HMul.hMul EReal EReal EReal _ (w (ix2 k ⟨5152 + (64 * a.val + d.val), by omega⟩)) scale := by
  have h : (shapeCast S1024x2048 (fillColumns (columns w)) shapeCasts_S1024x16x128_S1024x2048 : Vec Ideal S1024x2048 .f32) (ix2 k (laneOf a d))
      = fillColumns (columns w) (ix3 k a (wide d)) := by
    refine shapeCast_apply _ _ _ _ ?_
    rw [Shape.rowMajor_val_two, Shape.rowMajor_val_three]
    simp
    omega
  refine Eq.trans h ((fillColumns_at _ k a d).trans ?_)
  rw [columns_at]

/-- The bias' columns of the queries, scaled, with the constants `E` behind each head's 64 lanes. -/
abbrev bias (v : Vec Ideal S9808 .f32) (E : Vec Ideal S16x64 .f32) : Vec Ideal S1x2048 .f32 :=
  shapeCast S1x2048 (concatenate S16x128 1 [⟨S16x64, (mulf (F := Ideal) (shapeCast S16x64 (extractStridedSlice S1024 ![5152] v slices_S9808_S1024_5152 : Vec Ideal S1024 .f32) shapeCasts_S1024_S16x64 : FVec Ideal S16x64 .f32)
      (broadcastInDim S16x64 ![] bcast_S_S16x64 (constant (F := Ideal) S_ .f32 0x3E38AA3B#32)) : FVec Ideal S16x64 .f32)⟩, ⟨S16x64, E⟩]
    concatenates_S16x64_S16x64_S16x128_d1 : Vec Ideal S16x128 .f32) shapeCasts_S16x128_S1x2048

/-- The first of two arrays side by side. -/
theorem beside_at (A E : Vec Ideal S16x64 .f32) (a : Fin 16) (d : Fin 64) :
    (concatenate S16x128 1 [⟨S16x64, A⟩, ⟨S16x64, E⟩] concatenates_S16x64_S16x64_S16x128_d1 : Vec Ideal S16x128 .f32) (ix2 a (wide d)) = A (ix2 a d) := by
  pointwise [wide]

theorem query_bias_at (v : Vec Ideal S9808 .f32) (E : Vec Ideal S16x64 .f32) (a : Fin 16) (d : Fin 64) :
    bias v E (ix2 0 (laneOf a d)) = @HMul.hMul EReal EReal EReal _ (v (ix1 ⟨5152 + (64 * a.val + d.val), by omega⟩)) scale := by
  refine Eq.trans (shapeCast_apply _ _ _ (ix2 a (wide d)) ?_) ((beside_at _ E a d).trans ?_)
  · rw [Shape.rowMajor_val_two, Shape.rowMajor_val_two]
    simp
    omega
  · refine congrArg (fun z : EReal => z * scale) ?_
    refine Eq.trans (shapeCast_apply _ _ _ (ix1 (⟨64 * a.val + d.val, by omega⟩ : Fin 1024)) ?_) (bias_at v _ _ _)
    rw [Shape.rowMajor_val_one, Shape.rowMajor_val_two]
    simp
    omega

/-- What the call leaves in a head's lanes is the query times the scale. -/
theorem lin_query_at (X : Vec Ideal S16384x1024 .bf16) (w : Vec Ideal S1024x9808 .f32) (v : Vec Ideal S9808 .f32) (E : Vec Ideal S16x64 .f32)
    (r : Fin 16384) (a : Fin 16) (d : Fin 64) :
    lin 16384 2048 X (weights w) (bias v E) (ix2 r (laneOf a d))
      = entry (fun k => X (ix2 r k)) (fun k => w (ix2 k ⟨5152 + (64 * a.val + d.val), by omega⟩)) (v (ix1 ⟨5152 + (64 * a.val + d.val), by omega⟩)) * scale := by
  refine Eq.trans ?_ (entry_scaled _ _ _ scale scale_real.1 scale_real.2)
  unfold lin
  congr 1
  · exact funext fun k => query_weights_at w k a d
  · exact query_bias_at v E a d

end Cert.Query

end
-- ==== Proof.ProjQuery.lean ====
module

public import proofs.«01_k».proof.Defs
public import proofs.«01_k».proof.Proof.Gen.Kernel14Ideal.Frame
public import proofs.«01_k».proof.Proof.Gen.Reference14Ideal.Run
public import proofs.«01_k».proof.Proof.LinearQuery
public import Idealize.ShloMosaic.Lib.Pipeline.ValueKit

@[expose] public section

set_option maxRecDepth 16384

/-! The projection of the queries for the prompts. The kernel takes 512 rows at a time against weights that hold the scores' scale,
each head in 128 lanes; the reference takes all rows against all columns, cuts the queries out and scales them. -/

noncomputable section

open Idealize.ShloMosaic Idealize.ShloMosaic.TcCoe Idealize.SL.Sem
open Idealize.ShloMosaic.Pipeline (Dat)

namespace Cert.Kernel14Ideal.Proj

open Cert.Kernel14Ideal Cert.Kernel14Ideal.Gen Cert.Proj Cert.Query

variable (m : (ℓ : Loc nD τ sig) → Buf (Elt Ideal) ℓ) (c : Dev nD)

/-- Point `t` takes the `t`-th block of rows, and all of the weights and the bias. -/
theorem index_facts : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- What the body computes from its blocks. -/
theorem block_at (x : Vec Ideal S512x1024 .bf16) (w : Vec Ideal S1024x2048 .bf16) (b : Vec Ideal S1x2048 .f32) (r : Fin 512) (ch : Fin 2048) :
    k0_pay1 x w b (ix2 r ch) = entry (fun k => x (ix2 r k)) (fun k => w (ix2 k ch)) (b (ix2 0 ch)) := by
  pointwise [k0_pay1, entry]

/-- The array after the call: every block holds its rows of `lin`. -/
theorem final : (dats m 0 c).arrAt 3 cfg0.N = lin 16384 2048 (V m c main_v14) (V m c main_v12) (V m c main_v11) := by
  refine (dats m 0 c).arrAt_eq_of_covers 3 _ (by decide +kernel) fun t hf y => ?_
  have h := index_facts t
  obtain ⟨r, ch, rfl⟩ : ∃ (r : Fin 512) (ch : Fin 2048), y = ix2 r ch :=
    ⟨y 0, y 1, by funext a; match a with | ⟨0, _⟩ => rfl | ⟨1, _⟩ => rfl⟩
  blk_simp
  rw [after0_3]; frame_out
  refine (block_at _ _ _ r ch).trans ?_
  have hN := lt_of_lt_of_eq t.isLt N_0
  have hi : ((View.whole main_v15).slice (win0_3.rect t)).emb (ix2 r ch) = (ix2 ⟨512 * t.val + r.val, by omega⟩ ch : S16384x2048.Idx) := by
    blk_ext [h]
  have e0 : ∀ k : Fin 1024, iblk m c 0 t (ix2 r k) = V m c main_v14 (ix2 ⟨512 * t.val + r.val, by omega⟩ k) := fun k => by
    blk_ext [iblk, V, h]
  have e1 : ∀ k : Fin 1024, iblk m c 1 t (ix2 k ch) = V m c main_v12 (ix2 k ch) := fun k => by
    blk_ext [iblk, V, h]
  have e2 : iblk m c 2 t (ix2 0 ch) = V m c main_v11 (ix2 0 ch) := by
    blk_ext [iblk, V, h]
  rw [e2]
  simp only [e0, e1]
  refine Eq.trans ?_ (congrArg (lin 16384 2048 _ _ _) hi).symm
  rfl

/-! ## The operands and the result on the host -/

/-- The rows: the prompts' rows one after the other. -/
theorem host_rows : V m c main_v14 = (shapeCast S16384x1024 (truncf (F := Ideal) .bf16 (m ((c : Thread nD τ).loc main_arg0)) bitsLt_bf16_f32 : Vec Ideal S2x8192x1024 .bf16) shapeCasts_S2x8192x1024_S16384x1024 : Vec Ideal S16384x1024 .bf16) := by
  unfold V V0
  simp only [List.flatten_cons, List.flatten_nil, List.append_nil, List.cons_append, List.nil_append, hostOps0, hostOps0_1, hostOps0_2]
  after_results_simp
  rfl

/-- The weights. -/
theorem host_weights : V m c main_v12 = weights (m ((c : Thread nD τ).loc main_arg1)) := by
  unfold V V0
  simp only [List.flatten_cons, List.flatten_nil, List.append_nil, List.cons_append, List.nil_append, hostOps0, hostOps0_1, hostOps0_2]
  after_results_simp
  rfl

/-- The constants behind the lanes of the queries. -/
abbrev extras : Vec Ideal S16x64 .f32 := fun i => FloatOps.ofBits (F := Ideal) .f32 (lit0 (S16x64.rowMajor i))

/-- The bias. -/
theorem host_bias : V m c main_v11 = bias (m ((c : Thread nD τ).loc main_arg2)) extras := by
  unfold V V0
  simp only [List.flatten_cons, List.flatten_nil, List.append_nil, List.cons_append, List.nil_append, hostOps0, hostOps0_1, hostOps0_2]
  after_results_simp
  rfl

/-- The buffer `b` when the program ends. -/
abbrev last (b : Ref sig .tc) : Buf (Elt Ideal) ((c.tc : Thread nD τ).loc b) := Pipeline.afterTail₀ cfgs (dats m) 0 (V0 m) [hostOps1] c b

/-- The call's array when the lines after it run. -/
theorem call_array : Pipeline.withArrays spec0 c (V0 m c) (fun w => (dats m 0 c).arrAt w cfg0.N) (Proc.devRef .tc main_v15) = lin 16384 2048 (V m c main_v14) (V m c main_v12) (V m c main_v11) :=
  (Pipeline.withArrays_arr spec0 winFacts0.arr_inj c (V0 m c) (fun w => (dats m 0 c).arrAt w cfg0.N) 3).trans (final m c)

/-- The lines after the call: the rows and heads taken apart, and each head's first 64 lanes kept. -/
abbrev queries (x : Vec Ideal S16384x2048 .f32) : Vec Ideal S2x8192x16x64 .f32 :=
  extractStridedSlice S2x8192x16x64 ![0, 0, 0, 0] (shapeCast S2x8192x16x128 x shapeCasts_S16384x2048_S2x8192x16x128 : Vec Ideal S2x8192x16x128 .f32)
    slices_S2x8192x16x128_S2x8192x16x64_0_0_0_0

/-- Those lines at an entry. -/
theorem queries_at (x : Vec Ideal S16384x2048 .f32) (b : Fin 2) (p : Fin 8192) (a : Fin 16) (d : Fin 64) :
    queries x (ix4 b p a d) = x (ix2 ⟨8192 * b.val + p.val, by omega⟩ (laneOf a d)) := by
  refine Eq.trans (extractStridedSlice_apply _ _ _ _ (ix4 b p a (wide d)) fun j => ?_) (shapeCast_apply _ _ _ _ ?_)
  · match j with
    | ⟨0, _⟩ => simp
    | ⟨1, _⟩ => simp
    | ⟨2, _⟩ => simp
    | ⟨3, _⟩ => simp
  · rw [Shape.rowMajor_val_two, Shape.rowMajor_val_four]
    simp
    omega

/-- The result, as the lines after the call leave it. -/
theorem last_queries : last m c main_v17 = queries (lin 16384 2048 (V m c main_v14) (V m c main_v12) (V m c main_v11)) := by
  unfold last Pipeline.afterTail₀
  simp only [hostOps1, List.flatten_cons, List.flatten_nil, List.append_nil, List.cons_append, List.nil_append]
  after_results_simp
  exact congrArg queries (call_array m c)

/-- The result at an entry, from the arguments. -/
theorem out_at (b : Fin 2) (p : Fin 8192) (a : Fin 16) (d : Fin 64) :
    last m c main_v17 (ix4 b p a d)
      = entry (fun k => m ((c : Thread nD τ).loc main_arg0) (ix3 b p k)) (fun k => m ((c : Thread nD τ).loc main_arg1) (ix2 k ⟨5152 + (64 * a.val + d.val), by omega⟩))
        (m ((c : Thread nD τ).loc main_arg2) (ix1 ⟨5152 + (64 * a.val + d.val), by omega⟩)) * scale := by
  rw [last_queries, host_rows, host_weights, host_bias]
  refine (queries_at _ b p a d).trans ((lin_query_at _ _ _ _ _ a d).trans ?_)
  exact congrArg (fun x => entry x _ _ * scale) (funext fun k => together_at _ _ b p k)

/-- The run: the results are what the lines leave, and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v17) = last m c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_v17 (Pipeline.mem_restRefs_of main_v17 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

end Cert.Kernel14Ideal.Proj

namespace Cert.Reference14Ideal.Proj

open Cert.Reference14Ideal Cert.Reference14Ideal.Gen Cert.Proj

/-- The queries' columns of the reference's product. -/
abbrev segment (x : Vec Ideal S2x8192x1024 .f32) (w : Vec Ideal S1024x9808 .f32) (bi : Vec Ideal S9808 .f32) : Vec Ideal S2x8192x1024 .f32 :=
  extractStridedSlice S2x8192x1024 ![0, 0, 5152] (addf (F := Ideal) (Host.dotGeneral (φ₁ := .f32) (φ₂ := .f32) dot_S2x8192x1024_S1024x9808_S2x8192x9808_2_0_01_1_n_n none x w)
      (broadcastInDim S2x8192x9808 ![0, 1, 2] bcast_S1x1x9808_S2x8192x9808_0_1_2 (broadcastInDim S1x1x9808 ![2] bcast_S9808_S1x1x9808_2 bi))) slices_S2x8192x9808_S2x8192x1024_0_0_5152

/-- Those columns at an entry. -/
theorem segment_at (x : Vec Ideal S2x8192x1024 .f32) (w : Vec Ideal S1024x9808 .f32) (bi : Vec Ideal S9808 .f32) (b : Fin 2) (p : Fin 8192) (ch : Fin 1024) :
    segment x w bi (ix3 b p ch)
      = entry (fun k => x (ix3 b p k)) (fun k => w (ix2 k ⟨5152 + ch.val, by omega⟩)) (bi (ix1 ⟨5152 + ch.val, by omega⟩)) := by
  pointwise [segment, entry]

/-- The columns taken apart into heads. -/
theorem heads_at (y : Vec Ideal S2x8192x1024 .f32) (b : Fin 2) (p : Fin 8192) (a : Fin 16) (d : Fin 64) :
    (shapeCast S2x8192x16x64 y shapeCasts_S2x8192x1024_S2x8192x16x64 : Vec Ideal S2x8192x16x64 .f32) (ix4 b p a d)
      = y (ix3 b p ⟨64 * a.val + d.val, by omega⟩) := by
  refine shapeCast_apply _ _ _ _ ?_
  rw [Shape.rowMajor_val_three, Shape.rowMajor_val_four]
  simp
  omega

/-- The reference's result at an entry. -/
theorem scaled_at (x : Vec Ideal S2x8192x1024 .f32) (w : Vec Ideal S1024x9808 .f32) (bi : Vec Ideal S9808 .f32) (b : Fin 2) (p : Fin 8192) (a : Fin 16) (d : Fin 64) :
    (mulf (F := Ideal) (shapeCast S2x8192x16x64 (segment x w bi) shapeCasts_S2x8192x1024_S2x8192x16x64 : FVec Ideal S2x8192x16x64 .f32)
        (broadcastInDim S2x8192x16x64 ![] bcast_S_S2x8192x16x64 (constant (F := Ideal) S_ .f32 0x3E38AA3B#32)) : FVec Ideal S2x8192x16x64 .f32) (ix4 b p a d)
      = entry (fun k => x (ix3 b p k)) (fun k => w (ix2 k ⟨5152 + (64 * a.val + d.val), by omega⟩)) (bi (ix1 ⟨5152 + (64 * a.val + d.val), by omega⟩)) * Cert.Query.scale :=
  congrArg (fun z : EReal => z * Cert.Query.scale) ((heads_at _ b p a d).trans (segment_at x w bi b p ⟨64 * a.val + d.val, by omega⟩))

end Cert.Reference14Ideal.Proj

namespace Cert.Proj

/-- The two programs' results are equal. -/
theorem agree14 : Cert.algebraic_Kernel14Ideal_Reference14Ideal (hKernel14Ideal := Cert.Kernel14Ideal.Gen.facts)
    (hReference14Ideal := Cert.Reference14Ideal.Gen.facts) := by
  intro m ρ m' ρ' _ hag
  refine ⟨fun c => Cert.Kernel14Ideal.Proj.last m c Cert.Kernel14Ideal.main_v17, Cert.Kernel14Ideal.Proj.run m ρ, ?_⟩
  refine (θ_run _ _ _).mono (fun r h c => ?_) (Cert.Reference14Ideal.Value.run m' ρ')
  obtain ⟨e0, e1, e2⟩ := hag c
  obtain ⟨h0, hk⟩ := h c
  refine ⟨h0.trans ?_, hk⟩
  rw [e0, e1, e2]
  refine funext fun i => ?_
  obtain ⟨b, p, a, d, rfl⟩ : ∃ (b : Fin 2) (p : Fin 8192) (a : Fin 16) (d : Fin 64), i = ix4 b p a d :=
    ⟨i 0, i 1, i 2, i 3, by funext j; match j with | ⟨0, _⟩ => rfl | ⟨1, _⟩ => rfl | ⟨2, _⟩ => rfl | ⟨3, _⟩ => rfl⟩
  exact (Cert.Reference14Ideal.Proj.scaled_at _ _ _ b p a d).trans (Cert.Kernel14Ideal.Proj.out_at m c b p a d).symm

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.RefRun
public import proofs.«01_k».proof.Proof.Agree
public import proofs.«01_k».proof.Proof.ProjRows
public import proofs.«01_k».proof.Proof.ProjWindow
public import proofs.«01_k».proof.Proof.ProjConv
public import proofs.«01_k».proof.Proof.ProjGate
public import proofs.«01_k».proof.Proof.ProjMerge
public import proofs.«01_k».proof.Proof.SampleRows
public import proofs.«01_k».proof.Proof.SampleConv
public import proofs.«01_k».proof.Proof.MergeRef
public import proofs.«01_k».proof.Proof.ProjKv
public import proofs.«01_k».proof.Proof.StepAgree
public import proofs.«01_k».proof.Proof.ProjStep
public import proofs.«01_k».proof.Proof.SampleStep
public import proofs.«01_k».proof.Proof.CmpAgree
public import proofs.«01_k».proof.Proof.CmpValAgree
public import proofs.«01_k».proof.Proof.ProjQuery
public import Idealize.ShloMosaic.Adequacy
public import Idealize.ShloMosaic.Init

@[expose] public section

noncomputable section

namespace Cert.Proof

open Idealize.ShloMosaic Idealize.SL.Sem

/-- The reference's arguments end unchanged; it declares no semaphore. -/
theorem frame_reference : Cert.quiescent_ReferenceIdeal (hReferenceIdeal := Cert.ReferenceIdeal.Gen.facts) := by
  intro m ρ _
  exact (θ_run (Cert.ReferenceIdeal.defs (F := Ideal)) _ _).mono
    (fun r h => ⟨fun c => (h c).2.2, Idealize.ShloMosaic.sem_eq_zero_of_no_sems (by decide) r.2⟩)
    (Cert.ReferenceIdeal.ChunkRun.run_record (F := Ideal) m ρ)

/-- A projection's reference: its arguments end unchanged; it declares no semaphore. -/
theorem frame_reference2 : Cert.quiescent_Reference2Ideal (hReference2Ideal := Cert.Reference2Ideal.Gen.facts) := fun m ρ _ =>
  (θ_run (Cert.Reference2Ideal.defs (F := Ideal)) _ _).mono
    (fun r h => ⟨fun c => (h c).2, Idealize.ShloMosaic.sem_eq_zero_of_no_sems (by decide) r.2⟩) (Cert.Reference2Ideal.Value.run m ρ)

/-- A projection's reference: its arguments end unchanged; it declares no semaphore. -/
theorem frame_reference3 : Cert.quiescent_Reference3Ideal (hReference3Ideal := Cert.Reference3Ideal.Gen.facts) := fun m ρ _ =>
  (θ_run (Cert.Reference3Ideal.defs (F := Ideal)) _ _).mono
    (fun r h => ⟨fun c => (h c).2, Idealize.ShloMosaic.sem_eq_zero_of_no_sems (by decide) r.2⟩) (Cert.Reference3Ideal.Value.run m ρ)

/-- A projection's reference: its arguments end unchanged; it declares no semaphore. -/
theorem frame_reference4 : Cert.quiescent_Reference4Ideal (hReference4Ideal := Cert.Reference4Ideal.Gen.facts) := fun m ρ _ =>
  (θ_run (Cert.Reference4Ideal.defs (F := Ideal)) _ _).mono
    (fun r h => ⟨fun c => (h c).2.2, Idealize.ShloMosaic.sem_eq_zero_of_no_sems (by decide) r.2⟩) (Cert.Reference4Ideal.Value.run m ρ)

/-- A projection's reference: its arguments end unchanged; it declares no semaphore. -/
theorem frame_reference5 : Cert.quiescent_Reference5Ideal (hReference5Ideal := Cert.Reference5Ideal.Gen.facts) := fun m ρ _ =>
  (θ_run (Cert.Reference5Ideal.defs (F := Ideal)) _ _).mono
    (fun r h => ⟨fun c => (h c).2, Idealize.ShloMosaic.sem_eq_zero_of_no_sems (by decide) r.2⟩) (Cert.Reference5Ideal.Value.run m ρ)

/-- A projection's reference: its arguments end unchanged; it declares no semaphore. -/
theorem frame_reference6 : Cert.quiescent_Reference6Ideal (hReference6Ideal := Cert.Reference6Ideal.Gen.facts) := fun m ρ _ =>
  (θ_run (Cert.Reference6Ideal.defs (F := Ideal)) _ _).mono
    (fun r h => ⟨fun c => (h c).2, Idealize.ShloMosaic.sem_eq_zero_of_no_sems (by decide) r.2⟩) (Cert.Reference6Ideal.Value.run m ρ)

/-- A projection's reference: its arguments end unchanged; it declares no semaphore. -/
theorem frame_reference7 : Cert.quiescent_Reference7Ideal (hReference7Ideal := Cert.Reference7Ideal.Gen.facts) := fun m ρ _ =>
  (θ_run (Cert.Reference7Ideal.defs (F := Ideal)) _ _).mono
    (fun r h => ⟨fun c => (h c).2.2, Idealize.ShloMosaic.sem_eq_zero_of_no_sems (by decide) r.2⟩) (Cert.Reference7Ideal.Value.run m ρ)

/-- A projection's reference: its arguments end unchanged; it declares no semaphore. -/
theorem frame_reference8 : Cert.quiescent_Reference8Ideal (hReference8Ideal := Cert.Reference8Ideal.Gen.facts) := fun m ρ _ =>
  (θ_run (Cert.Reference8Ideal.defs (F := Ideal)) _ _).mono
    (fun r h => ⟨fun c => (h c).2.2, Idealize.ShloMosaic.sem_eq_zero_of_no_sems (by decide) r.2⟩) (Cert.Reference8Ideal.Value.run m ρ)

/-- The merge's reference: its arguments end unchanged; it declares no semaphore. -/
theorem frame_reference9 : Cert.quiescent_Reference9Ideal (hReference9Ideal := Cert.Reference9Ideal.Gen.facts) := fun m ρ _ =>
  (θ_run (Cert.Reference9Ideal.defs (F := Ideal)) _ _).mono
    (fun r h => ⟨fun c => (h c).2, Idealize.ShloMosaic.sem_eq_zero_of_no_sems (by decide) r.2⟩) (Cert.Reference9Ideal.Value.run m ρ)

/-- A projection's reference: its arguments end unchanged; it declares no semaphore. -/
theorem frame_reference10 : Cert.quiescent_Reference10Ideal (hReference10Ideal := Cert.Reference10Ideal.Gen.facts) := fun m ρ _ =>
  (θ_run (Cert.Reference10Ideal.defs (F := Ideal)) _ _).mono
    (fun r h => ⟨fun c => (h c).2, Idealize.ShloMosaic.sem_eq_zero_of_no_sems (by decide) r.2⟩) (Cert.Reference10Ideal.Value.run m ρ)

/-- The sample step's reference: its arguments end unchanged; it declares no semaphore. -/
theorem frame_reference11 : Cert.quiescent_Reference11Ideal (hReference11Ideal := Cert.Reference11Ideal.Gen.facts) := fun m ρ _ =>
  (θ_run (Cert.Reference11Ideal.defs (F := Ideal)) _ _).mono
    (fun r h => ⟨fun c => (h c).2, Idealize.ShloMosaic.sem_eq_zero_of_no_sems (by decide) r.2⟩) (Cert.Reference11Ideal.Value.run m ρ)

/-- A projection's reference: its arguments end unchanged; it declares no semaphore. -/
theorem frame_reference12 : Cert.quiescent_Reference12Ideal (hReference12Ideal := Cert.Reference12Ideal.Gen.facts) := fun m ρ _ =>
  (θ_run (Cert.Reference12Ideal.defs (F := Ideal)) _ _).mono
    (fun r h => ⟨fun c => (h c).2, Idealize.ShloMosaic.sem_eq_zero_of_no_sems (by decide) r.2⟩) (Cert.Reference12Ideal.Value.run m ρ)

/-- A projection's reference: its arguments end unchanged; it declares no semaphore. -/
theorem frame_reference13 : Cert.quiescent_Reference13Ideal (hReference13Ideal := Cert.Reference13Ideal.Gen.facts) := fun m ρ _ =>
  (θ_run (Cert.Reference13Ideal.defs (F := Ideal)) _ _).mono
    (fun r h => ⟨fun c => (h c).2, Idealize.ShloMosaic.sem_eq_zero_of_no_sems (by decide) r.2⟩) (Cert.Reference13Ideal.Value.run m ρ)

/-- A projection's reference: its arguments end unchanged; it declares no semaphore. -/
theorem frame_reference14 : Cert.quiescent_Reference14Ideal (hReference14Ideal := Cert.Reference14Ideal.Gen.facts) := fun m ρ _ =>
  (θ_run (Cert.Reference14Ideal.defs (F := Ideal)) _ _).mono
    (fun r h => ⟨fun c => (h c).2, Idealize.ShloMosaic.sem_eq_zero_of_no_sems (by decide) r.2⟩) (Cert.Reference14Ideal.Value.run m ρ)

/-- The same for the compressed blocks' reference. -/
theorem frame_reference15 : Cert.quiescent_Reference15Ideal (hReference15Ideal := Cert.Reference15Ideal.Gen.facts) := fun m ρ _ =>
  (θ_run (Cert.Reference15Ideal.defs (F := Ideal)) _ _).mono
    (fun r h => ⟨fun c => (h c).2, Idealize.ShloMosaic.sem_eq_zero_of_no_sems (by decide) r.2⟩) (Cert.Reference15Ideal.Value.run m ρ)

/-- The same for the compressed blocks' reference. -/
theorem frame_reference16 : Cert.quiescent_Reference16Ideal (hReference16Ideal := Cert.Reference16Ideal.Gen.facts) := fun m ρ _ =>
  (θ_run (Cert.Reference16Ideal.defs (F := Ideal)) _ _).mono
    (fun r h => ⟨fun c => (h c).2, Idealize.ShloMosaic.sem_eq_zero_of_no_sems (by decide) r.2⟩) (Cert.Reference16Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts, Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts, Cert.Ssd.preFacts, Cert.Step.preFacts,
  fun m ρ _ => Cert.Kernel.Gen.frame m ρ, fun m ρ _ => Cert.KernelIdeal.Gen.frame m ρ, fun m ρ _ => Cert.KernelIdeal.Gen.frame m ρ,
  fun m ρ _ => frame_reference m ρ trivial, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, fun m ρ _ => Cert.Kernel11Ideal.Gen.frame m ρ,
  fun m ρ _ => frame_reference11 m ρ trivial, fun m ρ _ => frame_reference11 m ρ trivial,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  trivial, Cert.Ssd.agree, trivial, Cert.Proj.agree2, trivial, Cert.Proj.agree3, trivial, Cert.Proj.agree4, trivial, Cert.Proj.agree5, trivial, Cert.Proj.agree6, trivial, Cert.Proj.agree7, trivial, Cert.Proj.agree8,
  trivial, Cert.Merge.agree9, trivial, Cert.Proj.agree10, trivial, Cert.Step.agree11, trivial, Cert.Proj.agree12, trivial, Cert.Proj.agree13, trivial, Cert.Proj.agree14, trivial, Cert.Cmp.agree15, trivial, Cert.Cmp.agree16⟩

end Cert.Proof

end
